-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2 = (fun _ => 1#1)

def Pre_KernelA (m : (ℓ : Loc Cert.KernelA.nD Cert.KernelA.τ Cert.KernelA.sig) → Buf (Elt Bits) ℓ) : Prop :=
  True

def Pre_KernelAIdeal (m : (ℓ : Loc Cert.KernelAIdeal.nD Cert.KernelAIdeal.τ Cert.KernelAIdeal.sig) → Buf (Elt Ideal) ℓ) : Prop :=
  True

def Pre_KernelAIdeal_finite_band [hPre_finite_band : Cert.Pre_finite_band.Facts] (m : (ℓ : Loc Cert.KernelAIdeal.nD Cert.KernelAIdeal.τ Cert.KernelAIdeal.sig) → Buf (Elt Ideal) ℓ) : Prop :=
  ∀ c : Dev Cert.KernelAIdeal.nD,
    (Cert.Pre_finite_band.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8))).1 = (fun _ => 1#1)
    ∧ (Cert.Pre_finite_band.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8))).2.1 = (fun _ => 1#1)
    ∧ (Cert.Pre_finite_band.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8))).2.2.1 = (fun _ => 1#1)
    ∧ (Cert.Pre_finite_band.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8))).2.2.2.1 = (fun _ => 1#1)
    ∧ (Cert.Pre_finite_band.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8))).2.2.2.2.1 = (fun _ => 1#1)
    ∧ (Cert.Pre_finite_band.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8))).2.2.2.2.2.1 = (fun _ => 1#1)
    ∧ (Cert.Pre_finite_band.fn (F := Ideal) (m ((c.tc : Thread Cert.KernelAIdeal.nD Cert.KernelAIdeal.τ).loc Cert.KernelAIdeal.main_arg0)) (m ((c.tc : Thread Cert.KernelAIdeal.nD Cert.KernelAIdeal.τ).loc Cert.KernelAIdeal.main_arg1)) (m ((c.tc : Thread Cert.KernelAIdeal.nD Cert.KernelAIdeal.τ).loc Cert.KernelAIdeal.main_arg2)) (m ((c.tc : Thread Cert.KernelAIdeal.nD Cert.KernelAIdeal.τ).loc Cert.KernelAIdeal.main_arg3)) (m ((c.tc : Thread Cert.KernelAIdeal.nD Cert.KernelAIdeal.τ).loc Cert.KernelAIdeal.main_arg4)) (m ((c.tc : Thread Cert.KernelAIdeal.nD Cert.KernelAIdeal.τ).loc Cert.KernelAIdeal.main_arg5)) (m ((c.tc : Thread Cert.KernelAIdeal.nD Cert.KernelAIdeal.τ).loc Cert.KernelAIdeal.main_arg6)) (m ((c.tc : Thread Cert.KernelAIdeal.nD Cert.KernelAIdeal.τ).loc Cert.KernelAIdeal.main_arg7)) (m ((c.tc : Thread Cert.KernelAIdeal.nD Cert.KernelAIdeal.τ).loc Cert.KernelAIdeal.main_arg8))).2.2.2.2.2.2 = (fun _ => 1#1)

def Pre_ReferenceAIdeal (m : (ℓ : Loc Cert.ReferenceAIdeal.nD Cert.ReferenceAIdeal.τ Cert.ReferenceAIdeal.sig) → Buf (Elt Ideal) ℓ) : Prop :=
  True

def Pre_ReferenceAIdeal_finite_band [hPre_finite_band : Cert.Pre_finite_band.Facts] (m : (ℓ : Loc Cert.ReferenceAIdeal.nD Cert.ReferenceAIdeal.τ Cert.ReferenceAIdeal.sig) → Buf (Elt Ideal) ℓ) : Prop :=
  ∀ c : Dev Cert.ReferenceAIdeal.nD,
    (Cert.Pre_finite_band.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8))).1 = (fun _ => 1#1)
    ∧ (Cert.Pre_finite_band.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8))).2.1 = (fun _ => 1#1)
    ∧ (Cert.Pre_finite_band.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8))).2.2.1 = (fun _ => 1#1)
    ∧ (Cert.Pre_finite_band.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8))).2.2.2.1 = (fun _ => 1#1)
    ∧ (Cert.Pre_finite_band.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8))).2.2.2.2.1 = (fun _ => 1#1)
    ∧ (Cert.Pre_finite_band.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8))).2.2.2.2.2.1 = (fun _ => 1#1)
    ∧ (Cert.Pre_finite_band.fn (F := Ideal) (m ((c.tc : Thread Cert.ReferenceAIdeal.nD Cert.ReferenceAIdeal.τ).loc Cert.ReferenceAIdeal.main_arg0)) (m ((c.tc : Thread Cert.ReferenceAIdeal.nD Cert.ReferenceAIdeal.τ).loc Cert.ReferenceAIdeal.main_arg1)) (m ((c.tc : Thread Cert.ReferenceAIdeal.nD Cert.ReferenceAIdeal.τ).loc Cert.ReferenceAIdeal.main_arg2)) (m ((c.tc : Thread Cert.ReferenceAIdeal.nD Cert.ReferenceAIdeal.τ).loc Cert.ReferenceAIdeal.main_arg3)) (m ((c.tc : Thread Cert.ReferenceAIdeal.nD Cert.ReferenceAIdeal.τ).loc Cert.ReferenceAIdeal.main_arg4)) (m ((c.tc : Thread Cert.ReferenceAIdeal.nD Cert.ReferenceAIdeal.τ).loc Cert.ReferenceAIdeal.main_arg5)) (m ((c.tc : Thread Cert.ReferenceAIdeal.nD Cert.ReferenceAIdeal.τ).loc Cert.ReferenceAIdeal.main_arg6)) (m ((c.tc : Thread Cert.ReferenceAIdeal.nD Cert.ReferenceAIdeal.τ).loc Cert.ReferenceAIdeal.main_arg7)) (m ((c.tc : Thread Cert.ReferenceAIdeal.nD Cert.ReferenceAIdeal.τ).loc Cert.ReferenceAIdeal.main_arg8))).2.2.2.2.2.2 = (fun _ => 1#1)

def Pre_KernelS (m : (ℓ : Loc Cert.KernelS.nD Cert.KernelS.τ Cert.KernelS.sig) → Buf (Elt Bits) ℓ) : Prop :=
  True

def Pre_KernelSIdeal (m : (ℓ : Loc Cert.KernelSIdeal.nD Cert.KernelSIdeal.τ Cert.KernelSIdeal.sig) → Buf (Elt Ideal) ℓ) : Prop :=
  True

def Pre_KernelSIdeal_finite_cond [hPre_finite_cond : Cert.Pre_finite_cond.Facts] (m : (ℓ : Loc Cert.KernelSIdeal.nD Cert.KernelSIdeal.τ Cert.KernelSIdeal.sig) → Buf (Elt Ideal) ℓ) : Prop :=
  ∀ c : Dev Cert.KernelSIdeal.nD,
    (Cert.Pre_finite_cond.fn (F := Ideal) (m ((c.tc : Thread Cert.KernelSIdeal.nD Cert.KernelSIdeal.τ).loc Cert.KernelSIdeal.main_arg0)) (m ((c.tc : Thread Cert.KernelSIdeal.nD Cert.KernelSIdeal.τ).loc Cert.KernelSIdeal.main_arg1)) (m ((c.tc : Thread Cert.KernelSIdeal.nD Cert.KernelSIdeal.τ).loc Cert.KernelSIdeal.main_arg2)) (m ((c.tc : Thread Cert.KernelSIdeal.nD Cert.KernelSIdeal.τ).loc Cert.KernelSIdeal.main_arg3)) (m ((c.tc : Thread Cert.KernelSIdeal.nD Cert.KernelSIdeal.τ).loc Cert.KernelSIdeal.main_arg4)) (m ((c.tc : Thread Cert.KernelSIdeal.nD Cert.KernelSIdeal.τ).loc Cert.KernelSIdeal.main_arg5)) (m ((c.tc : Thread Cert.KernelSIdeal.nD Cert.KernelSIdeal.τ).loc Cert.KernelSIdeal.main_arg6))).1 = (fun _ => 1#1)
    ∧ (Cert.Pre_finite_cond.fn (F := Ideal) (m ((c.tc : Thread Cert.KernelSIdeal.nD Cert.KernelSIdeal.τ).loc Cert.KernelSIdeal.main_arg0)) (m ((c.tc : Thread Cert.KernelSIdeal.nD Cert.KernelSIdeal.τ).loc Cert.KernelSIdeal.main_arg1)) (m ((c.tc : Thread Cert.KernelSIdeal.nD Cert.KernelSIdeal.τ).loc Cert.KernelSIdeal.main_arg2)) (m ((c.tc : Thread Cert.KernelSIdeal.nD Cert.KernelSIdeal.τ).loc Cert.KernelSIdeal.main_arg3)) (m ((c.tc : Thread Cert.KernelSIdeal.nD Cert.KernelSIdeal.τ).loc Cert.KernelSIdeal.main_arg4)) (m ((c.tc : Thread Cert.KernelSIdeal.nD Cert.KernelSIdeal.τ).loc Cert.KernelSIdeal.main_arg5)) (m ((c.tc : Thread Cert.KernelSIdeal.nD Cert.KernelSIdeal.τ).loc Cert.KernelSIdeal.main_arg6))).2 = (fun _ => 1#1)

def Pre_ReferenceSIdeal (m : (ℓ : Loc Cert.ReferenceSIdeal.nD Cert.ReferenceSIdeal.τ Cert.ReferenceSIdeal.sig) → Buf (Elt Ideal) ℓ) : Prop :=
  True

def Pre_ReferenceSIdeal_finite_cond [hPre_finite_cond : Cert.Pre_finite_cond.Facts] (m : (ℓ : Loc Cert.ReferenceSIdeal.nD Cert.ReferenceSIdeal.τ Cert.ReferenceSIdeal.sig) → Buf (Elt Ideal) ℓ) : Prop :=
  ∀ c : Dev Cert.ReferenceSIdeal.nD,
    (Cert.Pre_finite_cond.fn (F := Ideal) (m ((c.tc : Thread Cert.ReferenceSIdeal.nD Cert.ReferenceSIdeal.τ).loc Cert.ReferenceSIdeal.main_arg0)) (m ((c.tc : Thread Cert.ReferenceSIdeal.nD Cert.ReferenceSIdeal.τ).loc Cert.ReferenceSIdeal.main_arg1)) (m ((c.tc : Thread Cert.ReferenceSIdeal.nD Cert.ReferenceSIdeal.τ).loc Cert.ReferenceSIdeal.main_arg2)) (m ((c.tc : Thread Cert.ReferenceSIdeal.nD Cert.ReferenceSIdeal.τ).loc Cert.ReferenceSIdeal.main_arg3)) (m ((c.tc : Thread Cert.ReferenceSIdeal.nD Cert.ReferenceSIdeal.τ).loc Cert.ReferenceSIdeal.main_arg4)) (m ((c.tc : Thread Cert.ReferenceSIdeal.nD Cert.ReferenceSIdeal.τ).loc Cert.ReferenceSIdeal.main_arg5)) (m ((c.tc : Thread Cert.ReferenceSIdeal.nD Cert.ReferenceSIdeal.τ).loc Cert.ReferenceSIdeal.main_arg6))).1 = (fun _ => 1#1)
    ∧ (Cert.Pre_finite_cond.fn (F := Ideal) (m ((c.tc : Thread Cert.ReferenceSIdeal.nD Cert.ReferenceSIdeal.τ).loc Cert.ReferenceSIdeal.main_arg0)) (m ((c.tc : Thread Cert.ReferenceSIdeal.nD Cert.ReferenceSIdeal.τ).loc Cert.ReferenceSIdeal.main_arg1)) (m ((c.tc : Thread Cert.ReferenceSIdeal.nD Cert.ReferenceSIdeal.τ).loc Cert.ReferenceSIdeal.main_arg2)) (m ((c.tc : Thread Cert.ReferenceSIdeal.nD Cert.ReferenceSIdeal.τ).loc Cert.ReferenceSIdeal.main_arg3)) (m ((c.tc : Thread Cert.ReferenceSIdeal.nD Cert.ReferenceSIdeal.τ).loc Cert.ReferenceSIdeal.main_arg4)) (m ((c.tc : Thread Cert.ReferenceSIdeal.nD Cert.ReferenceSIdeal.τ).loc Cert.ReferenceSIdeal.main_arg5)) (m ((c.tc : Thread Cert.ReferenceSIdeal.nD Cert.ReferenceSIdeal.τ).loc Cert.ReferenceSIdeal.main_arg6))).2 = (fun _ => 1#1)

def Pre_KernelY (m : (ℓ : Loc Cert.KernelY.nD Cert.KernelY.τ Cert.KernelY.sig) → Buf (Elt Bits) ℓ) : Prop :=
  True

def Pre_KernelYIdeal (m : (ℓ : Loc Cert.KernelYIdeal.nD Cert.KernelYIdeal.τ Cert.KernelYIdeal.sig) → Buf (Elt Ideal) ℓ) : Prop :=
  True

def Pre_ReferenceYIdeal (m : (ℓ : Loc Cert.ReferenceYIdeal.nD Cert.ReferenceYIdeal.τ Cert.ReferenceYIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_KernelA [hKernelA : Cert.KernelA.Facts] : Prop :=
  ∀ (m : (ℓ : Loc Cert.KernelA.nD Cert.KernelA.τ Cert.KernelA.sig) → Buf (Elt Bits) ℓ) (g : Dev Cert.KernelA.nD → PrngReg), Pre_KernelA m →
    θ_run (Cert.KernelA.defs (F := Bits)) (onTc (τ := Cert.KernelA.τ) (Cert.KernelA.main (F := Bits))) ⟨m, fun _ => 0, g⟩ (fun r => (∀ c : Dev Cert.KernelA.nD,
      r.2.mem ((c.tc : Thread Cert.KernelA.nD Cert.KernelA.τ).loc Cert.KernelA.main_arg0) = m ((c.tc : Thread Cert.KernelA.nD Cert.KernelA.τ).loc Cert.KernelA.main_arg0)
      ∧ r.2.mem ((c.tc : Thread Cert.KernelA.nD Cert.KernelA.τ).loc Cert.KernelA.main_arg1) = m ((c.tc : Thread Cert.KernelA.nD Cert.KernelA.τ).loc Cert.KernelA.main_arg1)
      ∧ r.2.mem ((c.tc : Thread Cert.KernelA.nD Cert.KernelA.τ).loc Cert.KernelA.main_arg2) = m ((c.tc : Thread Cert.KernelA.nD Cert.KernelA.τ).loc Cert.KernelA.main_arg2)
      ∧ r.2.mem ((c.tc : Thread Cert.KernelA.nD Cert.KernelA.τ).loc Cert.KernelA.main_arg3) = m ((c.tc : Thread Cert.KernelA.nD Cert.KernelA.τ).loc Cert.KernelA.main_arg3)
      ∧ r.2.mem ((c.tc : Thread Cert.KernelA.nD Cert.KernelA.τ).loc Cert.KernelA.main_arg4) = m ((c.tc : Thread Cert.KernelA.nD Cert.KernelA.τ).loc Cert.KernelA.main_arg4)
      ∧ r.2.mem ((c.tc : Thread Cert.KernelA.nD Cert.KernelA.τ).loc Cert.KernelA.main_arg5) = m ((c.tc : Thread Cert.KernelA.nD Cert.KernelA.τ).loc Cert.KernelA.main_arg5)
      ∧ r.2.mem ((c.tc : Thread Cert.KernelA.nD Cert.KernelA.τ).loc Cert.KernelA.main_arg6) = m ((c.tc : Thread Cert.KernelA.nD Cert.KernelA.τ).loc Cert.KernelA.main_arg6)
      ∧ r.2.mem ((c.tc : Thread Cert.KernelA.nD Cert.KernelA.τ).loc Cert.KernelA.main_arg7) = m ((c.tc : Thread Cert.KernelA.nD Cert.KernelA.τ).loc Cert.KernelA.main_arg7)
      ∧ r.2.mem ((c.tc : Thread Cert.KernelA.nD Cert.KernelA.τ).loc Cert.KernelA.main_arg8) = m ((c.tc : Thread Cert.KernelA.nD Cert.KernelA.τ).loc Cert.KernelA.main_arg8))
      ∧ r.2.sem = fun _ => 0)

def quiescent_KernelAIdeal [hKernelAIdeal : Cert.KernelAIdeal.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
      ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
      ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
      ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7)
      ∧ r.2.mem ((c.tc : Thread Cert.KernelAIdeal.nD Cert.KernelAIdeal.τ).loc Cert.KernelAIdeal.main_arg8) = m ((c.tc : Thread Cert.KernelAIdeal.nD Cert.KernelAIdeal.τ).loc Cert.KernelAIdeal.main_arg8))
      ∧ r.2.sem = fun _ => 0)

def quiescent_KernelAIdeal_pre_finite_band [hKernelAIdeal : Cert.KernelAIdeal.Facts] [hPre_finite_band : Cert.Pre_finite_band.Facts] : Prop :=
  ∀ (m : (ℓ : Loc Cert.KernelAIdeal.nD Cert.KernelAIdeal.τ Cert.KernelAIdeal.sig) → Buf (Elt Ideal) ℓ) (g : Dev Cert.KernelAIdeal.nD → PrngReg), Pre_KernelAIdeal_finite_band m →
    θ_run (Cert.KernelAIdeal.defs (F := Ideal)) (onTc (τ := Cert.KernelAIdeal.τ) (Cert.KernelAIdeal.main (F := Ideal))) ⟨m, fun _ => 0, g⟩ (fun r => (∀ c : Dev Cert.KernelAIdeal.nD,
      r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
      ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
      ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
      ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
      ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
      ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
      ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
      ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7)
      ∧ r.2.mem ((c.tc : Thread Cert.KernelAIdeal.nD Cert.KernelAIdeal.τ).loc Cert.KernelAIdeal.main_arg8) = m ((c.tc : Thread Cert.KernelAIdeal.nD Cert.KernelAIdeal.τ).loc Cert.KernelAIdeal.main_arg8))
      ∧ r.2.sem = fun _ => 0)

def quiescent_ReferenceAIdeal [hReferenceAIdeal : Cert.ReferenceAIdeal.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4)
      ∧ r.2.mem ((c.tc : Thread Cert.ReferenceAIdeal.nD Cert.ReferenceAIdeal.τ).loc Cert.ReferenceAIdeal.main_arg5) = m ((c.tc : Thread Cert.ReferenceAIdeal.nD Cert.ReferenceAIdeal.τ).loc Cert.ReferenceAIdeal.main_arg5)
      ∧ r.2.mem ((c.tc : Thread Cert.ReferenceAIdeal.nD Cert.ReferenceAIdeal.τ).loc Cert.ReferenceAIdeal.main_arg6) = m ((c.tc : Thread Cert.ReferenceAIdeal.nD Cert.ReferenceAIdeal.τ).loc Cert.ReferenceAIdeal.main_arg6)
      ∧ r.2.mem ((c.tc : Thread Cert.ReferenceAIdeal.nD Cert.ReferenceAIdeal.τ).loc Cert.ReferenceAIdeal.main_arg7) = m ((c.tc : Thread Cert.ReferenceAIdeal.nD Cert.ReferenceAIdeal.τ).loc Cert.ReferenceAIdeal.main_arg7)
      ∧ r.2.mem ((c.tc : Thread Cert.ReferenceAIdeal.nD Cert.ReferenceAIdeal.τ).loc Cert.ReferenceAIdeal.main_arg8) = m ((c.tc : Thread Cert.ReferenceAIdeal.nD Cert.ReferenceAIdeal.τ).loc Cert.ReferenceAIdeal.main_arg8))
      ∧ r.2.sem = fun _ => 0)

def quiescent_ReferenceAIdeal_pre_finite_band [hReferenceAIdeal : Cert.ReferenceAIdeal.Facts] [hPre_finite_band : Cert.Pre_finite_band.Facts] : Prop :=
  ∀ (m : (ℓ : Loc Cert.ReferenceAIdeal.nD Cert.ReferenceAIdeal.τ Cert.ReferenceAIdeal.sig) → Buf (Elt Ideal) ℓ) (g : Dev Cert.ReferenceAIdeal.nD → PrngReg), Pre_ReferenceAIdeal_finite_band m →
    θ_run (Cert.ReferenceAIdeal.defs (F := Ideal)) (onTc (τ := Cert.ReferenceAIdeal.τ) (Cert.ReferenceAIdeal.main (F := Ideal))) ⟨m, fun _ => 0, g⟩ (fun r => (∀ c : Dev Cert.ReferenceAIdeal.nD,
      r.2.mem ((c.tc : Thread Cert.ReferenceAIdeal.nD Cert.ReferenceAIdeal.τ).loc Cert.ReferenceAIdeal.main_arg0) = m ((c.tc : Thread Cert.ReferenceAIdeal.nD Cert.ReferenceAIdeal.τ).loc Cert.ReferenceAIdeal.main_arg0)
      ∧ r.2.mem ((c.tc : Thread Cert.ReferenceAIdeal.nD Cert.ReferenceAIdeal.τ).loc Cert.ReferenceAIdeal.main_arg1) = m ((c.tc : Thread Cert.ReferenceAIdeal.nD Cert.ReferenceAIdeal.τ).loc Cert.ReferenceAIdeal.main_arg1)
      ∧ r.2.mem ((c.tc : Thread Cert.ReferenceAIdeal.nD Cert.ReferenceAIdeal.τ).loc Cert.ReferenceAIdeal.main_arg2) = m ((c.tc : Thread Cert.ReferenceAIdeal.nD Cert.ReferenceAIdeal.τ).loc Cert.ReferenceAIdeal.main_arg2)
      ∧ r.2.mem ((c.tc : Thread Cert.ReferenceAIdeal.nD Cert.ReferenceAIdeal.τ).loc Cert.ReferenceAIdeal.main_arg3) = m ((c.tc : Thread Cert.ReferenceAIdeal.nD Cert.ReferenceAIdeal.τ).loc Cert.ReferenceAIdeal.main_arg3)
      ∧ r.2.mem ((c.tc : Thread Cert.ReferenceAIdeal.nD Cert.ReferenceAIdeal.τ).loc Cert.ReferenceAIdeal.main_arg4) = m ((c.tc : Thread Cert.ReferenceAIdeal.nD Cert.ReferenceAIdeal.τ).loc Cert.ReferenceAIdeal.main_arg4)
      ∧ r.2.mem ((c.tc : Thread Cert.ReferenceAIdeal.nD Cert.ReferenceAIdeal.τ).loc Cert.ReferenceAIdeal.main_arg5) = m ((c.tc : Thread Cert.ReferenceAIdeal.nD Cert.ReferenceAIdeal.τ).loc Cert.ReferenceAIdeal.main_arg5)
      ∧ r.2.mem ((c.tc : Thread Cert.ReferenceAIdeal.nD Cert.ReferenceAIdeal.τ).loc Cert.ReferenceAIdeal.main_arg6) = m ((c.tc : Thread Cert.ReferenceAIdeal.nD Cert.ReferenceAIdeal.τ).loc Cert.ReferenceAIdeal.main_arg6)
      ∧ r.2.mem ((c.tc : Thread Cert.ReferenceAIdeal.nD Cert.ReferenceAIdeal.τ).loc Cert.ReferenceAIdeal.main_arg7) = m ((c.tc : Thread Cert.ReferenceAIdeal.nD Cert.ReferenceAIdeal.τ).loc Cert.ReferenceAIdeal.main_arg7)
      ∧ r.2.mem ((c.tc : Thread Cert.ReferenceAIdeal.nD Cert.ReferenceAIdeal.τ).loc Cert.ReferenceAIdeal.main_arg8) = m ((c.tc : Thread Cert.ReferenceAIdeal.nD Cert.ReferenceAIdeal.τ).loc Cert.ReferenceAIdeal.main_arg8))
      ∧ r.2.sem = fun _ => 0)

def quiescent_KernelS [hKernelS : Cert.KernelS.Facts] : Prop :=
  ∀ (m : (ℓ : Loc Cert.KernelS.nD Cert.KernelS.τ Cert.KernelS.sig) → Buf (Elt Bits) ℓ) (g : Dev Cert.KernelS.nD → PrngReg), Pre_KernelS m →
    θ_run (Cert.KernelS.defs (F := Bits)) (onTc (τ := Cert.KernelS.τ) (Cert.KernelS.main (F := Bits))) ⟨m, fun _ => 0, g⟩ (fun r => (∀ c : Dev Cert.KernelS.nD,
      r.2.mem ((c.tc : Thread Cert.KernelS.nD Cert.KernelS.τ).loc Cert.KernelS.main_arg0) = m ((c.tc : Thread Cert.KernelS.nD Cert.KernelS.τ).loc Cert.KernelS.main_arg0)
      ∧ r.2.mem ((c.tc : Thread Cert.KernelS.nD Cert.KernelS.τ).loc Cert.KernelS.main_arg1) = m ((c.tc : Thread Cert.KernelS.nD Cert.KernelS.τ).loc Cert.KernelS.main_arg1)
      ∧ r.2.mem ((c.tc : Thread Cert.KernelS.nD Cert.KernelS.τ).loc Cert.KernelS.main_arg2) = m ((c.tc : Thread Cert.KernelS.nD Cert.KernelS.τ).loc Cert.KernelS.main_arg2)
      ∧ r.2.mem ((c.tc : Thread Cert.KernelS.nD Cert.KernelS.τ).loc Cert.KernelS.main_arg3) = m ((c.tc : Thread Cert.KernelS.nD Cert.KernelS.τ).loc Cert.KernelS.main_arg3)
      ∧ r.2.mem ((c.tc : Thread Cert.KernelS.nD Cert.KernelS.τ).loc Cert.KernelS.main_arg4) = m ((c.tc : Thread Cert.KernelS.nD Cert.KernelS.τ).loc Cert.KernelS.main_arg4)
      ∧ r.2.mem ((c.tc : Thread Cert.KernelS.nD Cert.KernelS.τ).loc Cert.KernelS.main_arg5) = m ((c.tc : Thread Cert.KernelS.nD Cert.KernelS.τ).loc Cert.KernelS.main_arg5)
      ∧ r.2.mem ((c.tc : Thread Cert.KernelS.nD Cert.KernelS.τ).loc Cert.KernelS.main_arg6) = m ((c.tc : Thread Cert.KernelS.nD Cert.KernelS.τ).loc Cert.KernelS.main_arg6))
      ∧ r.2.sem = fun _ => 0)

def quiescent_KernelSIdeal [hKernelSIdeal : Cert.KernelSIdeal.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
      ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
      ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
      ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6))
      ∧ r.2.sem = fun _ => 0)

def quiescent_KernelSIdeal_pre_finite_cond [hKernelSIdeal : Cert.KernelSIdeal.Facts] [hPre_finite_cond : Cert.Pre_finite_cond.Facts] : Prop :=
  ∀ (m : (ℓ : Loc Cert.KernelSIdeal.nD Cert.KernelSIdeal.τ Cert.KernelSIdeal.sig) → Buf (Elt Ideal) ℓ) (g : Dev Cert.KernelSIdeal.nD → PrngReg), Pre_KernelSIdeal_finite_cond m →
    θ_run (Cert.KernelSIdeal.defs (F := Ideal)) (onTc (τ := Cert.KernelSIdeal.τ) (Cert.KernelSIdeal.main (F := Ideal))) ⟨m, fun _ => 0, g⟩ (fun r => (∀ c : Dev Cert.KernelSIdeal.nD,
      r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
      ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
      ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
      ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
      ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
      ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
      ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6))
      ∧ r.2.sem = fun _ => 0)

def quiescent_ReferenceSIdeal [hReferenceSIdeal : Cert.ReferenceSIdeal.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2)
      ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3)
      ∧ r.2.mem ((c.tc : Thread Cert.ReferenceSIdeal.nD Cert.ReferenceSIdeal.τ).loc Cert.ReferenceSIdeal.main_arg4) = m ((c.tc : Thread Cert.ReferenceSIdeal.nD Cert.ReferenceSIdeal.τ).loc Cert.ReferenceSIdeal.main_arg4)
      ∧ r.2.mem ((c.tc : Thread Cert.ReferenceSIdeal.nD Cert.ReferenceSIdeal.τ).loc Cert.ReferenceSIdeal.main_arg5) = m ((c.tc : Thread Cert.ReferenceSIdeal.nD Cert.ReferenceSIdeal.τ).loc Cert.ReferenceSIdeal.main_arg5)
      ∧ r.2.mem ((c.tc : Thread Cert.ReferenceSIdeal.nD Cert.ReferenceSIdeal.τ).loc Cert.ReferenceSIdeal.main_arg6) = m ((c.tc : Thread Cert.ReferenceSIdeal.nD Cert.ReferenceSIdeal.τ).loc Cert.ReferenceSIdeal.main_arg6))
      ∧ r.2.sem = fun _ => 0)

def quiescent_ReferenceSIdeal_pre_finite_cond [hReferenceSIdeal : Cert.ReferenceSIdeal.Facts] [hPre_finite_cond : Cert.Pre_finite_cond.Facts] : Prop :=
  ∀ (m : (ℓ : Loc Cert.ReferenceSIdeal.nD Cert.ReferenceSIdeal.τ Cert.ReferenceSIdeal.sig) → Buf (Elt Ideal) ℓ) (g : Dev Cert.ReferenceSIdeal.nD → PrngReg), Pre_ReferenceSIdeal_finite_cond m →
    θ_run (Cert.ReferenceSIdeal.defs (F := Ideal)) (onTc (τ := Cert.ReferenceSIdeal.τ) (Cert.ReferenceSIdeal.main (F := Ideal))) ⟨m, fun _ => 0, g⟩ (fun r => (∀ c : Dev Cert.ReferenceSIdeal.nD,
      r.2.mem ((c.tc : Thread Cert.ReferenceSIdeal.nD Cert.ReferenceSIdeal.τ).loc Cert.ReferenceSIdeal.main_arg0) = m ((c.tc : Thread Cert.ReferenceSIdeal.nD Cert.ReferenceSIdeal.τ).loc Cert.ReferenceSIdeal.main_arg0)
      ∧ r.2.mem ((c.tc : Thread Cert.ReferenceSIdeal.nD Cert.ReferenceSIdeal.τ).loc Cert.ReferenceSIdeal.main_arg1) = m ((c.tc : Thread Cert.ReferenceSIdeal.nD Cert.ReferenceSIdeal.τ).loc Cert.ReferenceSIdeal.main_arg1)
      ∧ r.2.mem ((c.tc : Thread Cert.ReferenceSIdeal.nD Cert.ReferenceSIdeal.τ).loc Cert.ReferenceSIdeal.main_arg2) = m ((c.tc : Thread Cert.ReferenceSIdeal.nD Cert.ReferenceSIdeal.τ).loc Cert.ReferenceSIdeal.main_arg2)
      ∧ r.2.mem ((c.tc : Thread Cert.ReferenceSIdeal.nD Cert.ReferenceSIdeal.τ).loc Cert.ReferenceSIdeal.main_arg3) = m ((c.tc : Thread Cert.ReferenceSIdeal.nD Cert.ReferenceSIdeal.τ).loc Cert.ReferenceSIdeal.main_arg3)
      ∧ r.2.mem ((c.tc : Thread Cert.ReferenceSIdeal.nD Cert.ReferenceSIdeal.τ).loc Cert.ReferenceSIdeal.main_arg4) = m ((c.tc : Thread Cert.ReferenceSIdeal.nD Cert.ReferenceSIdeal.τ).loc Cert.ReferenceSIdeal.main_arg4)
      ∧ r.2.mem ((c.tc : Thread Cert.ReferenceSIdeal.nD Cert.ReferenceSIdeal.τ).loc Cert.ReferenceSIdeal.main_arg5) = m ((c.tc : Thread Cert.ReferenceSIdeal.nD Cert.ReferenceSIdeal.τ).loc Cert.ReferenceSIdeal.main_arg5)
      ∧ r.2.mem ((c.tc : Thread Cert.ReferenceSIdeal.nD Cert.ReferenceSIdeal.τ).loc Cert.ReferenceSIdeal.main_arg6) = m ((c.tc : Thread Cert.ReferenceSIdeal.nD Cert.ReferenceSIdeal.τ).loc Cert.ReferenceSIdeal.main_arg6))
      ∧ r.2.sem = fun _ => 0)

def quiescent_KernelY [hKernelY : Cert.KernelY.Facts] : Prop :=
  ∀ (m : (ℓ : Loc Cert.KernelY.nD Cert.KernelY.τ Cert.KernelY.sig) → Buf (Elt Bits) ℓ) (g : Dev Cert.KernelY.nD → PrngReg), Pre_KernelY m →
    θ_run (Cert.KernelY.defs (F := Bits)) (onTc (τ := Cert.KernelY.τ) (Cert.KernelY.main (F := Bits))) ⟨m, fun _ => 0, g⟩ (fun r => (∀ c : Dev Cert.KernelY.nD,
      r.2.mem ((c.tc : Thread Cert.KernelY.nD Cert.KernelY.τ).loc Cert.KernelY.main_arg0) = m ((c.tc : Thread Cert.KernelY.nD Cert.KernelY.τ).loc Cert.KernelY.main_arg0)
      ∧ r.2.mem ((c.tc : Thread Cert.KernelY.nD Cert.KernelY.τ).loc Cert.KernelY.main_arg1) = m ((c.tc : Thread Cert.KernelY.nD Cert.KernelY.τ).loc Cert.KernelY.main_arg1)
      ∧ r.2.mem ((c.tc : Thread Cert.KernelY.nD Cert.KernelY.τ).loc Cert.KernelY.main_arg2) = m ((c.tc : Thread Cert.KernelY.nD Cert.KernelY.τ).loc Cert.KernelY.main_arg2)
      ∧ r.2.mem ((c.tc : Thread Cert.KernelY.nD Cert.KernelY.τ).loc Cert.KernelY.main_arg3) = m ((c.tc : Thread Cert.KernelY.nD Cert.KernelY.τ).loc Cert.KernelY.main_arg3)
      ∧ r.2.mem ((c.tc : Thread Cert.KernelY.nD Cert.KernelY.τ).loc Cert.KernelY.main_arg4) = m ((c.tc : Thread Cert.KernelY.nD Cert.KernelY.τ).loc Cert.KernelY.main_arg4)
      ∧ r.2.mem ((c.tc : Thread Cert.KernelY.nD Cert.KernelY.τ).loc Cert.KernelY.main_arg5) = m ((c.tc : Thread Cert.KernelY.nD Cert.KernelY.τ).loc Cert.KernelY.main_arg5)
      ∧ r.2.mem ((c.tc : Thread Cert.KernelY.nD Cert.KernelY.τ).loc Cert.KernelY.main_arg6) = m ((c.tc : Thread Cert.KernelY.nD Cert.KernelY.τ).loc Cert.KernelY.main_arg6))
      ∧ r.2.sem = fun _ => 0)

def quiescent_KernelYIdeal [hKernelYIdeal : Cert.KernelYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg), Pre_KernelYIdeal m →
    θ_run (Cert.KernelYIdeal.defs (F := Ideal)) (onTc (τ := Cert.KernelYIdeal.τ) (Cert.KernelYIdeal.main (F := Ideal))) ⟨m, fun _ => 0, g⟩ (fun r => (∀ c : Dev Cert.KernelYIdeal.nD,
      r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
      ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
      ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
      ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3)
      ∧ r.2.mem ((c.tc : Thread Cert.KernelYIdeal.nD Cert.KernelYIdeal.τ).loc Cert.KernelYIdeal.main_arg4) = m ((c.tc : Thread Cert.KernelYIdeal.nD Cert.KernelYIdeal.τ).loc Cert.KernelYIdeal.main_arg4)
      ∧ r.2.mem ((c.tc : Thread Cert.KernelYIdeal.nD Cert.KernelYIdeal.τ).loc Cert.KernelYIdeal.main_arg5) = m ((c.tc : Thread Cert.KernelYIdeal.nD Cert.KernelYIdeal.τ).loc Cert.KernelYIdeal.main_arg5)
      ∧ r.2.mem ((c.tc : Thread Cert.KernelYIdeal.nD Cert.KernelYIdeal.τ).loc Cert.KernelYIdeal.main_arg6) = m ((c.tc : Thread Cert.KernelYIdeal.nD Cert.KernelYIdeal.τ).loc Cert.KernelYIdeal.main_arg6))
      ∧ r.2.sem = fun _ => 0)

def quiescent_ReferenceYIdeal [hReferenceYIdeal : Cert.ReferenceYIdeal.Facts] : Prop :=
  ∀ (m : (ℓ : Loc Cert.ReferenceYIdeal.nD Cert.ReferenceYIdeal.τ Cert.ReferenceYIdeal.sig) → Buf (Elt Ideal) ℓ) (g : Dev Cert.ReferenceYIdeal.nD → PrngReg), Pre_ReferenceYIdeal m →
    θ_run (Cert.ReferenceYIdeal.defs (F := Ideal)) (onTc (τ := Cert.ReferenceYIdeal.τ) (Cert.ReferenceYIdeal.main (F := Ideal))) ⟨m, fun _ => 0, g⟩ (fun r => (∀ c : Dev Cert.ReferenceYIdeal.nD,
      r.2.mem ((c.tc : Thread Cert.ReferenceYIdeal.nD Cert.ReferenceYIdeal.τ).loc Cert.ReferenceYIdeal.main_arg0) = m ((c.tc : Thread Cert.ReferenceYIdeal.nD Cert.ReferenceYIdeal.τ).loc Cert.ReferenceYIdeal.main_arg0)
      ∧ r.2.mem ((c.tc : Thread Cert.ReferenceYIdeal.nD Cert.ReferenceYIdeal.τ).loc Cert.ReferenceYIdeal.main_arg1) = m ((c.tc : Thread Cert.ReferenceYIdeal.nD Cert.ReferenceYIdeal.τ).loc Cert.ReferenceYIdeal.main_arg1)
      ∧ r.2.mem ((c.tc : Thread Cert.ReferenceYIdeal.nD Cert.ReferenceYIdeal.τ).loc Cert.ReferenceYIdeal.main_arg2) = m ((c.tc : Thread Cert.ReferenceYIdeal.nD Cert.ReferenceYIdeal.τ).loc Cert.ReferenceYIdeal.main_arg2)
      ∧ r.2.mem ((c.tc : Thread Cert.ReferenceYIdeal.nD Cert.ReferenceYIdeal.τ).loc Cert.ReferenceYIdeal.main_arg3) = m ((c.tc : Thread Cert.ReferenceYIdeal.nD Cert.ReferenceYIdeal.τ).loc Cert.ReferenceYIdeal.main_arg3)
      ∧ r.2.mem ((c.tc : Thread Cert.ReferenceYIdeal.nD Cert.ReferenceYIdeal.τ).loc Cert.ReferenceYIdeal.main_arg4) = m ((c.tc : Thread Cert.ReferenceYIdeal.nD Cert.ReferenceYIdeal.τ).loc Cert.ReferenceYIdeal.main_arg4)
      ∧ r.2.mem ((c.tc : Thread Cert.ReferenceYIdeal.nD Cert.ReferenceYIdeal.τ).loc Cert.ReferenceYIdeal.main_arg5) = m ((c.tc : Thread Cert.ReferenceYIdeal.nD Cert.ReferenceYIdeal.τ).loc Cert.ReferenceYIdeal.main_arg5)
      ∧ r.2.mem ((c.tc : Thread Cert.ReferenceYIdeal.nD Cert.ReferenceYIdeal.τ).loc Cert.ReferenceYIdeal.main_arg6) = m ((c.tc : Thread Cert.ReferenceYIdeal.nD Cert.ReferenceYIdeal.τ).loc Cert.ReferenceYIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v17_3)) (v3 : (c : Dev Cert.KernelIdeal.nD) → Buf (Elt Ideal) ((c.tc : Thread Cert.KernelIdeal.nD Cert.KernelIdeal.τ).loc Cert.KernelIdeal.main_v17_4)) (v4 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v17_3) = v2 c
          ∧ r.2.mem ((c.tc : Thread Cert.KernelIdeal.nD Cert.KernelIdeal.τ).loc Cert.KernelIdeal.main_v17_4) = v3 c
          ∧ r.2.mem ((c.tc : Thread Cert.KernelIdeal.nD Cert.KernelIdeal.τ).loc Cert.KernelIdeal.main_v27) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v49) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_KernelA_KernelAIdeal : Prop :=
  IdealRules.named_const.Statement Cert.KernelAIdeal.κ "mask" .f32 0xF149F2CA#32 ⊥

def algebraic_KernelAIdeal_ReferenceAIdeal_pre_finite_band [hKernelAIdeal : Cert.KernelAIdeal.Facts] [hReferenceAIdeal : Cert.ReferenceAIdeal.Facts] [hPre_finite_band : Cert.Pre_finite_band.Facts] : Prop :=
  ∀ (m : (ℓ : Loc Cert.KernelAIdeal.nD Cert.KernelAIdeal.τ Cert.KernelAIdeal.sig) → Buf (Elt Ideal) ℓ) (g : Dev Cert.KernelAIdeal.nD → PrngReg)
    (m' : (ℓ : Loc Cert.ReferenceAIdeal.nD Cert.ReferenceAIdeal.τ Cert.ReferenceAIdeal.sig) → Buf (Elt Ideal) ℓ) (g' : Dev Cert.ReferenceAIdeal.nD → PrngReg), Pre_KernelAIdeal_finite_band m →
    (∀ c : Dev Cert.KernelAIdeal.nD,
      m' ((c.tc : Thread Cert.ReferenceAIdeal.nD Cert.ReferenceAIdeal.τ).loc Cert.ReferenceAIdeal.main_arg0) = m ((c.tc : Thread Cert.KernelAIdeal.nD Cert.KernelAIdeal.τ).loc Cert.KernelAIdeal.main_arg0)
      ∧ m' ((c.tc : Thread Cert.ReferenceAIdeal.nD Cert.ReferenceAIdeal.τ).loc Cert.ReferenceAIdeal.main_arg1) = m ((c.tc : Thread Cert.KernelAIdeal.nD Cert.KernelAIdeal.τ).loc Cert.KernelAIdeal.main_arg1)
      ∧ m' ((c.tc : Thread Cert.ReferenceAIdeal.nD Cert.ReferenceAIdeal.τ).loc Cert.ReferenceAIdeal.main_arg2) = m ((c.tc : Thread Cert.KernelAIdeal.nD Cert.KernelAIdeal.τ).loc Cert.KernelAIdeal.main_arg2)
      ∧ m' ((c.tc : Thread Cert.ReferenceAIdeal.nD Cert.ReferenceAIdeal.τ).loc Cert.ReferenceAIdeal.main_arg3) = m ((c.tc : Thread Cert.KernelAIdeal.nD Cert.KernelAIdeal.τ).loc Cert.KernelAIdeal.main_arg3)
      ∧ m' ((c.tc : Thread Cert.ReferenceAIdeal.nD Cert.ReferenceAIdeal.τ).loc Cert.ReferenceAIdeal.main_arg4) = m ((c.tc : Thread Cert.KernelAIdeal.nD Cert.KernelAIdeal.τ).loc Cert.KernelAIdeal.main_arg4)
      ∧ m' ((c.tc : Thread Cert.ReferenceAIdeal.nD Cert.ReferenceAIdeal.τ).loc Cert.ReferenceAIdeal.main_arg5) = m ((c.tc : Thread Cert.KernelAIdeal.nD Cert.KernelAIdeal.τ).loc Cert.KernelAIdeal.main_arg5)
      ∧ m' ((c.tc : Thread Cert.ReferenceAIdeal.nD Cert.ReferenceAIdeal.τ).loc Cert.ReferenceAIdeal.main_arg6) = m ((c.tc : Thread Cert.KernelAIdeal.nD Cert.KernelAIdeal.τ).loc Cert.KernelAIdeal.main_arg6)
      ∧ m' ((c.tc : Thread Cert.ReferenceAIdeal.nD Cert.ReferenceAIdeal.τ).loc Cert.ReferenceAIdeal.main_arg7) = m ((c.tc : Thread Cert.KernelAIdeal.nD Cert.KernelAIdeal.τ).loc Cert.KernelAIdeal.main_arg7)
      ∧ m' ((c.tc : Thread Cert.ReferenceAIdeal.nD Cert.ReferenceAIdeal.τ).loc Cert.ReferenceAIdeal.main_arg8) = m ((c.tc : Thread Cert.KernelAIdeal.nD Cert.KernelAIdeal.τ).loc Cert.KernelAIdeal.main_arg8)) →
    ∃ (v0 : (c : Dev Cert.KernelAIdeal.nD) → Buf (Elt Ideal) ((c.tc : Thread Cert.KernelAIdeal.nD Cert.KernelAIdeal.τ).loc Cert.KernelAIdeal.main_v38_0)) (v1 : (c : Dev Cert.KernelAIdeal.nD) → Buf (Elt Ideal) ((c.tc : Thread Cert.KernelAIdeal.nD Cert.KernelAIdeal.τ).loc Cert.KernelAIdeal.main_v38_1)) (v2 : (c : Dev Cert.KernelAIdeal.nD) → Buf (Elt Ideal) ((c.tc : Thread Cert.KernelAIdeal.nD Cert.KernelAIdeal.τ).loc Cert.KernelAIdeal.main_v26)) (v3 : (c : Dev Cert.KernelAIdeal.nD) → Buf (Elt Ideal) ((c.tc : Thread Cert.KernelAIdeal.nD Cert.KernelAIdeal.τ).loc Cert.KernelAIdeal.main_v27)) (v4 : (c : Dev Cert.KernelAIdeal.nD) → Buf (Elt Ideal) ((c.tc : Thread Cert.KernelAIdeal.nD Cert.KernelAIdeal.τ).loc Cert.KernelAIdeal.main_v14)),
      θ_run (Cert.KernelAIdeal.defs (F := Ideal)) (onTc (τ := Cert.KernelAIdeal.τ) (Cert.KernelAIdeal.main (F := Ideal))) ⟨m, fun _ => 0, g⟩ (fun r => ∀ c : Dev Cert.KernelAIdeal.nD,
          r.2.mem ((c.tc : Thread Cert.KernelAIdeal.nD Cert.KernelAIdeal.τ).loc Cert.KernelAIdeal.main_v38_0) = v0 c
          ∧ r.2.mem ((c.tc : Thread Cert.KernelAIdeal.nD Cert.KernelAIdeal.τ).loc Cert.KernelAIdeal.main_v38_1) = v1 c
          ∧ r.2.mem ((c.tc : Thread Cert.KernelAIdeal.nD Cert.KernelAIdeal.τ).loc Cert.KernelAIdeal.main_v26) = v2 c
          ∧ r.2.mem ((c.tc : Thread Cert.KernelAIdeal.nD Cert.KernelAIdeal.τ).loc Cert.KernelAIdeal.main_v27) = v3 c
          ∧ r.2.mem ((c.tc : Thread Cert.KernelAIdeal.nD Cert.KernelAIdeal.τ).loc Cert.KernelAIdeal.main_v14) = v4 c
          ∧ r.2.mem ((c.tc : Thread Cert.KernelAIdeal.nD Cert.KernelAIdeal.τ).loc Cert.KernelAIdeal.main_arg0) = m ((c.tc : Thread Cert.KernelAIdeal.nD Cert.KernelAIdeal.τ).loc Cert.KernelAIdeal.main_arg0)
          ∧ r.2.mem ((c.tc : Thread Cert.KernelAIdeal.nD Cert.KernelAIdeal.τ).loc Cert.KernelAIdeal.main_arg1) = m ((c.tc : Thread Cert.KernelAIdeal.nD Cert.KernelAIdeal.τ).loc Cert.KernelAIdeal.main_arg1)
          ∧ r.2.mem ((c.tc : Thread Cert.KernelAIdeal.nD Cert.KernelAIdeal.τ).loc Cert.KernelAIdeal.main_arg2) = m ((c.tc : Thread Cert.KernelAIdeal.nD Cert.KernelAIdeal.τ).loc Cert.KernelAIdeal.main_arg2)
          ∧ r.2.mem ((c.tc : Thread Cert.KernelAIdeal.nD Cert.KernelAIdeal.τ).loc Cert.KernelAIdeal.main_arg3) = m ((c.tc : Thread Cert.KernelAIdeal.nD Cert.KernelAIdeal.τ).loc Cert.KernelAIdeal.main_arg3)
          ∧ r.2.mem ((c.tc : Thread Cert.KernelAIdeal.nD Cert.KernelAIdeal.τ).loc Cert.KernelAIdeal.main_arg4) = m ((c.tc : Thread Cert.KernelAIdeal.nD Cert.KernelAIdeal.τ).loc Cert.KernelAIdeal.main_arg4)
          ∧ r.2.mem ((c.tc : Thread Cert.KernelAIdeal.nD Cert.KernelAIdeal.τ).loc Cert.KernelAIdeal.main_arg5) = m ((c.tc : Thread Cert.KernelAIdeal.nD Cert.KernelAIdeal.τ).loc Cert.KernelAIdeal.main_arg5)
          ∧ r.2.mem ((c.tc : Thread Cert.KernelAIdeal.nD Cert.KernelAIdeal.τ).loc Cert.KernelAIdeal.main_arg6) = m ((c.tc : Thread Cert.KernelAIdeal.nD Cert.KernelAIdeal.τ).loc Cert.KernelAIdeal.main_arg6)
          ∧ r.2.mem ((c.tc : Thread Cert.KernelAIdeal.nD Cert.KernelAIdeal.τ).loc Cert.KernelAIdeal.main_arg7) = m ((c.tc : Thread Cert.KernelAIdeal.nD Cert.KernelAIdeal.τ).loc Cert.KernelAIdeal.main_arg7)
          ∧ r.2.mem ((c.tc : Thread Cert.KernelAIdeal.nD Cert.KernelAIdeal.τ).loc Cert.KernelAIdeal.main_arg8) = m ((c.tc : Thread Cert.KernelAIdeal.nD Cert.KernelAIdeal.τ).loc Cert.KernelAIdeal.main_arg8))
      ∧ θ_run (Cert.ReferenceAIdeal.defs (F := Ideal)) (onTc (τ := Cert.ReferenceAIdeal.τ) (Cert.ReferenceAIdeal.main (F := Ideal))) ⟨m', fun _ => 0, g'⟩ (fun r => ∀ c : Dev Cert.ReferenceAIdeal.nD,
          r.2.mem ((c.tc : Thread Cert.ReferenceAIdeal.nD Cert.ReferenceAIdeal.τ).loc Cert.ReferenceAIdeal.main_v99) = v0 c
          ∧ r.2.mem ((c.tc : Thread Cert.ReferenceAIdeal.nD Cert.ReferenceAIdeal.τ).loc Cert.ReferenceAIdeal.main_v123) = v1 c
          ∧ r.2.mem ((c.tc : Thread Cert.ReferenceAIdeal.nD Cert.ReferenceAIdeal.τ).loc Cert.ReferenceAIdeal.main_v124) = v2 c
          ∧ r.2.mem ((c.tc : Thread Cert.ReferenceAIdeal.nD Cert.ReferenceAIdeal.τ).loc Cert.ReferenceAIdeal.main_v125) = v3 c
          ∧ r.2.mem ((c.tc : Thread Cert.ReferenceAIdeal.nD Cert.ReferenceAIdeal.τ).loc Cert.ReferenceAIdeal.main_v13) = v4 c
          ∧ r.2.mem ((c.tc : Thread Cert.ReferenceAIdeal.nD Cert.ReferenceAIdeal.τ).loc Cert.ReferenceAIdeal.main_arg0) = m' ((c.tc : Thread Cert.ReferenceAIdeal.nD Cert.ReferenceAIdeal.τ).loc Cert.ReferenceAIdeal.main_arg0)
          ∧ r.2.mem ((c.tc : Thread Cert.ReferenceAIdeal.nD Cert.ReferenceAIdeal.τ).loc Cert.ReferenceAIdeal.main_arg1) = m' ((c.tc : Thread Cert.ReferenceAIdeal.nD Cert.ReferenceAIdeal.τ).loc Cert.ReferenceAIdeal.main_arg1)
          ∧ r.2.mem ((c.tc : Thread Cert.ReferenceAIdeal.nD Cert.ReferenceAIdeal.τ).loc Cert.ReferenceAIdeal.main_arg2) = m' ((c.tc : Thread Cert.ReferenceAIdeal.nD Cert.ReferenceAIdeal.τ).loc Cert.ReferenceAIdeal.main_arg2)
          ∧ r.2.mem ((c.tc : Thread Cert.ReferenceAIdeal.nD Cert.ReferenceAIdeal.τ).loc Cert.ReferenceAIdeal.main_arg3) = m' ((c.tc : Thread Cert.ReferenceAIdeal.nD Cert.ReferenceAIdeal.τ).loc Cert.ReferenceAIdeal.main_arg3)
          ∧ r.2.mem ((c.tc : Thread Cert.ReferenceAIdeal.nD Cert.ReferenceAIdeal.τ).loc Cert.ReferenceAIdeal.main_arg4) = m' ((c.tc : Thread Cert.ReferenceAIdeal.nD Cert.ReferenceAIdeal.τ).loc Cert.ReferenceAIdeal.main_arg4)
          ∧ r.2.mem ((c.tc : Thread Cert.ReferenceAIdeal.nD Cert.ReferenceAIdeal.τ).loc Cert.ReferenceAIdeal.main_arg5) = m' ((c.tc : Thread Cert.ReferenceAIdeal.nD Cert.ReferenceAIdeal.τ).loc Cert.ReferenceAIdeal.main_arg5)
          ∧ r.2.mem ((c.tc : Thread Cert.ReferenceAIdeal.nD Cert.ReferenceAIdeal.τ).loc Cert.ReferenceAIdeal.main_arg6) = m' ((c.tc : Thread Cert.ReferenceAIdeal.nD Cert.ReferenceAIdeal.τ).loc Cert.ReferenceAIdeal.main_arg6)
          ∧ r.2.mem ((c.tc : Thread Cert.ReferenceAIdeal.nD Cert.ReferenceAIdeal.τ).loc Cert.ReferenceAIdeal.main_arg7) = m' ((c.tc : Thread Cert.ReferenceAIdeal.nD Cert.ReferenceAIdeal.τ).loc Cert.ReferenceAIdeal.main_arg7)
          ∧ r.2.mem ((c.tc : Thread Cert.ReferenceAIdeal.nD Cert.ReferenceAIdeal.τ).loc Cert.ReferenceAIdeal.main_arg8) = m' ((c.tc : Thread Cert.ReferenceAIdeal.nD Cert.ReferenceAIdeal.τ).loc Cert.ReferenceAIdeal.main_arg8))

def preserves_KernelS_KernelSIdeal : Prop :=
  True

def algebraic_KernelSIdeal_ReferenceSIdeal_pre_finite_cond [hKernelSIdeal : Cert.KernelSIdeal.Facts] [hReferenceSIdeal : Cert.ReferenceSIdeal.Facts] [hPre_finite_cond : Cert.Pre_finite_cond.Facts] : Prop :=
  ∀ (m : (ℓ : Loc Cert.KernelSIdeal.nD Cert.KernelSIdeal.τ Cert.KernelSIdeal.sig) → Buf (Elt Ideal) ℓ) (g : Dev Cert.KernelSIdeal.nD → PrngReg)
    (m' : (ℓ : Loc Cert.ReferenceSIdeal.nD Cert.ReferenceSIdeal.τ Cert.ReferenceSIdeal.sig) → Buf (Elt Ideal) ℓ) (g' : Dev Cert.ReferenceSIdeal.nD → PrngReg), Pre_KernelSIdeal_finite_cond m →
    (∀ c : Dev Cert.KernelSIdeal.nD,
      m' ((c.tc : Thread Cert.ReferenceSIdeal.nD Cert.ReferenceSIdeal.τ).loc Cert.ReferenceSIdeal.main_arg0) = m ((c.tc : Thread Cert.KernelSIdeal.nD Cert.KernelSIdeal.τ).loc Cert.KernelSIdeal.main_arg0)
      ∧ m' ((c.tc : Thread Cert.ReferenceSIdeal.nD Cert.ReferenceSIdeal.τ).loc Cert.ReferenceSIdeal.main_arg1) = m ((c.tc : Thread Cert.KernelSIdeal.nD Cert.KernelSIdeal.τ).loc Cert.KernelSIdeal.main_arg1)
      ∧ m' ((c.tc : Thread Cert.ReferenceSIdeal.nD Cert.ReferenceSIdeal.τ).loc Cert.ReferenceSIdeal.main_arg2) = m ((c.tc : Thread Cert.KernelSIdeal.nD Cert.KernelSIdeal.τ).loc Cert.KernelSIdeal.main_arg2)
      ∧ m' ((c.tc : Thread Cert.ReferenceSIdeal.nD Cert.ReferenceSIdeal.τ).loc Cert.ReferenceSIdeal.main_arg3) = m ((c.tc : Thread Cert.KernelSIdeal.nD Cert.KernelSIdeal.τ).loc Cert.KernelSIdeal.main_arg3)
      ∧ m' ((c.tc : Thread Cert.ReferenceSIdeal.nD Cert.ReferenceSIdeal.τ).loc Cert.ReferenceSIdeal.main_arg4) = m ((c.tc : Thread Cert.KernelSIdeal.nD Cert.KernelSIdeal.τ).loc Cert.KernelSIdeal.main_arg4)
      ∧ m' ((c.tc : Thread Cert.ReferenceSIdeal.nD Cert.ReferenceSIdeal.τ).loc Cert.ReferenceSIdeal.main_arg5) = m ((c.tc : Thread Cert.KernelSIdeal.nD Cert.KernelSIdeal.τ).loc Cert.KernelSIdeal.main_arg5)
      ∧ m' ((c.tc : Thread Cert.ReferenceSIdeal.nD Cert.ReferenceSIdeal.τ).loc Cert.ReferenceSIdeal.main_arg6) = m ((c.tc : Thread Cert.KernelSIdeal.nD Cert.KernelSIdeal.τ).loc Cert.KernelSIdeal.main_arg6)) →
    ∃ (v0 : (c : Dev Cert.KernelSIdeal.nD) → Buf (Elt Ideal) ((c.tc : Thread Cert.KernelSIdeal.nD Cert.KernelSIdeal.τ).loc Cert.KernelSIdeal.main_v22_3)) (v1 : (c : Dev Cert.KernelSIdeal.nD) → Buf (Elt Ideal) ((c.tc : Thread Cert.KernelSIdeal.nD Cert.KernelSIdeal.τ).loc Cert.KernelSIdeal.main_v22_4)) (v2 : (c : Dev Cert.KernelSIdeal.nD) → Buf (Elt Ideal) ((c.tc : Thread Cert.KernelSIdeal.nD Cert.KernelSIdeal.τ).loc Cert.KernelSIdeal.main_v11)) (v3 : (c : Dev Cert.KernelSIdeal.nD) → Buf (Elt Ideal) ((c.tc : Thread Cert.KernelSIdeal.nD Cert.KernelSIdeal.τ).loc Cert.KernelSIdeal.main_v12)) (v4 : (c : Dev Cert.KernelSIdeal.nD) → Buf (Elt Ideal) ((c.tc : Thread Cert.KernelSIdeal.nD Cert.KernelSIdeal.τ).loc Cert.KernelSIdeal.main_v13)) (v5 : (c : Dev Cert.KernelSIdeal.nD) → Buf (Elt Ideal) ((c.tc : Thread Cert.KernelSIdeal.nD Cert.KernelSIdeal.τ).loc Cert.KernelSIdeal.main_v14)),
      θ_run (Cert.KernelSIdeal.defs (F := Ideal)) (onTc (τ := Cert.KernelSIdeal.τ) (Cert.KernelSIdeal.main (F := Ideal))) ⟨m, fun _ => 0, g⟩ (fun r => ∀ c : Dev Cert.KernelSIdeal.nD,
          r.2.mem ((c.tc : Thread Cert.KernelSIdeal.nD Cert.KernelSIdeal.τ).loc Cert.KernelSIdeal.main_v22_3) = v0 c
          ∧ r.2.mem ((c.tc : Thread Cert.KernelSIdeal.nD Cert.KernelSIdeal.τ).loc Cert.KernelSIdeal.main_v22_4) = v1 c
          ∧ r.2.mem ((c.tc : Thread Cert.KernelSIdeal.nD Cert.KernelSIdeal.τ).loc Cert.KernelSIdeal.main_v11) = v2 c
          ∧ r.2.mem ((c.tc : Thread Cert.KernelSIdeal.nD Cert.KernelSIdeal.τ).loc Cert.KernelSIdeal.main_v12) = v3 c
          ∧ r.2.mem ((c.tc : Thread Cert.KernelSIdeal.nD Cert.KernelSIdeal.τ).loc Cert.KernelSIdeal.main_v13) = v4 c
          ∧ r.2.mem ((c.tc : Thread Cert.KernelSIdeal.nD Cert.KernelSIdeal.τ).loc Cert.KernelSIdeal.main_v14) = v5 c
          ∧ r.2.mem ((c.tc : Thread Cert.KernelSIdeal.nD Cert.KernelSIdeal.τ).loc Cert.KernelSIdeal.main_arg0) = m ((c.tc : Thread Cert.KernelSIdeal.nD Cert.KernelSIdeal.τ).loc Cert.KernelSIdeal.main_arg0)
          ∧ r.2.mem ((c.tc : Thread Cert.KernelSIdeal.nD Cert.KernelSIdeal.τ).loc Cert.KernelSIdeal.main_arg1) = m ((c.tc : Thread Cert.KernelSIdeal.nD Cert.KernelSIdeal.τ).loc Cert.KernelSIdeal.main_arg1)
          ∧ r.2.mem ((c.tc : Thread Cert.KernelSIdeal.nD Cert.KernelSIdeal.τ).loc Cert.KernelSIdeal.main_arg2) = m ((c.tc : Thread Cert.KernelSIdeal.nD Cert.KernelSIdeal.τ).loc Cert.KernelSIdeal.main_arg2)
          ∧ r.2.mem ((c.tc : Thread Cert.KernelSIdeal.nD Cert.KernelSIdeal.τ).loc Cert.KernelSIdeal.main_arg3) = m ((c.tc : Thread Cert.KernelSIdeal.nD Cert.KernelSIdeal.τ).loc Cert.KernelSIdeal.main_arg3)
          ∧ r.2.mem ((c.tc : Thread Cert.KernelSIdeal.nD Cert.KernelSIdeal.τ).loc Cert.KernelSIdeal.main_arg4) = m ((c.tc : Thread Cert.KernelSIdeal.nD Cert.KernelSIdeal.τ).loc Cert.KernelSIdeal.main_arg4)
          ∧ r.2.mem ((c.tc : Thread Cert.KernelSIdeal.nD Cert.KernelSIdeal.τ).loc Cert.KernelSIdeal.main_arg5) = m ((c.tc : Thread Cert.KernelSIdeal.nD Cert.KernelSIdeal.τ).loc Cert.KernelSIdeal.main_arg5)
          ∧ r.2.mem ((c.tc : Thread Cert.KernelSIdeal.nD Cert.KernelSIdeal.τ).loc Cert.KernelSIdeal.main_arg6) = m ((c.tc : Thread Cert.KernelSIdeal.nD Cert.KernelSIdeal.τ).loc Cert.KernelSIdeal.main_arg6))
      ∧ θ_run (Cert.ReferenceSIdeal.defs (F := Ideal)) (onTc (τ := Cert.ReferenceSIdeal.τ) (Cert.ReferenceSIdeal.main (F := Ideal))) ⟨m', fun _ => 0, g'⟩ (fun r => ∀ c : Dev Cert.ReferenceSIdeal.nD,
          r.2.mem ((c.tc : Thread Cert.ReferenceSIdeal.nD Cert.ReferenceSIdeal.τ).loc Cert.ReferenceSIdeal.main_v39) = v0 c
          ∧ r.2.mem ((c.tc : Thread Cert.ReferenceSIdeal.nD Cert.ReferenceSIdeal.τ).loc Cert.ReferenceSIdeal.main_v40) = v1 c
          ∧ r.2.mem ((c.tc : Thread Cert.ReferenceSIdeal.nD Cert.ReferenceSIdeal.τ).loc Cert.ReferenceSIdeal.main_v10) = v2 c
          ∧ r.2.mem ((c.tc : Thread Cert.ReferenceSIdeal.nD Cert.ReferenceSIdeal.τ).loc Cert.ReferenceSIdeal.main_v11) = v3 c
          ∧ r.2.mem ((c.tc : Thread Cert.ReferenceSIdeal.nD Cert.ReferenceSIdeal.τ).loc Cert.ReferenceSIdeal.main_v12) = v4 c
          ∧ r.2.mem ((c.tc : Thread Cert.ReferenceSIdeal.nD Cert.ReferenceSIdeal.τ).loc Cert.ReferenceSIdeal.main_v13) = v5 c
          ∧ r.2.mem ((c.tc : Thread Cert.ReferenceSIdeal.nD Cert.ReferenceSIdeal.τ).loc Cert.ReferenceSIdeal.main_arg0) = m' ((c.tc : Thread Cert.ReferenceSIdeal.nD Cert.ReferenceSIdeal.τ).loc Cert.ReferenceSIdeal.main_arg0)
          ∧ r.2.mem ((c.tc : Thread Cert.ReferenceSIdeal.nD Cert.ReferenceSIdeal.τ).loc Cert.ReferenceSIdeal.main_arg1) = m' ((c.tc : Thread Cert.ReferenceSIdeal.nD Cert.ReferenceSIdeal.τ).loc Cert.ReferenceSIdeal.main_arg1)
          ∧ r.2.mem ((c.tc : Thread Cert.ReferenceSIdeal.nD Cert.ReferenceSIdeal.τ).loc Cert.ReferenceSIdeal.main_arg2) = m' ((c.tc : Thread Cert.ReferenceSIdeal.nD Cert.ReferenceSIdeal.τ).loc Cert.ReferenceSIdeal.main_arg2)
          ∧ r.2.mem ((c.tc : Thread Cert.ReferenceSIdeal.nD Cert.ReferenceSIdeal.τ).loc Cert.ReferenceSIdeal.main_arg3) = m' ((c.tc : Thread Cert.ReferenceSIdeal.nD Cert.ReferenceSIdeal.τ).loc Cert.ReferenceSIdeal.main_arg3)
          ∧ r.2.mem ((c.tc : Thread Cert.ReferenceSIdeal.nD Cert.ReferenceSIdeal.τ).loc Cert.ReferenceSIdeal.main_arg4) = m' ((c.tc : Thread Cert.ReferenceSIdeal.nD Cert.ReferenceSIdeal.τ).loc Cert.ReferenceSIdeal.main_arg4)
          ∧ r.2.mem ((c.tc : Thread Cert.ReferenceSIdeal.nD Cert.ReferenceSIdeal.τ).loc Cert.ReferenceSIdeal.main_arg5) = m' ((c.tc : Thread Cert.ReferenceSIdeal.nD Cert.ReferenceSIdeal.τ).loc Cert.ReferenceSIdeal.main_arg5)
          ∧ r.2.mem ((c.tc : Thread Cert.ReferenceSIdeal.nD Cert.ReferenceSIdeal.τ).loc Cert.ReferenceSIdeal.main_arg6) = m' ((c.tc : Thread Cert.ReferenceSIdeal.nD Cert.ReferenceSIdeal.τ).loc Cert.ReferenceSIdeal.main_arg6))

def preserves_KernelY_KernelYIdeal : Prop :=
  True

def algebraic_KernelYIdeal_ReferenceYIdeal [hKernelYIdeal : Cert.KernelYIdeal.Facts] [hReferenceYIdeal : Cert.ReferenceYIdeal.Facts] : Prop :=
  ∀ (m : (ℓ : Loc Cert.KernelYIdeal.nD Cert.KernelYIdeal.τ Cert.KernelYIdeal.sig) → Buf (Elt Ideal) ℓ) (g : Dev Cert.KernelYIdeal.nD → PrngReg)
    (m' : (ℓ : Loc Cert.ReferenceYIdeal.nD Cert.ReferenceYIdeal.τ Cert.ReferenceYIdeal.sig) → Buf (Elt Ideal) ℓ) (g' : Dev Cert.ReferenceYIdeal.nD → PrngReg), Pre_KernelYIdeal m →
    (∀ c : Dev Cert.KernelYIdeal.nD,
      m' ((c.tc : Thread Cert.ReferenceYIdeal.nD Cert.ReferenceYIdeal.τ).loc Cert.ReferenceYIdeal.main_arg0) = m ((c.tc : Thread Cert.KernelYIdeal.nD Cert.KernelYIdeal.τ).loc Cert.KernelYIdeal.main_arg0)
      ∧ m' ((c.tc : Thread Cert.ReferenceYIdeal.nD Cert.ReferenceYIdeal.τ).loc Cert.ReferenceYIdeal.main_arg1) = m ((c.tc : Thread Cert.KernelYIdeal.nD Cert.KernelYIdeal.τ).loc Cert.KernelYIdeal.main_arg1)
      ∧ m' ((c.tc : Thread Cert.ReferenceYIdeal.nD Cert.ReferenceYIdeal.τ).loc Cert.ReferenceYIdeal.main_arg2) = m ((c.tc : Thread Cert.KernelYIdeal.nD Cert.KernelYIdeal.τ).loc Cert.KernelYIdeal.main_arg2)
      ∧ m' ((c.tc : Thread Cert.ReferenceYIdeal.nD Cert.ReferenceYIdeal.τ).loc Cert.ReferenceYIdeal.main_arg3) = m ((c.tc : Thread Cert.KernelYIdeal.nD Cert.KernelYIdeal.τ).loc Cert.KernelYIdeal.main_arg3)
      ∧ m' ((c.tc : Thread Cert.ReferenceYIdeal.nD Cert.ReferenceYIdeal.τ).loc Cert.ReferenceYIdeal.main_arg4) = m ((c.tc : Thread Cert.KernelYIdeal.nD Cert.KernelYIdeal.τ).loc Cert.KernelYIdeal.main_arg4)
      ∧ m' ((c.tc : Thread Cert.ReferenceYIdeal.nD Cert.ReferenceYIdeal.τ).loc Cert.ReferenceYIdeal.main_arg5) = m ((c.tc : Thread Cert.KernelYIdeal.nD Cert.KernelYIdeal.τ).loc Cert.KernelYIdeal.main_arg5)
      ∧ m' ((c.tc : Thread Cert.ReferenceYIdeal.nD Cert.ReferenceYIdeal.τ).loc Cert.ReferenceYIdeal.main_arg6) = m ((c.tc : Thread Cert.KernelYIdeal.nD Cert.KernelYIdeal.τ).loc Cert.KernelYIdeal.main_arg6)) →
    ∃ (v0 : (c : Dev Cert.KernelYIdeal.nD) → Buf (Elt Ideal) ((c.tc : Thread Cert.KernelYIdeal.nD Cert.KernelYIdeal.τ).loc Cert.KernelYIdeal.main_v2)) (v1 : (c : Dev Cert.KernelYIdeal.nD) → Buf (Elt Ideal) ((c.tc : Thread Cert.KernelYIdeal.nD Cert.KernelYIdeal.τ).loc Cert.KernelYIdeal.main_v5)),
      θ_run (Cert.KernelYIdeal.defs (F := Ideal)) (onTc (τ := Cert.KernelYIdeal.τ) (Cert.KernelYIdeal.main (F := Ideal))) ⟨m, fun _ => 0, g⟩ (fun r => ∀ c : Dev Cert.KernelYIdeal.nD,
          r.2.mem ((c.tc : Thread Cert.KernelYIdeal.nD Cert.KernelYIdeal.τ).loc Cert.KernelYIdeal.main_v2) = v0 c
          ∧ r.2.mem ((c.tc : Thread Cert.KernelYIdeal.nD Cert.KernelYIdeal.τ).loc Cert.KernelYIdeal.main_v5) = v1 c
          ∧ r.2.mem ((c.tc : Thread Cert.KernelYIdeal.nD Cert.KernelYIdeal.τ).loc Cert.KernelYIdeal.main_arg0) = m ((c.tc : Thread Cert.KernelYIdeal.nD Cert.KernelYIdeal.τ).loc Cert.KernelYIdeal.main_arg0)
          ∧ r.2.mem ((c.tc : Thread Cert.KernelYIdeal.nD Cert.KernelYIdeal.τ).loc Cert.KernelYIdeal.main_arg1) = m ((c.tc : Thread Cert.KernelYIdeal.nD Cert.KernelYIdeal.τ).loc Cert.KernelYIdeal.main_arg1)
          ∧ r.2.mem ((c.tc : Thread Cert.KernelYIdeal.nD Cert.KernelYIdeal.τ).loc Cert.KernelYIdeal.main_arg2) = m ((c.tc : Thread Cert.KernelYIdeal.nD Cert.KernelYIdeal.τ).loc Cert.KernelYIdeal.main_arg2)
          ∧ r.2.mem ((c.tc : Thread Cert.KernelYIdeal.nD Cert.KernelYIdeal.τ).loc Cert.KernelYIdeal.main_arg3) = m ((c.tc : Thread Cert.KernelYIdeal.nD Cert.KernelYIdeal.τ).loc Cert.KernelYIdeal.main_arg3)
          ∧ r.2.mem ((c.tc : Thread Cert.KernelYIdeal.nD Cert.KernelYIdeal.τ).loc Cert.KernelYIdeal.main_arg4) = m ((c.tc : Thread Cert.KernelYIdeal.nD Cert.KernelYIdeal.τ).loc Cert.KernelYIdeal.main_arg4)
          ∧ r.2.mem ((c.tc : Thread Cert.KernelYIdeal.nD Cert.KernelYIdeal.τ).loc Cert.KernelYIdeal.main_arg5) = m ((c.tc : Thread Cert.KernelYIdeal.nD Cert.KernelYIdeal.τ).loc Cert.KernelYIdeal.main_arg5)
          ∧ r.2.mem ((c.tc : Thread Cert.KernelYIdeal.nD Cert.KernelYIdeal.τ).loc Cert.KernelYIdeal.main_arg6) = m ((c.tc : Thread Cert.KernelYIdeal.nD Cert.KernelYIdeal.τ).loc Cert.KernelYIdeal.main_arg6))
      ∧ θ_run (Cert.ReferenceYIdeal.defs (F := Ideal)) (onTc (τ := Cert.ReferenceYIdeal.τ) (Cert.ReferenceYIdeal.main (F := Ideal))) ⟨m', fun _ => 0, g'⟩ (fun r => ∀ c : Dev Cert.ReferenceYIdeal.nD,
          r.2.mem ((c.tc : Thread Cert.ReferenceYIdeal.nD Cert.ReferenceYIdeal.τ).loc Cert.ReferenceYIdeal.main_v16) = v0 c
          ∧ r.2.mem ((c.tc : Thread Cert.ReferenceYIdeal.nD Cert.ReferenceYIdeal.τ).loc Cert.ReferenceYIdeal.main_v33) = v1 c
          ∧ r.2.mem ((c.tc : Thread Cert.ReferenceYIdeal.nD Cert.ReferenceYIdeal.τ).loc Cert.ReferenceYIdeal.main_arg0) = m' ((c.tc : Thread Cert.ReferenceYIdeal.nD Cert.ReferenceYIdeal.τ).loc Cert.ReferenceYIdeal.main_arg0)
          ∧ r.2.mem ((c.tc : Thread Cert.ReferenceYIdeal.nD Cert.ReferenceYIdeal.τ).loc Cert.ReferenceYIdeal.main_arg1) = m' ((c.tc : Thread Cert.ReferenceYIdeal.nD Cert.ReferenceYIdeal.τ).loc Cert.ReferenceYIdeal.main_arg1)
          ∧ r.2.mem ((c.tc : Thread Cert.ReferenceYIdeal.nD Cert.ReferenceYIdeal.τ).loc Cert.ReferenceYIdeal.main_arg2) = m' ((c.tc : Thread Cert.ReferenceYIdeal.nD Cert.ReferenceYIdeal.τ).loc Cert.ReferenceYIdeal.main_arg2)
          ∧ r.2.mem ((c.tc : Thread Cert.ReferenceYIdeal.nD Cert.ReferenceYIdeal.τ).loc Cert.ReferenceYIdeal.main_arg3) = m' ((c.tc : Thread Cert.ReferenceYIdeal.nD Cert.ReferenceYIdeal.τ).loc Cert.ReferenceYIdeal.main_arg3)
          ∧ r.2.mem ((c.tc : Thread Cert.ReferenceYIdeal.nD Cert.ReferenceYIdeal.τ).loc Cert.ReferenceYIdeal.main_arg4) = m' ((c.tc : Thread Cert.ReferenceYIdeal.nD Cert.ReferenceYIdeal.τ).loc Cert.ReferenceYIdeal.main_arg4)
          ∧ r.2.mem ((c.tc : Thread Cert.ReferenceYIdeal.nD Cert.ReferenceYIdeal.τ).loc Cert.ReferenceYIdeal.main_arg5) = m' ((c.tc : Thread Cert.ReferenceYIdeal.nD Cert.ReferenceYIdeal.τ).loc Cert.ReferenceYIdeal.main_arg5)
          ∧ r.2.mem ((c.tc : Thread Cert.ReferenceYIdeal.nD Cert.ReferenceYIdeal.τ).loc Cert.ReferenceYIdeal.main_arg6) = m' ((c.tc : Thread Cert.ReferenceYIdeal.nD Cert.ReferenceYIdeal.τ).loc Cert.ReferenceYIdeal.main_arg6))

def Claim : Prop :=
  ∃ (hKernel : Cert.Kernel.Facts) (hKernelIdeal : Cert.KernelIdeal.Facts) (hReferenceIdeal : Cert.ReferenceIdeal.Facts) (hKernelA : Cert.KernelA.Facts) (hKernelAIdeal : Cert.KernelAIdeal.Facts) (hReferenceAIdeal : Cert.ReferenceAIdeal.Facts) (hKernelS : Cert.KernelS.Facts) (hKernelSIdeal : Cert.KernelSIdeal.Facts) (hReferenceSIdeal : Cert.ReferenceSIdeal.Facts) (hKernelY : Cert.KernelY.Facts) (hKernelYIdeal : Cert.KernelYIdeal.Facts) (hReferenceYIdeal : Cert.ReferenceYIdeal.Facts) (hPre_finite_scores : Cert.Pre_finite_scores.Facts) (hPre_finite_band : Cert.Pre_finite_band.Facts) (hPre_finite_cond : Cert.Pre_finite_cond.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_KernelA (hKernelA := hKernelA)
    ∧ quiescent_KernelAIdeal (hKernelAIdeal := hKernelAIdeal)
    ∧ quiescent_KernelAIdeal_pre_finite_band (hKernelAIdeal := hKernelAIdeal) (hPre_finite_band := hPre_finite_band)
    ∧ quiescent_ReferenceAIdeal (hReferenceAIdeal := hReferenceAIdeal)
    ∧ quiescent_ReferenceAIdeal_pre_finite_band (hReferenceAIdeal := hReferenceAIdeal) (hPre_finite_band := hPre_finite_band)
    ∧ quiescent_KernelS (hKernelS := hKernelS)
    ∧ quiescent_KernelSIdeal (hKernelSIdeal := hKernelSIdeal)
    ∧ quiescent_KernelSIdeal_pre_finite_cond (hKernelSIdeal := hKernelSIdeal) (hPre_finite_cond := hPre_finite_cond)
    ∧ quiescent_ReferenceSIdeal (hReferenceSIdeal := hReferenceSIdeal)
    ∧ quiescent_ReferenceSIdeal_pre_finite_cond (hReferenceSIdeal := hReferenceSIdeal) (hPre_finite_cond := hPre_finite_cond)
    ∧ quiescent_KernelY (hKernelY := hKernelY)
    ∧ quiescent_KernelYIdeal (hKernelYIdeal := hKernelYIdeal)
    ∧ quiescent_ReferenceYIdeal (hReferenceYIdeal := hReferenceYIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_KernelA_KernelAIdeal
    ∧ algebraic_KernelAIdeal_ReferenceAIdeal_pre_finite_band (hKernelAIdeal := hKernelAIdeal) (hReferenceAIdeal := hReferenceAIdeal) (hPre_finite_band := hPre_finite_band)
    ∧ preserves_KernelS_KernelSIdeal
    ∧ algebraic_KernelSIdeal_ReferenceSIdeal_pre_finite_cond (hKernelSIdeal := hKernelSIdeal) (hReferenceSIdeal := hReferenceSIdeal) (hPre_finite_cond := hPre_finite_cond)
    ∧ preserves_KernelY_KernelYIdeal
    ∧ algebraic_KernelYIdeal_ReferenceYIdeal (hKernelYIdeal := hKernelYIdeal) (hReferenceYIdeal := hReferenceYIdeal)
-- ==== Pre_finite_band.lean ====
abbrev S8x8192x1024 : Shape := ⟨3, ![8, 8192, 1024]⟩
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S2x2x1024 : Shape := ⟨3, ![2, 2, 1024]⟩
abbrev S1x1024x3072 : Shape := ⟨3, ![1, 1024, 3072]⟩
abbrev S1x16x257 : Shape := ⟨3, ![1, 16, 257]⟩
abbrev S1x1024x1024 : Shape := ⟨3, ![1, 1024, 1024]⟩
abbrev S_ : Shape := ⟨0, ![]⟩

class Facts : Prop where
  bcast_S_S8x8192x1024 : S_.BroadcastsInDim S8x8192x1024 (![] : Fin 0 → Fin S8x8192x1024.rank)
  bcast_S_S8x1024 : S_.BroadcastsInDim S8x1024 (![] : Fin 0 → Fin S8x1024.rank)
  bcast_S_S2x1024x6144 : S_.BroadcastsInDim S2x1024x6144 (![] : Fin 0 → Fin S2x1024x6144.rank)
  bcast_S_S2x6144 : S_.BroadcastsInDim S2x6144 (![] : Fin 0 → Fin S2x6144.rank)
  bcast_S_S2x2x1024 : S_.BroadcastsInDim S2x2x1024 (![] : Fin 0 → Fin S2x2x1024.rank)
  bcast_S_S1x1024x3072 : S_.BroadcastsInDim S1x1024x3072 (![] : Fin 0 → Fin S1x1024x3072.rank)
  bcast_S_S1x16x257 : S_.BroadcastsInDim S1x16x257 (![] : Fin 0 → Fin S1x16x257.rank)

variable [Facts]

def fn_part1 {F : FTy → Type} [FloatOps F] (main_arg7 : FVec F S1x16x257 .f32) (main_v2 : IVec S8x8192x1024 1) (main_v5 : IVec S8x1024 1) (main_v8 : IVec S2x1024x6144 1) (main_v11 : IVec S2x6144 1) (main_v14 : IVec S2x2x1024 1) (main_v17 : IVec S1x1024x3072 1) : IVec S8x8192x1024 1 × IVec S8x1024 1 × IVec S2x1024x6144 1 × IVec S2x6144 1 × IVec S2x2x1024 1 × IVec S1x1024x3072 1 × IVec S1x16x257 1 :=
  let main_v18 : FVec F S1x16x257 .f32 := Host.absf main_arg7
  let main_cst_5 : FVec F S_ .f32 := constant S_ .f32 0x7F800000#32
  let main_v19 : FVec F S1x16x257 .f32 := broadcastInDim S1x16x257 ![] bcast_S_S1x16x257 main_cst_5
  let main_v20 : IVec S1x16x257 1 := cmpf .olt main_v18 main_v19
  (main_v2, main_v5, main_v8, main_v11, main_v14, main_v17, main_v20)

def fn {F : FTy → Type} [FloatOps F] (main_arg0 : FVec F S8x8192x1024 .f32) (main_arg1 : FVec F S8x1024 .f32) (main_arg2 : FVec F S32x1024 .f32) (main_arg3 : FVec F S2x1024x6144 .f32) (main_arg4 : FVec F S2x6144 .f32) (main_arg5 : FVec F S2x2x1024 .f32) (main_arg6 : FVec F S1x1024x3072 .f32) (main_arg7 : FVec F S1x16x257 .f32) (main_arg8 : FVec F S1x1024x1024 .f32) : IVec S8x8192x1024 1 × IVec S8x1024 1 × IVec S2x1024x6144 1 × IVec S2x6144 1 × IVec S2x2x1024 1 × IVec S1x1024x3072 1 × IVec S1x16x257 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S8x1024 .f32 := Host.absf main_arg1
  let main_cst_0 : FVec F S_ .f32 := constant S_ .f32 0x7F800000#32
  let main_v4 : FVec F S8x1024 .f32 := broadcastInDim S8x1024 ![] bcast_S_S8x1024 main_cst_0
  let main_v5 : IVec S8x1024 1 := cmpf .olt main_v3 main_v4
  let main_v6 : FVec F S2x1024x6144 .f32 := Host.absf main_arg3
  let main_cst_1 : FVec F S_ .f32 := constant S_ .f32 0x7F800000#32
  let main_v7 : FVec F S2x1024x6144 .f32 := broadcastInDim S2x1024x6144 ![] bcast_S_S2x1024x6144 main_cst_1
  let main_v8 : IVec S2x1024x6144 1 := cmpf .olt main_v6 main_v7
  let main_v9 : FVec F S2x6144 .f32 := Host.absf main_arg4
  let main_cst_2 : FVec F S_ .f32 := constant S_ .f32 0x7F800000#32
  let main_v10 : FVec F S2x6144 .f32 := broadcastInDim S2x6144 ![] bcast_S_S2x6144 main_cst_2
  let main_v11 : IVec S2x6144 1 := cmpf .olt main_v9 main_v10
  let main_v12 : FVec F S2x2x1024 .f32 := Host.absf main_arg5
  let main_cst_3 : FVec F S_ .f32 := constant S_ .f32 0x7F800000#32
  let main_v13 : FVec F S2x2x1024 .f32 := broadcastInDim S2x2x1024 ![] bcast_S_S2x2x1024 main_cst_3
  let main_v14 : IVec S2x2x1024 1 := cmpf .olt main_v12 main_v13
  let main_v15 : FVec F S1x1024x3072 .f32 := Host.absf main_arg6
  let main_cst_4 : FVec F S_ .f32 := constant S_ .f32 0x7F800000#32
  let main_v16 : FVec F S1x1024x3072 .f32 := broadcastInDim S1x1024x3072 ![] bcast_S_S1x1024x3072 main_cst_4
  let main_v17 : IVec S1x1024x3072 1 := cmpf .olt main_v15 main_v16
  fn_part1 (F := F) main_arg7 main_v2 main_v5 main_v8 main_v11 main_v14 main_v17
-- ==== Pre_finite_cond.lean ====
abbrev S32x32x1024 : Shape := ⟨3, ![32, 32, 1024]⟩
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S2x2x1024 : Shape := ⟨3, ![2, 2, 1024]⟩
abbrev S1x1024x3072 : Shape := ⟨3, ![1, 1024, 3072]⟩
abbrev S_ : Shape := ⟨0, ![]⟩

class Facts : Prop where
  bcast_S_S32x1024 : S_.BroadcastsInDim S32x1024 (![] : Fin 0 → Fin S32x1024.rank)
  bcast_S_S2x1024x6144 : S_.BroadcastsInDim S2x1024x6144 (![] : Fin 0 → Fin S2x1024x6144.rank)

variable [Facts]

def fn {F : FTy → Type} [FloatOps F] (main_arg0 : FVec F S32x32x1024 .f32) (main_arg1 : FVec F S8x1024 .f32) (main_arg2 : FVec F S32x1024 .f32) (main_arg3 : FVec F S2x1024x6144 .f32) (main_arg4 : FVec F S2x6144 .f32) (main_arg5 : FVec F S2x2x1024 .f32) (main_arg6 : FVec F S1x1024x3072 .f32) : IVec S32x1024 1 × IVec S2x1024x6144 1 :=
  let main_v0 : FVec F S32x1024 .f32 := Host.absf main_arg2
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_v3 : FVec F S2x1024x6144 .f32 := Host.absf main_arg3
  let main_cst_0 : FVec F S_ .f32 := constant S_ .f32 0x7F800000#32
  let main_v4 : FVec F S2x1024x6144 .f32 := broadcastInDim S2x1024x6144 ![] bcast_S_S2x1024x6144 main_cst_0
  let main_v5 : IVec S2x1024x6144 1 := cmpf .olt main_v3 main_v4
  (main_v2, main_v5)
-- ==== Pre_finite_scores.lean ====
abbrev S8x8192x1024 : Shape := ⟨3, ![8, 8192, 1024]⟩
abbrev S8x1024 : Shape := ⟨2, ![8, 1024]⟩
abbrev S1024 : Shape := ⟨1, ![1024]⟩
abbrev S1024x2048 : Shape := ⟨2, ![1024, 2048]⟩
abbrev S1024x16 : Shape := ⟨2, ![1024, 16]⟩
abbrev S16 : Shape := ⟨1, ![16]⟩
abbrev S1024x1024 : Shape := ⟨2, ![1024, 1024]⟩
abbrev S_ : Shape := ⟨0, ![]⟩

class Facts : Prop where
  bcast_S_S8x8192x1024 : S_.BroadcastsInDim S8x8192x1024 (![] : Fin 0 → Fin S8x8192x1024.rank)
  bcast_S_S8x1024 : S_.BroadcastsInDim S8x1024 (![] : Fin 0 → Fin S8x1024.rank)
  bcast_S_S1024 : S_.BroadcastsInDim S1024 (![] : Fin 0 → Fin S1024.rank)
  bcast_S_S1024x2048 : S_.BroadcastsInDim S1024x2048 (![] : Fin 0 → Fin S1024x2048.rank)
  bcast_S_S1024x16 : S_.BroadcastsInDim S1024x16 (![] : Fin 0 → Fin S1024x16.rank)
  bcast_S_S16 : S_.BroadcastsInDim S16 (![] : Fin 0 → Fin S16.rank)
  bcast_S_S1024x1024 : S_.BroadcastsInDim S1024x1024 (![] : Fin 0 → Fin S1024x1024.rank)

variable [Facts]

def fn_part1 {F : FTy → Type} [FloatOps F] (main_arg10 : FVec F S1024 .f32) (main_arg11 : FVec F S1024x2048 .f32) (main_arg12 : FVec F S1024x16 .f32) (main_arg13 : FVec F S16 .f32) (main_arg14 : FVec F S1024x1024 .f32) (main_v2 : IVec S8x8192x1024 1) (main_v5 : IVec S8x1024 1) (main_v8 : IVec S8x1024 1) (main_v11 : IVec S8x1024 1) (main_v14 : IVec S8x1024 1) (main_v17 : IVec S1024 1) : IVec S8x8192x1024 1 × IVec S8x1024 1 × IVec S8x1024 1 × IVec S8x1024 1 × IVec S8x1024 1 × IVec S1024 1 × IVec S1024 1 × IVec S1024x2048 1 × IVec S1024x16 1 × IVec S16 1 × IVec S1024x1024 1 :=
  let main_v18 : FVec F S1024 .f32 := Host.absf main_arg10
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_v21 : FVec F S1024x2048 .f32 := Host.absf main_arg11
  let main_cst_6 : FVec F S_ .f32 := constant S_ .f32 0x7F800000#32
  let main_v22 : FVec F S1024x2048 .f32 := broadcastInDim S1024x2048 ![] bcast_S_S1024x2048 main_cst_6
  let main_v23 : IVec S1024x2048 1 := cmpf .olt main_v21 main_v22
  let main_v24 : FVec F S1024x16 .f32 := Host.absf main_arg12
  let main_cst_7 : FVec F S_ .f32 := constant S_ .f32 0x7F800000#32
  let main_v25 : FVec F S1024x16 .f32 := broadcastInDim S1024x16 ![] bcast_S_S1024x16 main_cst_7
  let main_v26 : IVec S1024x16 1 := cmpf .olt main_v24 main_v25
  let main_v27 : FVec F S16 .f32 := Host.absf main_arg13
  let main_cst_8 : FVec F S_ .f32 := constant S_ .f32 0x7F800000#32
  let main_v28 : FVec F S16 .f32 := broadcastInDim S16 ![] bcast_S_S16 main_cst_8
  let main_v29 : IVec S16 1 := cmpf .olt main_v27 main_v28
  let main_v30 : FVec F S1024x1024 .f32 := Host.absf main_arg14
  let main_cst_9 : FVec F S_ .f32 := constant S_ .f32 0x7F800000#32
  let main_v31 : FVec F S1024x1024 .f32 := broadcastInDim S1024x1024 ![] bcast_S_S1024x1024 main_cst_9
  let main_v32 : IVec S1024x1024 1 := cmpf .olt main_v30 main_v31
  (main_v2, main_v5, main_v8, main_v11, main_v14, main_v17, main_v20, main_v23, main_v26, main_v29, main_v32)

def fn {F : FTy → Type} [FloatOps F] (main_arg0 : FVec F S8x8192x1024 .f32) (main_arg1 : FVec F S8x1024 .f32) (main_arg2 : FVec F S8x1024 .f32) (main_arg3 : FVec F S8x1024 .f32) (main_arg4 : FVec F S8x1024 .f32) (main_arg5 : FVec F S8x1024 .f32) (main_arg6 : FVec F S8x1024 .f32) (main_arg7 : FVec F S8x1024 .f32) (main_arg8 : FVec F S1024 .f32) (main_arg9 : FVec F S1024 .f32) (main_arg10 : FVec F S1024 .f32) (main_arg11 : FVec F S1024x2048 .f32) (main_arg12 : FVec F S1024x16 .f32) (main_arg13 : FVec F S16 .f32) (main_arg14 : FVec F S1024x1024 .f32) (main_arg15 : FVec F S1024x1024 .f32) : IVec S8x8192x1024 1 × IVec S8x1024 1 × IVec S8x1024 1 × IVec S8x1024 1 × IVec S8x1024 1 × IVec S1024 1 × IVec S1024 1 × IVec S1024x2048 1 × IVec S1024x16 1 × IVec S16 1 × IVec S1024x1024 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_v3 : FVec F S8x1024 .f32 := Host.absf main_arg1
  let main_cst_0 : FVec F S_ .f32 := constant S_ .f32 0x7F800000#32
  let main_v4 : FVec F S8x1024 .f32 := broadcastInDim S8x1024 ![] bcast_S_S8x1024 main_cst_0
  let main_v5 : IVec S8x1024 1 := cmpf .olt main_v3 main_v4
  let main_v6 : FVec F S8x1024 .f32 := Host.absf main_arg2
  let main_cst_1 : FVec F S_ .f32 := constant S_ .f32 0x7F800000#32
  let main_v7 : FVec F S8x1024 .f32 := broadcastInDim S8x1024 ![] bcast_S_S8x1024 main_cst_1
  let main_v8 : IVec S8x1024 1 := cmpf .olt main_v6 main_v7
  let main_v9 : FVec F S8x1024 .f32 := Host.absf main_arg6
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_v12 : FVec F S8x1024 .f32 := Host.absf main_arg7
  let main_cst_3 : FVec F S_ .f32 := constant S_ .f32 0x7F800000#32
  let main_v13 : FVec F S8x1024 .f32 := broadcastInDim S8x1024 ![] bcast_S_S8x1024 main_cst_3
  let main_v14 : IVec S8x1024 1 := cmpf .olt main_v12 main_v13
  let main_v15 : FVec F S1024 .f32 := Host.absf main_arg8
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  fn_part1 (F := F) main_arg10 main_arg11 main_arg12 main_arg13 main_arg14 main_v2 main_v5 main_v8 main_v11 main_v14 main_v17
-- ==== Kernel.lean ====
abbrev S8x8192x1024 : Shape := ⟨3, ![8, 8192, 1024]⟩
abbrev S8x1024 : Shape := ⟨2, ![8, 1024]⟩
abbrev S1024 : Shape := ⟨1, ![1024]⟩
abbrev S1024x2048 : Shape := ⟨2, ![1024, 2048]⟩
abbrev S1024x16 : Shape := ⟨2, ![1024, 16]⟩
abbrev S16 : Shape := ⟨1, ![16]⟩
abbrev S1024x1024 : Shape := ⟨2, ![1024, 1024]⟩
abbrev S_ : Shape := ⟨0, ![]⟩
abbrev S1024x128 : Shape := ⟨2, ![1024, 128]⟩
abbrev S128 : Shape := ⟨1, ![128]⟩
abbrev S1x1024 : Shape := ⟨2, ![1, 1024]⟩
abbrev S8x1x1024 : Shape := ⟨3, ![8, 1, 1024]⟩
abbrev S1x128 : Shape := ⟨2, ![1, 128]⟩
abbrev S8x8192x128 : Shape := ⟨3, ![8, 8192, 128]⟩
abbrev S1x512x1024 : Shape := ⟨3, ![1, 512, 1024]⟩
abbrev S1x1x1024 : Shape := ⟨3, ![1, 1, 1024]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1x8192x128 : Shape := ⟨3, ![1, 8192, 128]⟩
abbrev S256x256 : Shape := ⟨2, ![256, 256]⟩
abbrev S1x256x128 : Shape := ⟨3, ![1, 256, 128]⟩
abbrev S256x128 : Shape := ⟨2, ![256, 128]⟩
abbrev S8x16x8192x128 : Shape := ⟨4, ![8, 16, 8192, 128]⟩
abbrev S1x16x512x128 : Shape := ⟨4, ![1, 16, 512, 128]⟩
abbrev S512x2048 : Shape := ⟨2, ![512, 2048]⟩
abbrev S1x1x512x128 : Shape := ⟨4, ![1, 1, 512, 128]⟩
abbrev S1x4x512x128 : Shape := ⟨4, ![1, 4, 512, 128]⟩
abbrev S1x4x8192x128 : Shape := ⟨4, ![1, 4, 8192, 128]⟩
abbrev S512x512 : Shape := ⟨2, ![512, 512]⟩
abbrev S16x64x1024 : Shape := ⟨3, ![16, 64, 1024]⟩
abbrev S16x128x1024 : Shape := ⟨3, ![16, 128, 1024]⟩
abbrev S1x128x1024 : Shape := ⟨3, ![1, 128, 1024]⟩
abbrev S128x1024 : Shape := ⟨2, ![128, 1024]⟩
abbrev S8x8192x16 : Shape := ⟨3, ![8, 8192, 16]⟩

abbrev nBuf : Space → Nat
  | .hbm => 55
  | .vmem => 65
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024x2048, .f32⟩
  | .hbm, ⟨12, _⟩ => ⟨S1024x16, .f32⟩
  | .hbm, ⟨13, _⟩ => ⟨S16, .f32⟩
  | .hbm, ⟨14, _⟩ => ⟨S1024x1024, .f32⟩
  | .hbm, ⟨15, _⟩ => ⟨S1024x1024, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x1024, .f32⟩
  | .hbm, ⟨24, _⟩ => ⟨S8x1x1024, .f32⟩
  | .hbm, ⟨25, _⟩ => ⟨S8x1x1024, .f32⟩
  | .hbm, ⟨26, _⟩ => ⟨S1x128, .f32⟩
  | .hbm, ⟨27, _⟩ => ⟨S8x8192x128, .f32⟩
  | .hbm, ⟨28, _⟩ => ⟨S8x8192x128, .f32⟩
  | .hbm, ⟨29, _⟩ => ⟨S1024x2048, .bf16⟩
  | .hbm, ⟨30, _⟩ => ⟨S1024x1024, .bf16⟩
  | .hbm, ⟨31, _⟩ => ⟨S1x1024, .f32⟩
  | .hbm, ⟨32, _⟩ => ⟨S8x1x1024, .f32⟩
  | .hbm, ⟨33, _⟩ => ⟨S8x1x1024, .f32⟩
  | .hbm, ⟨34, _⟩ => ⟨S1x1024, .f32⟩
  | .hbm, ⟨35, _⟩ => ⟨S8x1x1024, .f32⟩
  | .hbm, ⟨36, _⟩ => ⟨S8x1x1024, .f32⟩
  | .hbm, ⟨37, _⟩ => ⟨S8x16x8192x128, .bf16⟩
  | .hbm, ⟨38, _⟩ => ⟨S8x16x8192x128, .bf16⟩
  | .hbm, ⟨39, _⟩ => ⟨S8x16x8192x128, .bf16⟩
  | .hbm, ⟨40, _⟩ => ⟨S8x8192x1024, .f32⟩
  | .hbm, ⟨41, _⟩ => ⟨S8x8192x1024, .f32⟩
  | .hbm, ⟨42, _⟩ => ⟨S8x16x8192x128, .bf16⟩
  | .hbm, ⟨43, _⟩ => ⟨S16x64x1024, .f32⟩
  | .hbm, ⟨44, _⟩ => ⟨S_, .i32⟩
  | .hbm, ⟨45, _⟩ => ⟨S_, .f32⟩
  | .hbm, ⟨46, _⟩ => ⟨S16x128x1024, .f32⟩
  | .hbm, ⟨47, _⟩ => ⟨S16x128x1024, .bf16⟩
  | .hbm, ⟨48, _⟩ => ⟨S8x1x1024, .f32⟩
  | .hbm, ⟨49, _⟩ => ⟨S1x1024, .f32⟩
  | .hbm, ⟨50, _⟩ => ⟨S8x1x1024, .f32⟩
  | .hbm, ⟨51, _⟩ => ⟨S8x1x1024, .f32⟩
  | .hbm, ⟨52, _⟩ => ⟨S8x8192x1024, .f32⟩
  | .hbm, ⟨53, _⟩ => ⟨S8x8192x1024, .bf16⟩
  | .hbm, ⟨54, _⟩ => ⟨S8x8192x16, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x128, .bf16⟩
  | .local _ .vmem, ⟨8, _⟩ => ⟨S1x128, .f32⟩
  | .local _ .vmem, ⟨9, _⟩ => ⟨S1x512x128, .f32⟩
  | .local _ .vmem, ⟨10, _⟩ => ⟨S1x512x128, .f32⟩
  | .local _ .vmem, ⟨11, _⟩ => ⟨S1x8192x128, .f32⟩
  | .local _ .vmem, ⟨12, _⟩ => ⟨S1x8192x128, .f32⟩
  | .local _ .vmem, ⟨13, _⟩ => ⟨S1x8192x128, .f32⟩
  | .local _ .vmem, ⟨14, _⟩ => ⟨S1x8192x128, .f32⟩
  | .local _ .vmem, ⟨15, _⟩ => ⟨S1x512x1024, .f32⟩
  | .local _ .vmem, ⟨16, _⟩ => ⟨S1x512x1024, .f32⟩
  | .local _ .vmem, ⟨17, _⟩ => ⟨S1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1024x2048, .bf16⟩
  | .local _ .vmem, ⟨23, _⟩ => ⟨S1x1024, .f32⟩
  | .local _ .vmem, ⟨24, _⟩ => ⟨S1x1x1024, .f32⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1024x1024, .bf16⟩
  | .local _ .vmem, ⟨29, _⟩ => ⟨S1x512x128, .f32⟩
  | .local _ .vmem, ⟨30, _⟩ => ⟨S1x512x128, .f32⟩
  | .local _ .vmem, ⟨31, _⟩ => ⟨S1x16x512x128, .bf16⟩
  | .local _ .vmem, ⟨32, _⟩ => ⟨S1x16x512x128, .bf16⟩
  | .local _ .vmem, ⟨33, _⟩ => ⟨S1x16x512x128, .bf16⟩
  | .local _ .vmem, ⟨34, _⟩ => ⟨S1x16x512x128, .bf16⟩
  | .local _ .vmem, ⟨35, _⟩ => ⟨S1x16x512x128, .bf16⟩
  | .local _ .vmem, ⟨36, _⟩ => ⟨S1x16x512x128, .bf16⟩
  | .local _ .vmem, ⟨37, _⟩ => ⟨S1x512x1024, .f32⟩
  | .local _ .vmem, ⟨38, _⟩ => ⟨S1x512x1024, .f32⟩
  | .local _ .vmem, ⟨39, _⟩ => ⟨S1x512x1024, .f32⟩
  | .local _ .vmem, ⟨40, _⟩ => ⟨S1x512x1024, .f32⟩
  | .local _ .vmem, ⟨41, _⟩ => ⟨S1x4x512x128, .bf16⟩
  | .local _ .vmem, ⟨42, _⟩ => ⟨S1x4x512x128, .bf16⟩
  | .local _ .vmem, ⟨43, _⟩ => ⟨S1x4x8192x128, .bf16⟩
  | .local _ .vmem, ⟨44, _⟩ => ⟨S1x4x8192x128, .bf16⟩
  | .local _ .vmem, ⟨45, _⟩ => ⟨S1x4x8192x128, .bf16⟩
  | .local _ .vmem, ⟨46, _⟩ => ⟨S1x4x8192x128, .bf16⟩
  | .local _ .vmem, ⟨47, _⟩ => ⟨S1x4x512x128, .bf16⟩
  | .local _ .vmem, ⟨48, _⟩ => ⟨S1x4x512x128, .bf16⟩
  | .local _ .vmem, ⟨49, _⟩ => ⟨S1x16x512x128, .bf16⟩
  | .local _ .vmem, ⟨50, _⟩ => ⟨S1x16x512x128, .bf16⟩
  | .local _ .vmem, ⟨51, _⟩ => ⟨S16x128x1024, .bf16⟩
  | .local _ .vmem, ⟨52, _⟩ => ⟨S1x512x1024, .f32⟩
  | .local _ .vmem, ⟨53, _⟩ => ⟨S1x512x1024, .f32⟩
  | .local _ .vmem, ⟨54, _⟩ => ⟨S1x1x1024, .f32⟩
  | .local _ .vmem, ⟨55, _⟩ => ⟨S1x1x1024, .f32⟩
  | .local _ .vmem, ⟨56, _⟩ => ⟨S1x1024, .f32⟩
  | .local _ .vmem, ⟨57, _⟩ => ⟨S1x1x1024, .f32⟩
  | .local _ .vmem, ⟨58, _⟩ => ⟨S1x1x1024, .f32⟩
  | .local _ .vmem, ⟨59, _⟩ => ⟨S1x1x1024, .f32⟩
  | .local _ .vmem, ⟨60, _⟩ => ⟨S1x1x1024, .f32⟩
  | .local _ .vmem, ⟨61, _⟩ => ⟨S1x512x1024, .f32⟩
  | .local _ .vmem, ⟨62, _⟩ => ⟨S1x512x1024, .f32⟩
  | .local _ .vmem, ⟨63, _⟩ => ⟨S1x512x1024, .bf16⟩
  | .local _ .vmem, ⟨64, _⟩ => ⟨S1x512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_call1_v0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v17_2 : Ref sig .tc := ⟨.hbm, 39, rfl⟩
abbrev main_v17_3 : Ref sig .tc := ⟨.hbm, 40, rfl⟩
abbrev main_v17_4 : Ref sig .tc := ⟨.hbm, 41, rfl⟩
abbrev main_v18 : Ref sig .tc := ⟨.hbm, 42, rfl⟩
abbrev main_v19 : Ref sig .tc := ⟨.hbm, 43, rfl⟩
abbrev main_c_1 : Ref sig .tc := ⟨.hbm, 44, rfl⟩
abbrev main_call2_v0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26_0 : Ref sig .tc := ⟨.hbm, 52, rfl⟩
abbrev main_v26_1 : Ref sig .tc := ⟨.hbm, 53, rfl⟩
abbrev main_v27 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg9_0 : Ref sig .tc := ⟨.vmem, 29, rfl⟩
abbrev cc2_stg9_1 : Ref sig .tc := ⟨.vmem, 30, rfl⟩
abbrev cc2_stg10_0 : Ref sig .tc := ⟨.vmem, 31, rfl⟩
abbrev cc2_stg10_1 : Ref sig .tc := ⟨.vmem, 32, rfl⟩
abbrev cc2_stg11_0 : Ref sig .tc := ⟨.vmem, 33, rfl⟩
abbrev cc2_stg11_1 : Ref sig .tc := ⟨.vmem, 34, rfl⟩
abbrev cc2_stg12_0 : Ref sig .tc := ⟨.vmem, 35, rfl⟩
abbrev cc2_stg12_1 : Ref sig .tc := ⟨.vmem, 36, rfl⟩
abbrev cc2_stg13_0 : Ref sig .tc := ⟨.vmem, 37, rfl⟩
abbrev cc2_stg13_1 : Ref sig .tc := ⟨.vmem, 38, rfl⟩
abbrev cc2_stg14_0 : Ref sig .tc := ⟨.vmem, 39, rfl⟩
abbrev cc2_stg14_1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg1_1 : Ref sig .tc := ⟨.vmem, 44, rfl⟩
abbrev cc3_stg2_0 : Ref sig .tc := ⟨.vmem, 45, rfl⟩
abbrev cc3_stg2_1 : Ref sig .tc := ⟨.vmem, 46, rfl⟩
abbrev cc3_stg3_0 : Ref sig .tc := ⟨.vmem, 47, rfl⟩
abbrev cc3_stg3_1 : Ref sig .tc := ⟨.vmem, 48, rfl⟩
abbrev cc4_stg0_0 : Ref sig .tc := ⟨.vmem, 49, rfl⟩
abbrev cc4_stg0_1 : Ref sig .tc := ⟨.vmem, 50, rfl⟩
abbrev cc4_stg1_0 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg3_1 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg5_1 : Ref sig .tc := ⟨.vmem, 58, rfl⟩
abbrev cc4_stg6_0 : Ref sig .tc := ⟨.vmem, 59, rfl⟩
abbrev cc4_stg6_1 : Ref sig .tc := ⟨.vmem, 60, rfl⟩
abbrev cc4_stg7_0 : Ref sig .tc := ⟨.vmem, 61, rfl⟩
abbrev cc4_stg7_1 : Ref sig .tc := ⟨.vmem, 62, rfl⟩
abbrev cc4_stg8_0 : Ref sig .tc := ⟨.vmem, 63, rfl⟩
abbrev cc4_stg8_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem9_0 : DmaSem sig := 29
abbrev cc2_sem9_1 : DmaSem sig := 30
abbrev cc2_sem10_0 : DmaSem sig := 31
abbrev cc2_sem10_1 : DmaSem sig := 32
abbrev cc2_sem11_0 : DmaSem sig := 33
abbrev cc2_sem11_1 : DmaSem sig := 34
abbrev cc2_sem12_0 : DmaSem sig := 35
abbrev cc2_sem12_1 : DmaSem sig := 36
abbrev cc2_sem13_0 : DmaSem sig := 37
abbrev cc2_sem13_1 : DmaSem sig := 38
abbrev cc2_sem14_0 : DmaSem sig := 39
abbrev cc2_sem14_1 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem2_1 : DmaSem sig := 46
abbrev cc3_sem3_0 : DmaSem sig := 47
abbrev cc3_sem3_1 : DmaSem sig := 48
abbrev cc4_sem0_0 : DmaSem sig := 49
abbrev cc4_sem0_1 : DmaSem sig := 50
abbrev cc4_sem1_0 : DmaSem sig := 51
abbrev cc4_sem2_0 : DmaSem sig := 52
abbrev cc4_sem2_1 : DmaSem sig := 53
abbrev cc4_sem3_0 : DmaSem sig := 54
abbrev cc4_sem3_1 : DmaSem sig := 55
abbrev cc4_sem4_0 : DmaSem sig := 56
abbrev cc4_sem5_0 : DmaSem sig := 57
abbrev cc4_sem5_1 : DmaSem sig := 58
abbrev cc4_sem6_0 : DmaSem sig := 59
abbrev cc4_sem6_1 : DmaSem sig := 60
abbrev cc4_sem7_0 : DmaSem sig := 61
abbrev cc4_sem7_1 : DmaSem sig := 62
abbrev cc4_sem8_0 : DmaSem sig := 63
abbrev cc4_sem8_1 : DmaSem sig := 64

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![8], ![false]⟩

@[reducible] def k1_t1_loop : Scf.Loop 32 :=
  let c0_i32 : BitVec 32 := 0#32
  let c32_i32 : BitVec 32 := 32#32
  let v8 : BitVec 32 := Scalar.addi c0_i32 c32_i32
  let c1_i32 : BitVec 32 := 1#32
  ⟨c0_i32, v8, c1_i32⟩
def k1_mult1 (k1_t1 : Fin k1_t1_loop.trips) : BitVec 32 :=
  let c0_i32 : BitVec 32 := 0#32
  let c1_i32 : BitVec 32 := 1#32
  let arg3 : BitVec 32 := Scf.iv c0_i32 c1_i32 k1_t1
  let c256_i32 : BitVec 32 := 256#32
  let v10 : BitVec 32 := Scalar.muli arg3 c256_i32
  v10
def k1_off1 (k1_t1 : Fin k1_t1_loop.trips) : Fin 3 → Nat :=
  let c0 : Index := 0#32
  let c0_i32 : BitVec 32 := 0#32
  let c1_i32 : BitVec 32 := 1#32
  let arg3 : BitVec 32 := Scf.iv c0_i32 c1_i32 k1_t1
  let c256_i32 : BitVec 32 := 256#32
  let v10 : BitVec 32 := Scalar.muli arg3 c256_i32
  let v11 : BitVec 32 := v10
  let v12 : Index := Scalar.indexCast v11
  let c0_3 : Index := 0#32
  ![0, v12.toNat, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8192x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_10 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_11 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_12 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_13 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_14 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S1024x2048 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S1x1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S1x1x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 1 → Memref sig .tc .vmem S1024x1024 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x512x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x16x512x128 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev stage2_11 : Fin 2 → Memref sig .tc .vmem S1x16x512x128 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true, true]

abbrev stage2_12 : Fin 2 → Memref sig .tc .vmem S1x16x512x128 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true, true]

abbrev stage2_13 : Fin 2 → Memref sig .tc .vmem S1x512x1024 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true, true]

abbrev stage2_14 : Fin 2 → Memref sig .tc .vmem S1x512x1024 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev grid3 : Pipeline.Grid := ⟨3, ![8, 4, 16], ![false, false, false]⟩

@[reducible] def k3_t1_loop (i : grid3.Coords) : Scf.Loop 32 :=
  let c0_i32_25 : BitVec 32 := 0#32
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  let c0_i32_20 : BitVec 32 := 0#32
  let v19 : BitVec 1 := Scalar.cmpi .sgt v17 c0_i32_20
  let v20 : BitVec 32 := Scalar.extui v19
  let c0_i32_21 : BitVec 32 := 0#32
  let v21 : BitVec 1 := Scalar.cmpi .slt v17 c0_i32_21
  let v22 : BitVec 32 := Scalar.extui v21
  let v23 : BitVec 32 := Scalar.subi v20 v22
  let c512_i32_19 : BitVec 32 := 512#32
  let c0_i32_22 : BitVec 32 := 0#32
  let v24 : BitVec 1 := Scalar.cmpi .sgt c512_i32_19 c0_i32_22
  let v25 : BitVec 32 := Scalar.extui v24
  let c0_i32_23 : BitVec 32 := 0#32
  let v26 : BitVec 1 := Scalar.cmpi .slt c512_i32_19 c0_i32_23
  let v27 : BitVec 32 := Scalar.extui v26
  let v28 : BitVec 32 := Scalar.subi v25 v27
  let v29 : BitVec 1 := Scalar.cmpi .ne v23 v28
  let v30 : BitVec 32 := Scalar.remsi v17 c512_i32_19
  let c0_i32_24 : BitVec 32 := 0#32
  let v31 : BitVec 1 := Scalar.cmpi .ne v30 c0_i32_24
  let v32 : BitVec 1 := Scalar.andi v29 v31
  let v18 : BitVec 32 := Scalar.divsi v17 c512_i32_19
  let c1_i32 : BitVec 32 := 1#32
  let v33 : BitVec 32 := Scalar.subi v18 c1_i32
  let v34 : BitVec 32 := Scalar.select v32 v33 v18
  let v35 : BitVec 32 := Scalar.subi v34 c0_i32_25
  let c1_i32_26 : BitVec 32 := 1#32
  let v37 : BitVec 32 := Scalar.divsi v35 c1_i32_26
  let v38 : BitVec 32 := Scalar.muli v37 c1_i32_26
  let v39 : BitVec 32 := Scalar.addi c0_i32_25 v38
  let c1_i32_27 : BitVec 32 := 1#32
  ⟨c0_i32_25, v39, c1_i32_27⟩
def k3_mult1 (i : grid3.Coords) (k3_t1 : Fin (k3_t1_loop i).trips) : BitVec 32 :=
  let c0_i32_25 : BitVec 32 := 0#32
  let c1_i32_27 : BitVec 32 := 1#32
  let arg7 : BitVec 32 := Scf.iv c0_i32_25 c1_i32_27 k3_t1
  let c512_i32_85 : BitVec 32 := 512#32
  let v165 : BitVec 32 := Scalar.muli arg7 c512_i32_85
  v165
def k3_off1 (i : grid3.Coords) (k3_t1 : Fin (k3_t1_loop i).trips) : Fin 4 → Nat :=
  let c0_86 : Index := 0#32
  let c0_87 : Index := 0#32
  let c0_i32_25 : BitVec 32 := 0#32
  let c1_i32_27 : BitVec 32 := 1#32
  let arg7 : BitVec 32 := Scf.iv c0_i32_25 c1_i32_27 k3_t1
  let c512_i32_85 : BitVec 32 := 512#32
  let v165 : BitVec 32 := Scalar.muli arg7 c512_i32_85
  let v166 : BitVec 32 := v165
  let v167 : Index := Scalar.indexCast v166
  let c0_88 : Index := 0#32
  ![0, 0, v167.toNat, 0]
def k3_off2 (i : grid3.Coords) (k3_t1 : Fin (k3_t1_loop i).trips) : Fin 4 → Nat :=
  let c0_95 : Index := 0#32
  let c1_96 : Index := 1#32
  let c0_i32_25 : BitVec 32 := 0#32
  let c1_i32_27 : BitVec 32 := 1#32
  let arg7 : BitVec 32 := Scf.iv c0_i32_25 c1_i32_27 k3_t1
  let c512_i32_85 : BitVec 32 := 512#32
  let v165 : BitVec 32 := Scalar.muli arg7 c512_i32_85
  let v166 : BitVec 32 := v165
  let v187 : Index := Scalar.indexCast v166
  let c0_97 : Index := 0#32
  ![0, 1, v187.toNat, 0]
def k3_off3 (i : grid3.Coords) (k3_t1 : Fin (k3_t1_loop i).trips) : Fin 4 → Nat :=
  let c0_104 : Index := 0#32
  let c2_105 : Index := 2#32
  let c0_i32_25 : BitVec 32 := 0#32
  let c1_i32_27 : BitVec 32 := 1#32
  let arg7 : BitVec 32 := Scf.iv c0_i32_25 c1_i32_27 k3_t1
  let c512_i32_85 : BitVec 32 := 512#32
  let v165 : BitVec 32 := Scalar.muli arg7 c512_i32_85
  let v166 : BitVec 32 := v165
  let v207 : Index := Scalar.indexCast v166
  let c0_106 : Index := 0#32
  ![0, 2, v207.toNat, 0]
def k3_off4 (i : grid3.Coords) (k3_t1 : Fin (k3_t1_loop i).trips) : Fin 4 → Nat :=
  let c0_113 : Index := 0#32
  let c3_114 : Index := 3#32
  let c0_i32_25 : BitVec 32 := 0#32
  let c1_i32_27 : BitVec 32 := 1#32
  let arg7 : BitVec 32 := Scf.iv c0_i32_25 c1_i32_27 k3_t1
  let c512_i32_85 : BitVec 32 := 512#32
  let v165 : BitVec 32 := Scalar.muli arg7 c512_i32_85
  let v166 : BitVec 32 := v165
  let v227 : Index := Scalar.indexCast v166
  let c0_115 : Index := 0#32
  ![0, 3, v227.toNat, 0]
@[reducible] def k3_t2_loop (i : grid3.Coords) : Scf.Loop 32 :=
  let c0_i32_25 : BitVec 32 := 0#32
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  let c0_i32_20 : BitVec 32 := 0#32
  let v19 : BitVec 1 := Scalar.cmpi .sgt v17 c0_i32_20
  let v20 : BitVec 32 := Scalar.extui v19
  let c0_i32_21 : BitVec 32 := 0#32
  let v21 : BitVec 1 := Scalar.cmpi .slt v17 c0_i32_21
  let v22 : BitVec 32 := Scalar.extui v21
  let v23 : BitVec 32 := Scalar.subi v20 v22
  let c512_i32_19 : BitVec 32 := 512#32
  let c0_i32_22 : BitVec 32 := 0#32
  let v24 : BitVec 1 := Scalar.cmpi .sgt c512_i32_19 c0_i32_22
  let v25 : BitVec 32 := Scalar.extui v24
  let c0_i32_23 : BitVec 32 := 0#32
  let v26 : BitVec 1 := Scalar.cmpi .slt c512_i32_19 c0_i32_23
  let v27 : BitVec 32 := Scalar.extui v26
  let v28 : BitVec 32 := Scalar.subi v25 v27
  let v29 : BitVec 1 := Scalar.cmpi .ne v23 v28
  let v30 : BitVec 32 := Scalar.remsi v17 c512_i32_19
  let c0_i32_24 : BitVec 32 := 0#32
  let v31 : BitVec 1 := Scalar.cmpi .ne v30 c0_i32_24
  let v32 : BitVec 1 := Scalar.andi v29 v31
  let v18 : BitVec 32 := Scalar.divsi v17 c512_i32_19
  let c1_i32 : BitVec 32 := 1#32
  let v33 : BitVec 32 := Scalar.subi v18 c1_i32
  let v34 : BitVec 32 := Scalar.select v32 v33 v18
  let v35 : BitVec 32 := Scalar.subi v34 c0_i32_25
  let c1_i32_26 : BitVec 32 := 1#32
  let v37 : BitVec 32 := Scalar.divsi v35 c1_i32_26
  let v38 : BitVec 32 := Scalar.muli v37 c1_i32_26
  let v39 : BitVec 32 := Scalar.addi c0_i32_25 v38
  let v36 : BitVec 32 := Scalar.addi c0_i32_25 v35
  let c1_i32_28 : BitVec 32 := 1#32
  ⟨v39, v36, c1_i32_28⟩
def k3_mult2 (i : grid3.Coords) (k3_t2 : Fin (k3_t2_loop i).trips) : BitVec 32 :=
  let c0_i32_25 : BitVec 32 := 0#32
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  let c0_i32_20 : BitVec 32 := 0#32
  let v19 : BitVec 1 := Scalar.cmpi .sgt v17 c0_i32_20
  let v20 : BitVec 32 := Scalar.extui v19
  let c0_i32_21 : BitVec 32 := 0#32
  let v21 : BitVec 1 := Scalar.cmpi .slt v17 c0_i32_21
  let v22 : BitVec 32 := Scalar.extui v21
  let v23 : BitVec 32 := Scalar.subi v20 v22
  let c512_i32_19 : BitVec 32 := 512#32
  let c0_i32_22 : BitVec 32 := 0#32
  let v24 : BitVec 1 := Scalar.cmpi .sgt c512_i32_19 c0_i32_22
  let v25 : BitVec 32 := Scalar.extui v24
  let c0_i32_23 : BitVec 32 := 0#32
  let v26 : BitVec 1 := Scalar.cmpi .slt c512_i32_19 c0_i32_23
  let v27 : BitVec 32 := Scalar.extui v26
  let v28 : BitVec 32 := Scalar.subi v25 v27
  let v29 : BitVec 1 := Scalar.cmpi .ne v23 v28
  let v30 : BitVec 32 := Scalar.remsi v17 c512_i32_19
  let c0_i32_24 : BitVec 32 := 0#32
  let v31 : BitVec 1 := Scalar.cmpi .ne v30 c0_i32_24
  let v32 : BitVec 1 := Scalar.andi v29 v31
  let v18 : BitVec 32 := Scalar.divsi v17 c512_i32_19
  let c1_i32 : BitVec 32 := 1#32
  let v33 : BitVec 32 := Scalar.subi v18 c1_i32
  let v34 : BitVec 32 := Scalar.select v32 v33 v18
  let v35 : BitVec 32 := Scalar.subi v34 c0_i32_25
  let c1_i32_26 : BitVec 32 := 1#32
  let v37 : BitVec 32 := Scalar.divsi v35 c1_i32_26
  let v38 : BitVec 32 := Scalar.muli v37 c1_i32_26
  let v39 : BitVec 32 := Scalar.addi c0_i32_25 v38
  let c1_i32_28 : BitVec 32 := 1#32
  let arg7 : BitVec 32 := Scf.iv v39 c1_i32_28 k3_t2
  let c512_i32_85 : BitVec 32 := 512#32
  let v165 : BitVec 32 := Scalar.muli arg7 c512_i32_85
  v165
def k3_off5 (i : grid3.Coords) (k3_t2 : Fin (k3_t2_loop i).trips) : Fin 4 → Nat :=
  let c0_86 : Index := 0#32
  let c0_87 : Index := 0#32
  let c0_i32_25 : BitVec 32 := 0#32
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  let c0_i32_20 : BitVec 32 := 0#32
  let v19 : BitVec 1 := Scalar.cmpi .sgt v17 c0_i32_20
  let v20 : BitVec 32 := Scalar.extui v19
  let c0_i32_21 : BitVec 32 := 0#32
  let v21 : BitVec 1 := Scalar.cmpi .slt v17 c0_i32_21
  let v22 : BitVec 32 := Scalar.extui v21
  let v23 : BitVec 32 := Scalar.subi v20 v22
  let c512_i32_19 : BitVec 32 := 512#32
  let c0_i32_22 : BitVec 32 := 0#32
  let v24 : BitVec 1 := Scalar.cmpi .sgt c512_i32_19 c0_i32_22
  let v25 : BitVec 32 := Scalar.extui v24
  let c0_i32_23 : BitVec 32 := 0#32
  let v26 : BitVec 1 := Scalar.cmpi .slt c512_i32_19 c0_i32_23
  let v27 : BitVec 32 := Scalar.extui v26
  let v28 : BitVec 32 := Scalar.subi v25 v27
  let v29 : BitVec 1 := Scalar.cmpi .ne v23 v28
  let v30 : BitVec 32 := Scalar.remsi v17 c512_i32_19
  let c0_i32_24 : BitVec 32 := 0#32
  let v31 : BitVec 1 := Scalar.cmpi .ne v30 c0_i32_24
  let v32 : BitVec 1 := Scalar.andi v29 v31
  let v18 : BitVec 32 := Scalar.divsi v17 c512_i32_19
  let c1_i32 : BitVec 32 := 1#32
  let v33 : BitVec 32 := Scalar.subi v18 c1_i32
  let v34 : BitVec 32 := Scalar.select v32 v33 v18
  let v35 : BitVec 32 := Scalar.subi v34 c0_i32_25
  let c1_i32_26 : BitVec 32 := 1#32
  let v37 : BitVec 32 := Scalar.divsi v35 c1_i32_26
  let v38 : BitVec 32 := Scalar.muli v37 c1_i32_26
  let v39 : BitVec 32 := Scalar.addi c0_i32_25 v38
  let c1_i32_28 : BitVec 32 := 1#32
  let arg7 : BitVec 32 := Scf.iv v39 c1_i32_28 k3_t2
  let c512_i32_85 : BitVec 32 := 512#32
  let v165 : BitVec 32 := Scalar.muli arg7 c512_i32_85
  let v166 : BitVec 32 := v165
  let v167 : Index := Scalar.indexCast v166
  let c0_88 : Index := 0#32
  ![0, 0, v167.toNat, 0]
def k3_off6 (i : grid3.Coords) (k3_t2 : Fin (k3_t2_loop i).trips) : Fin 4 → Nat :=
  let c0_95 : Index := 0#32
  let c1_96 : Index := 1#32
  let c0_i32_25 : BitVec 32 := 0#32
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  let c0_i32_20 : BitVec 32 := 0#32
  let v19 : BitVec 1 := Scalar.cmpi .sgt v17 c0_i32_20
  let v20 : BitVec 32 := Scalar.extui v19
  let c0_i32_21 : BitVec 32 := 0#32
  let v21 : BitVec 1 := Scalar.cmpi .slt v17 c0_i32_21
  let v22 : BitVec 32 := Scalar.extui v21
  let v23 : BitVec 32 := Scalar.subi v20 v22
  let c512_i32_19 : BitVec 32 := 512#32
  let c0_i32_22 : BitVec 32 := 0#32
  let v24 : BitVec 1 := Scalar.cmpi .sgt c512_i32_19 c0_i32_22
  let v25 : BitVec 32 := Scalar.extui v24
  let c0_i32_23 : BitVec 32 := 0#32
  let v26 : BitVec 1 := Scalar.cmpi .slt c512_i32_19 c0_i32_23
  let v27 : BitVec 32 := Scalar.extui v26
  let v28 : BitVec 32 := Scalar.subi v25 v27
  let v29 : BitVec 1 := Scalar.cmpi .ne v23 v28
  let v30 : BitVec 32 := Scalar.remsi v17 c512_i32_19
  let c0_i32_24 : BitVec 32 := 0#32
  let v31 : BitVec 1 := Scalar.cmpi .ne v30 c0_i32_24
  let v32 : BitVec 1 := Scalar.andi v29 v31
  let v18 : BitVec 32 := Scalar.divsi v17 c512_i32_19
  let c1_i32 : BitVec 32 := 1#32
  let v33 : BitVec 32 := Scalar.subi v18 c1_i32
  let v34 : BitVec 32 := Scalar.select v32 v33 v18
  let v35 : BitVec 32 := Scalar.subi v34 c0_i32_25
  let c1_i32_26 : BitVec 32 := 1#32
  let v37 : BitVec 32 := Scalar.divsi v35 c1_i32_26
  let v38 : BitVec 32 := Scalar.muli v37 c1_i32_26
  let v39 : BitVec 32 := Scalar.addi c0_i32_25 v38
  let c1_i32_28 : BitVec 32 := 1#32
  let arg7 : BitVec 32 := Scf.iv v39 c1_i32_28 k3_t2
  let c512_i32_85 : BitVec 32 := 512#32
  let v165 : BitVec 32 := Scalar.muli arg7 c512_i32_85
  let v166 : BitVec 32 := v165
  let v187 : Index := Scalar.indexCast v166
  let c0_97 : Index := 0#32
  ![0, 1, v187.toNat, 0]
def k3_off7 (i : grid3.Coords) (k3_t2 : Fin (k3_t2_loop i).trips) : Fin 4 → Nat :=
  let c0_104 : Index := 0#32
  let c2_105 : Index := 2#32
  let c0_i32_25 : BitVec 32 := 0#32
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  let c0_i32_20 : BitVec 32 := 0#32
  let v19 : BitVec 1 := Scalar.cmpi .sgt v17 c0_i32_20
  let v20 : BitVec 32 := Scalar.extui v19
  let c0_i32_21 : BitVec 32 := 0#32
  let v21 : BitVec 1 := Scalar.cmpi .slt v17 c0_i32_21
  let v22 : BitVec 32 := Scalar.extui v21
  let v23 : BitVec 32 := Scalar.subi v20 v22
  let c512_i32_19 : BitVec 32 := 512#32
  let c0_i32_22 : BitVec 32 := 0#32
  let v24 : BitVec 1 := Scalar.cmpi .sgt c512_i32_19 c0_i32_22
  let v25 : BitVec 32 := Scalar.extui v24
  let c0_i32_23 : BitVec 32 := 0#32
  let v26 : BitVec 1 := Scalar.cmpi .slt c512_i32_19 c0_i32_23
  let v27 : BitVec 32 := Scalar.extui v26
  let v28 : BitVec 32 := Scalar.subi v25 v27
  let v29 : BitVec 1 := Scalar.cmpi .ne v23 v28
  let v30 : BitVec 32 := Scalar.remsi v17 c512_i32_19
  let c0_i32_24 : BitVec 32 := 0#32
  let v31 : BitVec 1 := Scalar.cmpi .ne v30 c0_i32_24
  let v32 : BitVec 1 := Scalar.andi v29 v31
  let v18 : BitVec 32 := Scalar.divsi v17 c512_i32_19
  let c1_i32 : BitVec 32 := 1#32
  let v33 : BitVec 32 := Scalar.subi v18 c1_i32
  let v34 : BitVec 32 := Scalar.select v32 v33 v18
  let v35 : BitVec 32 := Scalar.subi v34 c0_i32_25
  let c1_i32_26 : BitVec 32 := 1#32
  let v37 : BitVec 32 := Scalar.divsi v35 c1_i32_26
  let v38 : BitVec 32 := Scalar.muli v37 c1_i32_26
  let v39 : BitVec 32 := Scalar.addi c0_i32_25 v38
  let c1_i32_28 : BitVec 32 := 1#32
  let arg7 : BitVec 32 := Scf.iv v39 c1_i32_28 k3_t2
  let c512_i32_85 : BitVec 32 := 512#32
  let v165 : BitVec 32 := Scalar.muli arg7 c512_i32_85
  let v166 : BitVec 32 := v165
  let v207 : Index := Scalar.indexCast v166
  let c0_106 : Index := 0#32
  ![0, 2, v207.toNat, 0]
def k3_off8 (i : grid3.Coords) (k3_t2 : Fin (k3_t2_loop i).trips) : Fin 4 → Nat :=
  let c0_113 : Index := 0#32
  let c3_114 : Index := 3#32
  let c0_i32_25 : BitVec 32 := 0#32
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  let c0_i32_20 : BitVec 32 := 0#32
  let v19 : BitVec 1 := Scalar.cmpi .sgt v17 c0_i32_20
  let v20 : BitVec 32 := Scalar.extui v19
  let c0_i32_21 : BitVec 32 := 0#32
  let v21 : BitVec 1 := Scalar.cmpi .slt v17 c0_i32_21
  let v22 : BitVec 32 := Scalar.extui v21
  let v23 : BitVec 32 := Scalar.subi v20 v22
  let c512_i32_19 : BitVec 32 := 512#32
  let c0_i32_22 : BitVec 32 := 0#32
  let v24 : BitVec 1 := Scalar.cmpi .sgt c512_i32_19 c0_i32_22
  let v25 : BitVec 32 := Scalar.extui v24
  let c0_i32_23 : BitVec 32 := 0#32
  let v26 : BitVec 1 := Scalar.cmpi .slt c512_i32_19 c0_i32_23
  let v27 : BitVec 32 := Scalar.extui v26
  let v28 : BitVec 32 := Scalar.subi v25 v27
  let v29 : BitVec 1 := Scalar.cmpi .ne v23 v28
  let v30 : BitVec 32 := Scalar.remsi v17 c512_i32_19
  let c0_i32_24 : BitVec 32 := 0#32
  let v31 : BitVec 1 := Scalar.cmpi .ne v30 c0_i32_24
  let v32 : BitVec 1 := Scalar.andi v29 v31
  let v18 : BitVec 32 := Scalar.divsi v17 c512_i32_19
  let c1_i32 : BitVec 32 := 1#32
  let v33 : BitVec 32 := Scalar.subi v18 c1_i32
  let v34 : BitVec 32 := Scalar.select v32 v33 v18
  let v35 : BitVec 32 := Scalar.subi v34 c0_i32_25
  let c1_i32_26 : BitVec 32 := 1#32
  let v37 : BitVec 32 := Scalar.divsi v35 c1_i32_26
  let v38 : BitVec 32 := Scalar.muli v37 c1_i32_26
  let v39 : BitVec 32 := Scalar.addi c0_i32_25 v38
  let c1_i32_28 : BitVec 32 := 1#32
  let arg7 : BitVec 32 := Scf.iv v39 c1_i32_28 k3_t2
  let c512_i32_85 : BitVec 32 := 512#32
  let v165 : BitVec 32 := Scalar.muli arg7 c512_i32_85
  let v166 : BitVec 32 := v165
  let v227 : Index := Scalar.indexCast v166
  let c0_115 : Index := 0#32
  ![0, 3, v227.toNat, 0]
def k3_mult3 (i : grid3.Coords) : BitVec 32 :=
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  v17
def k3_off9 (i : grid3.Coords) : Fin 4 → Nat :=
  let c0_29 : Index := 0#32
  let c0_30 : Index := 0#32
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  let v42 : BitVec 32 := v17
  let v46 : Index := Scalar.indexCast v42
  let c0_31 : Index := 0#32
  ![0, 0, v46.toNat, 0]
def k3_off10 (i : grid3.Coords) : Fin 4 → Nat :=
  let c0_43 : Index := 0#32
  let c1_44 : Index := 1#32
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  let v42 : BitVec 32 := v17
  let v76 : Index := Scalar.indexCast v42
  let c0_45 : Index := 0#32
  ![0, 1, v76.toNat, 0]
def k3_off11 (i : grid3.Coords) : Fin 4 → Nat :=
  let c0_57 : Index := 0#32
  let c2_58 : Index := 2#32
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  let v42 : BitVec 32 := v17
  let v106 : Index := Scalar.indexCast v42
  let c0_59 : Index := 0#32
  ![0, 2, v106.toNat, 0]
def k3_off12 (i : grid3.Coords) : Fin 4 → Nat :=
  let c0_71 : Index := 0#32
  let c3_72 : Index := 3#32
  let c0_i32 : BitVec 32 := 0#32
  let arg2 : BitVec 32 := BitVec.ofNat 32 (i 2).val
  let c512_i32 : BitVec 32 := 512#32
  let v16 : BitVec 32 := Scalar.muli arg2 c512_i32
  let v17 : BitVec 32 := Scalar.addi c0_i32 v16
  let v42 : BitVec 32 := v17
  let v136 : Index := Scalar.indexCast v42
  let c0_73 : Index := 0#32
  ![0, 3, v136.toNat, 0]
def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage3_0 : Fin 2 → Memref sig .tc .vmem S1x4x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x4x8192x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x4x8192x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x4x512x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev grid4 : Pipeline.Grid := ⟨2, ![8, 16], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_8 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x16x512x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S16x128x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1x512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1x1x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S1x1x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev stage4_7 : Fin 2 → Memref sig .tc .vmem S1x512x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S1x512x1024 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]
-- ==== KernelIdeal.lean ====
variable {F : FTy → Type} [FloatOps F] [Named F]
def κ : String → Option EReal := fun
  | "mask" => some ⊥
  | _ => none
-- ==== ReferenceIdeal.lean ====
abbrev S8x8192x1024 : Shape := ⟨3, ![8, 8192, 1024]⟩
abbrev S8x1024 : Shape := ⟨2, ![8, 1024]⟩
abbrev S1024 : Shape := ⟨1, ![1024]⟩
abbrev S1024x2048 : Shape := ⟨2, ![1024, 2048]⟩
abbrev S1024x16 : Shape := ⟨2, ![1024, 16]⟩
abbrev S16 : Shape := ⟨1, ![16]⟩
abbrev S1024x1024 : Shape := ⟨2, ![1024, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x8192x2048 : Shape := ⟨3, ![8, 8192, 2048]⟩
abbrev S8x8192x16 : Shape := ⟨3, ![8, 8192, 16]⟩
abbrev S1x1x16 : Shape := ⟨3, ![1, 1, 16]⟩
abbrev S8x8192x16x64 : Shape := ⟨4, ![8, 8192, 16, 64]⟩
abbrev S8x16x8192x8192 : Shape := ⟨4, ![8, 16, 8192, 8192]⟩
abbrev S8x16x8192 : Shape := ⟨3, ![8, 16, 8192]⟩
abbrev S8x16x8192x1 : Shape := ⟨4, ![8, 16, 8192, 1]⟩
abbrev S8x16x1x8192 : Shape := ⟨4, ![8, 16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x16x64x8192 : Shape := ⟨4, ![8, 16, 64, 8192]⟩

abbrev nBuf : Space → Nat
  | .hbm => 166
  | .vmem => 0
  | .smem => 0
  | _ => 0

abbrev hbmTy0_0 (i : Nat) : BufTy := match i % 128 with
  | 0 => ⟨S8x8192x1024, .f32⟩
  | 1 => ⟨S8x1024, .f32⟩
  | 2 => ⟨S8x1024, .f32⟩
  | 3 => ⟨S8x1024, .f32⟩
  | 4 => ⟨S8x1024, .f32⟩
  | 5 => ⟨S8x1024, .f32⟩
  | 6 => ⟨S8x1024, .f32⟩
  | 7 => ⟨S8x1024, .f32⟩
  | 8 => ⟨S1024, .f32⟩
  | 9 => ⟨S1024, .f32⟩
  | 10 => ⟨S1024, .f32⟩
  | 11 => ⟨S1024x2048, .f32⟩
  | 12 => ⟨S1024x16, .f32⟩
  | 13 => ⟨S16, .f32⟩
  | 14 => ⟨S1024x1024, .f32⟩
  | 15 => ⟨S1024x1024, .f32⟩
  | 16 => ⟨S8x8192x1024, .f32⟩
  | 17 => ⟨S_, .f32⟩
  | 18 => ⟨S8x8192, .f32⟩
  | 19 => ⟨S8x8192x1, .f32⟩
  | 20 => ⟨S_, .f32⟩
  | 21 => ⟨S8x8192x1, .f32⟩
  | 22 => ⟨S8x8192x1, .f32⟩
  | 23 => ⟨S_, .f32⟩
  | 24 => ⟨S8x8192x1, .f32⟩
  | 25 => ⟨S8x8192x1, .f32⟩
  | 26 => ⟨S8x8192x1, .f32⟩
  | 27 => ⟨S8x8192x1024, .f32⟩
  | 28 => ⟨S8x8192x1024, .f32⟩
  | 29 => ⟨S1x1x1024, .f32⟩
  | 30 => ⟨S8x8192x1024, .f32⟩
  | 31 => ⟨S8x8192x1024, .f32⟩
  | 32 => ⟨S8x1x1024, .f32⟩
  | 33 => ⟨S_, .f32⟩
  | 34 => ⟨S8x1x1024, .f32⟩
  | 35 => ⟨S8x1x1024, .f32⟩
  | 36 => ⟨S8x8192x1024, .f32⟩
  | 37 => ⟨S8x8192x1024, .f32⟩
  | 38 => ⟨S8x1x1024, .f32⟩
  | 39 => ⟨S8x8192x1024, .f32⟩
  | 40 => ⟨S8x8192x1024, .f32⟩
  | 41 => ⟨S8x8192x1024, .f32⟩
  | 42 => ⟨S_, .f32⟩
  | 43 => ⟨S8x8192, .f32⟩
  | 44 => ⟨S8x8192x1, .f32⟩
  | 45 => ⟨S_, .f32⟩
  | 46 => ⟨S8x8192x1, .f32⟩
  | 47 => ⟨S8x8192x1, .f32⟩
  | 48 => ⟨S_, .f32⟩
  | 49 => ⟨S8x8192x1, .f32⟩
  | 50 => ⟨S8x8192x1, .f32⟩
  | 51 => ⟨S8x8192x1, .f32⟩
  | 52 => ⟨S8x8192x1024, .f32⟩
  | 53 => ⟨S8x8192x1024, .f32⟩
  | 54 => ⟨S1x1x1024, .f32⟩
  | 55 => ⟨S8x8192x1024, .f32⟩
  | 56 => ⟨S8x8192x1024, .f32⟩
  | 57 => ⟨S8x1x1024, .f32⟩
  | 58 => ⟨S_, .f32⟩
  | 59 => ⟨S8x1x1024, .f32⟩
  | 60 => ⟨S8x1x1024, .f32⟩
  | 61 => ⟨S8x8192x1024, .f32⟩
  | 62 => ⟨S8x8192x1024, .f32⟩
  | 63 => ⟨S8x1x1024, .f32⟩
  | 64 => ⟨S8x8192x1024, .f32⟩
  | 65 => ⟨S8x8192x1024, .f32⟩
  | 66 => ⟨S8x8192x2048, .f32⟩
  | 67 => ⟨S8x8192x1024, .f32⟩
  | 68 => ⟨S8x8192x1024, .f32⟩
  | 69 => ⟨S8x8192x16, .f32⟩
  | 70 => ⟨S1x1x16, .f32⟩
  | 71 => ⟨S8x8192x16, .f32⟩
  | 72 => ⟨S8x8192x16, .f32⟩
  | 73 => ⟨S8x8192x16, .f32⟩
  | 74 => ⟨S_, .f32⟩
  | 75 => ⟨S8x8192x16, .f32⟩
  | 76 => ⟨S8x8192x16, .f32⟩
  | 77 => ⟨S8x8192x16, .f32⟩
  | 78 => ⟨S8x8192x16, .f32⟩
  | 79 => ⟨S8x8192x16, .i1⟩
  | 80 => ⟨S8x8192x16, .f32⟩
  | 81 => ⟨S8x8192x16, .f32⟩
  | 82 => ⟨S8x8192x16, .f32⟩
  | 83 => ⟨S8x8192x16, .f32⟩
  | 84 => ⟨S8x8192x16, .f32⟩
  | 85 => ⟨S8x8192x16, .f32⟩
  | 86 => ⟨S8x8192x16, .f32⟩
  | 87 => ⟨S8x8192x16, .f32⟩
  | 88 => ⟨S8x8192x16, .f32⟩
  | 89 => ⟨S_, .f32⟩
  | 90 => ⟨S_, .f32⟩
  | 91 => ⟨S8x8192x16, .f32⟩
  | 92 => ⟨S8x8192x1024, .f32⟩
  | 93 => ⟨S8x8192x16x64, .f32⟩
  | 94 => ⟨S8x8192x16x64, .f32⟩
  | 95 => ⟨S8x8192x16x64, .f32⟩
  | 96 => ⟨S8x16x8192x8192, .f32⟩
  | 97 => ⟨S_, .f32⟩
  | 98 => ⟨S8x16x8192x8192, .f32⟩
  | 99 => ⟨S8x16x8192x8192, .f32⟩
  | 100 => ⟨S8x16x8192, .f32⟩
  | 101 => ⟨S8x16x8192x1, .f32⟩
  | 102 => ⟨S8x16x8192x8192, .f32⟩
  | 103 => ⟨S8x16x8192x8192, .f32⟩
  | 104 => ⟨S8x16x1x8192, .f32⟩
  | 105 => ⟨S8x16x8192x8192, .f32⟩
  | 106 => ⟨S8x16x8192x8192, .f32⟩
  | 107 => ⟨S8192, .i32⟩
  | 108 => ⟨S1x8192, .i32⟩
  | 109 => ⟨S8192x1, .i32⟩
  | 110 => ⟨S8192x8192, .i32⟩
  | 111 => ⟨S8192x8192, .i32⟩
  | 112 => ⟨S8192x8192, .i1⟩
  | 113 => ⟨S_, .f32⟩
  | 114 => ⟨S_, .f32⟩
  | 115 => ⟨S8x16x8192x8192, .i1⟩
  | 116 => ⟨S8x16x8192x8192, .f32⟩
  | 117 => ⟨S8x16x8192x8192, .f32⟩
  | 118 => ⟨S_, .f32⟩
  | 119 => ⟨S8x16x8192, .f32⟩
  | 120 => ⟨S_, .f32⟩
  | 121 => ⟨S8x16x8192, .f32⟩
  | 122 => ⟨S8x16x8192, .f32⟩
  | 123 => ⟨S8x16x8192x1, .f32⟩
  | 124 => ⟨S8x16x8192x8192, .f32⟩
  | 125 => ⟨S8x16x8192x8192, .f32⟩
  | 126 => ⟨S8x16x8192x8192, .f32⟩
  | 127 => ⟨S_, .f32⟩
  | _ => ⟨S8x8192x1024, .f32⟩

abbrev hbmTy0_1 (i : Nat) : BufTy := match i % 128 with
  | 0 => ⟨S8x16x8192, .f32⟩
  | 1 => ⟨S8x16x8192x1, .f32⟩
  | 2 => ⟨S8x16x8192x8192, .f32⟩
  | 3 => ⟨S8x16x8192x8192, .f32⟩
  | 4 => ⟨S8x16x64x8192, .f32⟩
  | 5 => ⟨S8x8192x16x64, .f32⟩
  | 6 => ⟨S8x1x1024, .f32⟩
  | 7 => ⟨S8x8192x1024, .f32⟩
  | 8 => ⟨S8x8192x1024, .f32⟩
  | 9 => ⟨S8x8192x1024, .f32⟩
  | 10 => ⟨S8x8192x1024, .f32⟩
  | 11 => ⟨S8x8192x1024, .f32⟩
  | 12 => ⟨S8x8192x1024, .f32⟩
  | 13 => ⟨S_, .f32⟩
  | 14 => ⟨S8x8192, .f32⟩
  | 15 => ⟨S8x8192x1, .f32⟩
  | 16 => ⟨S_, .f32⟩
  | 17 => ⟨S8x8192x1, .f32⟩
  | 18 => ⟨S8x8192x1, .f32⟩
  | 19 => ⟨S_, .f32⟩
  | 20 => ⟨S8x8192x1, .f32⟩
  | 21 => ⟨S8x8192x1, .f32⟩
  | 22 => ⟨S8x8192x1, .f32⟩
  | 23 => ⟨S8x8192x1024, .f32⟩
  | 24 => ⟨S8x8192x1024, .f32⟩
  | 25 => ⟨S1x1x1024, .f32⟩
  | 26 => ⟨S8x8192x1024, .f32⟩
  | 27 => ⟨S8x8192x1024, .f32⟩
  | 28 => ⟨S8x1x1024, .f32⟩
  | 29 => ⟨S_, .f32⟩
  | 30 => ⟨S8x1x1024, .f32⟩
  | 31 => ⟨S8x1x1024, .f32⟩
  | 32 => ⟨S8x8192x1024, .f32⟩
  | 33 => ⟨S8x8192x1024, .f32⟩
  | 34 => ⟨S8x1x1024, .f32⟩
  | 35 => ⟨S8x8192x1024, .f32⟩
  | 36 => ⟨S8x8192x1024, .f32⟩
  | 37 => ⟨S8x8192x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call0_v0 : Ref sig .tc := ⟨.hbm, 73, rfl⟩
abbrev main_call0_call0_cst : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_call0_v2 : Ref sig .tc := ⟨.hbm, 77, rfl⟩
abbrev main_call0_call0_v3 : Ref sig .tc := ⟨.hbm, 78, rfl⟩
abbrev main_call0_call0_v4 : Ref sig .tc := ⟨.hbm, 79, rfl⟩
abbrev main_call0_call0_v5 : Ref sig .tc := ⟨.hbm, 80, rfl⟩
abbrev main_call0_call0_v6 : Ref sig .tc := ⟨.hbm, 81, rfl⟩
abbrev main_call0_call0_v7 : Ref sig .tc := ⟨.hbm, 82, rfl⟩
abbrev main_call0_call0_v8 : Ref sig .tc := ⟨.hbm, 83, rfl⟩
abbrev main_call0_call0_v9 : Ref sig .tc := ⟨.hbm, 84, rfl⟩
abbrev main_call0_call0_v10 : Ref sig .tc := ⟨.hbm, 85, rfl⟩
abbrev main_call0_call0_v11 : Ref sig .tc := ⟨.hbm, 86, rfl⟩
abbrev main_call0_v1 : Ref sig .tc := ⟨.hbm, 87, rfl⟩
abbrev main_v49 : Ref sig .tc := ⟨.hbm, 88, rfl⟩
abbrev main_call1_call0_cst : Ref sig .tc := ⟨.hbm, 89, rfl⟩
abbrev main_call1_call0_v0 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_7 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_8 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v71 : Ref sig .tc := ⟨.hbm, 117, rfl⟩
abbrev main_cst_9 : Ref sig .tc := ⟨.hbm, 118, rfl⟩
abbrev main_v72 : Ref sig .tc := ⟨.hbm, 119, rfl⟩
abbrev main_cst_10 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_11 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_12 : Ref sig .tc := ⟨.hbm, 141, rfl⟩
abbrev main_v92 : Ref sig .tc := ⟨.hbm, 142, rfl⟩
abbrev main_v93 : Ref sig .tc := ⟨.hbm, 143, rfl⟩
abbrev main_cst_13 : Ref sig .tc := ⟨.hbm, 144, rfl⟩
abbrev main_v94 : Ref sig .tc := ⟨.hbm, 145, rfl⟩
abbrev main_v95 : Ref sig .tc := ⟨.hbm, 146, rfl⟩
abbrev main_cst_14 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_cst_15 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩

abbrev nD : Nat := 1
abbrev τ : Topo := Topo.v7x

variable {F : FTy → Type} [FloatOps F]
-- ==== KernelA.lean ====
abbrev S8x8192x1024 : Shape := ⟨3, ![8, 8192, 1024]⟩
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S2x2x1024 : Shape := ⟨3, ![2, 2, 1024]⟩
abbrev S1x1024x3072 : Shape := ⟨3, ![1, 1024, 3072]⟩
abbrev S1x16x257 : Shape := ⟨3, ![1, 16, 257]⟩
abbrev S1x1024x1024 : Shape := ⟨3, ![1, 1024, 1024]⟩
abbrev S40x1024 : Shape := ⟨2, ![40, 1024]⟩
abbrev S_ : Shape := ⟨0, ![]⟩
abbrev S48x1024 : Shape := ⟨2, ![48, 1024]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S48x6144 : Shape := ⟨2, ![48, 6144]⟩
abbrev S1024x1024 : Shape := ⟨2, ![1024, 1024]⟩
abbrev S1x1024 : Shape := ⟨2, ![1, 1024]⟩
abbrev S8x6144 : Shape := ⟨2, ![8, 6144]⟩
abbrev S1x1x1024 : Shape := ⟨3, ![1, 1, 1024]⟩
abbrev S1024 : Shape := ⟨1, ![1024]⟩
abbrev S1024x3072 : Shape := ⟨2, ![1024, 3072]⟩
abbrev S8x1x1024 : Shape := ⟨3, ![8, 1, 1024]⟩
abbrev S8x16x8192x128 : Shape := ⟨4, ![8, 16, 8192, 128]⟩
abbrev S1x512x1024 : Shape := ⟨3, ![1, 512, 1024]⟩
abbrev S1x16x512x128 : Shape := ⟨4, ![1, 16, 512, 128]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S512x128 : Shape := ⟨2, ![512, 128]⟩
abbrev S1x1x512x128 : Shape := ⟨4, ![1, 1, 512, 128]⟩
abbrev S16x257 : Shape := ⟨2, ![16, 257]⟩
abbrev S16x512x1024 : Shape := ⟨3, ![16, 512, 1024]⟩
abbrev S1x1 : Shape := ⟨2, ![1, 1]⟩
abbrev S1x8x512x128 : Shape := ⟨4, ![1, 8, 512, 128]⟩
abbrev S8x512x1024 : Shape := ⟨3, ![8, 512, 1024]⟩
abbrev S512x512 : Shape := ⟨2, ![512, 512]⟩
abbrev S1x512x512 : Shape := ⟨3, ![1, 512, 512]⟩
abbrev S16x64x1024 : Shape := ⟨3, ![16, 64, 1024]⟩
abbrev S16x128x1024 : Shape := ⟨3, ![16, 128, 1024]⟩
abbrev S1x128x1024 : Shape := ⟨3, ![1, 128, 1024]⟩
abbrev S128x1024 : Shape := ⟨2, ![128, 1024]⟩

abbrev nBuf : Space → Nat
  | .hbm => 57
  | .vmem => 57
  | .smem => 1
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S32x1024, .f32⟩
  | .hbm, ⟨3, _⟩ => ⟨S2x1024x6144, .f32⟩
  | .hbm, ⟨4, _⟩ => ⟨S2x6144, .f32⟩
  | .hbm, ⟨5, _⟩ => ⟨S2x2x1024, .f32⟩
  | .hbm, ⟨6, _⟩ => ⟨S1x1024x3072, .f32⟩
  | .hbm, ⟨7, _⟩ => ⟨S1x16x257, .f32⟩
  | .hbm, ⟨8, _⟩ => ⟨S1x1024x1024, .f32⟩
  | .hbm, ⟨9, _⟩ => ⟨S40x1024, .f32⟩
  | .hbm, ⟨10, _⟩ => ⟨S_, .i32⟩
  | .hbm, ⟨11, _⟩ => ⟨S_, .f32⟩
  | .hbm, ⟨12, _⟩ => ⟨S48x1024, .f32⟩
  | .hbm, ⟨13, _⟩ => ⟨S1x1024x6144, .f32⟩
  | .hbm, ⟨14, _⟩ => ⟨S1024x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S48x6144, .f32⟩
  | .hbm, ⟨19, _⟩ => ⟨S8x6144, .f32⟩
  | .hbm, ⟨20, _⟩ => ⟨S8x1024, .f32⟩
  | .hbm, ⟨21, _⟩ => ⟨S8x1024, .f32⟩
  | .hbm, ⟨22, _⟩ => ⟨S8x1024, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S1x1x1024, .f32⟩
  | .hbm, ⟨27, _⟩ => ⟨S1024, .f32⟩
  | .hbm, ⟨28, _⟩ => ⟨S1024x3072, .f32⟩
  | .hbm, ⟨29, _⟩ => ⟨S1024x3072, .bf16⟩
  | .hbm, ⟨30, _⟩ => ⟨S1x1024, .f32⟩
  | .hbm, ⟨31, _⟩ => ⟨S8x1x1024, .f32⟩
  | .hbm, ⟨32, _⟩ => ⟨S8x1x1024, .f32⟩
  | .hbm, ⟨33, _⟩ => ⟨S8x16x8192x128, .bf16⟩
  | .hbm, ⟨34, _⟩ => ⟨S8x16x8192x128, .bf16⟩
  | .hbm, ⟨35, _⟩ => ⟨S8x16x8192x128, .bf16⟩
  | .hbm, ⟨36, _⟩ => ⟨S8x8192x1024, .f32⟩
  | .hbm, ⟨37, _⟩ => ⟨S8x8192x1024, .f32⟩
  | .hbm, ⟨38, _⟩ => ⟨S16x257, .f32⟩
  | .hbm, ⟨39, _⟩ => ⟨S16x512x1024, .f32⟩
  | .hbm, ⟨40, _⟩ => ⟨S8x16x8192x128, .bf16⟩
  | .hbm, ⟨41, _⟩ => ⟨S8x512x1024, .f32⟩
  | .hbm, ⟨42, _⟩ => ⟨S8x512x1024, .f32⟩
  | .hbm, ⟨43, _⟩ => ⟨S1024x1024, .f32⟩
  | .hbm, ⟨44, _⟩ => ⟨S16x64x1024, .f32⟩
  | .hbm, ⟨45, _⟩ => ⟨S_, .i32⟩
  | .hbm, ⟨46, _⟩ => ⟨S_, .f32⟩
  | .hbm, ⟨47, _⟩ => ⟨S16x128x1024, .f32⟩
  | .hbm, ⟨48, _⟩ => ⟨S16x128x1024, .bf16⟩
  | .hbm, ⟨49, _⟩ => ⟨S1x1x1024, .f32⟩
  | .hbm, ⟨50, _⟩ => ⟨S1024, .f32⟩
  | .hbm, ⟨51, _⟩ => ⟨S8x1x1024, .f32⟩
  | .hbm, ⟨52, _⟩ => ⟨S1x1024, .f32⟩
  | .hbm, ⟨53, _⟩ => ⟨S8x1x1024, .f32⟩
  | .hbm, ⟨54, _⟩ => ⟨S8x1x1024, .f32⟩
  | .hbm, ⟨55, _⟩ => ⟨S8x8192x1024, .f32⟩
  | .hbm, ⟨56, _⟩ => ⟨S8x8192x1024, .bf16⟩
  | .local _ .vmem, ⟨0, _⟩ => ⟨S48x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S48x1024, .f32⟩
  | .local _ .vmem, ⟨6, _⟩ => ⟨S48x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x3072, .bf16⟩
  | .local _ .vmem, ⟨15, _⟩ => ⟨S1x16x512x128, .bf16⟩
  | .local _ .vmem, ⟨16, _⟩ => ⟨S1x16x512x128, .bf16⟩
  | .local _ .vmem, ⟨17, _⟩ => ⟨S1x16x512x128, .bf16⟩
  | .local _ .vmem, ⟨18, _⟩ => ⟨S1x16x512x128, .bf16⟩
  | .local _ .vmem, ⟨19, _⟩ => ⟨S1x16x512x128, .bf16⟩
  | .local _ .vmem, ⟨20, _⟩ => ⟨S1x16x512x128, .bf16⟩
  | .local _ .vmem, ⟨21, _⟩ => ⟨S1x512x1024, .f32⟩
  | .local _ .vmem, ⟨22, _⟩ => ⟨S1x512x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x512x1024, .f32⟩
  | .local _ .vmem, ⟨27, _⟩ => ⟨S1x8x512x128, .bf16⟩
  | .local _ .vmem, ⟨28, _⟩ => ⟨S1x8x512x128, .bf16⟩
  | .local _ .vmem, ⟨29, _⟩ => ⟨S1x8x512x128, .bf16⟩
  | .local _ .vmem, ⟨30, _⟩ => ⟨S1x8x512x128, .bf16⟩
  | .local _ .vmem, ⟨31, _⟩ => ⟨S1x8x512x128, .bf16⟩
  | .local _ .vmem, ⟨32, _⟩ => ⟨S1x8x512x128, .bf16⟩
  | .local _ .vmem, ⟨33, _⟩ => ⟨S1x8x512x128, .bf16⟩
  | .local _ .vmem, ⟨34, _⟩ => ⟨S1x8x512x128, .bf16⟩
  | .local _ .vmem, ⟨35, _⟩ => ⟨S1x8x512x128, .bf16⟩
  | .local _ .vmem, ⟨36, _⟩ => ⟨S1x8x512x128, .bf16⟩
  | .local _ .vmem, ⟨37, _⟩ => ⟨S8x512x1024, .f32⟩
  | .local _ .vmem, ⟨38, _⟩ => ⟨S8x512x1024, .f32⟩
  | .local _ .vmem, ⟨39, _⟩ => ⟨S1x8x512x128, .bf16⟩
  | .local _ .vmem, ⟨40, _⟩ => ⟨S1x8x512x128, .bf16⟩
  | .local _ .vmem, ⟨41, _⟩ => ⟨S1x16x512x128, .bf16⟩
  | .local _ .vmem, ⟨42, _⟩ => ⟨S1x16x512x128, .bf16⟩
  | .local _ .vmem, ⟨43, _⟩ => ⟨S16x128x1024, .bf16⟩
  | .local _ .vmem, ⟨44, _⟩ => ⟨S1x512x1024, .f32⟩
  | .local _ .vmem, ⟨45, _⟩ => ⟨S1x512x1024, .f32⟩
  | .local _ .vmem, ⟨46, _⟩ => ⟨S1x1x1024, .f32⟩
  | .local _ .vmem, ⟨47, _⟩ => ⟨S1x1x1024, .f32⟩
  | .local _ .vmem, ⟨48, _⟩ => ⟨S1x1024, .f32⟩
  | .local _ .vmem, ⟨49, _⟩ => ⟨S1x1x1024, .f32⟩
  | .local _ .vmem, ⟨50, _⟩ => ⟨S1x1x1024, .f32⟩
  | .local _ .vmem, ⟨51, _⟩ => ⟨S1x1x1024, .f32⟩
  | .local _ .vmem, ⟨52, _⟩ => ⟨S1x1x1024, .f32⟩
  | .local _ .vmem, ⟨53, _⟩ => ⟨S1x512x1024, .f32⟩
  | .local _ .vmem, ⟨54, _⟩ => ⟨S1x512x1024, .f32⟩
  | .local _ .vmem, ⟨55, _⟩ => ⟨S1x512x1024, .bf16⟩
  | .local _ .vmem, ⟨56, _⟩ => ⟨S1x512x1024, .bf16⟩
  | .local _ .smem, ⟨0, _⟩ => ⟨S16x257, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .smem, ⟨0, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22_0 : Ref sig .tc := ⟨.hbm, 33, rfl⟩
abbrev main_v22_1 : Ref sig .tc := ⟨.hbm, 34, rfl⟩
abbrev main_v22_2 : Ref sig .tc := ⟨.hbm, 35, rfl⟩
abbrev main_v22_3 : Ref sig .tc := ⟨.hbm, 36, rfl⟩
abbrev main_v22_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_0 : Ref sig .tc := ⟨.hbm, 45, rfl⟩
abbrev main_call1_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc2_stg1_0 : Ref sig .tc := ⟨.vmem, 25, rfl⟩
abbrev cc2_stg1_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg5_1 : Ref sig .tc := ⟨.vmem, 38, rfl⟩
abbrev cc3_stg6_0 : Ref sig .tc := ⟨.vmem, 39, rfl⟩
abbrev cc3_stg6_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg6_1 : Ref sig .tc := ⟨.vmem, 52, rfl⟩
abbrev cc4_stg7_0 : Ref sig .tc := ⟨.vmem, 53, rfl⟩
abbrev cc4_stg7_1 : Ref sig .tc := ⟨.vmem, 54, rfl⟩
abbrev cc4_stg8_0 : Ref sig .tc := ⟨.vmem, 55, rfl⟩
abbrev cc4_stg8_1 : Ref sig .tc := ⟨.vmem, 56, rfl⟩
abbrev cc2_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc2_sem0_0 : DmaSem sig := 25
abbrev cc2_sem1_0 : DmaSem sig := 26
abbrev cc2_sem1_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem2_1 : DmaSem sig := 46
abbrev cc4_sem3_0 : DmaSem sig := 47
abbrev cc4_sem3_1 : DmaSem sig := 48
abbrev cc4_sem4_0 : DmaSem sig := 49
abbrev cc4_sem5_0 : DmaSem sig := 50
abbrev cc4_sem5_1 : DmaSem sig := 51
abbrev cc4_sem6_0 : DmaSem sig := 52
abbrev cc4_sem6_1 : DmaSem sig := 53
abbrev cc4_sem7_0 : DmaSem sig := 54
abbrev cc4_sem7_1 : DmaSem sig := 55
abbrev cc4_sem8_0 : DmaSem sig := 56
abbrev cc4_sem8_1 : DmaSem sig := 57

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1024x3072 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x16x512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x16x512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x16x512x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨1, ![16], ![false]⟩

@[reducible] def k2_t1_loop : Scf.Loop 32 :=
  let c0_i32 : BitVec 32 := 0#32
  let c257_i32 : BitVec 32 := 257#32
  let v17 : BitVec 32 := Scalar.addi c0_i32 c257_i32
  let c1_i32 : BitVec 32 := 1#32
  ⟨c0_i32, v17, c1_i32⟩
def k2_off1 (i : grid2.Coords) (k2_t1 : Fin k2_t1_loop.trips) : Fin 2 → Nat :=
  let arg0 : BitVec 32 := BitVec.ofNat 32 (i 0).val
  let v97 : Index := Scalar.indexCast arg0
  let c0_i32 : BitVec 32 := 0#32
  let c1_i32 : BitVec 32 := 1#32
  let arg3 : BitVec 32 := Scf.iv c0_i32 c1_i32 k2_t1
  let v98 : Index := Scalar.indexCast arg3
  ![v97.toNat, v98.toNat]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S16x257 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1x512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev grid3 : Pipeline.Grid := ⟨3, ![2, 8, 16], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg1.toNat, arg0.toNat, v1.toNat, c0_i32_0.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg1.toNat, arg0.toNat, v1.toNat, c0_i32_0.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, arg2.toNat, c0_i32.toNat]

abbrev stage3_0 : Fin 2 → Memref sig .tc .vmem S1x8x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x8x512x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x8x512x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x8x512x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x8x512x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev stage3_5 : Fin 2 → Memref sig .tc .vmem S8x512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false, false]

abbrev stage3_6 : Fin 2 → Memref sig .tc .vmem S1x8x512x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, true]

abbrev grid4 : Pipeline.Grid := ⟨2, ![8, 16], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_8 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x16x512x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S16x128x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S1x512x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 2 → Memref sig .tc .vmem S1x1x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, false]

abbrev stage4_6 : Fin 2 → Memref sig .tc .vmem S1x1x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev stage4_7 : Fin 2 → Memref sig .tc .vmem S1x512x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S1x512x1024 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]
-- ==== KernelAIdeal.lean ====
variable {F : FTy → Type} [FloatOps F] [Named F]
def κ : String → Option EReal := fun
  | "mask" => some ⊥
  | _ => none
-- ==== ReferenceAIdeal.lean ====
abbrev S8x8192x1024 : Shape := ⟨3, ![8, 8192, 1024]⟩
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S2x2x1024 : Shape := ⟨3, ![2, 2, 1024]⟩
abbrev S1x1024x3072 : Shape := ⟨3, ![1, 1024, 3072]⟩
abbrev S1x16x257 : Shape := ⟨3, ![1, 16, 257]⟩
abbrev S1x1024x1024 : Shape := ⟨3, ![1, 1024, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x1x1024 : Shape := ⟨3, ![1, 1, 1024]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S8x1x1024 : Shape := ⟨3, ![8, 1, 1024]⟩
abbrev S1024x3072 : Shape := ⟨2, ![1024, 3072]⟩
abbrev S8x8192x3072 : Shape := ⟨3, ![8, 8192, 3072]⟩
abbrev S8x8192x16x64 : Shape := ⟨4, ![8, 8192, 16, 64]⟩
abbrev S8x16x8192x8192 : Shape := ⟨4, ![8, 16, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x257 : Shape := ⟨2, ![16, 257]⟩
abbrev S8192x8192x1 : Shape := ⟨3, ![8192, 8192, 1]⟩
abbrev S16x8192x8192 : Shape := ⟨3, ![16, 8192, 8192]⟩
abbrev S1x16x8192x8192 : Shape := ⟨4, ![1, 16, 8192, 8192]⟩
abbrev S8x16x8192 : Shape := ⟨3, ![8, 16, 8192]⟩
abbrev S8x16x8192x1 : Shape := ⟨4, ![8, 16, 8192, 1]⟩
abbrev S8x16x64x8192 : Shape := ⟨4, ![8, 16, 64, 8192]⟩
abbrev S1024x1024 : Shape := ⟨2, ![1024, 1024]⟩
abbrev S8x512x1024 : Shape := ⟨3, ![8, 512, 1024]⟩

abbrev nBuf : Space → Nat
  | .hbm => 180
  | .vmem => 0
  | .smem => 0
  | _ => 0

abbrev hbmTy0_0 (i : Nat) : BufTy := match i % 128 with
  | 0 => ⟨S8x8192x1024, .f32⟩
  | 1 => ⟨S8x1024, .f32⟩
  | 2 => ⟨S32x1024, .f32⟩
  | 3 => ⟨S2x1024x6144, .f32⟩
  | 4 => ⟨S2x6144, .f32⟩
  | 5 => ⟨S2x2x1024, .f32⟩
  | 6 => ⟨S1x1024x3072, .f32⟩
  | 7 => ⟨S1x16x257, .f32⟩
  | 8 => ⟨S1x1024x1024, .f32⟩
  | 9 => ⟨S1x1024x6144, .f32⟩
  | 10 => ⟨S1024x6144, .f32⟩
  | 11 => ⟨S8x6144, .f32⟩
  | 12 => ⟨S1x6144, .f32⟩
  | 13 => ⟨S6144, .f32⟩
  | 14 => ⟨S1x6144, .f32⟩
  | 15 => ⟨S8x6144, .f32⟩
  | 16 => ⟨S8x6144, .f32⟩
  | 17 => ⟨S8x1024, .f32⟩
  | 18 => ⟨S8x1024, .f32⟩
  | 19 => ⟨S8x1024, .f32⟩
  | 20 => ⟨S8x1024, .f32⟩
  | 21 => ⟨S8x1024, .f32⟩
  | 22 => ⟨S8x1024, .f32⟩
  | 23 => ⟨S1x1x1024, .f32⟩
  | 24 => ⟨S1024, .f32⟩
  | 25 => ⟨S8x8192x1024, .f32⟩
  | 26 => ⟨S_, .f32⟩
  | 27 => ⟨S8x8192, .f32⟩
  | 28 => ⟨S8x8192x1, .f32⟩
  | 29 => ⟨S_, .f32⟩
  | 30 => ⟨S8x8192x1, .f32⟩
  | 31 => ⟨S8x8192x1, .f32⟩
  | 32 => ⟨S_, .f32⟩
  | 33 => ⟨S8x8192x1, .f32⟩
  | 34 => ⟨S8x8192x1, .f32⟩
  | 35 => ⟨S8x8192x1, .f32⟩
  | 36 => ⟨S8x8192x1024, .f32⟩
  | 37 => ⟨S8x8192x1024, .f32⟩
  | 38 => ⟨S1x1x1024, .f32⟩
  | 39 => ⟨S8x8192x1024, .f32⟩
  | 40 => ⟨S8x8192x1024, .f32⟩
  | 41 => ⟨S8x1x1024, .f32⟩
  | 42 => ⟨S_, .f32⟩
  | 43 => ⟨S8x1x1024, .f32⟩
  | 44 => ⟨S8x1x1024, .f32⟩
  | 45 => ⟨S8x8192x1024, .f32⟩
  | 46 => ⟨S8x8192x1024, .f32⟩
  | 47 => ⟨S8x1x1024, .f32⟩
  | 48 => ⟨S8x8192x1024, .f32⟩
  | 49 => ⟨S8x8192x1024, .f32⟩
  | 50 => ⟨S1024x3072, .f32⟩
  | 51 => ⟨S8x8192x3072, .f32⟩
  | 52 => ⟨S8x8192x1024, .f32⟩
  | 53 => ⟨S8x8192x16x64, .f32⟩
  | 54 => ⟨S8x8192x1024, .f32⟩
  | 55 => ⟨S8x8192x1024, .f32⟩
  | 56 => ⟨S8x8192x16x64, .f32⟩
  | 57 => ⟨S8x8192x16x64, .f32⟩
  | 58 => ⟨S8x16x8192x8192, .f32⟩
  | 59 => ⟨S_, .f32⟩
  | 60 => ⟨S8x16x8192x8192, .f32⟩
  | 61 => ⟨S8x16x8192x8192, .f32⟩
  | 62 => ⟨S8192, .i32⟩
  | 63 => ⟨S8192x1, .i32⟩
  | 64 => ⟨S1x8192, .i32⟩
  | 65 => ⟨S8192x8192, .i32⟩
  | 66 => ⟨S8192x8192, .i32⟩
  | 67 => ⟨S8192x8192, .i32⟩
  | 68 => ⟨S_, .i32⟩
  | 69 => ⟨S_, .i32⟩
  | 70 => ⟨S_, .i32⟩
  | 71 => ⟨S8192x8192, .i32⟩
  | 72 => ⟨S8192x8192, .i32⟩
  | 73 => ⟨S_, .i32⟩
  | 74 => ⟨S8192x8192, .i32⟩
  | 75 => ⟨S8192x8192, .i32⟩
  | 76 => ⟨S_, .i32⟩
  | 77 => ⟨S8192x8192, .i32⟩
  | 78 => ⟨S8192x8192, .i32⟩
  | 79 => ⟨S16x257, .f32⟩
  | 80 => ⟨S_, .i32⟩
  | 81 => ⟨S8192x8192, .i32⟩
  | 82 => ⟨S8192x8192, .i1⟩
  | 83 => ⟨S_, .i32⟩
  | 84 => ⟨S8192x8192, .i32⟩
  | 85 => ⟨S8192x8192, .i32⟩
  | 86 => ⟨S8192x8192, .i32⟩
  | 87 => ⟨S8192x8192x1, .i32⟩
  | 88 => ⟨S16x8192x8192, .f32⟩
  | 89 => ⟨S1x16x8192x8192, .f32⟩
  | 90 => ⟨S8x16x8192x8192, .f32⟩
  | 91 => ⟨S8x16x8192x8192, .f32⟩
  | 92 => ⟨S_, .i32⟩
  | 93 => ⟨S_, .i32⟩
  | 94 => ⟨S8192, .i32⟩
  | 95 => ⟨S8192, .i32⟩
  | 96 => ⟨S8192, .i32⟩
  | 97 => ⟨S_, .i32⟩
  | 98 => ⟨S8192, .i32⟩
  | 99 => ⟨S8192, .i1⟩
  | 100 => ⟨S8192, .i32⟩
  | 101 => ⟨S8192, .i32⟩
  | 102 => ⟨S_, .i32⟩
  | 103 => ⟨S8192, .i32⟩
  | 104 => ⟨S8192, .i1⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S1x8192, .i32⟩
  | 112 => ⟨S8192x8192, .i32⟩
  | 113 => ⟨S8192x8192, .i32⟩
  | 114 => ⟨S8192x8192, .i32⟩
  | 115 => ⟨S_, .i32⟩
  | 116 => ⟨S8192x8192, .i32⟩
  | 117 => ⟨S8192x8192, .i1⟩
  | 118 => ⟨S_, .i32⟩
  | 119 => ⟨S8192x8192, .i32⟩
  | 120 => ⟨S8192x8192, .i1⟩
  | 121 => ⟨S8192x8192, .i1⟩
  | 122 => ⟨S_, .f32⟩
  | 123 => ⟨S_, .f32⟩
  | 124 => ⟨S8x16x8192x8192, .i1⟩
  | 125 => ⟨S8x16x8192x8192, .f32⟩
  | 126 => ⟨S8x16x8192x8192, .f32⟩
  | 127 => ⟨S_, .f32⟩
  | _ => ⟨S8x8192x1024, .f32⟩

abbrev hbmTy0_1 (i : Nat) : BufTy := match i % 128 with
  | 0 => ⟨S8x16x8192, .f32⟩
  | 1 => ⟨S_, .f32⟩
  | 2 => ⟨S8x16x8192, .f32⟩
  | 3 => ⟨S8x16x8192, .f32⟩
  | 4 => ⟨S8x16x8192x1, .f32⟩
  | 5 => ⟨S8x16x8192x8192, .f32⟩
  | 6 => ⟨S8x16x8192x8192, .f32⟩
  | 7 => ⟨S8x16x8192x8192, .f32⟩
  | 8 => ⟨S_, .f32⟩
  | 9 => ⟨S8x16x8192, .f32⟩
  | 10 => ⟨S8x16x8192x1, .f32⟩
  | 11 => ⟨S8x16x8192x8192, .f32⟩
  | 12 => ⟨S8x16x8192x8192, .f32⟩
  | 13 => ⟨S8x16x64x8192, .f32⟩
  | 14 => ⟨S8x8192x16x64, .f32⟩
  | 15 => ⟨S8x1x1024, .f32⟩
  | 16 => ⟨S8x8192x1024, .f32⟩
  | 17 => ⟨S1024x1024, .f32⟩
  | 18 => ⟨S8x8192x1024, .f32⟩
  | 19 => ⟨S8x8192x1024, .f32⟩
  | 20 => ⟨S8x8192x1024, .f32⟩
  | 21 => ⟨S8x8192x1024, .f32⟩
  | 22 => ⟨S1x1x1024, .f32⟩
  | 23 => ⟨S1024, .f32⟩
  | 24 => ⟨S8x8192x1024, .f32⟩
  | 25 => ⟨S_, .f32⟩
  | 26 => ⟨S8x8192, .f32⟩
  | 27 => ⟨S8x8192x1, .f32⟩
  | 28 => ⟨S_, .f32⟩
  | 29 => ⟨S8x8192x1, .f32⟩
  | 30 => ⟨S8x8192x1, .f32⟩
  | 31 => ⟨S_, .f32⟩
  | 32 => ⟨S8x8192x1, .f32⟩
  | 33 => ⟨S8x8192x1, .f32⟩
  | 34 => ⟨S8x8192x1, .f32⟩
  | 35 => ⟨S8x8192x1024, .f32⟩
  | 36 => ⟨S8x8192x1024, .f32⟩
  | 37 => ⟨S1x1x1024, .f32⟩
  | 38 => ⟨S8x8192x1024, .f32⟩
  | 39 => ⟨S8x8192x1024, .f32⟩
  | 40 => ⟨S8x1x1024, .f32⟩
  | 41 => ⟨S_, .f32⟩
  | 42 => ⟨S8x1x1024, .f32⟩
  | 43 => ⟨S8x1x1024, .f32⟩
  | 44 => ⟨S8x8192x1024, .f32⟩
  | 45 => ⟨S8x8192x1024, .f32⟩
  | 46 => ⟨S8x1x1024, .f32⟩
  | 47 => ⟨S8x8192x1024, .f32⟩
  | 48 => ⟨S8x8192x1024, .f32⟩
  | 49 => ⟨S8x8192x1024, .bf16⟩
  | 50 => ⟨S8x512x1024, .f32⟩
  | 51 => ⟨S8x512x1024, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_3 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c : Ref sig .tc := ⟨.hbm, 68, rfl⟩
abbrev main_c_4 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v54 : Ref sig .tc := ⟨.hbm, 75, rfl⟩
abbrev main_c_5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_6 : Ref sig .tc := ⟨.hbm, 80, rfl⟩
abbrev main_v58 : Ref sig .tc := ⟨.hbm, 81, rfl⟩
abbrev main_v59 : Ref sig .tc := ⟨.hbm, 82, rfl⟩
abbrev main_c_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_8 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_c : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_0 : Ref sig .tc := ⟨.hbm, 106, rfl⟩
abbrev main_call1_v12 : Ref sig .tc := ⟨.hbm, 107, rfl⟩
abbrev main_call1_v13 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_9 : Ref sig .tc := ⟨.hbm, 115, rfl⟩
abbrev main_v74 : Ref sig .tc := ⟨.hbm, 116, rfl⟩
abbrev main_v75 : Ref sig .tc := ⟨.hbm, 117, rfl⟩
abbrev main_c_10 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_cst_11 : Ref sig .tc := ⟨.hbm, 122, rfl⟩
abbrev main_call2_v0 : Ref sig .tc := ⟨.hbm, 123, rfl⟩
abbrev main_call2_v1 : Ref sig .tc := ⟨.hbm, 124, rfl⟩
abbrev main_call2_v2 : Ref sig .tc := ⟨.hbm, 125, rfl⟩
abbrev main_v79 : Ref sig .tc := ⟨.hbm, 126, rfl⟩
abbrev main_cst_12 : Ref sig .tc := ⟨.hbm, 127, rfl⟩
abbrev main_v80 : Ref sig .tc := ⟨.hbm, 128, rfl⟩
abbrev main_cst_13 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_14 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_15 : Ref sig .tc := ⟨.hbm, 153, rfl⟩
abbrev main_v103 : Ref sig .tc := ⟨.hbm, 154, rfl⟩
abbrev main_v104 : Ref sig .tc := ⟨.hbm, 155, rfl⟩
abbrev main_cst_16 : Ref sig .tc := ⟨.hbm, 156, rfl⟩
abbrev main_v105 : Ref sig .tc := ⟨.hbm, 157, rfl⟩
abbrev main_v106 : Ref sig .tc := ⟨.hbm, 158, rfl⟩
abbrev main_cst_17 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_18 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩

abbrev nD : Nat := 1
abbrev τ : Topo := Topo.v7x

variable {F : FTy → Type} [FloatOps F]
-- ==== KernelS.lean ====
abbrev S32x32x1024 : Shape := ⟨3, ![32, 32, 1024]⟩
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S2x2x1024 : Shape := ⟨3, ![2, 2, 1024]⟩
abbrev S1x1024x3072 : Shape := ⟨3, ![1, 1024, 3072]⟩
abbrev S40x1024 : Shape := ⟨2, ![40, 1024]⟩
abbrev S_ : Shape := ⟨0, ![]⟩
abbrev S48x1024 : Shape := ⟨2, ![48, 1024]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S48x6144 : Shape := ⟨2, ![48, 6144]⟩
abbrev S1024x1024 : Shape := ⟨2, ![1024, 1024]⟩
abbrev S1x1024 : Shape := ⟨2, ![1, 1024]⟩
abbrev S32x6144 : Shape := ⟨2, ![32, 6144]⟩
abbrev S1x1x1024 : Shape := ⟨3, ![1, 1, 1024]⟩
abbrev S1024 : Shape := ⟨1, ![1024]⟩
abbrev S1024x3072 : Shape := ⟨2, ![1024, 3072]⟩
abbrev S32x1x1024 : Shape := ⟨3, ![32, 1, 1024]⟩
abbrev S32x16x32x128 : Shape := ⟨4, ![32, 16, 32, 128]⟩
abbrev S1x32x1024 : Shape := ⟨3, ![1, 32, 1024]⟩
abbrev S1x16x32x128 : Shape := ⟨4, ![1, 16, 32, 128]⟩
abbrev S32 : Shape := ⟨1, ![32]⟩
abbrev S32x1 : Shape := ⟨2, ![32, 1]⟩
abbrev S32x3072 : Shape := ⟨2, ![32, 3072]⟩
abbrev S32x128 : Shape := ⟨2, ![32, 128]⟩
abbrev S1x1x32x128 : Shape := ⟨4, ![1, 1, 32, 128]⟩

abbrev nBuf : Space → Nat
  | .hbm => 36
  | .vmem => 25
  | .smem => 0
  | _ => 0

abbrev bufTy : (tb : Table) → Fin (tcTables nBuf tb) → BufTy
  | .hbm, ⟨0, _⟩ => ⟨S32x32x1024, .f32⟩
  | .hbm, ⟨1, _⟩ => ⟨S8x1024, .f32⟩
  | .hbm, ⟨2, _⟩ => ⟨S32x1024, .f32⟩
  | .hbm, ⟨3, _⟩ => ⟨S2x1024x6144, .f32⟩
  | .hbm, ⟨4, _⟩ => ⟨S2x6144, .f32⟩
  | .hbm, ⟨5, _⟩ => ⟨S2x2x1024, .f32⟩
  | .hbm, ⟨6, _⟩ => ⟨S1x1024x3072, .f32⟩
  | .hbm, ⟨7, _⟩ => ⟨S40x1024, .f32⟩
  | .hbm, ⟨8, _⟩ => ⟨S_, .i32⟩
  | .hbm, ⟨9, _⟩ => ⟨S_, .f32⟩
  | .hbm, ⟨10, _⟩ => ⟨S48x1024, .f32⟩
  | .hbm, ⟨11, _⟩ => ⟨S1x1024x6144, .f32⟩
  | .hbm, ⟨12, _⟩ => ⟨S1024x6144, .f32⟩
  | .hbm, ⟨13, _⟩ => ⟨S1x6144, .f32⟩
  | .hbm, ⟨14, _⟩ => ⟨S6144, .f32⟩
  | .hbm, ⟨15, _⟩ => ⟨S1x6144, .f32⟩
  | .hbm, ⟨16, _⟩ => ⟨S48x6144, .f32⟩
  | .hbm, ⟨17, _⟩ => ⟨S32x6144, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S32x1024, .f32⟩
  | .hbm, ⟨22, _⟩ => ⟨S32x1024, .f32⟩
  | .hbm, ⟨23, _⟩ => ⟨S32x1024, .f32⟩
  | .hbm, ⟨24, _⟩ => ⟨S1x1x1024, .f32⟩
  | .hbm, ⟨25, _⟩ => ⟨S1024, .f32⟩
  | .hbm, ⟨26, _⟩ => ⟨S1024x3072, .f32⟩
  | .hbm, ⟨27, _⟩ => ⟨S1024x3072, .bf16⟩
  | .hbm, ⟨28, _⟩ => ⟨S1x1024, .f32⟩
  | .hbm, ⟨29, _⟩ => ⟨S32x1x1024, .f32⟩
  | .hbm, ⟨30, _⟩ => ⟨S32x1x1024, .f32⟩
  | .hbm, ⟨31, _⟩ => ⟨S32x16x32x128, .bf16⟩
  | .hbm, ⟨32, _⟩ => ⟨S32x16x32x128, .bf16⟩
  | .hbm, ⟨33, _⟩ => ⟨S32x16x32x128, .bf16⟩
  | .hbm, ⟨34, _⟩ => ⟨S32x32x1024, .f32⟩
  | .hbm, ⟨35, _⟩ => ⟨S32x32x1024, .f32⟩
  | .local _ .vmem, ⟨0, _⟩ => ⟨S48x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S48x1024, .f32⟩
  | .local _ .vmem, ⟨6, _⟩ => ⟨S48x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x3072, .bf16⟩
  | .local _ .vmem, ⟨15, _⟩ => ⟨S1x16x32x128, .bf16⟩
  | .local _ .vmem, ⟨16, _⟩ => ⟨S1x16x32x128, .bf16⟩
  | .local _ .vmem, ⟨17, _⟩ => ⟨S1x16x32x128, .bf16⟩
  | .local _ .vmem, ⟨18, _⟩ => ⟨S1x16x32x128, .bf16⟩
  | .local _ .vmem, ⟨19, _⟩ => ⟨S1x16x32x128, .bf16⟩
  | .local _ .vmem, ⟨20, _⟩ => ⟨S1x16x32x128, .bf16⟩
  | .local _ .vmem, ⟨21, _⟩ => ⟨S1x32x1024, .f32⟩
  | .local _ .vmem, ⟨22, _⟩ => ⟨S1x32x1024, .f32⟩
  | .local _ .vmem, ⟨23, _⟩ => ⟨S1x32x1024, .f32⟩
  | .local _ .vmem, ⟨24, _⟩ => ⟨S1x32x1024, .f32⟩
  | _, _ => ⟨S32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_stg9_0 : Ref sig .tc := ⟨.vmem, 23, rfl⟩
abbrev cc1_stg9_1 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S48x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1024x3072 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x16x32x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x16x32x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x16x32x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x32x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x32x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]
-- ==== ReferenceSIdeal.lean ====
abbrev S32x32x1024 : Shape := ⟨3, ![32, 32, 1024]⟩
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S2x2x1024 : Shape := ⟨3, ![2, 2, 1024]⟩
abbrev S1x1024x3072 : Shape := ⟨3, ![1, 1024, 3072]⟩
abbrev S1x1024x6144 : Shape := ⟨3, ![1, 1024, 6144]⟩
abbrev S1024x6144 : Shape := ⟨2, ![1024, 6144]⟩
abbrev S32x6144 : Shape := ⟨2, ![32, 6144]⟩
abbrev S1x6144 : Shape := ⟨2, ![1, 6144]⟩
abbrev S6144 : Shape := ⟨1, ![6144]⟩
abbrev S1x1x1024 : Shape := ⟨3, ![1, 1, 1024]⟩
abbrev S1024 : Shape := ⟨1, ![1024]⟩
abbrev S_ : Shape := ⟨0, ![]⟩
abbrev S32x32 : Shape := ⟨2, ![32, 32]⟩
abbrev S32x32x1 : Shape := ⟨3, ![32, 32, 1]⟩
abbrev S32x1x1024 : Shape := ⟨3, ![32, 1, 1024]⟩
abbrev S1024x3072 : Shape := ⟨2, ![1024, 3072]⟩
abbrev S32x32x3072 : Shape := ⟨3, ![32, 32, 3072]⟩

abbrev nBuf : Space → Nat
  | .hbm => 52
  | .vmem => 0
  | .smem => 0
  | _ => 0

abbrev bufTy : (tb : Table) → Fin (tcTables nBuf tb) → BufTy
  | .hbm, ⟨0, _⟩ => ⟨S32x32x1024, .f32⟩
  | .hbm, ⟨1, _⟩ => ⟨S8x1024, .f32⟩
  | .hbm, ⟨2, _⟩ => ⟨S32x1024, .f32⟩
  | .hbm, ⟨3, _⟩ => ⟨S2x1024x6144, .f32⟩
  | .hbm, ⟨4, _⟩ => ⟨S2x6144, .f32⟩
  | .hbm, ⟨5, _⟩ => ⟨S2x2x1024, .f32⟩
  | .hbm, ⟨6, _⟩ => ⟨S1x1024x3072, .f32⟩
  | .hbm, ⟨7, _⟩ => ⟨S1x1024x6144, .f32⟩
  | .hbm, ⟨8, _⟩ => ⟨S1024x6144, .f32⟩
  | .hbm, ⟨9, _⟩ => ⟨S32x6144, .f32⟩
  | .hbm, ⟨10, _⟩ => ⟨S1x6144, .f32⟩
  | .hbm, ⟨11, _⟩ => ⟨S6144, .f32⟩
  | .hbm, ⟨12, _⟩ => ⟨S1x6144, .f32⟩
  | .hbm, ⟨13, _⟩ => ⟨S32x6144, .f32⟩
  | .hbm, ⟨14, _⟩ => ⟨S32x6144, .f32⟩
  | .hbm, ⟨15, _⟩ => ⟨S32x1024, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S32x1024, .f32⟩
  | .hbm, ⟨20, _⟩ => ⟨S32x1024, .f32⟩
  | .hbm, ⟨21, _⟩ => ⟨S1x1x1024, .f32⟩
  | .hbm, ⟨22, _⟩ => ⟨S1024, .f32⟩
  | .hbm, ⟨23, _⟩ => ⟨S32x32x1024, .f32⟩
  | .hbm, ⟨24, _⟩ => ⟨S_, .f32⟩
  | .hbm, ⟨25, _⟩ => ⟨S32x32, .f32⟩
  | .hbm, ⟨26, _⟩ => ⟨S32x32x1, .f32⟩
  | .hbm, ⟨27, _⟩ => ⟨S_, .f32⟩
  | .hbm, ⟨28, _⟩ => ⟨S32x32x1, .f32⟩
  | .hbm, ⟨29, _⟩ => ⟨S32x32x1, .f32⟩
  | .hbm, ⟨30, _⟩ => ⟨S_, .f32⟩
  | .hbm, ⟨31, _⟩ => ⟨S32x32x1, .f32⟩
  | .hbm, ⟨32, _⟩ => ⟨S32x32x1, .f32⟩
  | .hbm, ⟨33, _⟩ => ⟨S32x32x1, .f32⟩
  | .hbm, ⟨34, _⟩ => ⟨S32x32x1024, .f32⟩
  | .hbm, ⟨35, _⟩ => ⟨S32x32x1024, .f32⟩
  | .hbm, ⟨36, _⟩ => ⟨S1x1x1024, .f32⟩
  | .hbm, ⟨37, _⟩ => ⟨S32x32x1024, .f32⟩
  | .hbm, ⟨38, _⟩ => ⟨S32x32x1024, .f32⟩
  | .hbm, ⟨39, _⟩ => ⟨S32x1x1024, .f32⟩
  | .hbm, ⟨40, _⟩ => ⟨S_, .f32⟩
  | .hbm, ⟨41, _⟩ => ⟨S32x1x1024, .f32⟩
  | .hbm, ⟨42, _⟩ => ⟨S32x1x1024, .f32⟩
  | .hbm, ⟨43, _⟩ => ⟨S32x32x1024, .f32⟩
  | .hbm, ⟨44, _⟩ => ⟨S32x32x1024, .f32⟩
  | .hbm, ⟨45, _⟩ => ⟨S32x1x1024, .f32⟩
  | .hbm, ⟨46, _⟩ => ⟨S32x32x1024, .f32⟩
  | .hbm, ⟨47, _⟩ => ⟨S32x32x1024, .f32⟩
  | .hbm, ⟨48, _⟩ => ⟨S1024x3072, .f32⟩
  | .hbm, ⟨49, _⟩ => ⟨S32x32x3072, .f32⟩
  | .hbm, ⟨50, _⟩ => ⟨S32x32x1024, .f32⟩
  | .hbm, ⟨51, _⟩ => ⟨S32x32x1024, .f32⟩
  | _, _ => ⟨S32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== KernelY.lean ====
abbrev S8x8192x1024 : Shape := ⟨3, ![8, 8192, 1024]⟩
abbrev S8x1024 : Shape := ⟨2, ![8, 1024]⟩
abbrev S32x32x1024 : Shape := ⟨3, ![32, 32, 1024]⟩
abbrev S32x1024 : Shape := ⟨2, ![32, 1024]⟩
abbrev S1024 : Shape := ⟨1, ![1024]⟩
abbrev S8x1x1024 : Shape := ⟨3, ![8, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S32x1x1024 : Shape := ⟨3, ![32, 1, 1024]⟩
abbrev S1x32x1024 : Shape := ⟨3, ![1, 32, 1024]⟩
abbrev S32 : Shape := ⟨1, ![32]⟩
abbrev S32x1 : Shape := ⟨2, ![32, 1]⟩

abbrev nBuf : Space → Nat
  | .hbm => 13
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S8x8192x1024, .f32⟩
  | .hbm, ⟨3, _⟩ => ⟨S32x32x1024, .f32⟩
  | .hbm, ⟨4, _⟩ => ⟨S32x1024, .f32⟩
  | .hbm, ⟨5, _⟩ => ⟨S32x32x1024, .f32⟩
  | .hbm, ⟨6, _⟩ => ⟨S1024, .f32⟩
  | .hbm, ⟨7, _⟩ => ⟨S8x1x1024, .f32⟩
  | .hbm, ⟨8, _⟩ => ⟨S1x1024, .f32⟩
  | .hbm, ⟨9, _⟩ => ⟨S8x8192x1024, .f32⟩
  | .hbm, ⟨10, _⟩ => ⟨S32x1x1024, .f32⟩
  | .hbm, ⟨11, _⟩ => ⟨S1x1024, .f32⟩
  | .hbm, ⟨12, _⟩ => ⟨S32x32x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x1024, .f32⟩
  | .local _ .vmem, ⟨16, _⟩ => ⟨S1x32x1024, .f32⟩
  | .local _ .vmem, ⟨17, _⟩ => ⟨S1x32x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![32, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x32x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x32x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceYIdeal.lean ====
abbrev S8x8192x1024 : Shape := ⟨3, ![8, 8192, 1024]⟩
abbrev S8x1024 : Shape := ⟨2, ![8, 1024]⟩
abbrev S32x32x1024 : Shape := ⟨3, ![32, 32, 1024]⟩
abbrev S32x1024 : Shape := ⟨2, ![32, 1024]⟩
abbrev S1024 : Shape := ⟨1, ![1024]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S32x1x1024 : Shape := ⟨3, ![32, 1, 1024]⟩
abbrev S32x32 : Shape := ⟨2, ![32, 32]⟩
abbrev S32x32x1 : Shape := ⟨3, ![32, 32, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x1024, .f32⟩
  | .hbm, ⟨2, _⟩ => ⟨S8x8192x1024, .f32⟩
  | .hbm, ⟨3, _⟩ => ⟨S32x32x1024, .f32⟩
  | .hbm, ⟨4, _⟩ => ⟨S32x1024, .f32⟩
  | .hbm, ⟨5, _⟩ => ⟨S32x32x1024, .f32⟩
  | .hbm, ⟨6, _⟩ => ⟨S1024, .f32⟩
  | .hbm, ⟨7, _⟩ => ⟨S8x1x1024, .f32⟩
  | .hbm, ⟨8, _⟩ => ⟨S8x8192x1024, .f32⟩
  | .hbm, ⟨9, _⟩ => ⟨S8x8192x1024, .f32⟩
  | .hbm, ⟨10, _⟩ => ⟨S8x8192x1024, .f32⟩
  | .hbm, ⟨11, _⟩ => ⟨S8x8192x1024, .f32⟩
  | .hbm, ⟨12, _⟩ => ⟨S_, .f32⟩
  | .hbm, ⟨13, _⟩ => ⟨S8x8192, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S_, .f32⟩
  | .hbm, ⟨19, _⟩ => ⟨S8x8192x1, .f32⟩
  | .hbm, ⟨20, _⟩ => ⟨S8x8192x1, .f32⟩
  | .hbm, ⟨21, _⟩ => ⟨S8x8192x1, .f32⟩
  | .hbm, ⟨22, _⟩ => ⟨S8x8192x1024, .f32⟩
  | .hbm, ⟨23, _⟩ => ⟨S8x8192x1024, .f32⟩
  | .hbm, ⟨24, _⟩ => ⟨S1x1x1024, .f32⟩
  | .hbm, ⟨25, _⟩ => ⟨S8x8192x1024, .f32⟩
  | .hbm, ⟨26, _⟩ => ⟨S8x8192x1024, .f32⟩
  | .hbm, ⟨27, _⟩ => ⟨S32x1x1024, .f32⟩
  | .hbm, ⟨28, _⟩ => ⟨S32x32x1024, .f32⟩
  | .hbm, ⟨29, _⟩ => ⟨S32x32x1024, .f32⟩
  | .hbm, ⟨30, _⟩ => ⟨S32x32x1024, .f32⟩
  | .hbm, ⟨31, _⟩ => ⟨S32x32x1024, .f32⟩
  | .hbm, ⟨32, _⟩ => ⟨S_, .f32⟩
  | .hbm, ⟨33, _⟩ => ⟨S32x32, .f32⟩
  | .hbm, ⟨34, _⟩ => ⟨S32x32x1, .f32⟩
  | .hbm, ⟨35, _⟩ => ⟨S_, .f32⟩
  | .hbm, ⟨36, _⟩ => ⟨S32x32x1, .f32⟩
  | .hbm, ⟨37, _⟩ => ⟨S32x32x1, .f32⟩
  | .hbm, ⟨38, _⟩ => ⟨S_, .f32⟩
  | .hbm, ⟨39, _⟩ => ⟨S32x32x1, .f32⟩
  | .hbm, ⟨40, _⟩ => ⟨S32x32x1, .f32⟩
  | .hbm, ⟨41, _⟩ => ⟨S32x32x1, .f32⟩
  | .hbm, ⟨42, _⟩ => ⟨S32x32x1024, .f32⟩
  | .hbm, ⟨43, _⟩ => ⟨S32x32x1024, .f32⟩
  | .hbm, ⟨44, _⟩ => ⟨S1x1x1024, .f32⟩
  | .hbm, ⟨45, _⟩ => ⟨S32x32x1024, .f32⟩
  | .hbm, ⟨46, _⟩ => ⟨S32x32x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Proof.Stretch.lean ====
/- The host operations between the regions, read entry by entry at any contents. -/
module

public import proofs.«01_k».proof.Proof.Gen.KernelIdeal.Frame
public import Idealize.ShloMosaic.Lib.Pipeline.ValueKit

@[expose] public section

set_option maxRecDepth 16384
noncomputable section
open Idealize.ShloMosaic Idealize.ShloMosaic.TcCoe Idealize.SL.Sem
namespace Cert.KernelIdeal.Stretch
open Cert.KernelIdeal Cert.KernelIdeal.Gen

variable (V : Valuation τ sig (Elt Ideal))

/-- A row of 1024 as a 1 x 1024 array. -/
theorem row (x : FVec Ideal S1024 .f32) (k : Fin 1024) : shapeCast S1x1024 x shapeCasts_S1024_S1x1024 (ix2 0 k) = x (ix1 k) := by
  pointwise
/-- An 8 x 1024 array as 8 x 1 x 1024. -/
theorem rows (x : FVec Ideal S8x1024 .f32) (b : Fin 8) (k : Fin 1024) :
    shapeCast S8x1x1024 x shapeCasts_S8x1024_S8x1x1024 (ix3 b 0 k) = x (ix2 b k) := by
  pointwise

/-- The padding value. -/
abbrev fill : FVec Ideal S_ .f32 := sitofp .f32 (constantI S_ 32 0#32)
theorem fill_zero : FloatOps.sitofp (F := Ideal) .f32 0#32 = (0 : EReal) := by
  show ((((0#32 : BitVec 32).toInt : ℤ) : ℝ) : EReal) = 0
  simp
theorem pad_w (x : FVec Ideal S1024x16 .f32) (k : Fin 1024) (n : Fin 128) :
    pad S1024x128 ![0, 0] ![0, 112] ![0, 0] x fill pads_S1024x16_S1024x128_000_01120 h_S_ (ix2 k n)
      = if h : n.val < 16 then x (ix2 k ⟨n.val, h⟩) else 0 := by
  pointwise
  rw [fill_zero]
theorem pad_b (x : FVec Ideal S16 .f32) (n : Fin 128) :
    pad S128 ![0] ![112] ![0] x fill pads_S16_S128_01120 h_S_ (ix1 n) = if h : n.val < 16 then x (ix1 ⟨n.val, h⟩) else 0 := by
  pointwise
  rw [fill_zero]
theorem pad_o (x : FVec Ideal S1024x1024 .f32) (h : Fin 16) (d : Fin 128) (n : Fin 1024) :
    pad S16x128x1024 ![0, 0, 0] ![0, 64, 0] ![0, 0, 0] (shapeCast S16x64x1024 x shapeCasts_S1024x1024_S16x64x1024) fill pads_S16x64x1024_S16x128x1024_000_0640_000 h_S_ (ix3 h d n)
      = if hd : d.val < 64 then x (ix2 ⟨h.val * 64 + d.val, by omega⟩ n) else 0 := by
  pointwise
  rw [fill_zero]
theorem row_b (x : FVec Ideal S128 .f32) (n : Fin 128) : shapeCast S1x128 x shapeCasts_S128_S1x128 (ix2 0 n) = x (ix1 n) := by
  pointwise

theorem s1 : StableHlo.after hostOps0 V (Proc.devRef .tc main_c) = constantI S_ 32 0#32 := by
  after_results
theorem s2 (h : V (Proc.devRef .tc main_c) = constantI S_ 32 0#32) (k : Fin 1024) (n : Fin 128) :
    (show FVec Ideal S1024x128 .f32 from StableHlo.after hostOps0_1 V (Proc.devRef .tc main_v0)) (ix2 k n)
      = if h : n.val < 16 then (show FVec Ideal S1024x16 .f32 from V (Proc.devRef .tc main_arg12)) (ix2 k ⟨n.val, h⟩) else 0 := by
  after_results
  rw [h]
  exact pad_w _ k n
theorem s3 : (show FVec Ideal S1024x128 .bf16 from StableHlo.after hostOps0_2 V (Proc.devRef .tc main_v1)) = (show FVec Ideal S1024x128 .f32 from V (Proc.devRef .tc main_v0)) := by
  after_results
  rfl
theorem s3' : StableHlo.after hostOps0_2 V (Proc.devRef .tc main_c_0) = constantI S_ 32 0#32 := by
  after_results
theorem s4 (h : V (Proc.devRef .tc main_c_0) = constantI S_ 32 0#32) (n : Fin 128) :
    (show FVec Ideal S128 .f32 from StableHlo.after hostOps0_3 V (Proc.devRef .tc main_v2)) (ix1 n)
      = if h : n.val < 16 then (show FVec Ideal S16 .f32 from V (Proc.devRef .tc main_arg13)) (ix1 ⟨n.val, h⟩) else 0 := by
  after_results
  rw [h]
  exact pad_b _ n
theorem s5_v3 (k : Fin 1024) : (show FVec Ideal S1x1024 .f32 from StableHlo.after hostOps0_4 V (Proc.devRef .tc main_v3)) (ix2 0 k)
    = (show FVec Ideal S1024 .f32 from V (Proc.devRef .tc main_arg10)) (ix1 k) := by
  after_results
  exact row _ k
theorem s5_v6 (n : Fin 128) : (show FVec Ideal S1x128 .f32 from StableHlo.after hostOps0_4 V (Proc.devRef .tc main_v6)) (ix2 0 n)
    = (show FVec Ideal S128 .f32 from V (Proc.devRef .tc main_v2)) (ix1 n) := by
  after_results
  exact row_b _ n

theorem s5_v4 (b : Fin 8) (k : Fin 1024) : (show FVec Ideal S8x1x1024 .f32 from StableHlo.after hostOps0_4 V (Proc.devRef .tc main_v4)) (ix3 b 0 k)
    = (show FVec Ideal S8x1024 .f32 from V (Proc.devRef .tc main_arg6)) (ix2 b k) := by
  after_results
  exact rows _ b k
theorem s5_v5 (b : Fin 8) (k : Fin 1024) : (show FVec Ideal S8x1x1024 .f32 from StableHlo.after hostOps0_4 V (Proc.devRef .tc main_v5)) (ix3 b 0 k)
    = (show FVec Ideal S8x1024 .f32 from V (Proc.devRef .tc main_arg7)) (ix2 b k) := by
  after_results
  exact rows _ b k
theorem s8_v9 : (show FVec Ideal S1024x2048 .bf16 from StableHlo.after hostOps2 V (Proc.devRef .tc main_v9)) = (show FVec Ideal S1024x2048 .f32 from V (Proc.devRef .tc main_arg11)) := by
  after_results
  rfl
theorem s8_v10 : (show FVec Ideal S1024x1024 .bf16 from StableHlo.after hostOps2 V (Proc.devRef .tc main_v10)) = (show FVec Ideal S1024x1024 .f32 from V (Proc.devRef .tc main_arg14)) := by
  after_results
  rfl
theorem s8_v11 (k : Fin 1024) : (show FVec Ideal S1x1024 .f32 from StableHlo.after hostOps2 V (Proc.devRef .tc main_v11)) (ix2 0 k)
    = (show FVec Ideal S1024 .f32 from V (Proc.devRef .tc main_arg10)) (ix1 k) := by
  after_results
  exact row _ k
theorem s8_v12 (b : Fin 8) (k : Fin 1024) : (show FVec Ideal S8x1x1024 .f32 from StableHlo.after hostOps2 V (Proc.devRef .tc main_v12)) (ix3 b 0 k)
    = (show FVec Ideal S8x1024 .f32 from V (Proc.devRef .tc main_arg6)) (ix2 b k) := by
  after_results
  exact rows _ b k
theorem s8_v13 (b : Fin 8) (k : Fin 1024) : (show FVec Ideal S8x1x1024 .f32 from StableHlo.after hostOps2 V (Proc.devRef .tc main_v13)) (ix3 b 0 k)
    = (show FVec Ideal S8x1024 .f32 from V (Proc.devRef .tc main_arg7)) (ix2 b k) := by
  after_results
  exact rows _ b k
theorem s8_v14 (k : Fin 1024) : (show FVec Ideal S1x1024 .f32 from StableHlo.after hostOps2 V (Proc.devRef .tc main_v14)) (ix2 0 k)
    = (show FVec Ideal S1024 .f32 from V (Proc.devRef .tc main_arg8)) (ix1 k) := by
  after_results
  exact row _ k
theorem s8_v15 (b : Fin 8) (k : Fin 1024) : (show FVec Ideal S8x1x1024 .f32 from StableHlo.after hostOps2 V (Proc.devRef .tc main_v15)) (ix3 b 0 k)
    = (show FVec Ideal S8x1024 .f32 from V (Proc.devRef .tc main_arg1)) (ix2 b k) := by
  after_results
  exact rows _ b k
theorem s8_v16 (b : Fin 8) (k : Fin 1024) : (show FVec Ideal S8x1x1024 .f32 from StableHlo.after hostOps2 V (Proc.devRef .tc main_v16)) (ix3 b 0 k)
    = (show FVec Ideal S8x1024 .f32 from V (Proc.devRef .tc main_arg2)) (ix2 b k) := by
  after_results
  exact rows _ b k
theorem s11_v19 : (show FVec Ideal S16x64x1024 .f32 from StableHlo.after hostOps4 V (Proc.devRef .tc main_v19))
    = shapeCast S16x64x1024 (show FVec Ideal S1024x1024 .f32 from V (Proc.devRef .tc main_arg15)) shapeCasts_S1024x1024_S16x64x1024 := by
  after_results
  rfl
theorem s11_c : StableHlo.after hostOps4 V (Proc.devRef .tc main_c_1) = constantI S_ 32 0#32 := by
  after_results
theorem s12_v20 (hc : V (Proc.devRef .tc main_c_1) = constantI S_ 32 0#32) (x : FVec Ideal S1024x1024 .f32)
    (hx : (show FVec Ideal S16x64x1024 .f32 from V (Proc.devRef .tc main_v19)) = shapeCast S16x64x1024 x shapeCasts_S1024x1024_S16x64x1024)
    (h : Fin 16) (d : Fin 128) (n : Fin 1024) :
    (show FVec Ideal S16x128x1024 .f32 from StableHlo.after hostOps4_1 V (Proc.devRef .tc main_v20)) (ix3 h d n)
      = if hd : d.val < 64 then x (ix2 ⟨h.val * 64 + d.val, by omega⟩ n) else 0 := by
  after_results
  rw [hc]
  refine Eq.trans ?_ (pad_o x h d n)
  rw [← hx]
  rfl
theorem s13_v21 : (show FVec Ideal S16x128x1024 .bf16 from StableHlo.after hostOps4_2 V (Proc.devRef .tc main_v21)) = (show FVec Ideal S16x128x1024 .f32 from V (Proc.devRef .tc main_v20)) := by
  after_results
  rfl
theorem s13_v22 (b : Fin 8) (k : Fin 1024) : (show FVec Ideal S8x1x1024 .f32 from StableHlo.after hostOps4_2 V (Proc.devRef .tc main_v22)) (ix3 b 0 k)
    = (show FVec Ideal S8x1024 .f32 from V (Proc.devRef .tc main_arg3)) (ix2 b k) := by
  after_results
  exact rows _ b k
theorem s13_v23 (k : Fin 1024) : (show FVec Ideal S1x1024 .f32 from StableHlo.after hostOps4_2 V (Proc.devRef .tc main_v23)) (ix2 0 k)
    = (show FVec Ideal S1024 .f32 from V (Proc.devRef .tc main_arg9)) (ix1 k) := by
  after_results
  exact row _ k
theorem s13_v24 (b : Fin 8) (k : Fin 1024) : (show FVec Ideal S8x1x1024 .f32 from StableHlo.after hostOps4_2 V (Proc.devRef .tc main_v24)) (ix3 b 0 k)
    = (show FVec Ideal S8x1024 .f32 from V (Proc.devRef .tc main_arg4)) (ix2 b k) := by
  after_results
  exact rows _ b k
theorem s13_v25 (b : Fin 8) (k : Fin 1024) : (show FVec Ideal S8x1x1024 .f32 from StableHlo.after hostOps4_2 V (Proc.devRef .tc main_v25)) (ix3 b 0 k)
    = (show FVec Ideal S8x1024 .f32 from V (Proc.devRef .tc main_arg5)) (ix2 b k) := by
  after_results
  exact rows _ b k
theorem cut (x : FVec Ideal S8x8192x128 .f32) (b : Fin 8) (t : Fin 8192) (n : Fin 16) :
    extractStridedSlice S8x8192x16 ![0, 0, 0] x slices_S8x8192x128_S8x8192x16_0_0_0 (ix3 b t n) = x (ix3 b t ⟨n.val, by omega⟩) := by
  pointwise
theorem s15_v27 (b : Fin 8) (t : Fin 8192) (n : Fin 16) :
    (show FVec Ideal S8x8192x16 .f32 from StableHlo.after hostOps5 V (Proc.devRef .tc main_v27)) (ix3 b t n)
      = (show FVec Ideal S8x8192x128 .f32 from V (Proc.devRef .tc main_v7)) (ix3 b t ⟨n.val, by omega⟩) := by
  after_results
  exact cut _ b t n

end Cert.KernelIdeal.Stretch
-- ==== Proof.Spec.lean ====
module

public import proofs.«01_k».proof.Proof.Gen.KernelIdeal.Frame
public import Idealize.ShloMosaic.Lib.Pipeline.ValueKit

@[expose] public section

set_option maxRecDepth 16384
noncomputable section
open Idealize.ShloMosaic
namespace Cert.Spec

/-- One entry of a normalised row: the row over the root of its mean square. -/
def nrm (x : Fin 1024 → EReal) (d : Fin 1024) : EReal :=
  x d * Ideal.rsqrt (Ideal.div (∑ k, x k * x k) (Ideal.ofBits .f32 0x44800000#32) + Ideal.ofBits .f32 0x358637BD#32)

/-- One entry of a normalised row, scaled and shifted. -/
def mod (x g sc sh : Fin 1024 → EReal) (d : Fin 1024) : EReal :=
  nrm x d * g d * (1 + sc d) + sh d

/-- The logarithm of the sigmoid as the kernel writes it. -/
def lsig (z : EReal) : EReal := min z 0 - Ideal.log1p (Ideal.exp (0 - FloatOps.absf (F := Ideal) (φ := .f32) z))

end Cert.Spec
-- ==== Proof.Layer.lean ====
/- The mixer layer as mathematics, over its sixteen arguments: the modulated norm, the projections, the gate, its
   running sum, the causal weighting, the residual and the second norm. -/
module

public import proofs.«01_k».proof.Proof.Spec

@[expose] public section

noncomputable section
open Idealize.ShloMosaic
namespace Cert.Layer
open Cert.Spec

/-- The sixteen arguments. -/
structure Args where
  x : FVec Ideal ⟨3, ![8, 8192, 1024]⟩ .f32
  shift_m : FVec Ideal ⟨2, ![8, 1024]⟩ .f32
  scale_m : FVec Ideal ⟨2, ![8, 1024]⟩ .f32
  gate_m : FVec Ideal ⟨2, ![8, 1024]⟩ .f32
  shift_c : FVec Ideal ⟨2, ![8, 1024]⟩ .f32
  scale_c : FVec Ideal ⟨2, ![8, 1024]⟩ .f32
  shift_kv : FVec Ideal ⟨2, ![8, 1024]⟩ .f32
  scale_kv : FVec Ideal ⟨2, ![8, 1024]⟩ .f32
  g_mix : FVec Ideal ⟨1, ![1024]⟩ .f32
  g_ffn : FVec Ideal ⟨1, ![1024]⟩ .f32
  g_kv : FVec Ideal ⟨1, ![1024]⟩ .f32
  w_kv : FVec Ideal ⟨2, ![1024, 2048]⟩ .f32
  w_f : FVec Ideal ⟨2, ![1024, 16]⟩ .f32
  b_f : FVec Ideal ⟨1, ![16]⟩ .f32
  w_q : FVec Ideal ⟨2, ![1024, 1024]⟩ .f32
  w_o : FVec Ideal ⟨2, ![1024, 1024]⟩ .f32

variable (A : Args)

/-- The row of layer B's keys and values, modulated. -/
def hkv (b : Fin 8) (t : Fin 8192) (d : Fin 1024) : EReal :=
  mod (fun k => A.x (ix3 b t k)) (fun k => A.g_kv (ix1 k)) (fun k => A.scale_kv (ix2 b k)) (fun k => A.shift_kv (ix2 b k)) d
/-- The row of the queries, modulated. -/
def hq (b : Fin 8) (t : Fin 8192) (d : Fin 1024) : EReal :=
  mod (fun k => A.x (ix3 b t k)) (fun k => A.g_mix (ix1 k)) (fun k => A.scale_m (ix2 b k)) (fun k => A.shift_m (ix2 b k)) d
/-- Keys (columns below 1024) and values. -/
def kv (b : Fin 8) (t : Fin 8192) (n : Fin 2048) : EReal := ∑ d, hkv A b t d * A.w_kv (ix2 d n)
/-- Queries. -/
def q (b : Fin 8) (t : Fin 8192) (n : Fin 1024) : EReal := ∑ d, hq A b t d * A.w_q (ix2 d n)
/-- The forget gate before the sigmoid. -/
def z (b : Fin 8) (t : Fin 8192) (n : Fin 16) : EReal := (∑ d, hkv A b t d * A.w_f (ix2 d n)) + A.b_f (ix1 n)
/-- The log of the forget gate. -/
def lf (b : Fin 8) (t : Fin 8192) (n : Fin 16) : EReal := lsig (z A b t n)
/-- Its running sum. -/
def cum (b : Fin 8) (t : Fin 8192) (n : Fin 16) : EReal :=
  ∑ m ∈ Finset.univ.filter (fun m : Fin 8192 => m.val < t.val + 1), lf A b m n
/-- Column `d` of head `h` among 1024. -/
def col (h : Fin 16) (d : Fin 64) : Fin 1024 := ⟨h.val * 64 + d.val, by omega⟩
/-- The key's column. -/
def kcol (n : Fin 1024) : Fin 2048 := ⟨n.val, by omega⟩
/-- The value's column. -/
def vcol (n : Fin 1024) : Fin 2048 := ⟨1024 + n.val, by omega⟩
/-- The score of query `t` and key `i`. -/
def logit (b : Fin 8) (h : Fin 16) (t i : Fin 8192) : EReal :=
  if i.val ≤ t.val then
    (∑ d : Fin 64, q A b t (col h d) * kv A b i (kcol (col h d))) * Ideal.ofBits .f32 0x3E000000#32 + cum A b t h - cum A b i h
  else ⊥
/-- The exponential of a score less the largest. -/
def ex (b : Fin 8) (h : Fin 16) (t i : Fin 8192) : EReal :=
  Ideal.exp (logit A b h t i - Finset.univ.sup (logit A b h t))
/-- The weighted values. -/
def o (b : Fin 8) (t : Fin 8192) (h : Fin 16) (d : Fin 64) : EReal :=
  ∑ i, kv A b i (vcol (col h d)) * Ideal.div (ex A b h t i) (∑ i', ex A b h t i')
/-- The residual's row. -/
def y (b : Fin 8) (t : Fin 8192) (n : Fin 1024) : EReal :=
  A.x (ix3 b t n) + A.gate_m (ix2 b n) * ∑ h : Fin 16, ∑ d : Fin 64, o A b t h d * A.w_o (ix2 (col h d) n)
/-- The residual's row, normalised and modulated. -/
def yn (b : Fin 8) (t : Fin 8192) (n : Fin 1024) : EReal :=
  mod (y A b t) (fun k => A.g_ffn (ix1 k)) (fun k => A.scale_c (ix2 b k)) (fun k => A.shift_c (ix2 b k)) n

end Cert.Layer
-- ==== Proof.Reals.lean ====
/- Extended reals that are real numbers: the operations that keep them so. -/
module

public import Idealize.ShloMosaic.PureOps.Ideal

@[expose] public section

noncomputable section

namespace Cert.Reals

open Idealize.ShloMosaic

/-- A real number among the extended reals. -/
def R (x : EReal) : Prop := ∃ r : ℝ, x = r

theorem R.coe (r : ℝ) : R (r : EReal) := ⟨r, rfl⟩
theorem R.zero : R 0 := ⟨0, rfl⟩
theorem R.one : R 1 := ⟨1, rfl⟩
theorem R.add {x y : EReal} (hx : R x) (hy : R y) : R (x + y) := by
  obtain ⟨a, rfl⟩ := hx; obtain ⟨b, rfl⟩ := hy; exact ⟨a + b, (EReal.coe_add _ _).symm⟩
theorem R.sub {x y : EReal} (hx : R x) (hy : R y) : R (x - y) := by
  obtain ⟨a, rfl⟩ := hx; obtain ⟨b, rfl⟩ := hy; exact ⟨a - b, (EReal.coe_sub _ _).symm⟩
theorem R.mul {x y : EReal} (hx : R x) (hy : R y) : R (x * y) := by
  obtain ⟨a, rfl⟩ := hx; obtain ⟨b, rfl⟩ := hy; exact ⟨a * b, (EReal.coe_mul _ _).symm⟩
theorem R.sum {ι : Type} {s : Finset ι} {f : ι → EReal} (h : ∀ i ∈ s, R (f i)) : R (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))
theorem R.ne_top {x : EReal} (h : R x) : x ≠ ⊤ := by obtain ⟨a, rfl⟩ := h; exact EReal.coe_ne_top a
theorem R.ne_bot {x : EReal} (h : R x) : x ≠ ⊥ := by obtain ⟨a, rfl⟩ := h; exact EReal.coe_ne_bot a
theorem R.sub_self {x : EReal} (h : R x) : x - x = 0 := by
  obtain ⟨a, rfl⟩ := h; rw [← EReal.coe_sub, _root_.sub_self]; rfl
theorem R.of_ne {x : EReal} (h : x ≠ ⊤) (h' : x ≠ ⊥) : R x := ⟨x.toReal, (EReal.coe_toReal h h').symm⟩

end Cert.Reals
-- ==== Proof.Finite.lean ====
/- Over arguments that are real numbers the layer's rows, projections, gate and running sum are real numbers. -/
module

public import proofs.«01_k».proof.Proof.Layer
public import proofs.«01_k».proof.Proof.Reals

@[expose] public section

noncomputable section
open Idealize.ShloMosaic
namespace Cert.Layer
open Cert.Spec Cert.Reals

/-- The arrays behind the scores and values hold real numbers. -/
structure Real (A : Args) : Prop where
  x : ∀ j, R (A.x j)
  shift_m : ∀ j, R (A.shift_m j)
  scale_m : ∀ j, R (A.scale_m j)
  shift_kv : ∀ j, R (A.shift_kv j)
  scale_kv : ∀ j, R (A.scale_kv j)
  g_mix : ∀ j, R (A.g_mix j)
  g_kv : ∀ j, R (A.g_kv j)
  w_kv : ∀ j, R (A.w_kv j)
  w_f : ∀ j, R (A.w_f j)
  b_f : ∀ j, R (A.b_f j)
  w_q : ∀ j, R (A.w_q j)

/-- The width as a word is a positive real. -/
theorem width : ∃ r : ℝ, 0 < r ∧ Ideal.ofBits .f32 0x44800000#32 = (r : EReal) :=
  ⟨8388608 * (1 / 8192), by norm_num, by simp [Ideal.ofBits, Ideal.ieee]; norm_num⟩
/-- The root's guard as a word is a positive real. -/
theorem guard : ∃ r : ℝ, 0 < r ∧ Ideal.ofBits .f32 0x358637BD#32 = (r : EReal) :=
  ⟨8796093 * (1 / 8796093022208), by norm_num, by simp [Ideal.ofBits, Ideal.ieee]; norm_num⟩
/-- The scores' scale as a word is a real. -/
theorem scale : R (Ideal.ofBits .f32 0x3E000000#32) := ⟨8388608 * (1 / 67108864), by simp [Ideal.ofBits, Ideal.ieee]; norm_num⟩
theorem one_word : Ideal.ofBits .f32 0x3F800000#32 = (1 : EReal) := by
  simp [Ideal.ofBits, Ideal.ieee]; rw [← EReal.coe_mul]; norm_num

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem nrm_real {x : Fin 1024 → EReal} (hx : ∀ d, R (x d)) (d : Fin 1024) : R (nrm x d) := by
  obtain ⟨f, hf⟩ : ∃ f : Fin 1024 → ℝ, ∀ d, x d = f d := ⟨fun d => (hx d).choose, fun d => (hx d).choose_spec⟩
  obtain ⟨w, hw, ew⟩ := width
  obtain ⟨e, he, ee⟩ := guard
  unfold nrm
  refine (hx d).mul ?_
  have hs : (∑ k, x k * x k) = ((∑ k, f k * f k : ℝ) : EReal) := by
    rw [← sum_coe]
    exact Finset.sum_congr rfl fun k _ => by rw [hf k, EReal.coe_mul]
  have hp : 0 ≤ ∑ k, f k * f k := Finset.sum_nonneg fun k _ => mul_self_nonneg _
  have hq : 0 < (∑ k, f k * f k) * (1 / w) + e := by positivity
  rw [hs, ew, ee, Ideal.div_coe hw.ne', ← EReal.coe_mul, ← EReal.coe_add, Ideal.rsqrt_coe, if_neg (not_lt.2 hq.le), if_neg hq.ne']
  exact R.coe _

theorem mod_real {x g sc sh : Fin 1024 → EReal} (hx : ∀ d, R (x d)) (hg : ∀ d, R (g d)) (hc : ∀ d, R (sc d)) (hs : ∀ d, R (sh d))
    (d : Fin 1024) : R (mod x g sc sh d) :=
  (((nrm_real hx d).mul (hg d)).mul (R.one.add (hc d))).add (hs d)

theorem lsig_real {z : EReal} (hz : R z) : R (lsig z) := by
  obtain ⟨r, rfl⟩ := hz
  unfold lsig
  have hb : (FloatOps.absf (F := Ideal) (φ := .f32) (r : EReal) : EReal) = ((max r (-r) : ℝ) : EReal) := by
    show max (r : EReal) (-(r : EReal)) = _
    rw [← EReal.coe_neg, EReal.coe_strictMono.monotone.map_max]
  have hp : ¬ (1 + Real.exp (-max r (-r)) ≤ 0) := not_le.2 (by have := Real.exp_pos (-max r (-r)); linarith)
  have hl : Ideal.log1p (Ideal.exp (-((max r (-r) : ℝ) : EReal))) = ((Real.log (1 + Real.exp (-max r (-r))) : ℝ) : EReal) := by
    rw [← EReal.coe_neg, Ideal.exp_coe]
    unfold Ideal.log1p
    rw [show (1 : EReal) + ((Real.exp (-max r (-r)) : ℝ) : EReal) = ((1 + Real.exp (-max r (-r)) : ℝ) : EReal) by
      rw [EReal.coe_add]; rfl, Ideal.log_coe, if_neg hp]
  rw [hb, zero_sub, hl, show (0 : EReal) = ((0 : ℝ) : EReal) from rfl, ← EReal.coe_strictMono.monotone.map_min]
  exact (R.coe _).sub (R.coe _)

variable {A : Args} (hA : Real A)
include hA

theorem hkv_real (b : Fin 8) (t : Fin 8192) (d : Fin 1024) : R (hkv A b t d) :=
  mod_real (fun _ => hA.x _) (fun _ => hA.g_kv _) (fun _ => hA.scale_kv _) (fun _ => hA.shift_kv _) d
theorem hq_real (b : Fin 8) (t : Fin 8192) (d : Fin 1024) : R (hq A b t d) :=
  mod_real (fun _ => hA.x _) (fun _ => hA.g_mix _) (fun _ => hA.scale_m _) (fun _ => hA.shift_m _) d
theorem kv_real (b : Fin 8) (t : Fin 8192) (n : Fin 2048) : R (kv A b t n) :=
  R.sum fun d _ => (hkv_real hA b t d).mul (hA.w_kv _)
theorem q_real (b : Fin 8) (t : Fin 8192) (n : Fin 1024) : R (q A b t n) :=
  R.sum fun d _ => (hq_real hA b t d).mul (hA.w_q _)
theorem z_real (b : Fin 8) (t : Fin 8192) (n : Fin 16) : R (z A b t n) :=
  (R.sum fun d _ => (hkv_real hA b t d).mul (hA.w_f _)).add (hA.b_f _)
theorem lf_real (b : Fin 8) (t : Fin 8192) (n : Fin 16) : R (lf A b t n) := lsig_real (z_real hA b t n)
theorem cum_real (b : Fin 8) (t : Fin 8192) (n : Fin 16) : R (cum A b t n) := R.sum fun m _ => lf_real hA b m n

end Cert.Layer
-- ==== Proof.NormProj.lean ====
module

public import proofs.«01_k».proof.Proof.Spec

@[expose] public section

set_option maxRecDepth 16384
noncomputable section
open Idealize.ShloMosaic Idealize.ShloMosaic.TcCoe Idealize.SL.Sem
open Idealize.ShloMosaic.Pipeline (Dat)
namespace Cert.KernelIdeal.NormProj
open Cert.KernelIdeal Cert.KernelIdeal.Gen Cert.Spec
variable (V : (c : Dev nD) → (b : Ref sig .tc) → Buf (Elt Ideal) ((c : Thread nD τ).loc b))

/-- The log gates of every token: the modulated norm, projected, plus the bias, through the log sigmoid. -/
def G (x : FVec Ideal S8x8192x1024 .f32) (g : FVec Ideal S1x1024 .f32) (sh sc : FVec Ideal S8x1x1024 .f32)
    (w : FVec Ideal S1024x128 .bf16) (b : FVec Ideal S1x128 .f32) : FVec Ideal S8x8192x128 .f32 := fun j =>
  lsig ((∑ d, mod (fun k => x (ix3 (j 0) (j 1) k)) (fun k => g (ix2 0 k)) (fun k => sc (ix3 (j 0) 0 k))
    (fun k => sh (ix3 (j 0) 0 k)) d * w (ix2 d (j 2))) + b (ix2 0 (j 2)))

theorem idx : ∀ t : Fin cfg0.N, win0_0.index t = ![t.val / 16, t.val % 16, 0] ∧ win0_1.index t = ![0, 0]
    ∧ win0_2.index t = ![t.val / 16, 0, 0] ∧ win0_3.index t = ![t.val / 16, 0, 0] ∧ win0_4.index t = ![0, 0]
    ∧ win0_5.index t = ![0, 0] ∧ win0_6.index t = ![t.val / 16, t.val % 16, 0] :=
  (by decide +kernel : ∀ t : Fin grid0.N, _)

theorem point (c : Dev nD) (t : Fin cfg0.N) (y) :
    k0_pay1 (F := Ideal) (k0_pay3 (iblk0 V c 0 t) (iblk0 V c 1 t) (iblk0 V c 2 t) (iblk0 V c 3 t) (iblk0 V c 4 t) (iblk0 V c 5 t))
      (k0_pay4 (iblk0 V c 0 t) (iblk0 V c 1 t) (iblk0 V c 2 t) (iblk0 V c 3 t) (iblk0 V c 4 t) (iblk0 V c 5 t)) y
      = G (V c main_arg0) (V c main_v3) (V c main_v4) (V c main_v5) (V c main_v1) (V c main_v6) (((cfg0.win 6).blk t).view.emb y) := by
  pointwise [k0_pay1, k0_pay3, k0_pay4, k0_pay2, G, lsig, mod, nrm]
  blk_point [iblk0, idx t]

theorem final (c : Dev nD) : (dat0 V c).arrAt 6 cfg0.N
    = G (V c main_arg0) (V c main_v3) (V c main_v4) (V c main_v5) (V c main_v1) (V c main_v6) := by
  refine (dat0 V c).arrAt_eq_of_covers 6 _ (by decide +kernel) fun t _ y => ?_
  blk_simp
  rw [after0_6]; frame_out
  exact point V c t y

end Cert.KernelIdeal.NormProj
-- ==== Proof.CumSum.lean ====
module

public import proofs.«01_k».proof.Proof.Spec

@[expose] public section

set_option maxRecDepth 16384
noncomputable section
open Idealize.ShloMosaic Idealize.ShloMosaic.TcCoe Idealize.SL.Sem
open Idealize.ShloMosaic.Pipeline (Dat)
namespace Cert.KernelIdeal.CumSum
open Cert.KernelIdeal Cert.KernelIdeal.Gen Cert.Spec

/-- One block of the running sum: the sum of the block's rows up to this one, plus the carried row. -/
theorem pay2_at (acc : FVec Ideal S1x128 .f32) (v : FVec Ideal S1x256x128 .f32) (h : ∀ j, v j - v j = 0) (r : Fin 256) (l : Fin 128) :
    k1_pay2 (F := Ideal) acc v (ix2 r l) = (∑ k : Fin 256, if k.val ≤ r.val then v (ix3 0 k l) else 0) + acc (ix2 0 l) := by
  pointwise [k1_pay2]
  have z : ∀ k : Fin 256, v (ix3 0 k l) - v (ix3 0 k l) = 0 := fun k => h _
  have s0 : ∀ c, Scalar.select c (0 : EReal) 0 = 0 := fun c => by
    unfold Scalar.select; split <;> rfl
  have z0 : (0 : EReal) - 0 = 0 := by simp
  simp only [z, z0, s0, Finset.sum_const_zero, add_zero]
  refine congrArg (· + _) (Finset.sum_congr rfl fun k _ => ?_)
  word_cmp

theorem pay3_at (acc : FVec Ideal S1x128 .f32) (v : FVec Ideal S1x256x128 .f32) (z : S1x256x128.Idx) :
    k1_pay3 (F := Ideal) acc v z = k1_pay2 acc v (ix2 (z 1) (z 2)) := by
  pointwise [k1_pay3]

/-- The sum of the rows before the `m`-th one. -/
def pre (x : FVec Ideal S1x8192x128 .f32) (m : ℕ) (l : Fin 128) : EReal :=
  ∑ n ∈ Finset.univ.filter (fun n : Fin 8192 => n.val < m), x (ix3 0 n l)

theorem pre_zero (x l) : pre x 0 l = 0 := by simp [pre]

/-- A row of the block among all the rows. -/
def rowEmb (k : ℕ) (hk : k < 32) : Fin 256 ↪ Fin 8192 :=
  ⟨fun q => ⟨256 * k + q.val, by omega⟩, fun a b e => by
    have h := congrArg Fin.val e
    dsimp only at h
    exact Fin.ext (by omega)⟩

theorem rowEmb_val (k : ℕ) (hk : k < 32) (q : Fin 256) : (rowEmb k hk q).val = 256 * k + q.val := rfl

theorem pre_block (x : FVec Ideal S1x8192x128 .f32) (k : ℕ) (hk : k < 32) (r : Fin 256) (l : Fin 128) :
    (∑ q : Fin 256, if q.val ≤ r.val then x (ix3 0 ⟨256 * k + q.val, by omega⟩ l) else 0) + pre x (256 * k) l
      = pre x (256 * k + r.val + 1) l := by
  rw [add_comm, ← Finset.sum_filter]
  unfold pre
  rw [show (Finset.univ.filter fun n : Fin 8192 => n.val < 256 * k + r.val + 1)
      = (Finset.univ.filter fun n : Fin 8192 => n.val < 256 * k) ∪
        (Finset.univ.filter fun q : Fin 256 => q.val ≤ r.val).map
          (rowEmb k hk) from ?_]
  · rw [Finset.sum_union, Finset.sum_map]; · rfl
    rw [Finset.disjoint_left]; intro a ha hb
    simp only [Finset.mem_filter, Finset.mem_univ, true_and, Finset.mem_map] at ha hb
    obtain ⟨q, _, rfl⟩ := hb
    rw [rowEmb_val] at ha; omega
  · ext n
    simp only [Finset.mem_union, Finset.mem_filter, Finset.mem_univ, true_and, Finset.mem_map]
    constructor
    · intro h
      by_cases h' : n.val < 256 * k
      · exact .inl h'
      · exact .inr ⟨⟨n.val - 256 * k, by omega⟩, by dsimp only; omega, Fin.ext (by rw [rowEmb_val]; dsimp only; omega)⟩
    · rintro (h | ⟨q, h, rfl⟩)
      · omega
      · rw [rowEmb_val]; omega

section Loop
variable (c : Dev nD) (i : grid1.Coords) (a1 : Memref sig .tc .vmem S1x8192x128 .f32) (h1 : a1.IsWhole)
  (a2 : Memref sig .tc .vmem S1x8192x128 .f32) (h2 : a2.IsWhole) (x : Vec Ideal S1x8192x128 .f32)

/-- The block the trip reads. -/
def blk (k : ℕ) (hk : k < 32) : FVec Ideal S1x256x128 .f32 := fun j =>
  x (ix3 0 ⟨256 * k + (j 1).val, by have : (j 1).val < 256 := (j 1).isLt; omega⟩ (j 2))

theorem ld_blk (k : ℕ) (hk : k < 32) (off : Fin 3 → ℕ) (ho : off = ![0, 256 * k, 0]) (inb) :
    View.ld (Val := Elt Ideal) (e' := .f32) x (Rect.unit (s := S1x8192x128) off ![1, 256, 128] inb) = blk x k hk := by
  subst ho
  funext j
  unfold blk
  pointwise

theorem readAt_blk (k : Fin k1_t1_loop.trips) (inb) :
    View.readAt (Elt Ideal) a1.view (Rect.unit (s := S1x8192x128) (k1_off1 k) ![1, 256, 128] inb).toLoadRect (h1.unread x)
      = blk x k.val (Nat.lt_of_lt_of_le k.isLt k1_t1_abs.2.1) := by
  rw [View.readAt_eq_ld, h1.read_unread]
  exact ld_blk x k.val _ _ (k1_off1_eq k) _

theorem trips : k1_t1_loop.trips = 32 := by decide +kernel

/-- The state of the loop before a trip: the carried row, and what the pieces hold. -/
theorem state (hx : ∀ j : S1x8192x128.Idx, x j - x j = 0) (k : ℕ) (hk : k ≤ 32) :
    (∀ l, (st_k1_t1 (F := Ideal) Variants.none c none i a1 h1 a2 h2 (h1.unread x) k1_pay1 k).1 (ix2 0 l) = pre x (256 * k) l)
    ∧ ∀ y : S1x8192x128.Idx, View.AllAt (st_k1_t1 (F := Ideal) Variants.none c none i a1 h1 a2 h2 (h1.unread x) k1_pay1 k).2 y (pre x ((y 1).val + 1) (y 2)) := by
  induction k with
  | zero =>
    refine ⟨fun l => ?_, fun y => View.allAt_nil _ _⟩
    rw [Nat.mul_zero, pre_zero, st_k1_t1_zero]
    pointwise [k1_pay1]
  | succ k ih =>
    obtain ⟨ih1, ih2⟩ := ih (by omega)
    have hk' : k < k1_t1_loop.trips := by rw [trips]; omega
    have e := st_k1_t1_succ (F := Ideal) Variants.none c none i a1 h1 a2 h2 (h1.unread x) k1_pay1 ⟨k, hk'⟩
    dsimp only at e
    rw [show st_k1_t1 (F := Ideal) Variants.none c none i a1 h1 a2 h2 (h1.unread x) k1_pay1 (k + 1) = _ from e]
    have hb : ∀ j, blk x k (by omega) j - blk x k (by omega) j = 0 := fun j => hx _
    unfold tripR_k1_t1 tripL_k1_t1 trip_k1_t1
    dsimp only
    rw [readAt_blk a1 h1 x ⟨k, hk'⟩]
    refine ⟨fun l => ?_, fun y => ?_⟩
    · unfold k1_pay4
      pointwise
      rw [pay2_at _ _ hb, ih1]
      exact pre_block x k (by omega) 255 l
    · rw [List.singleton_append]
      refine View.allAt_cons_unit (S := S1x8192x128) (e := .f32) _ _ _ _ _ (fun z hz => ?_) (ih2 y)
      have h1 := hz 1
      have h2 := hz 2
      rw [k1_off1_eq] at h1 h2
      refine (pay3_at _ _ z).trans ?_
      refine (pay2_at _ _ hb (z 1) (z 2)).trans ?_
      refine (congrArg _ (ih1 (z 2))).trans ?_
      refine (pre_block x k (by omega) (z 1) (z 2)).trans ?_
      have e1 : (y 1).val = 256 * k + (z 1).val := h1
      have e2 : (y 2).val = 0 + (z 2).val := h2
      rw [e1]
      exact congrArg (pre x _) (Fin.ext (by omega))

/-- What one point of the grid leaves: the running sums of its sequence. -/
theorem out_at (hx : ∀ j : S1x8192x128.Idx, x j - x j = 0) (y : S1x8192x128.Idx) :
    out1_A_1 (F := Ideal) c i a1 h1 a2 h2 x y = pre x ((y 1).val + 1) (y 2) := by
  unfold out1_A_1
  rw [View.read_writes_eq_canon _ _ _ (cover1_A_1 c i a1 h1 a2 h2 x)]
  exact View.canon_eq_of_allAt _ _ _ (cover1_A_1 c i a1 h1 a2 h2 x y) ((state c i a1 h1 a2 h2 x hx 32 le_rfl).2 y)

end Loop

variable (V : (c : Dev nD) → (b : Ref sig .tc) → Buf (Elt Ideal) ((c : Thread nD τ).loc b))

/-- The running sum over every sequence. -/
def G (x : FVec Ideal S8x8192x128 .f32) : FVec Ideal S8x8192x128 .f32 := fun j =>
  ∑ n ∈ Finset.univ.filter (fun n : Fin 8192 => n.val < (j 1).val + 1), x (ix3 (j 0) n (j 2))

theorem idx : ∀ t : Fin cfg1.N, win1_0.index t = ![t.val, 0, 0] ∧ win1_1.index t = ![t.val, 0, 0] :=
  (by decide +kernel : ∀ t : Fin grid1.N, _)

theorem final (c : Dev nD) (hx : ∀ j : S8x8192x128.Idx, (show FVec Ideal S8x8192x128 .f32 from V c main_v7) j - (show FVec Ideal S8x8192x128 .f32 from V c main_v7) j = (0 : EReal)) :
    (dat1 V c).arrAt 1 cfg1.N = G (V c main_v7) := by
  refine (dat1 V c).arrAt_eq_of_covers 1 _ (by decide +kernel) fun t _ y => ?_
  blk_simp
  rw [after1_1]
  unfold outsAt1
  refine (out_at c _ _ _ _ _ _ (fun j => ?_) y).trans ?_
  · exact hx _
  · unfold pre G
    blk_point [iblk1, idx t]
-- ==== Proof.Heads.lean ====
module

public import proofs.«01_k».proof.Proof.Spec

@[expose] public section

set_option maxRecDepth 16384
noncomputable section
open Idealize.ShloMosaic Idealize.ShloMosaic.TcCoe Idealize.SL.Sem
open Idealize.ShloMosaic.Pipeline (Dat)
namespace Cert.KernelIdeal.Heads
open Cert.KernelIdeal Cert.KernelIdeal.Gen Cert.Spec

/-- A value lane: the 64 lanes, a one, zeros. -/
def vlane (l : ℕ) (a : EReal) : EReal := if l < 64 then a else if l = 64 then 1 else 0

/-- A query lane: the 64 scaled lanes, the gate sum in three parts, three ones, zeros. -/
def qlane (l : ℕ) (a c : EReal) : EReal :=
  if l < 64 then a * Ideal.ofBits .f32 0x3E000000#32 else if l < 70 then
    if l = 64 then c else if l = 65 then c - c else if l = 66 then c - c - (c - c) else 1 else 0

/-- A key lane: the 64 lanes, three ones, the negated gate sum in three parts, zeros. -/
def klane (l : ℕ) (a c : EReal) : EReal :=
  if l < 64 then a else if l < 70 then
    if l = 67 then 0 - c else if l = 68 then 0 - (c - c) else if l = 69 then 0 - (c - c - (c - c)) else 1 else 0

theorem vlane_of {l l' : ℕ} {a a' : EReal} (h : l' = l) (ha : l < 64 → a = a') : vlane l a = vlane l' a' := by
  subst h; unfold vlane
  by_cases h : l' < 64
  · rw [if_pos h, if_pos h, ha h]
  · rw [if_neg h, if_neg h]

theorem qlane_of {l l' : ℕ} {a a' c c' : EReal} (h : l' = l) (ha : l < 64 → a = a') (hc : c = c') :
    qlane l a c = qlane l' a' c' := by
  subst h hc; unfold qlane
  by_cases h : l' < 64
  · rw [if_pos h, if_pos h, ha h]
  · rw [if_neg h, if_neg h]

theorem klane_of {l l' : ℕ} {a a' c c' : EReal} (h : l' = l) (ha : l < 64 → a = a') (hc : c = c') :
    klane l a c = klane l' a' c' := by
  subst h hc; unfold klane
  by_cases h : l' < 64
  · rw [if_pos h, if_pos h, ha h]
  · rw [if_neg h, if_neg h]

section Block
variable (x0 : Vec Ideal S1x512x1024 .f32) (x1 : Vec Ideal S1x1024 .f32) (x2 : Vec Ideal S1x1x1024 .f32) (x3 : Vec Ideal S1x1x1024 .f32) (x4 : Vec Ideal S1024x2048 .bf16) (x5 : Vec Ideal S1x1024 .f32) (x6 : Vec Ideal S1x1x1024 .f32) (x7 : Vec Ideal S1x1x1024 .f32) (x8 : Vec Ideal S1024x1024 .bf16) (x9 : Vec Ideal S1x512x128 .f32)

/-- A row of the block through its modulated norm. -/
def row (g : Vec Ideal S1x1024 .f32) (sh sc : Vec Ideal S1x1x1024 .f32) (r : Fin 512) : Fin 1024 → EReal :=
  mod (fun k => x0 (ix3 0 r k)) (fun k => g (ix2 0 k)) (fun k => sc (ix3 0 0 k)) (fun k => sh (ix3 0 0 k))

/-- The block's keys and values before the split into heads. -/
def kv (r : Fin 512) (n : Fin 2048) : EReal := ∑ d, row x0 x1 x2 x3 r d * x4 (ix2 d n)

/-- The block's queries before the split into heads. -/
def qq (r : Fin 512) (n : Fin 1024) : EReal := ∑ d, row x0 x5 x6 x7 r d * x8 (ix2 d n)

theorem qq_of {r r' : Fin 512} {n n' : Fin 1024} (h : r.val = r'.val) (h' : n.val = n'.val) :
    qq x0 x5 x6 x7 x8 r n = qq x0 x5 x6 x7 x8 r' n' := by
  rw [Fin.ext h, Fin.ext h']

theorem kv_at (r : Fin 512) (n : Fin 2048) : k2_pay229 x0 x1 x2 x3 x4 x5 x6 x7 x8 x9 (ix2 r n) = kv x0 x1 x2 x3 x4 r n := by
  unfold k2_pay229
  open_payloads
  pointwise [kv, row, mod, nrm]

theorem cum_at (r : Fin 512) (n : Fin 128) : k2_pay227 x0 x1 x2 x3 x4 x5 x6 x7 x8 x9 (ix2 r n) = x9 (ix3 0 r n) := by
  unfold k2_pay227
  open_payloads
  pointwise

theorem v_at (y : S1x16x512x128.Idx) :
    out2_12 x0 x1 x2 x3 x4 x5 x6 x7 x8 x9 y = vlane (y 3).val (kv x0 x1 x2 x3 x4 (y 2)
      ⟨(1024 + 64 * (y 1).val + (y 3).val) % 2048, Nat.mod_lt _ (by omega)⟩) := by
  refine Eq.trans ?_ (congrArg (vlane (y 3).val) (kv_at x0 x1 x2 x3 x4 x5 x6 x7 x8 x9 (y 2) _))
  unfold out2_12 k2_pay243 k2_pay242
  generalize k2_pay229 x0 x1 x2 x3 x4 x5 x6 x7 x8 x9 = B
  canon_tiles x h
  all_goals (open_payloads; pointwise; word_cmp)
  all_goals (refine vlane_of h3 (fun hl => ?_); blk_ext)

theorem k_at (y : S1x16x512x128.Idx) :
    out2_11 x0 x1 x2 x3 x4 x5 x6 x7 x8 x9 y = klane (y 3).val (kv x0 x1 x2 x3 x4 (y 2)
      ⟨(64 * (y 1).val + (y 3).val) % 2048, Nat.mod_lt _ (by omega)⟩)
      (x9 (ix3 0 (y 2) ⟨(y 1).val, lt_of_lt_of_le (y 1).isLt (by decide)⟩)) := by
  refine Eq.trans ?_ (congrArg₂ (klane (y 3).val) (kv_at x0 x1 x2 x3 x4 x5 x6 x7 x8 x9 (y 2) _) (cum_at x0 x1 x2 x3 x4 x5 x6 x7 x8 x9 (y 2) _))
  unfold out2_11 k2_pay241 k2_pay240 k2_pay239 k2_pay238 k2_pay237 k2_pay236 k2_pay235 k2_pay234 k2_pay233
  generalize k2_pay227 x0 x1 x2 x3 x4 x5 x6 x7 x8 x9 = C
  generalize k2_pay229 x0 x1 x2 x3 x4 x5 x6 x7 x8 x9 = B
  canon_tiles x h
  all_goals (open_payloads; pointwise; word_cmp)
  all_goals (refine klane_of h3 (fun hl => ?_) ?_ <;> blk_ext)

set_option maxHeartbeats 2000000 in
theorem q_at (y : S1x16x512x128.Idx) :
    out2_10 x0 x1 x2 x3 x4 x5 x6 x7 x8 x9 y = qlane (y 3).val (qq x0 x5 x6 x7 x8 (y 2)
      ⟨(64 * (y 1).val + (y 3).val) % 1024, Nat.mod_lt _ (by omega)⟩)
      (x9 (ix3 0 (y 2) ⟨(y 1).val, lt_of_lt_of_le (y 1).isLt (by decide)⟩)) := by
  refine Eq.trans ?_ (congrArg (qlane (y 3).val _) (cum_at x0 x1 x2 x3 x4 x5 x6 x7 x8 x9 (y 2) _))
  unfold out2_10 k2_pay231
  generalize k2_pay227 x0 x1 x2 x3 x4 x5 x6 x7 x8 x9 = C
  canon_tiles x h
  all_goals (open_payloads; pointwise; word_cmp)
  all_goals (refine qlane_of (a := qq x0 x5 x6 x7 x8 (x 2) _) h3 (fun hl => ?_) ?_)
  all_goals first | blk_ext | exact qq_of _ _ _ _ _ h2.symm (by show _ = _ % 1024; dsimp only; omega)

theorem bk_at (y : S1x512x1024.Idx) : k2_pay2 (k2_pay229 x0 x1 x2 x3 x4 x5 x6 x7 x8 x9) y
    = kv x0 x1 x2 x3 x4 (y 1) ⟨(y 2).val, lt_of_lt_of_le (y 2).isLt (by decide)⟩ := by
  refine Eq.trans ?_ (kv_at x0 x1 x2 x3 x4 x5 x6 x7 x8 x9 (y 1) _)
  generalize k2_pay229 x0 x1 x2 x3 x4 x5 x6 x7 x8 x9 = B
  open_payloads
  pointwise

theorem bv_at (y : S1x512x1024.Idx) : k2_pay3 (k2_pay229 x0 x1 x2 x3 x4 x5 x6 x7 x8 x9) y
    = kv x0 x1 x2 x3 x4 (y 1) ⟨1024 + (y 2).val, by have : (y 2).val < 1024 := (y 2).isLt; omega⟩ := by
  refine Eq.trans ?_ (kv_at x0 x1 x2 x3 x4 x5 x6 x7 x8 x9 (y 1) _)
  generalize k2_pay229 x0 x1 x2 x3 x4 x5 x6 x7 x8 x9 = B
  open_payloads
  pointwise

end Block

variable (V : (c : Dev nD) → (b : Ref sig .tc) → Buf (Elt Ideal) ((c : Thread nD τ).loc b))

/-- A projection of the tokens' modulated norms. -/
def proj {N : ℕ} (x : FVec Ideal S8x8192x1024 .f32) (g : FVec Ideal S1x1024 .f32) (sh sc : FVec Ideal S8x1x1024 .f32)
    (w : Fin 1024 → Fin N → EReal) (b : Fin 8) (t : Fin 8192) (n : Fin N) : EReal :=
  ∑ d, mod (fun k => x (ix3 b t k)) (fun k => g (ix2 0 k)) (fun k => sc (ix3 b 0 k)) (fun k => sh (ix3 b 0 k)) d * w d n

/-- All queries, by heads and lanes. -/
def Gq (x : FVec Ideal S8x8192x1024 .f32) (g : FVec Ideal S1x1024 .f32) (sh sc : FVec Ideal S8x1x1024 .f32)
    (w : FVec Ideal S1024x1024 .bf16) (cum : FVec Ideal S8x8192x128 .f32) : FVec Ideal S8x16x8192x128 .bf16 := fun j =>
  qlane (j 3).val (proj x g sh sc (fun d n => w (ix2 d n)) (j 0) (j 2)
    ⟨(64 * (j 1).val + (j 3).val) % 1024, Nat.mod_lt _ (by omega)⟩)
    (cum (ix3 (j 0) (j 2) ⟨(j 1).val, lt_of_lt_of_le (j 1).isLt (by decide)⟩))

/-- All keys, by heads and lanes. -/
def Gk (x : FVec Ideal S8x8192x1024 .f32) (g : FVec Ideal S1x1024 .f32) (sh sc : FVec Ideal S8x1x1024 .f32)
    (w : FVec Ideal S1024x2048 .bf16) (cum : FVec Ideal S8x8192x128 .f32) : FVec Ideal S8x16x8192x128 .bf16 := fun j =>
  klane (j 3).val (proj x g sh sc (fun d n => w (ix2 d n)) (j 0) (j 2)
    ⟨(64 * (j 1).val + (j 3).val) % 2048, Nat.mod_lt _ (by omega)⟩)
    (cum (ix3 (j 0) (j 2) ⟨(j 1).val, lt_of_lt_of_le (j 1).isLt (by decide)⟩))

/-- All values, by heads and lanes. -/
def Gv (x : FVec Ideal S8x8192x1024 .f32) (g : FVec Ideal S1x1024 .f32) (sh sc : FVec Ideal S8x1x1024 .f32)
    (w : FVec Ideal S1024x2048 .bf16) : FVec Ideal S8x16x8192x128 .bf16 := fun j =>
  vlane (j 3).val (proj x g sh sc (fun d n => w (ix2 d n)) (j 0) (j 2)
    ⟨(1024 + 64 * (j 1).val + (j 3).val) % 2048, Nat.mod_lt _ (by omega)⟩)

/-- The keys as they are handed on. -/
def Gbk (x : FVec Ideal S8x8192x1024 .f32) (g : FVec Ideal S1x1024 .f32) (sh sc : FVec Ideal S8x1x1024 .f32)
    (w : FVec Ideal S1024x2048 .bf16) : FVec Ideal S8x8192x1024 .f32 := fun j =>
  proj x g sh sc (fun d n => w (ix2 d n)) (j 0) (j 1) ⟨(j 2).val, lt_of_lt_of_le (j 2).isLt (by decide)⟩

/-- The values as they are handed on. -/
def Gbv (x : FVec Ideal S8x8192x1024 .f32) (g : FVec Ideal S1x1024 .f32) (sh sc : FVec Ideal S8x1x1024 .f32)
    (w : FVec Ideal S1024x2048 .bf16) : FVec Ideal S8x8192x1024 .f32 := fun j =>
  proj x g sh sc (fun d n => w (ix2 d n)) (j 0) (j 1) ⟨1024 + (j 2).val, by have : (j 2).val < 1024 := (j 2).isLt; omega⟩

theorem idx : ∀ t : Fin cfg2.N, win2_0.index t = ![t.val / 16, t.val % 16, 0] ∧ win2_1.index t = ![0, 0]
    ∧ win2_2.index t = ![t.val / 16, 0, 0] ∧ win2_3.index t = ![t.val / 16, 0, 0] ∧ win2_4.index t = ![0, 0]
    ∧ win2_5.index t = ![0, 0] ∧ win2_6.index t = ![t.val / 16, 0, 0] ∧ win2_7.index t = ![t.val / 16, 0, 0]
    ∧ win2_8.index t = ![0, 0] ∧ win2_9.index t = ![t.val / 16, t.val % 16, 0]
    ∧ win2_10.index t = ![t.val / 16, 0, t.val % 16, 0] ∧ win2_11.index t = ![t.val / 16, 0, t.val % 16, 0]
    ∧ win2_12.index t = ![t.val / 16, 0, t.val % 16, 0] ∧ win2_13.index t = ![t.val / 16, t.val % 16, 0]
    ∧ win2_14.index t = ![t.val / 16, t.val % 16, 0] :=
  (by decide +kernel : ∀ t : Fin grid2.N, _)

theorem q_point (c : Dev nD) (t : Fin cfg2.N) (y : S1x16x512x128.Idx) :
    qlane (y 3).val (qq (iblk2 V c 0 t) (iblk2 V c 5 t) (iblk2 V c 6 t) (iblk2 V c 7 t) (iblk2 V c 8 t) (y 2)
      ⟨(64 * (y 1).val + (y 3).val) % 1024, Nat.mod_lt _ (by omega)⟩)
      ((show Vec Ideal S1x512x128 .f32 from iblk2 V c 9 t) (ix3 0 (y 2) ⟨(y 1).val, lt_of_lt_of_le (y 1).isLt (by decide)⟩))
      = Gq (V c main_arg0) (V c main_v14) (V c main_v15) (V c main_v16) (V c main_v10) (V c main_v8)
        (((cfg2.win 10).blk t).view.emb y) := by
  refine qlane_of ?_ (fun _ => ?_) ?_
  · blk_simp [idx t]
  · pointwise [qq, row, proj, mod, nrm]
    blk_point [iblk2, idx t]
  · blk_point [iblk2, idx t]

theorem k_point (c : Dev nD) (t : Fin cfg2.N) (y : S1x16x512x128.Idx) :
    klane (y 3).val (kv (iblk2 V c 0 t) (iblk2 V c 1 t) (iblk2 V c 2 t) (iblk2 V c 3 t) (iblk2 V c 4 t) (y 2)
      ⟨(64 * (y 1).val + (y 3).val) % 2048, Nat.mod_lt _ (by omega)⟩)
      ((show Vec Ideal S1x512x128 .f32 from iblk2 V c 9 t) (ix3 0 (y 2) ⟨(y 1).val, lt_of_lt_of_le (y 1).isLt (by decide)⟩))
      = Gk (V c main_arg0) (V c main_v11) (V c main_v12) (V c main_v13) (V c main_v9) (V c main_v8)
        (((cfg2.win 11).blk t).view.emb y) := by
  refine klane_of ?_ (fun _ => ?_) ?_
  · blk_simp [idx t]
  · pointwise [kv, row, proj, mod, nrm]
    blk_point [iblk2, idx t]
  · blk_point [iblk2, idx t]

theorem v_point (c : Dev nD) (t : Fin cfg2.N) (y : S1x16x512x128.Idx) :
    vlane (y 3).val (kv (iblk2 V c 0 t) (iblk2 V c 1 t) (iblk2 V c 2 t) (iblk2 V c 3 t) (iblk2 V c 4 t) (y 2)
      ⟨(1024 + 64 * (y 1).val + (y 3).val) % 2048, Nat.mod_lt _ (by omega)⟩)
      = Gv (V c main_arg0) (V c main_v11) (V c main_v12) (V c main_v13) (V c main_v9)
        (((cfg2.win 12).blk t).view.emb y) := by
  refine vlane_of ?_ (fun _ => ?_)
  · blk_simp [idx t]
  · pointwise [kv, row, proj, mod, nrm]
    blk_point [iblk2, idx t]

theorem bk_point (c : Dev nD) (t : Fin cfg2.N) (y : S1x512x1024.Idx) :
    kv (iblk2 V c 0 t) (iblk2 V c 1 t) (iblk2 V c 2 t) (iblk2 V c 3 t) (iblk2 V c 4 t) (y 1)
      ⟨(y 2).val, lt_of_lt_of_le (y 2).isLt (by decide)⟩
      = Gbk (V c main_arg0) (V c main_v11) (V c main_v12) (V c main_v13) (V c main_v9)
        (((cfg2.win 13).blk t).view.emb y) := by
  pointwise [kv, row, proj, mod, nrm, Gbk]
  blk_point [iblk2, idx t]

theorem bv_point (c : Dev nD) (t : Fin cfg2.N) (y : S1x512x1024.Idx) :
    kv (iblk2 V c 0 t) (iblk2 V c 1 t) (iblk2 V c 2 t) (iblk2 V c 3 t) (iblk2 V c 4 t) (y 1)
      ⟨1024 + (y 2).val, by have : (y 2).val < 1024 := (y 2).isLt; omega⟩
      = Gbv (V c main_arg0) (V c main_v11) (V c main_v12) (V c main_v13) (V c main_v9)
        (((cfg2.win 14).blk t).view.emb y) := by
  pointwise [kv, row, proj, mod, nrm, Gbv]
  blk_point [iblk2, idx t]

theorem q_final (c : Dev nD) : (dat2 V c).arrAt 10 cfg2.N
    = Gq (V c main_arg0) (V c main_v14) (V c main_v15) (V c main_v16) (V c main_v10) (V c main_v8) := by
  refine (dat2 V c).arrAt_eq_of_covers 10 _ (by decide +kernel) fun t _ y => ?_
  blk_simp
  rw [after2_10]
  exact (q_at ..).trans (q_point V c t y)

theorem k_final (c : Dev nD) : (dat2 V c).arrAt 11 cfg2.N
    = Gk (V c main_arg0) (V c main_v11) (V c main_v12) (V c main_v13) (V c main_v9) (V c main_v8) := by
  refine (dat2 V c).arrAt_eq_of_covers 11 _ (by decide +kernel) fun t _ y => ?_
  blk_simp
  rw [after2_11]
  exact (k_at ..).trans (k_point V c t y)

theorem v_final (c : Dev nD) : (dat2 V c).arrAt 12 cfg2.N
    = Gv (V c main_arg0) (V c main_v11) (V c main_v12) (V c main_v13) (V c main_v9) := by
  refine (dat2 V c).arrAt_eq_of_covers 12 _ (by decide +kernel) fun t _ y => ?_
  blk_simp
  rw [after2_12]
  exact (v_at _ _ _ _ _ (iblk2 V c 5 t) (iblk2 V c 6 t) (iblk2 V c 7 t) (iblk2 V c 8 t) (iblk2 V c 9 t) y).trans (v_point V c t y)

theorem bk_final (c : Dev nD) : (dat2 V c).arrAt 13 cfg2.N
    = Gbk (V c main_arg0) (V c main_v11) (V c main_v12) (V c main_v13) (V c main_v9) := by
  refine (dat2 V c).arrAt_eq_of_covers 13 _ (by decide +kernel) fun t _ y => ?_
  blk_simp
  rw [after2_13]; unfold out2_13; frame_out
  exact (bk_at _ _ _ _ _ (iblk2 V c 5 t) (iblk2 V c 6 t) (iblk2 V c 7 t) (iblk2 V c 8 t) (iblk2 V c 9 t) y).trans (bk_point V c t y)

theorem bv_final (c : Dev nD) : (dat2 V c).arrAt 14 cfg2.N
    = Gbv (V c main_arg0) (V c main_v11) (V c main_v12) (V c main_v13) (V c main_v9) := by
  refine (dat2 V c).arrAt_eq_of_covers 14 _ (by decide +kernel) fun t _ y => ?_
  blk_simp
  rw [after2_14]; unfold out2_14; frame_out
  exact (bv_at _ _ _ _ _ (iblk2 V c 5 t) (iblk2 V c 6 t) (iblk2 V c 7 t) (iblk2 V c 8 t) (iblk2 V c 9 t) y).trans (bv_point V c t y)

end Cert.KernelIdeal.Heads
-- ==== Proof.Online.lean ====
/- A softmax-weighted sum taken tile by tile with a running maximum, over the extended reals: the running sum at the
   running maximum, one more tile, and the quotient by the weights' sum. -/
module

public import Idealize.ShloMosaic.PureOps.Ideal

@[expose] public section

noncomputable section

namespace Cert.Online

open Idealize.ShloMosaic

variable {ι : Type} [DecidableEq ι]

/-- The weight of a score under a maximum: the exponential of the difference, zero where either is `⊥`. -/
def wt (s M : EReal) : ℝ := if s = ⊥ ∨ M = ⊥ then 0 else Real.exp (s.toReal - M.toReal)

theorem wt_nonneg (s M : EReal) : 0 ≤ wt s M := by
  unfold wt; split
  · exact le_rfl
  · exact (Real.exp_pos _).le

/-- A score and a maximum, neither `⊤`: the exponential of their difference is the weight. -/
theorem exp_sub {s M : EReal} (hs : s ≠ ⊤) (hM : M ≠ ⊤) (hle : M = ⊥ → s = ⊥) : Ideal.exp (s - M) = (wt s M : EReal) := by
  induction s using EReal.rec with
  | bot => rw [EReal.bot_sub, Ideal.exp_bot]; simp [wt]
  | top => exact absurd rfl hs
  | coe a =>
    induction M using EReal.rec with
    | bot => exact absurd (hle rfl) (EReal.coe_ne_bot a)
    | top => exact absurd rfl hM
    | coe b => rw [← EReal.coe_sub, Ideal.exp_coe]; simp [wt]

/-- Weights compose: rescaling a weight from one maximum to a greater one. -/
theorem wt_mul {s M M' : EReal} (h : M = ⊥ → s = ⊥) (h' : M' = ⊥ → M = ⊥) : wt M M' * wt s M = wt s M' := by
  unfold wt
  by_cases hs : s = ⊥
  · simp [hs]
  · have hM : M ≠ ⊥ := fun e => hs (h e)
    have hM' : M' ≠ ⊥ := fun e => hM (h' e)
    rw [if_neg (by simp [hM, hM']), if_neg (by simp [hs, hM]), if_neg (by simp [hs, hM']), ← Real.exp_add]
    congr 1; ring

/-- The greatest score of a finite set of keys (`⊥` of none). -/
def top (S : Finset ι) (s : ι → EReal) : EReal := S.sup s

theorem top_ne_top {S : Finset ι} {s : ι → EReal} (hs : ∀ k, s k ≠ ⊤) : top S s ≠ ⊤ := by
  unfold top
  induction S using Finset.induction_on with
  | empty => simp
  | insert a S _ ih =>
    rw [Finset.sup_insert]
    exact (max_lt (hs a).lt_top ih.lt_top).ne

theorem top_bot {S : Finset ι} {s : ι → EReal} {k : ι} (hk : k ∈ S) (h : top S s = ⊥) : s k = ⊥ :=
  le_bot_iff.mp (h ▸ Finset.le_sup (f := s) hk)

/-- The weighted sum of the values of a set of keys, at the set's greatest score. -/
def part (S : Finset ι) (s : ι → EReal) (v : ι → ℝ) : ℝ := ∑ k ∈ S, wt (s k) (top S s) * v k

theorem coe_sum {κ : Type} (S : Finset κ) (f : κ → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- ONE MORE TILE: from the sum at the old maximum and the new tile's scores, the sum of both at the new maximum. -/
theorem part_step {S T : Finset ι} (hd : Disjoint S T) {s : ι → EReal} (hs : ∀ k, s k ≠ ⊤) (v : ι → ℝ) {m' : EReal}
    (hm : m' = max (top S s) (top T s)) :
    Ideal.exp (top S s - m') * (part S s v : EReal) + ∑ k ∈ T, Ideal.exp (s k - m') * (v k : EReal)
      = (part (S ∪ T) s v : EReal) := by
  have hU : m' = top (S ∪ T) s := by rw [hm]; exact (Finset.sup_union (f := s)).symm
  have hb : m' = ⊥ → top S s = ⊥ := fun e => le_bot_iff.mp (e ▸ hm ▸ le_max_left _ _)
  have hmt : m' ≠ ⊤ := hU ▸ top_ne_top hs
  rw [exp_sub (top_ne_top hs) hmt hb, ← EReal.coe_mul,
    Finset.sum_congr rfl fun k hk => by
      rw [exp_sub (hs k) hmt fun e => top_bot (Finset.mem_union_right S hk) (hU ▸ e), ← EReal.coe_mul],
    ← coe_sum, ← EReal.coe_add]
  congr 1
  unfold part
  rw [Finset.sum_union hd, Finset.mul_sum, ← hU]
  congr 1
  exact Finset.sum_congr rfl fun k hk => by rw [← mul_assoc, wt_mul (fun e => top_bot hk e) hb]

/-- Keys of score `⊥` change neither the maximum nor the sum. -/
theorem top_pad {S U : Finset ι} (h : S ⊆ U) {s : ι → EReal} (hb : ∀ k ∈ U, k ∉ S → s k = ⊥) : top U s = top S s := by
  refine le_antisymm (Finset.sup_le fun k hk => ?_) (Finset.sup_mono h)
  by_cases hkS : k ∈ S
  · exact Finset.le_sup (f := s) hkS
  · rw [hb k hk hkS]; exact bot_le

theorem part_pad {S U : Finset ι} (h : S ⊆ U) {s : ι → EReal} (hb : ∀ k ∈ U, k ∉ S → s k = ⊥) (v : ι → ℝ) :
    part U s v = part S s v := by
  unfold part
  rw [top_pad h hb]
  exact (Finset.sum_subset h fun k hk hkS => by rw [hb k hk hkS]; simp [wt]).symm

/-- Where some score is not `⊥`, the weights' sum is positive. -/
theorem part_one_pos {S : Finset ι} {s : ι → EReal} {k : ι} (hk : k ∈ S) (hn : s k ≠ ⊥) : 0 < part S s fun _ => 1 := by
  unfold part
  refine Finset.sum_pos' (fun j _ => by rw [mul_one]; exact wt_nonneg _ _) ⟨k, hk, ?_⟩
  rw [mul_one, wt, if_neg (by rintro (h | h); exacts [hn h, hn (top_bot hk h)])]
  exact Real.exp_pos _

/-- THE QUOTIENT: the sum divided by the weights' sum is the sum of the normalized weights times the values. -/
theorem part_div {S : Finset ι} {s : ι → EReal} (hs : ∀ k, s k ≠ ⊤) (v : ι → ℝ) {k : ι} (hk : k ∈ S) (hn : s k ≠ ⊥) :
    Ideal.div (part S s v : EReal) (part S s (fun _ => 1) : EReal)
      = ∑ j ∈ S, Ideal.div (Ideal.exp (s j - top S s)) (∑ i ∈ S, Ideal.exp (s i - top S s)) * (v j : EReal) := by
  have hp := (part_one_pos hk hn).ne'
  have he : ∀ j ∈ S, Ideal.exp (s j - top S s) = (wt (s j) (top S s) : EReal) := fun j hj =>
    exp_sub (hs j) (top_ne_top hs) fun e => top_bot hj e
  have hsum : ∑ i ∈ S, Ideal.exp (s i - top S s) = (part S s (fun _ => 1) : EReal) := by
    rw [Finset.sum_congr rfl he, ← coe_sum]; simp [part]
  rw [hsum, Ideal.div_coe hp, ← EReal.coe_mul,
    Finset.sum_congr rfl fun j hj => by rw [he j hj, Ideal.div_coe hp, ← EReal.coe_mul, ← EReal.coe_mul], ← coe_sum]
  congr 1
  rw [part, Finset.sum_mul]
  exact Finset.sum_congr rfl fun j _ => by ring

end Cert.Online

end
-- ==== Proof.FoxStep.lean ====
module

public import proofs.«01_k».proof.Proof.Spec
public import proofs.«01_k».proof.Proof.Online

@[expose] public section

set_option maxRecDepth 16384
noncomputable section
open Idealize.ShloMosaic Idealize.ShloMosaic.TcCoe Idealize.SL.Sem
open Idealize.ShloMosaic.Pipeline (Dat)
namespace Cert.KernelIdeal.Fox
open Cert.KernelIdeal Cert.KernelIdeal.Gen Cert.Spec

theorem negInf : Ideal.ofBits .f32 (4286578688#32) = ⊥ := by
  simp [Ideal.ofBits, Ideal.ieee]

theorem mask_bot : (Named.named (F := Ideal) κ "mask" (φ := .f32) 4048155338#32 : EReal) = ⊥ := rfl

theorem fold_top {n : ℕ} (f : Fin n → EReal) :
    Finset.fold max (Ideal.ofBits .f32 (4286578688#32)) f Finset.univ = Finset.univ.sup f := by
  rw [negInf]; rfl

/-- A key of a tile among all the keys. -/
def key (k : ℕ) (hk : k < 16) : Fin 512 ↪ Fin 8192 :=
  ⟨fun q => ⟨512 * k + q.val, by omega⟩, fun a b e => by
    have h := congrArg Fin.val e
    dsimp only at h
    exact Fin.ext (by omega)⟩

theorem key_val (k : ℕ) (hk : k < 16) (q : Fin 512) : (key k hk q).val = 512 * k + q.val := rfl

/-- The keys of the tiles before the `k`-th one. -/
def keys (k : ℕ) : Finset (Fin 8192) := Finset.univ.filter (fun n : Fin 8192 => n.val < 512 * k)

theorem keys_succ (k : ℕ) (hk : k < 16) : keys (k + 1) = keys k ∪ Finset.univ.map (key k hk) := by
  ext n
  simp only [keys, Finset.mem_union, Finset.mem_filter, Finset.mem_univ, true_and, Finset.mem_map]
  constructor
  · intro h
    by_cases h' : n.val < 512 * k
    · exact .inl h'
    · exact .inr ⟨⟨n.val - 512 * k, by omega⟩, Fin.ext (by rw [key_val]; dsimp only; omega)⟩
  · rintro (h | ⟨q, rfl⟩)
    · omega
    · rw [key_val]; omega

theorem keys_disjoint (k : ℕ) (hk : k < 16) : Disjoint (keys k) (Finset.univ.map (key k hk)) := by
  rw [Finset.disjoint_left]; intro a ha hb
  simp only [keys, Finset.mem_filter, Finset.mem_univ, true_and, Finset.mem_map] at ha hb
  obtain ⟨q, rfl⟩ := hb
  rw [key_val] at ha; omega

/-- One tile: the new maximum, and the running sum at it. -/
theorem tile (k : ℕ) (hk : k < 16) (s : Fin 8192 → EReal) (hs : ∀ i, s i ≠ ⊤) (v : Fin 8192 → ℝ) (f w : Fin 512 → EReal)
    (hf : ∀ z, f z = s (key k hk z)) (hw : ∀ z, w z = v (key k hk z)) (m a : EReal) (hm : m = Online.top (keys k) s)
    (ha : a = Online.part (keys k) s v) :
    max m (Finset.fold max (Ideal.ofBits .f32 (4286578688#32)) f Finset.univ) = Online.top (keys (k + 1)) s
    ∧ Ideal.exp (m - max m (Finset.fold max (Ideal.ofBits .f32 (4286578688#32)) f Finset.univ)) * a
        + ∑ z, Ideal.exp (f z - max m (Finset.fold max (Ideal.ofBits .f32 (4286578688#32)) f Finset.univ)) * w z
      = Online.part (keys (k + 1)) s v := by
  obtain rfl : f = s ∘ key k hk := funext hf
  obtain rfl : w = fun z => (v (key k hk z) : EReal) := funext hw
  have e : max m (Finset.fold max (Ideal.ofBits .f32 (4286578688#32)) (s ∘ key k hk) Finset.univ)
      = max (Online.top (keys k) s) (Online.top (Finset.univ.map (key k hk)) s) := by
    rw [fold_top, hm]; unfold Online.top; rw [Finset.sup_map]
  rw [e, hm, ha, keys_succ k hk]
  refine ⟨(Finset.sup_union).symm, ?_⟩
  rw [← Online.part_step (keys_disjoint k hk) hs v rfl, Finset.sum_map]
  rfl

/-- The score of a key under a query: the product of their lanes, and none of a key after the query. -/
def sc (q : FVec Ideal S512x128 .bf16) (X : Vec Ideal S1x4x8192x128 .bf16) (j : Fin 4) (n0 : ℕ) (r : Fin 512) (i : Fin 8192) : EReal :=
  if i.val ≤ 512 * n0 + r.val then ∑ d : Fin 128, (q (ix2 r d) : EReal) * X (ix4 0 j i d) else ⊥

/-- The tile of keys (or of values) of one head. -/
def blk (X : Vec Ideal S1x4x8192x128 .bf16) (j : Fin 4) (k : ℕ) (hk : k < 16) : Vec Ideal S1x1x512x128 .bf16 :=
  fun y => X (ix4 0 j (key k hk (y 2)) (y 3))

/-- What a head carries before its `k`-th tile: the greatest score and the running sums. -/
def Inv (q : FVec Ideal S512x128 .bf16) (X : Vec Ideal S1x4x8192x128 .bf16) (w : Fin 8192 → Fin 128 → ℝ) (j : Fin 4) (n0 k : ℕ)
    (m : FVec Ideal S512x1 .f32) (a : FVec Ideal S512x128 .f32) : Prop :=
  (∀ r, m (ix2 r 0) = Online.top (keys k) (sc q X j n0 r)) ∧
  ∀ r l, a (ix2 r l) = (Online.part (keys k) (sc q X j n0 r) (fun i => w i l) : EReal)

section
variable (q : FVec Ideal S512x128 .bf16) (X W : Vec Ideal S1x4x8192x128 .bf16) (w : Fin 8192 → Fin 128 → ℝ) (j : Fin 4) (n0 : ℕ)

theorem inv_zero : Inv q X w j n0 0 (k3_pay36 (F := Ideal)) (k3_pay37 (F := Ideal)) := by
  have e : keys 0 = ∅ := by simp [keys]
  refine ⟨fun r => ?_, fun r l => ?_⟩
  · rw [e]; pointwise [k3_pay36]
    rw [mask_bot]; rfl
  · rw [e]; pointwise [k3_pay37]
    simp [Online.part]

theorem inv_step (hs : ∀ r i, sc q X j n0 r i ≠ ⊤) (hw : ∀ i l, W (ix4 0 j i l) = (w i l : EReal)) (k : ℕ) (hk : k < 16) (hn : k < n0)
    (m : FVec Ideal S512x1 .f32) (a : FVec Ideal S512x128 .f32) (h : Inv q X w j n0 k m a) :
    Inv q X w j n0 (k + 1) (k3_pay3 (F := Ideal) q m (blk X j k hk)) (k3_pay4 (F := Ideal) q m a (blk X j k hk) (blk W j k hk)) := by
  have T := fun (r : Fin 512) (l : Fin 128) => tile k hk (sc q X j n0 r) (hs r) (fun i => w i l)
    (fun z => ∑ d : Fin 128, q (ix2 r d) * X (ix4 0 j (key k hk z) d)) (fun z => W (ix4 0 j (key k hk z) l))
    (fun z => by unfold sc; rw [if_pos (by rw [key_val]; omega)]) (fun z => hw _ _) _ _ (h.1 r) (h.2 r l)
  refine ⟨fun r => ?_, fun r l => ?_⟩
  · refine Eq.trans ?_ (T r 0).1
    pointwise [k3_pay3, k3_pay2]
    rfl
  · refine Eq.trans ?_ (T r l).2
    pointwise [k3_pay4, k3_pay3, k3_pay2]
    rfl

/-- The tile at the queries' own place, and the quotient by the weights' sum. -/
theorem fin_at (hs : ∀ r i, sc q X j n0 r i ≠ ⊤) (hw : ∀ i l, W (ix4 0 j i l) = (w i l : EReal)) (h1 : ∀ i, w i 64 = 1) (hk : n0 < 16)
    (m : FVec Ideal S512x1 .f32) (a : FVec Ideal S512x128 .f32) (h : Inv q X w j n0 n0 m a) (r : Fin 512) (l : Fin 128)
    (hb : ∑ d : Fin 128, (q (ix2 r d) : EReal) * X (ix4 0 j (key n0 hk r) d) ≠ ⊥) :
    k3_pay46 (F := Ideal) (k3_pay44 (F := Ideal) q m a (blk X j n0 hk) (blk W j n0 hk)) (k3_pay45 (F := Ideal) q m a (blk X j n0 hk) (blk W j n0 hk)) (ix4 0 0 r l)
      = ∑ i : Fin 8192, Ideal.div (Ideal.exp (sc q X j n0 r i - Finset.univ.sup (sc q X j n0 r)))
          (∑ i : Fin 8192, Ideal.exp (sc q X j n0 r i - Finset.univ.sup (sc q X j n0 r))) * W (ix4 0 j i l) := by
  have T := fun (l : Fin 128) => tile n0 hk (sc q X j n0 r) (hs r) (fun i => w i l)
    (fun z => sc q X j n0 r (key n0 hk z)) (fun z => W (ix4 0 j (key n0 hk z) l))
    (fun z => rfl) (fun z => hw _ _) _ _ (h.1 r) (h.2 r l)
  have hp : ∀ v, Online.part (keys (n0 + 1)) (sc q X j n0 r) v = Online.part Finset.univ (sc q X j n0 r) v := fun v => by
    refine (Online.part_pad (Finset.subset_univ _) (fun i _ hi => ?_) v).symm
    simp only [keys, Finset.mem_filter, Finset.mem_univ, true_and] at hi
    unfold sc; rw [if_neg (by omega)]
  have hd := fun l => Online.part_div (S := Finset.univ) (s := sc q X j n0 r) (hs r) (fun i => w i l) (k := key n0 hk r) (Finset.mem_univ _)
    (by unfold sc; rw [if_pos (by rw [key_val])]; exact hb)
  pointwise [k3_pay44, k3_pay45, k3_pay46]
  have hsel : ∀ x : Fin 512, Scalar.select (IntOp.cmpi CmpIPredicate.sle (BitVec.ofNat 32 x.val) (BitVec.ofNat 32 r.val))
      (∑ d : Fin 128, (q (ix2 r d) : EReal) * blk X j n0 hk (ix4 0 0 x d)) (Named.named (F := Ideal) κ "mask" (φ := .f32) 4048155338#32)
        = sc q X j n0 r (key n0 hk x) := fun x => by
    rw [mask_bot]
    unfold sc
    rw [key_val]
    have e : (512 * n0 + x.val ≤ 512 * n0 + r.val) = (x.val ≤ r.val) := by simp
    rw [if_congr (iff_of_eq e) rfl rfl]
    refine Eq.trans ?_ (show (if x.val ≤ r.val then ∑ d : Fin 128, (q (ix2 r d) : EReal) * blk X j n0 hk (ix4 0 0 x d) else ⊥) = _ from rfl)
    word_cmp
  simp only [hsel]
  refine (congrArg₂ Ideal.div ((T l).2.trans (congrArg _ (hp _))) ((T 64).2.trans (congrArg _ (hp _)))).trans ?_
  simp only [h1]
  refine (hd l).trans (Finset.sum_congr rfl fun i _ => ?_)
  rw [hw]; rfl
end
-- ==== Proof.Fox.lean ====
module

public import proofs.«01_k».proof.Proof.FoxStep
public import proofs.«01_k».proof.Proof.Reals

@[expose] public section

set_option maxRecDepth 16384
noncomputable section
open Idealize.ShloMosaic Idealize.ShloMosaic.TcCoe Idealize.SL.Sem
open Idealize.ShloMosaic.Pipeline (Dat)
namespace Cert.KernelIdeal.Fox
open Cert.KernelIdeal Cert.KernelIdeal.Gen Cert.Spec Cert.Reals

theorem trips1 (i : grid3.Coords) : (k3_t1_loop i).trips = (i 2).val := by
  have key : ∀ n : Fin 16, (k3_t1_loop (fun a => ⟨if a = 2 then n.val else 0, by fin_cases a <;> simp⟩)).trips = n.val := by decide +kernel
  exact key (i 2)

theorem trips2 (i : grid3.Coords) : (k3_t2_loop i).trips = 0 := Nat.le_zero.mp (k3_t2_abs i).2.1

section Loop
variable (c : Dev nD) (i : grid3.Coords) (a1 : Memref sig .tc .vmem S1x4x512x128 .bf16) (h1 : a1.IsWhole)
  (a2 : Memref sig .tc .vmem S1x4x8192x128 .bf16) (h2 : a2.IsWhole) (a3 : Memref sig .tc .vmem S1x4x8192x128 .bf16) (h3 : a3.IsWhole)
  (a4 : Memref sig .tc .vmem S1x4x512x128 .bf16) (h4 : a4.IsWhole)
  (x1 : Vec Ideal S1x4x512x128 .bf16) (x2 x3 : Vec Ideal S1x4x8192x128 .bf16)

/-- The queries of one head. -/
def qh (j : Fin 4) : FVec Ideal S512x128 .bf16 := fun d => x1 (ix4 0 j (d 0) (d 1))

theorem ld_blk (X : Vec Ideal S1x4x8192x128 .bf16) (j : Fin 4) (k : ℕ) (hk : k < 16) (off : Fin 4 → ℕ) (ho : off = ![0, j.val, 512 * k, 0]) (inb) :
    View.ld (Val := Elt Ideal) (e' := .bf16) X (Rect.unit (s := S1x4x8192x128) off ![1, 1, 512, 128] inb) = blk X j k hk := by
  subst ho
  funext y
  unfold blk
  pointwise
  rfl

theorem readAt_blk {a : Memref sig .tc .vmem S1x4x8192x128 .bf16} (h : a.IsWhole) (X : Vec Ideal S1x4x8192x128 .bf16) (j : Fin 4) (k : ℕ) (hk : k < 16)
    (off : Fin 4 → ℕ) (ho : off = ![0, j.val, 512 * k, 0]) (inb) :
    View.readAt (Elt Ideal) a.view (Rect.unit (s := S1x4x8192x128) off ![1, 1, 512, 128] inb).toLoadRect (h.unread X) = blk X j k hk := by
  rw [View.readAt_eq_ld, h.read_unread]
  exact ld_blk X j k hk off ho _

/-- The four heads' states between two tiles. -/
def Inv4 (w : Fin 8192 → Fin 4 → Fin 128 → ℝ) (q : Fin 4 → FVec Ideal S512x128 .bf16) (n0 k : ℕ)
    (s : FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32) : Prop :=
  Inv (q 0) x2 (fun i l => w i 0 l) 0 n0 k s.1 s.2.1 ∧ Inv (q 1) x2 (fun i l => w i 1 l) 1 n0 k s.2.2.1 s.2.2.2.1
  ∧ Inv (q 2) x2 (fun i l => w i 2 l) 2 n0 k s.2.2.2.2.1 s.2.2.2.2.2.1 ∧ Inv (q 3) x2 (fun i l => w i 3 l) 3 n0 k s.2.2.2.2.2.2.1 s.2.2.2.2.2.2.2

/-- One trip, head by head: the same two payloads. -/
theorem trip_eq (q0 q1 q2 q3 : FVec Ideal S512x128 .bf16)
    (v8 : FVec Ideal S512x1 .f32) (v9 : FVec Ideal S512x128 .f32) (v10 : FVec Ideal S512x1 .f32) (v11 : FVec Ideal S512x128 .f32) (v12 : FVec Ideal S512x1 .f32) (v13 : FVec Ideal S512x128 .f32) (v14 : FVec Ideal S512x1 .f32) (v15 : FVec Ideal S512x128 .f32)
    (b1 b2 b3 b4 b5 b6 : BitVec 32) (X2 : BufTy.Contents (Elt Ideal) a2.view.ty) (X3 : BufTy.Contents (Elt Ideal) a3.view.ty) (k : Fin (k3_t1_loop i).trips)
    (s : FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32) :
    let ld2 := fun (off : Fin 4 → ℕ) (inb) => View.readAt (Elt Ideal) a2.view (Rect.unit (s := S1x4x8192x128) off ![1, 1, 512, 128] inb).toLoadRect X2
    let ld3 := fun (off : Fin 4 → ℕ) (inb) => View.readAt (Elt Ideal) a3.view (Rect.unit (s := S1x4x8192x128) off ![1, 1, 512, 128] inb).toLoadRect X3
    (trip_k3_t1 (F := Ideal) Variants.none c none i a1 h1 a2 h2 a3 h3 a4 h4 q0 q1 q2 q3 v8 v9 v10 v11 v12 v13 v14 v15 b1 b2 b3 b4 b5 b6 X2 X3 k).1 s
      = (k3_pay3 q0 s.1 (ld2 (k3_off1 i k) (k3_off1_inb i k)), k3_pay4 q0 s.1 s.2.1 (ld2 (k3_off1 i k) (k3_off1_inb i k)) (ld3 (k3_off1 i k) (k3_off1_inb i k)),
         k3_pay3 q1 s.2.2.1 (ld2 (k3_off2 i k) (k3_off2_inb i k)), k3_pay4 q1 s.2.2.1 s.2.2.2.1 (ld2 (k3_off2 i k) (k3_off2_inb i k)) (ld3 (k3_off2 i k) (k3_off2_inb i k)),
         k3_pay3 q2 s.2.2.2.2.1 (ld2 (k3_off3 i k) (k3_off3_inb i k)), k3_pay4 q2 s.2.2.2.2.1 s.2.2.2.2.2.1 (ld2 (k3_off3 i k) (k3_off3_inb i k)) (ld3 (k3_off3 i k) (k3_off3_inb i k)),
         k3_pay3 q3 s.2.2.2.2.2.2.1 (ld2 (k3_off4 i k) (k3_off4_inb i k)), k3_pay4 q3 s.2.2.2.2.2.2.1 s.2.2.2.2.2.2.2 (ld2 (k3_off4 i k) (k3_off4_inb i k)) (ld3 (k3_off4 i k) (k3_off4_inb i k))) := by
  unfold trip_k3_t1
  rfl

theorem state (w : Fin 8192 → Fin 4 → Fin 128 → ℝ) (q : Fin 4 → FVec Ideal S512x128 .bf16)
    (hs : ∀ j r n, sc (q j) x2 j (i 2).val r n ≠ ⊤) (hw : ∀ n j l, x3 (ix4 0 j n l) = (w n j l : EReal))
    (v8 : FVec Ideal S512x1 .f32) (v9 : FVec Ideal S512x128 .f32) (v10 : FVec Ideal S512x1 .f32) (v11 : FVec Ideal S512x128 .f32) (v12 : FVec Ideal S512x1 .f32) (v13 : FVec Ideal S512x128 .f32) (v14 : FVec Ideal S512x1 .f32) (v15 : FVec Ideal S512x128 .f32)
    (b1 b2 b3 b4 b5 b6 : BitVec 32) (k : ℕ) (hk : k ≤ (i 2).val) :
    Inv4 x2 w q (i 2).val k (st_k3_t1 (F := Ideal) Variants.none c none i a1 h1 a2 h2 a3 h3 a4 h4 (q 0) (q 1) (q 2) (q 3) v8 v9 v10 v11 v12 v13 v14 v15 b1 b2 b3 b4 b5 b6
      (h2.unread x2) (h3.unread x3) (k3_pay36, k3_pay37, k3_pay38, k3_pay39, k3_pay40, k3_pay41, k3_pay42, k3_pay43) k) := by
  induction k with
  | zero => exact ⟨inv_zero _ _ _ _ _, inv_zero _ _ _ _ _, inv_zero _ _ _ _ _, inv_zero _ _ _ _ _⟩
  | succ k ih =>
    obtain ⟨i0, i1, i2, i3⟩ := ih (by omega)
    have hi : (i 2).val < 16 := (i 2).isLt
    have hk' : k < (k3_t1_loop i).trips := by rw [trips1]; omega
    have e := st_k3_t1_succ (F := Ideal) Variants.none c none i a1 h1 a2 h2 a3 h3 a4 h4 (q 0) (q 1) (q 2) (q 3) v8 v9 v10 v11 v12 v13 v14 v15 b1 b2 b3 b4 b5 b6
      (h2.unread x2) (h3.unread x3) (k3_pay36, k3_pay37, k3_pay38, k3_pay39, k3_pay40, k3_pay41, k3_pay42, k3_pay43) ⟨k, hk'⟩
    dsimp only at e
    rw [show st_k3_t1 (F := Ideal) Variants.none c none i a1 h1 a2 h2 a3 h3 a4 h4 (q 0) (q 1) (q 2) (q 3) v8 v9 v10 v11 v12 v13 v14 v15 b1 b2 b3 b4 b5 b6
      (h2.unread x2) (h3.unread x3) (k3_pay36, k3_pay37, k3_pay38, k3_pay39, k3_pay40, k3_pay41, k3_pay42, k3_pay43) (k + 1) = _ from e]
    unfold tripR_k3_t1
    rw [trip_eq]
    dsimp only
    rw [readAt_blk h2 x2 0 k (by omega) _ (k3_off1_eq i ⟨k, hk'⟩), readAt_blk h3 x3 0 k (by omega) _ (k3_off1_eq i ⟨k, hk'⟩),
      readAt_blk h2 x2 1 k (by omega) _ (k3_off2_eq i ⟨k, hk'⟩), readAt_blk h3 x3 1 k (by omega) _ (k3_off2_eq i ⟨k, hk'⟩),
      readAt_blk h2 x2 2 k (by omega) _ (k3_off3_eq i ⟨k, hk'⟩), readAt_blk h3 x3 2 k (by omega) _ (k3_off3_eq i ⟨k, hk'⟩),
      readAt_blk h2 x2 3 k (by omega) _ (k3_off4_eq i ⟨k, hk'⟩), readAt_blk h3 x3 3 k (by omega) _ (k3_off4_eq i ⟨k, hk'⟩)]
    exact ⟨inv_step _ _ _ _ _ _ (hs 0) (fun n l => hw n 0 l) k (by omega) (by omega) _ _ i0, inv_step _ _ _ _ _ _ (hs 1) (fun n l => hw n 1 l) k (by omega) (by omega) _ _ i1,
      inv_step _ _ _ _ _ _ (hs 2) (fun n l => hw n 2 l) k (by omega) (by omega) _ _ i2, inv_step _ _ _ _ _ _ (hs 3) (fun n l => hw n 3 l) k (by omega) (by omega) _ _ i3⟩

/-- The last tile of a head and its quotient. -/
def outp (q : FVec Ideal S512x128 .bf16) (m : FVec Ideal S512x1 .f32) (a : FVec Ideal S512x128 .f32) (K W : Vec Ideal S1x1x512x128 .bf16) :
    Vec Ideal S1x1x512x128 .bf16 :=
  k3_pay46 (F := Ideal) (k3_pay44 (F := Ideal) q m a K W) (k3_pay45 (F := Ideal) q m a K W)

/-- The pieces a point stores: the four heads' quotients. -/
def pieces (q : Fin 4 → FVec Ideal S512x128 .bf16) (K W : Fin 4 → Vec Ideal S1x1x512x128 .bf16)
    (s : FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32) :
    List (View.Piece (Elt Ideal) S1x4x512x128 .bf16) :=
  [⟨Rect.unit (s := S1x4x512x128) ![0, 3, 0, 0] ![1, 1, 512, 128] inb_S1x4x512x128_S1x1x512x128_0_3_0_0, outp (q 3) s.2.2.2.2.2.2.1 s.2.2.2.2.2.2.2 (K 3) (W 3)⟩,
   ⟨Rect.unit (s := S1x4x512x128) ![0, 2, 0, 0] ![1, 1, 512, 128] inb_S1x4x512x128_S1x1x512x128_0_2_0_0, outp (q 2) s.2.2.2.2.1 s.2.2.2.2.2.1 (K 2) (W 2)⟩,
   ⟨Rect.unit (s := S1x4x512x128) ![0, 1, 0, 0] ![1, 1, 512, 128] inb_S1x4x512x128_S1x1x512x128_0_1_0_0, outp (q 1) s.2.2.1 s.2.2.2.1 (K 1) (W 1)⟩,
   ⟨Rect.unit (s := S1x4x512x128) ![0, 0, 0, 0] ![1, 1, 512, 128] inb_S1x4x512x128_S1x1x512x128_0_0_0_0, outp (q 0) s.1 s.2.1 (K 0) (W 0)⟩]

theorem run_eq :
    let ld2 := fun (off : Fin 4 → ℕ) (inb) => View.readAt (Elt Ideal) a2.view (Rect.unit (s := S1x4x8192x128) off ![1, 1, 512, 128] inb).toLoadRect (h2.unread x2)
    let ld3 := fun (off : Fin 4 → ℕ) (inb) => View.readAt (Elt Ideal) a3.view (Rect.unit (s := S1x4x8192x128) off ![1, 1, 512, 128] inb).toLoadRect (h3.unread x3)
    let q : Fin 4 → FVec Ideal S512x128 .bf16 := ![kernelRun3_A.sl.r c a1 h1 x1, kernelRun3_A.sl.r_1 c a1 h1 x1, kernelRun3_A.sl.r_2 c a1 h1 x1, kernelRun3_A.sl.r_3 c a1 h1 x1]
    (kernelRun3_A (F := Ideal) c i a1 h1 a2 h2 a3 h3 a4 h4 x1 x2 x3).1
      = pieces q ![ld2 (k3_off9 i) (k3_off9_inb i), ld2 (k3_off10 i) (k3_off10_inb i), ld2 (k3_off11 i) (k3_off11_inb i), ld2 (k3_off12 i) (k3_off12_inb i)]
          ![ld3 (k3_off9 i) (k3_off9_inb i), ld3 (k3_off10 i) (k3_off10_inb i), ld3 (k3_off11 i) (k3_off11_inb i), ld3 (k3_off12 i) (k3_off12_inb i)]
          (st_k3_t1 (F := Ideal) Variants.none c none i a1 h1 a2 h2 a3 h3 a4 h4 (q 0) (q 1) (q 2) (q 3) k3_pay36 k3_pay37 k3_pay38 k3_pay39 k3_pay40 k3_pay41 k3_pay42 k3_pay43
            (kernelRun3_A.sl.v17 i) (512#32) (kernelRun3_A.sl.v18 i) (kernelRun3_A.sl.v23 i) (1#32) (0#32)
            (h2.unread x2) (h3.unread x3) (k3_pay36, k3_pay37, k3_pay38, k3_pay39, k3_pay40, k3_pay41, k3_pay42, k3_pay43) (k3_t1_loop i).trips) := by
  intro ld2 ld3 q
  have e2 : Scf.trips (k3_t2_loop i).lb (k3_t2_loop i).ub (k3_t2_loop i).st = 0 := trips2 i
  unfold kernelRun3_A
  dsimp only
  unfold kernelRun3_A.sl.r_4 kernelRun3_A.sl.r_5 kernelRun3_A.sl.r_6 kernelRun3_A.sl.r_7 kernelRun3_A.sl.r_8 kernelRun3_A.sl.r_9 kernelRun3_A.sl.r_10 kernelRun3_A.sl.r_11
  rw [e2]
  simp only [st_k3_t2_zero]
  unfold kernelRun3_A.sl.r_12 kernelRun3_A.sl.r_13 kernelRun3_A.sl.r_14
  rw [show Scf.trips (k3_t1_loop i).lb (k3_t1_loop i).ub (k3_t1_loop i).st = (k3_t1_loop i).trips from rfl]
  change _ = pieces q _ _ (st_k3_t1 (F := Ideal) Variants.none c none i a1 h1 a2 h2 a3 h3 a4 h4 (kernelRun3_A.sl.r c a1 h1 x1) (kernelRun3_A.sl.r_1 c a1 h1 x1) (kernelRun3_A.sl.r_2 c a1 h1 x1) (kernelRun3_A.sl.r_3 c a1 h1 x1) k3_pay36 k3_pay37 k3_pay38 k3_pay39 k3_pay40 k3_pay41 k3_pay42 k3_pay43
            (kernelRun3_A.sl.v17 i) (512#32) (kernelRun3_A.sl.v18 i) (kernelRun3_A.sl.v23 i) (1#32) (0#32)
            (h2.unread x2) (h3.unread x3) (k3_pay36, k3_pay37, k3_pay38, k3_pay39, k3_pay40, k3_pay41, k3_pay42, k3_pay43) (k3_t1_loop i).trips)
  generalize st_k3_t1 (F := Ideal) Variants.none c none i a1 h1 a2 h2 a3 h3 a4 h4 (kernelRun3_A.sl.r c a1 h1 x1) (kernelRun3_A.sl.r_1 c a1 h1 x1) (kernelRun3_A.sl.r_2 c a1 h1 x1) (kernelRun3_A.sl.r_3 c a1 h1 x1) k3_pay36 k3_pay37 k3_pay38 k3_pay39 k3_pay40 k3_pay41 k3_pay42 k3_pay43
            (kernelRun3_A.sl.v17 i) (512#32) (kernelRun3_A.sl.v18 i) (kernelRun3_A.sl.v23 i) (1#32) (0#32)
            (h2.unread x2) (h3.unread x3) (k3_pay36, k3_pay37, k3_pay38, k3_pay39, k3_pay40, k3_pay41, k3_pay42, k3_pay43) (k3_t1_loop i).trips = s
  obtain ⟨s1, s2, s3, s4, s5, s6, s7, s8⟩ := s
  rfl

theorem qh_eq (j : Fin 4) (off : Fin 4 → ℕ) (ho : off = ![0, j.val, 0, 0]) (inb) :
    k3_pay32 (F := Ideal) (View.readAt (Elt Ideal) a1.view (Rect.unit (s := S1x4x512x128) off ![1, 1, 512, 128] inb).toLoadRect (h1.unread x1)) = qh x1 j := by
  subst ho
  rw [View.readAt_eq_ld, h1.read_unread]
  funext y
  rw [show y = ix2 (y 0) (y 1) from by funext a; fin_cases a <;> rfl]
  unfold qh
  pointwise [k3_pay32]

/-- The attention of one block. -/
def att (n0 : ℕ) (y : S1x4x512x128.Idx) : EReal :=
  ∑ i : Fin 8192, Ideal.div (Ideal.exp (sc (qh x1 (y 1)) x2 (y 1) n0 (y 2) i - Finset.univ.sup (sc (qh x1 (y 1)) x2 (y 1) n0 (y 2))))
    (∑ i : Fin 8192, Ideal.exp (sc (qh x1 (y 1)) x2 (y 1) n0 (y 2) i - Finset.univ.sup (sc (qh x1 (y 1)) x2 (y 1) n0 (y 2)))) * x3 (ix4 0 (y 1) i (y 3))

theorem dot_real (r1 : ∀ y, R (x1 y)) (r2 : ∀ y, R (x2 y)) (j : Fin 4) (r : Fin 512) (i : Fin 8192) :
    R (∑ d : Fin 128, (qh x1 j (ix2 r d) : EReal) * x2 (ix4 0 j i d)) :=
  R.sum fun d _ => R.mul (r1 _) (r2 _)

theorem sc_ne_top (r1 : ∀ y, R (x1 y)) (r2 : ∀ y, R (x2 y)) (j : Fin 4) (n0 : ℕ) (r : Fin 512) (i : Fin 8192) : sc (qh x1 j) x2 j n0 r i ≠ ⊤ := by
  unfold sc; split
  · exact (dot_real x1 x2 r1 r2 j r i).ne_top
  · exact bot_ne_top

theorem piece (r1 : ∀ y, R (x1 y)) (r2 : ∀ y, R (x2 y)) (w : Fin 8192 → Fin 4 → Fin 128 → ℝ) (hw : ∀ n j l, x3 (ix4 0 j n l) = (w n j l : EReal))
    (h64 : ∀ n j, w n j 64 = 1) (n0 : ℕ) (hn : n0 < 16) (j : Fin 4) (off : Fin 4 → ℕ) (ho : off = ![0, j.val, 0, 0])
    (m : FVec Ideal S512x1 .f32) (a : FVec Ideal S512x128 .f32) (h : Inv (qh x1 j) x2 (fun i l => w i j l) j n0 n0 m a) (y : S1x4x512x128.Idx) :
    View.TileAt (S := S1x4x512x128) y off ![1, 1, 512, 128] (outp (qh x1 j) m a (blk x2 j n0 hn) (blk x3 j n0 hn)) (att x1 x2 x3 n0 y) := by
  subst ho
  intro z hz
  have z0 : (z 0).val < 1 := (z 0).isLt
  have z1 : (z 1).val < 1 := (z 1).isLt
  have y0 : (y 0).val < 1 := (y 0).isLt
  have e1 : (y 1).val = j.val + (z 1).val := hz 1
  have e2 : (y 2).val = 0 + (z 2).val := hz 2
  have e3 : (y 3).val = 0 + (z 3).val := hz 3
  obtain rfl : y = ix4 0 j (z 2) (z 3) := by
    funext a
    fin_cases a
    · exact Fin.ext (show (y 0).val = 0 by omega)
    · exact Fin.ext (show (y 1).val = j.val by omega)
    · exact Fin.ext (show (y 2).val = (z 2).val by omega)
    · exact Fin.ext (show (y 3).val = (z 3).val by omega)
  have ez : z = ix4 0 0 (z 2) (z 3) := by
    funext a
    fin_cases a
    · exact Fin.ext (show (z 0).val = 0 by omega)
    · exact Fin.ext (show (z 1).val = 0 by omega)
    · rfl
    · rfl
  rw [ez]
  exact fin_at (qh x1 j) x2 x3 _ j n0 (sc_ne_top x1 x2 r1 r2 j n0) (fun n l => hw n j l) (fun n => h64 n j) hn m a h _ _ (dot_real x1 x2 r1 r2 j _ _).ne_bot

theorem out_at (r1 : ∀ y, R (x1 y)) (r2 : ∀ y, R (x2 y)) (r3 : ∀ y, R (x3 y)) (h64 : ∀ n j, x3 (ix4 0 j n 64) = (1 : EReal)) (y : S1x4x512x128.Idx) :
    out3_A_3 (F := Ideal) c i a1 h1 a2 h2 a3 h3 a4 h4 x1 x2 x3 y = att x1 x2 x3 (i 2).val y := by
  have hi : (i 2).val < 16 := (i 2).isLt
  unfold out3_A_3
  rw [View.read_writes_eq_canon _ _ _ (cover3_A_3 c i a1 h1 a2 h2 a3 h3 a4 h4 x1 x2 x3)]
  refine View.canon_eq_of_allAt _ _ _ (cover3_A_3 c i a1 h1 a2 h2 a3 h3 a4 h4 x1 x2 x3 y) ?_
  choose w' hw' using r3
  let w : Fin 8192 → Fin 4 → Fin 128 → ℝ := fun n j l => w' (ix4 0 j n l)
  have hw : ∀ n j l, x3 (ix4 0 j n l) = (w n j l : EReal) := fun n j l => hw' _
  have h64' : ∀ n j, w n j 64 = 1 := fun n j => EReal.coe_injective ((hw n j 64).symm.trans (h64 n j))
  rw [run_eq]
  dsimp only
  rw [show kernelRun3_A.sl.r c a1 h1 x1 = qh x1 0 from qh_eq a1 h1 x1 0 _ rfl _, show kernelRun3_A.sl.r_1 c a1 h1 x1 = qh x1 1 from qh_eq a1 h1 x1 1 _ rfl _,
    show kernelRun3_A.sl.r_2 c a1 h1 x1 = qh x1 2 from qh_eq a1 h1 x1 2 _ rfl _, show kernelRun3_A.sl.r_3 c a1 h1 x1 = qh x1 3 from qh_eq a1 h1 x1 3 _ rfl _,
    readAt_blk h2 x2 0 _ hi _ (k3_off9_eq i), readAt_blk h3 x3 0 _ hi _ (k3_off9_eq i), readAt_blk h2 x2 1 _ hi _ (k3_off10_eq i), readAt_blk h3 x3 1 _ hi _ (k3_off10_eq i),
    readAt_blk h2 x2 2 _ hi _ (k3_off11_eq i), readAt_blk h3 x3 2 _ hi _ (k3_off11_eq i), readAt_blk h2 x2 3 _ hi _ (k3_off12_eq i), readAt_blk h3 x3 3 _ hi _ (k3_off12_eq i), trips1]
  obtain ⟨s0, s1, s2, s3⟩ := state c i a1 h1 a2 h2 a3 h3 a4 h4 x2 x3 w (qh x1) (fun j => sc_ne_top x1 x2 r1 r2 j _) hw
    k3_pay36 k3_pay37 k3_pay38 k3_pay39 k3_pay40 k3_pay41 k3_pay42 k3_pay43 (kernelRun3_A.sl.v17 i) (512#32) (kernelRun3_A.sl.v18 i) (kernelRun3_A.sl.v23 i) (1#32) (0#32) (i 2).val le_rfl
  unfold pieces
  refine View.allAt_cons_unit (S := S1x4x512x128) (e := .bf16) _ _ _ _ _ (piece x1 x2 x3 r1 r2 w hw h64' _ hi 3 _ rfl _ _ s3 y) ?_
  refine View.allAt_cons_unit (S := S1x4x512x128) (e := .bf16) _ _ _ _ _ (piece x1 x2 x3 r1 r2 w hw h64' _ hi 2 _ rfl _ _ s2 y) ?_
  refine View.allAt_cons_unit (S := S1x4x512x128) (e := .bf16) _ _ _ _ _ (piece x1 x2 x3 r1 r2 w hw h64' _ hi 1 _ rfl _ _ s1 y) ?_
  refine View.allAt_cons_unit (S := S1x4x512x128) (e := .bf16) _ _ _ _ _ (piece x1 x2 x3 r1 r2 w hw h64' _ hi 0 _ rfl _ _ s0 y) ?_
  exact View.allAt_nil _ _

end Loop

variable (V : (c : Dev nD) → (b : Ref sig .tc) → Buf (Elt Ideal) ((c : Thread nD τ).loc b))

/-- The score of a key: none of one after the query. -/
def score (q k : FVec Ideal S8x16x8192x128 .bf16) (b : Fin 8) (h : Fin 16) (t i : Fin 8192) : EReal :=
  if i.val ≤ t.val then ∑ d : Fin 128, (q (ix4 b h t d) : EReal) * k (ix4 b h i d) else ⊥

/-- The values weighted by the scores' exponentials. -/
def G (q k v : FVec Ideal S8x16x8192x128 .bf16) : FVec Ideal S8x16x8192x128 .bf16 := fun j =>
  ∑ i : Fin 8192, Ideal.div (Ideal.exp (score q k (j 0) (j 1) (j 2) i - Finset.univ.sup (score q k (j 0) (j 1) (j 2))))
    (∑ i : Fin 8192, Ideal.exp (score q k (j 0) (j 1) (j 2) i - Finset.univ.sup (score q k (j 0) (j 1) (j 2)))) * v (ix4 (j 0) (j 1) i (j 3))

theorem idx : ∀ t : Fin cfg3.N, win3_0.index t = ![t.val / 64, t.val / 16 % 4, t.val % 16, 0] ∧ win3_1.index t = ![t.val / 64, t.val / 16 % 4, 0, 0]
    ∧ win3_2.index t = ![t.val / 64, t.val / 16 % 4, 0, 0] ∧ win3_3.index t = ![t.val / 64, t.val / 16 % 4, t.val % 16, 0] ∧ (grid3.coords t 2).val = t.val % 16 :=
  (by decide +kernel : ∀ t : Fin grid3.N, _)

theorem final (c : Dev nD) (r1 : ∀ y, R ((show FVec Ideal S8x16x8192x128 .bf16 from V c main_v17_0) y)) (r2 : ∀ y, R ((show FVec Ideal S8x16x8192x128 .bf16 from V c main_v17_1) y))
    (r3 : ∀ y, R ((show FVec Ideal S8x16x8192x128 .bf16 from V c main_v17_2) y))
    (h64 : ∀ b h n, (show FVec Ideal S8x16x8192x128 .bf16 from V c main_v17_2) (ix4 b h n 64) = (1 : EReal)) :
    (dat3 V c).arrAt 3 cfg3.N = G (V c main_v17_0) (V c main_v17_1) (V c main_v17_2) := by
  refine (dat3 V c).arrAt_eq_of_covers 3 _ (by decide +kernel) fun t _ y => ?_
  blk_simp
  rw [after3_3]
  unfold outsAt3
  refine (out_at c _ _ _ _ _ _ _ _ _ _ _ _ (fun j => ?_) (fun j => ?_) (fun j => ?_) (fun n j => ?_) y).trans ?_
  · exact r1 _
  · exact r2 _
  · exact r3 _
  · have ht : t.val < 512 := t.isLt
    refine Eq.trans ?_ (h64 ⟨t.val / 64, by omega⟩ ⟨t.val / 16 % 4 * 4 + j.val, by omega⟩ n)
    blk_point [iblk3, idx t]
  · have hs : sc (qh (iblk3 V c 0 t) (y 1)) (iblk3 V c 1 t) (y 1) (grid3.coords t 2).val (y 2)
        = score (V c main_v17_0) (V c main_v17_1) ((win3_3.blk t).view.emb y 0) ((win3_3.blk t).view.emb y 1) ((win3_3.blk t).view.emb y 2) := by
      funext n
      unfold sc score qh
      refine if_congr ?_ (Finset.sum_congr rfl fun d _ => ?_) rfl
      · refine iff_of_eq (congrArg (n.val ≤ ·) ?_)
        blk_simp [idx t]
        omega
      · blk_point [iblk3, idx t]
    unfold att G
    rw [hs]
    refine Finset.sum_congr rfl fun n _ => congrArg _ ?_
    blk_point [iblk3, idx t]
-- ==== Proof.OProj.lean ====
module

public import proofs.«01_k».proof.Proof.Spec

@[expose] public section

set_option maxRecDepth 16384
noncomputable section
open Idealize.ShloMosaic Idealize.ShloMosaic.TcCoe Idealize.SL.Sem
open Idealize.ShloMosaic.Pipeline (Dat)
namespace Cert.KernelIdeal.OProj
open Cert.KernelIdeal Cert.KernelIdeal.Gen Cert.Spec

section Block
variable (x0 : Vec Ideal S1x16x512x128 .bf16) (x1 : Vec Ideal S16x128x1024 .bf16) (x2 : Vec Ideal S1x512x1024 .f32)
  (x3 : Vec Ideal S1x1x1024 .f32) (x4 : Vec Ideal S1x1024 .f32) (x5 : Vec Ideal S1x1x1024 .f32) (x6 : Vec Ideal S1x1x1024 .f32)

/-- The block's residual row: the tokens plus the gated projection of all heads. -/
def res (r : Fin 512) (n : Fin 1024) : EReal :=
  x2 (ix3 0 r n) + x3 (ix3 0 0 n) * ∑ h : Fin 16, ∑ d : Fin 128, x0 (ix4 0 h r d) * x1 (ix3 h d n)

theorem sum_16 (f : Fin 16 → EReal) : ∑ h, f h = f 0 + f 1 + f 2 + f 3 + f 4 + f 5 + f 6 + f 7 + f 8 + f 9 + f 10
    + f 11 + f 12 + f 13 + f 14 + f 15 := by
  simp only [Fin.sum_univ_castSucc, Fin.sum_univ_zero, zero_add]
  rfl

theorem res_at (r : Fin 512) (n : Fin 1024) : k4_pay10 x0 x1 x2 x3 x4 x5 x6 (ix2 r n) = res x0 x1 x2 x3 r n := by
  unfold k4_pay10 res
  rw [sum_16]
  open_payloads
  pointwise

theorem y_at (y : S1x512x1024.Idx) : k4_pay1 (k4_pay10 x0 x1 x2 x3 x4 x5 x6) y = res x0 x1 x2 x3 (y 1) (y 2) := by
  refine Eq.trans ?_ (res_at x0 x1 x2 x3 x4 x5 x6 (y 1) (y 2))
  generalize k4_pay10 x0 x1 x2 x3 x4 x5 x6 = P
  open_payloads
  pointwise

theorem n_at (y : S1x512x1024.Idx) : k4_pay2 (k4_pay10 x0 x1 x2 x3 x4 x5 x6) x4 x5 x6 y
    = mod (res x0 x1 x2 x3 (y 1)) (fun k => x4 (ix2 0 k)) (fun k => x6 (ix3 0 0 k)) (fun k => x5 (ix3 0 0 k)) (y 2) := by
  have e : res x0 x1 x2 x3 (y 1) = fun n : Fin 1024 => k4_pay10 x0 x1 x2 x3 x4 x5 x6 (ix2 (y 1) n) :=
    funext fun n => (res_at x0 x1 x2 x3 x4 x5 x6 (y 1) n).symm
  rw [e]
  generalize k4_pay10 x0 x1 x2 x3 x4 x5 x6 = P
  pointwise [k4_pay2, mod, nrm]

end Block

variable (V : (c : Dev nD) → (b : Ref sig .tc) → Buf (Elt Ideal) ((c : Thread nD τ).loc b))

/-- A token's residual row: the token plus the gated projection of all its heads. -/
def resid (o : FVec Ideal S8x16x8192x128 .bf16) (w : FVec Ideal S16x128x1024 .bf16) (x : FVec Ideal S8x8192x1024 .f32)
    (gate : FVec Ideal S8x1x1024 .f32) (b : Fin 8) (t : Fin 8192) (n : Fin 1024) : EReal :=
  x (ix3 b t n) + gate (ix3 b 0 n) * ∑ h : Fin 16, ∑ d : Fin 128, o (ix4 b h t d) * w (ix3 h d n)

/-- The residual stream. -/
def Gy (o : FVec Ideal S8x16x8192x128 .bf16) (w : FVec Ideal S16x128x1024 .bf16) (x : FVec Ideal S8x8192x1024 .f32)
    (gate : FVec Ideal S8x1x1024 .f32) : FVec Ideal S8x8192x1024 .f32 := fun j => resid o w x gate (j 0) (j 1) (j 2)

/-- Its modulated norm. -/
def Gn (o : FVec Ideal S8x16x8192x128 .bf16) (w : FVec Ideal S16x128x1024 .bf16) (x : FVec Ideal S8x8192x1024 .f32)
    (gate : FVec Ideal S8x1x1024 .f32) (g : FVec Ideal S1x1024 .f32) (sh sc : FVec Ideal S8x1x1024 .f32) :
    FVec Ideal S8x8192x1024 .bf16 := fun j =>
  mod (resid o w x gate (j 0) (j 1)) (fun k => g (ix2 0 k)) (fun k => sc (ix3 (j 0) 0 k)) (fun k => sh (ix3 (j 0) 0 k)) (j 2)

theorem idx : ∀ t : Fin cfg4.N, win4_0.index t = ![t.val / 16, 0, t.val % 16, 0] ∧ win4_1.index t = ![0, 0, 0]
    ∧ win4_2.index t = ![t.val / 16, t.val % 16, 0] ∧ win4_3.index t = ![t.val / 16, 0, 0] ∧ win4_4.index t = ![0, 0]
    ∧ win4_5.index t = ![t.val / 16, 0, 0] ∧ win4_6.index t = ![t.val / 16, 0, 0]
    ∧ win4_7.index t = ![t.val / 16, t.val % 16, 0] ∧ win4_8.index t = ![t.val / 16, t.val % 16, 0] :=
  (by decide +kernel : ∀ t : Fin grid4.N, _)

theorem row_point (c : Dev nD) (t : Fin cfg4.N) (r : Fin 512) (n : Fin 1024) (b : Fin 8) (s : Fin 8192)
    (hb : b.val = t.val / 16) (hs : s.val = 512 * (t.val % 16) + r.val) :
    res (iblk4 V c 0 t) (iblk4 V c 1 t) (iblk4 V c 2 t) (iblk4 V c 3 t) r n
      = resid (V c main_v18) (V c main_v21) (V c main_arg0) (V c main_v22) b s n := by
  pointwise [res, resid]
  blk_point [iblk4, idx t]

theorem y_point (c : Dev nD) (t : Fin cfg4.N) (y : S1x512x1024.Idx) :
    res (iblk4 V c 0 t) (iblk4 V c 1 t) (iblk4 V c 2 t) (iblk4 V c 3 t) (y 1) (y 2)
      = Gy (V c main_v18) (V c main_v21) (V c main_arg0) (V c main_v22) (((cfg4.win 7).blk t).view.emb y) := by
  pointwise [res, resid, Gy]
  blk_point [iblk4, idx t]

theorem n_point (c : Dev nD) (t : Fin cfg4.N) (y : S1x512x1024.Idx) :
    mod (res (iblk4 V c 0 t) (iblk4 V c 1 t) (iblk4 V c 2 t) (iblk4 V c 3 t) (y 1))
      (fun k => (show Vec Ideal S1x1024 .f32 from iblk4 V c 4 t) (ix2 0 k))
      (fun k => (show Vec Ideal S1x1x1024 .f32 from iblk4 V c 6 t) (ix3 0 0 k))
      (fun k => (show Vec Ideal S1x1x1024 .f32 from iblk4 V c 5 t) (ix3 0 0 k)) (y 2)
      = Gn (V c main_v18) (V c main_v21) (V c main_arg0) (V c main_v22) (V c main_v23) (V c main_v24) (V c main_v25)
        (((cfg4.win 8).blk t).view.emb y) := by
  pointwise [res, resid, Gn, mod, nrm]
  blk_point [iblk4, idx t]

theorem y_final (c : Dev nD) : (dat4 V c).arrAt 7 cfg4.N
    = Gy (V c main_v18) (V c main_v21) (V c main_arg0) (V c main_v22) := by
  refine (dat4 V c).arrAt_eq_of_covers 7 _ (by decide +kernel) fun t _ y => ?_
  blk_simp
  rw [after4_7]; unfold out4_7; frame_out
  exact (y_at _ _ _ _ (iblk4 V c 4 t) (iblk4 V c 5 t) (iblk4 V c 6 t) y).trans (y_point V c t y)

theorem n_final (c : Dev nD) : (dat4 V c).arrAt 8 cfg4.N
    = Gn (V c main_v18) (V c main_v21) (V c main_arg0) (V c main_v22) (V c main_v23) (V c main_v24) (V c main_v25) := by
  refine (dat4 V c).arrAt_eq_of_covers 8 _ (by decide +kernel) fun t _ y => ?_
  blk_simp
  rw [after4_8]; unfold out4_8; frame_out
  exact (n_at ..).trans (n_point V c t y)

end Cert.KernelIdeal.OProj
-- ==== Proof.Chase.lean ====
/- The kernel's fold followed from the arguments: what each region finds and leaves, in the mathematics of the layer. -/
module

public import proofs.«01_k».proof.Proof.Stretch
public import proofs.«01_k».proof.Proof.Finite
public import proofs.«01_k».proof.Proof.NormProj
public import proofs.«01_k».proof.Proof.CumSum
public import proofs.«01_k».proof.Proof.Heads
public import proofs.«01_k».proof.Proof.Fox
public import proofs.«01_k».proof.Proof.OProj

@[expose] public section

set_option maxRecDepth 16384
noncomputable section
open Idealize.ShloMosaic Idealize.ShloMosaic.TcCoe Idealize.SL.Sem
namespace Cert.KernelIdeal.Chase
open Cert.KernelIdeal Cert.KernelIdeal.Gen Cert.Layer Cert.Reals
open Cert.Spec (mod lsig)

variable (m : (ℓ : Loc nD τ sig) → Buf (Elt Ideal) ℓ) (ρ : Dev nD → PrngReg) (c : Dev nD)

/-- The kernel's arguments. -/
def args : Args where
  x := m ((c : Thread nD τ).loc main_arg0)
  shift_m := m ((c : Thread nD τ).loc main_arg1)
  scale_m := m ((c : Thread nD τ).loc main_arg2)
  gate_m := m ((c : Thread nD τ).loc main_arg3)
  shift_c := m ((c : Thread nD τ).loc main_arg4)
  scale_c := m ((c : Thread nD τ).loc main_arg5)
  shift_kv := m ((c : Thread nD τ).loc main_arg6)
  scale_kv := m ((c : Thread nD τ).loc main_arg7)
  g_mix := m ((c : Thread nD τ).loc main_arg8)
  g_ffn := m ((c : Thread nD τ).loc main_arg9)
  g_kv := m ((c : Thread nD τ).loc main_arg10)
  w_kv := m ((c : Thread nD τ).loc main_arg11)
  w_f := m ((c : Thread nD τ).loc main_arg12)
  b_f := m ((c : Thread nD τ).loc main_arg13)
  w_q := m ((c : Thread nD τ).loc main_arg14)
  w_o := m ((c : Thread nD τ).loc main_arg15)

theorem mod_congr {x x' g g' sc sc' sh sh' : Fin 1024 → EReal} (hx : ∀ k, x k = x' k) (hg : ∀ k, g k = g' k)
    (hc : ∀ k, sc k = sc' k) (hs : ∀ k, sh k = sh' k) (d : Fin 1024) : mod x g sc sh d = mod x' g' sc' sh' d := by
  rw [funext hx, funext hg, funext hc, funext hs]

/-! ### The gate -/

theorem v1_at (k : Fin 1024) (n : Fin 128) : (show FVec Ideal S1024x128 .bf16 from V5 m ρ c main_v1) (ix2 k n)
    = (if h : n.val < 16 then (args m c).w_f (ix2 k ⟨n.val, h⟩) else 0 : EReal) := by
  have h1 : W1 m ρ c (Proc.devRef .tc main_c) = constantI S_ 32 0#32 := Stretch.s1 _
  have h2 := Stretch.s2 (W1 m ρ c) h1 k n
  rw [W1_args m ρ c main_arg12 (by decide)] at h2
  refine (congrFun (((W5_of m ρ c main_v1 (by decide)).trans (W4_of m ρ c main_v1 (by decide))).trans (Stretch.s3 (W2 m ρ c))) (ix2 k n)).trans h2

theorem v6_at (n : Fin 128) : (show FVec Ideal S1x128 .f32 from V5 m ρ c main_v6) (ix2 0 n)
    = (if h : n.val < 16 then (args m c).b_f (ix1 ⟨n.val, h⟩) else 0 : EReal) := by
  have h1 : W3 m ρ c (Proc.devRef .tc main_c_0) = constantI S_ 32 0#32 := Stretch.s3' _
  have h2 := Stretch.s4 (W3 m ρ c) h1 n
  rw [W3_args m ρ c main_arg13 (by decide)] at h2
  exact (Stretch.s5_v6 (W4 m ρ c) n).trans h2

theorem g5_at (k : Fin 1024) : (show FVec Ideal S1x1024 .f32 from V5 m ρ c main_v3) (ix2 0 k) = (args m c).g_kv (ix1 k) := by
  have h := Stretch.s5_v3 (W4 m ρ c) k
  rw [W4_args m ρ c main_arg10 (by decide)] at h
  exact h
theorem sh5_at (b : Fin 8) (k : Fin 1024) : (show FVec Ideal S8x1x1024 .f32 from V5 m ρ c main_v4) (ix3 b 0 k) = (args m c).shift_kv (ix2 b k) := by
  have h := Stretch.s5_v4 (W4 m ρ c) b k
  rw [W4_args m ρ c main_arg6 (by decide)] at h
  exact h
theorem sc5_at (b : Fin 8) (k : Fin 1024) : (show FVec Ideal S8x1x1024 .f32 from V5 m ρ c main_v5) (ix3 b 0 k) = (args m c).scale_kv (ix2 b k) := by
  have h := Stretch.s5_v5 (W4 m ρ c) b k
  rw [W4_args m ρ c main_arg7 (by decide)] at h
  exact h

/-- The gate before the sigmoid over the padded lanes. -/
def zp (A : Args) (b : Fin 8) (t : Fin 8192) (n : Fin 128) : EReal := if h : n.val < 16 then z A b t ⟨n.val, h⟩ else 0

theorem v7_at (b : Fin 8) (t : Fin 8192) (n : Fin 128) :
    (show FVec Ideal S8x8192x128 .f32 from V6 m ρ c main_v7) (ix3 b t n) = lsig (zp (args m c) b t n) := by
  refine (congrFun ((W6_arr m ρ c 6).trans (NormProj.final (V5 m ρ) c)) (ix3 b t n)).trans ?_
  unfold NormProj.G
  refine congrArg lsig ?_
  have e : ∀ d, mod (fun k => (show FVec Ideal S8x8192x1024 .f32 from V5 m ρ c main_arg0) (ix3 b t k)) (fun k => (show FVec Ideal S1x1024 .f32 from V5 m ρ c main_v3) (ix2 0 k))
      (fun k => (show FVec Ideal S8x1x1024 .f32 from V5 m ρ c main_v5) (ix3 b 0 k)) (fun k => (show FVec Ideal S8x1x1024 .f32 from V5 m ρ c main_v4) (ix3 b 0 k)) d = hkv (args m c) b t d :=
    mod_congr (fun k => congrFun (W5_args m ρ c main_arg0 (by decide)) (ix3 b t k)) (g5_at m ρ c) (sc5_at m ρ c b) (sh5_at m ρ c b)
  refine (congrArg₂ (· + ·) (Finset.sum_congr rfl fun d _ => congrArg₂ (· * ·) (e d) (v1_at m ρ c d n)) (v6_at m ρ c n)).trans ?_
  unfold zp
  by_cases h : n.val < 16
  · simp only [dif_pos h]
    rfl
  · simp only [dif_neg h, mul_zero, Finset.sum_const_zero, add_zero]

variable (hA : Real (args m c))
include hA

theorem v7_real (j : S8x8192x128.Idx) : R ((show FVec Ideal S8x8192x128 .f32 from V6 m ρ c main_v7) j) := by
  have key : ∀ b t n, R ((show FVec Ideal S8x8192x128 .f32 from V6 m ρ c main_v7) (ix3 b t n)) := by
    intro b t n
    rw [v7_at m ρ c b t n]
    refine lsig_real ?_
    unfold zp
    split
    · exact z_real hA _ _ _
    · exact R.zero
  have e : j = (ix3 (j 0) (j 1) (j 2) : S8x8192x128.Idx) := by blk_ext []
  exact (congrArg Cert.Reals.R (congrArg (show FVec Ideal S8x8192x128 .f32 from V6 m ρ c main_v7) e)).mpr (key _ _ _)

theorem v8_eq : (show FVec Ideal S8x8192x128 .f32 from V7 m ρ c main_v8) = CumSum.G (V6 m ρ c main_v7) :=
  (W7_arr m ρ c 1).trans (CumSum.final (V6 m ρ) c fun j => (v7_real m ρ c hA j).sub_self)

/-- The heads' lanes of the running sum. -/
def lane (h : Fin 16) : Fin 128 := ⟨h.val, by omega⟩

omit hA in
theorem lane_lsig (b : Fin 8) (t : Fin 8192) (h : Fin 16) : lsig (zp (args m c) b t (lane h)) = lf (args m c) b t h := by
  unfold zp lf lane
  rw [dif_pos h.isLt]

theorem v8_at (b : Fin 8) (t : Fin 8192) (h : Fin 16) :
    (show FVec Ideal S8x8192x128 .f32 from V8 m ρ c main_v8) (ix3 b t (lane h)) = cum (args m c) b t h := by
  refine (congrFun ((W8_of m ρ c main_v8 (by decide)).trans (v8_eq m ρ c hA)) (ix3 b t (lane h))).trans ?_
  have e : CumSum.G (show FVec Ideal S8x8192x128 .f32 from V6 m ρ c main_v7) (ix3 b t (lane h)) = cum (args m c) b t h := by
    unfold CumSum.G cum
    exact Finset.sum_congr rfl fun n _ => (v7_at m ρ c b n (lane h)).trans (lane_lsig m c b n h)
  exact e

/-! ### The heads -/

omit hA in
theorem hkv8 (b : Fin 8) (t : Fin 8192) (d : Fin 1024) :
    mod (fun k => (show FVec Ideal S8x8192x1024 .f32 from V8 m ρ c main_arg0) (ix3 b t k)) (fun k => (show FVec Ideal S1x1024 .f32 from V8 m ρ c main_v11) (ix2 0 k))
      (fun k => (show FVec Ideal S8x1x1024 .f32 from V8 m ρ c main_v13) (ix3 b 0 k)) (fun k => (show FVec Ideal S8x1x1024 .f32 from V8 m ρ c main_v12) (ix3 b 0 k)) d = hkv (args m c) b t d :=
  mod_congr (fun k => congrFun (W8_args m ρ c main_arg0 (by decide)) (ix3 b t k))
    (fun k => (Stretch.s8_v11 (W7 m ρ c) k).trans (congrFun (W7_args m ρ c main_arg10 (by decide)) (ix1 k)))
    (fun k => (Stretch.s8_v13 (W7 m ρ c) b k).trans (congrFun (W7_args m ρ c main_arg7 (by decide)) (ix2 b k)))
    (fun k => (Stretch.s8_v12 (W7 m ρ c) b k).trans (congrFun (W7_args m ρ c main_arg6 (by decide)) (ix2 b k))) d

omit hA in
theorem hq8 (b : Fin 8) (t : Fin 8192) (d : Fin 1024) :
    mod (fun k => (show FVec Ideal S8x8192x1024 .f32 from V8 m ρ c main_arg0) (ix3 b t k)) (fun k => (show FVec Ideal S1x1024 .f32 from V8 m ρ c main_v14) (ix2 0 k))
      (fun k => (show FVec Ideal S8x1x1024 .f32 from V8 m ρ c main_v16) (ix3 b 0 k)) (fun k => (show FVec Ideal S8x1x1024 .f32 from V8 m ρ c main_v15) (ix3 b 0 k)) d = hq (args m c) b t d :=
  mod_congr (fun k => congrFun (W8_args m ρ c main_arg0 (by decide)) (ix3 b t k))
    (fun k => (Stretch.s8_v14 (W7 m ρ c) k).trans (congrFun (W7_args m ρ c main_arg8 (by decide)) (ix1 k)))
    (fun k => (Stretch.s8_v16 (W7 m ρ c) b k).trans (congrFun (W7_args m ρ c main_arg2 (by decide)) (ix2 b k)))
    (fun k => (Stretch.s8_v15 (W7 m ρ c) b k).trans (congrFun (W7_args m ρ c main_arg1 (by decide)) (ix2 b k))) d

omit hA in
theorem kv8 (b : Fin 8) (t : Fin 8192) (n : Fin 2048) :
    Heads.proj (V8 m ρ c main_arg0) (V8 m ρ c main_v11) (V8 m ρ c main_v12) (V8 m ρ c main_v13)
      (fun d n => (show FVec Ideal S1024x2048 .bf16 from V8 m ρ c main_v9) (ix2 d n)) b t n = kv (args m c) b t n :=
  Finset.sum_congr rfl fun d _ => congrArg₂ (· * ·) (hkv8 m ρ c b t d)
    ((congrFun (Stretch.s8_v9 (W7 m ρ c)) (ix2 d n)).trans (congrFun (W7_args m ρ c main_arg11 (by decide)) (ix2 d n)))

omit hA in
theorem q8 (b : Fin 8) (t : Fin 8192) (n : Fin 1024) :
    Heads.proj (V8 m ρ c main_arg0) (V8 m ρ c main_v14) (V8 m ρ c main_v15) (V8 m ρ c main_v16)
      (fun d n => (show FVec Ideal S1024x1024 .bf16 from V8 m ρ c main_v10) (ix2 d n)) b t n = q (args m c) b t n :=
  Finset.sum_congr rfl fun d _ => congrArg₂ (· * ·) (hq8 m ρ c b t d)
    ((congrFun (Stretch.s8_v10 (W7 m ρ c)) (ix2 d n)).trans (congrFun (W7_args m ρ c main_arg14 (by decide)) (ix2 d n)))

theorem qh_at (b : Fin 8) (h : Fin 16) (t : Fin 8192) (d : Fin 128) :
    (show FVec Ideal S8x16x8192x128 .bf16 from V9 m ρ c main_v17_0) (ix4 b h t d)
      = Heads.qlane d.val (q (args m c) b t ⟨(64 * h.val + d.val) % 1024, Nat.mod_lt _ (by omega)⟩) (cum (args m c) b t h) := by
  refine (congrFun ((W9_arr m ρ c 10).trans (Heads.q_final (V8 m ρ) c)) (ix4 b h t d)).trans ?_
  exact congrArg₂ (Heads.qlane d.val) (q8 m ρ c b t _) (v8_at m ρ c hA b t h)

theorem kh_at (b : Fin 8) (h : Fin 16) (t : Fin 8192) (d : Fin 128) :
    (show FVec Ideal S8x16x8192x128 .bf16 from V9 m ρ c main_v17_1) (ix4 b h t d)
      = Heads.klane d.val (kv (args m c) b t ⟨(64 * h.val + d.val) % 2048, Nat.mod_lt _ (by omega)⟩) (cum (args m c) b t h) := by
  refine (congrFun ((W9_arr m ρ c 11).trans (Heads.k_final (V8 m ρ) c)) (ix4 b h t d)).trans ?_
  exact congrArg₂ (Heads.klane d.val) (kv8 m ρ c b t _) (v8_at m ρ c hA b t h)

omit hA in
theorem vh_at (b : Fin 8) (h : Fin 16) (t : Fin 8192) (d : Fin 128) :
    (show FVec Ideal S8x16x8192x128 .bf16 from V9 m ρ c main_v17_2) (ix4 b h t d)
      = Heads.vlane d.val (kv (args m c) b t ⟨(1024 + 64 * h.val + d.val) % 2048, Nat.mod_lt _ (by omega)⟩) := by
  refine (congrFun ((W9_arr m ρ c 12).trans (Heads.v_final (V8 m ρ) c)) (ix4 b h t d)).trans ?_
  exact congrArg (Heads.vlane d.val) (kv8 m ρ c b t _)

omit hA in
theorem bk_at (b : Fin 8) (t : Fin 8192) (n : Fin 1024) :
    (show FVec Ideal S8x8192x1024 .f32 from V9 m ρ c main_v17_3) (ix3 b t n) = kv (args m c) b t (kcol n) :=
  (congrFun ((W9_arr m ρ c 13).trans (Heads.bk_final (V8 m ρ) c)) (ix3 b t n)).trans (kv8 m ρ c b t _)

omit hA in
theorem bv_at (b : Fin 8) (t : Fin 8192) (n : Fin 1024) :
    (show FVec Ideal S8x8192x1024 .f32 from V9 m ρ c main_v17_4) (ix3 b t n) = kv (args m c) b t (vcol n) :=
  (congrFun ((W9_arr m ρ c 14).trans (Heads.bv_final (V8 m ρ) c)) (ix3 b t n)).trans (kv8 m ρ c b t _)

end Cert.KernelIdeal.Chase
-- ==== Proof.Attend.lean ====
/- The kernel's fold followed further: the scores, the weighted values, the projection, and the five results. -/
module

public import proofs.«01_k».proof.Proof.Chase

@[expose] public section

set_option maxRecDepth 16384
noncomputable section
open Idealize.ShloMosaic Idealize.ShloMosaic.TcCoe Idealize.SL.Sem
namespace Cert.KernelIdeal.Chase
open Cert.KernelIdeal Cert.KernelIdeal.Gen Cert.Layer
open Cert.Spec (mod lsig)

/-- A sum over 128 lanes in its two halves. -/
theorem halves (f : Fin 128 → EReal) : ∑ d, f d = ∑ d : Fin 64, f ⟨d.val, by omega⟩ + ∑ d : Fin 64, f ⟨64 + d.val, by omega⟩ :=
  Fin.sum_univ_add (a := 64) (b := 64) f
/-- A sum over 128 lanes of which those from 64 are none. -/
theorem front (f : Fin 128 → EReal) (h0 : ∀ d : Fin 128, 64 ≤ d.val → f d = 0) : ∑ d, f d = ∑ d : Fin 64, f ⟨d.val, by omega⟩ := by
  exact (halves f).trans ((congrArg _ (Finset.sum_eq_zero fun d _ => h0 ⟨64 + d.val, by omega⟩ (by simp))).trans (add_zero _))
/-- A sum over 128 lanes of which those from 70 are none. -/
theorem lanes (f : Fin 128 → EReal) (h0 : ∀ d : Fin 128, 70 ≤ d.val → f d = 0) :
    ∑ d, f d = ∑ d : Fin 64, f ⟨d.val, by omega⟩ + (f 64 + f 65 + f 66 + f 67 + f 68 + f 69) := by
  rw [halves]
  refine congrArg _ ((Fin.sum_univ_add (a := 6) (b := 58) fun d : Fin 64 => f ⟨64 + d.val, by omega⟩).trans ?_)
  rw [Finset.sum_eq_zero (s := (Finset.univ : Finset (Fin 58))) (fun d _ => h0 _ (by simp; omega)), add_zero, Fin.sum_univ_six]
  rfl

/-- The lanes' product is the scaled product of the heads and the difference of the gate's running sums. -/
theorem lane_dot {a k : Fin 64 → EReal} {ct ci s : EReal} (ha : ∀ d, Cert.Reals.R (a d)) (hk : ∀ d, Cert.Reals.R (k d))
    (ht : Cert.Reals.R ct) (hi : Cert.Reals.R ci) (hs : Cert.Reals.R s) :
    ∑ d, a d * s * k d + (ct * 1 + (ct - ct) * 1 + (ct - ct - (ct - ct)) * 1 + 1 * (0 - ci) + 1 * (0 - (ci - ci)) + 1 * (0 - (ci - ci - (ci - ci))))
      = (∑ d, a d * k d) * s + ct - ci := by
  obtain ⟨f, hf⟩ : ∃ f : Fin 64 → ℝ, ∀ d, a d = f d := ⟨fun d => (ha d).choose, fun d => (ha d).choose_spec⟩
  obtain ⟨g, hg⟩ : ∃ g : Fin 64 → ℝ, ∀ d, k d = g d := ⟨fun d => (hk d).choose, fun d => (hk d).choose_spec⟩
  obtain ⟨t, rfl⟩ := ht
  obtain ⟨i, rfl⟩ := hi
  obtain ⟨s, rfl⟩ := hs
  have e1 : ∑ d, a d * (s : EReal) * k d = ((∑ d, f d * s * g d : ℝ) : EReal) := by
    rw [← sum_coe]
    exact Finset.sum_congr rfl fun d _ => by rw [hf, hg, EReal.coe_mul, EReal.coe_mul]
  have e2 : ∑ d, a d * k d = ((∑ d, f d * g d : ℝ) : EReal) := by
    rw [← sum_coe]
    exact Finset.sum_congr rfl fun d _ => by rw [hf, hg, EReal.coe_mul]
  rw [e1, e2, ← EReal.coe_one, ← EReal.coe_zero]
  simp only [← EReal.coe_mul, ← EReal.coe_sub, ← EReal.coe_add]
  refine congrArg _ ?_
  rw [Finset.sum_mul]
  have e3 : ∑ d, f d * s * g d = ∑ d, f d * g d * s := Finset.sum_congr rfl fun d _ => by ring
  rw [e3]
  ring

variable (m : (ℓ : Loc nD τ sig) → Buf (Elt Ideal) ℓ) (ρ : Dev nD → PrngReg) (c : Dev nD) (hA : Real (args m c))
include hA

theorem cum_r (b : Fin 8) (t : Fin 8192) (h : Fin 16) : Cert.Reals.R (cum (args m c) b t h) := cum_real hA b t h

theorem q_fin (j : S8x16x8192x128.Idx) : Cert.Reals.R ((show FVec Ideal S8x16x8192x128 .bf16 from V9 m ρ c main_v17_0) j) := by
  have key : ∀ b h t d, Cert.Reals.R ((show FVec Ideal S8x16x8192x128 .bf16 from V9 m ρ c main_v17_0) (ix4 b h t d)) := by
    intro b h t d
    rw [qh_at m ρ c hA b h t d]
    have hc := cum_real hA b t h
    unfold Heads.qlane
    split_ifs
    · exact (q_real hA _ _ _).mul scale
    · exact hc
    · exact hc.sub hc
    · exact (hc.sub hc).sub (hc.sub hc)
    · exact Cert.Reals.R.one
    · exact Cert.Reals.R.zero
  have e : j = (ix4 (j 0) (j 1) (j 2) (j 3) : S8x16x8192x128.Idx) := by blk_ext []
  exact (congrArg Cert.Reals.R (congrArg (show FVec Ideal S8x16x8192x128 .bf16 from V9 m ρ c main_v17_0) e)).mpr (key _ _ _ _)

theorem k_fin (j : S8x16x8192x128.Idx) : Cert.Reals.R ((show FVec Ideal S8x16x8192x128 .bf16 from V9 m ρ c main_v17_1) j) := by
  have key : ∀ b h t d, Cert.Reals.R ((show FVec Ideal S8x16x8192x128 .bf16 from V9 m ρ c main_v17_1) (ix4 b h t d)) := by
    intro b h t d
    rw [kh_at m ρ c hA b h t d]
    have hc := cum_real hA b t h
    have z := Cert.Reals.R.zero
    unfold Heads.klane
    split_ifs
    · exact kv_real hA _ _ _
    · exact z.sub hc
    · exact z.sub (hc.sub hc)
    · exact z.sub ((hc.sub hc).sub (hc.sub hc))
    · exact Cert.Reals.R.one
    · exact z
  have e : j = (ix4 (j 0) (j 1) (j 2) (j 3) : S8x16x8192x128.Idx) := by blk_ext []
  exact (congrArg Cert.Reals.R (congrArg (show FVec Ideal S8x16x8192x128 .bf16 from V9 m ρ c main_v17_1) e)).mpr (key _ _ _ _)

theorem v_fin (j : S8x16x8192x128.Idx) : Cert.Reals.R ((show FVec Ideal S8x16x8192x128 .bf16 from V9 m ρ c main_v17_2) j) := by
  have key : ∀ b h t d, Cert.Reals.R ((show FVec Ideal S8x16x8192x128 .bf16 from V9 m ρ c main_v17_2) (ix4 b h t d)) := by
    intro b h t d
    rw [vh_at m ρ c b h t d]
    unfold Heads.vlane
    split_ifs
    · exact kv_real hA _ _ _
    · exact Cert.Reals.R.one
    · exact Cert.Reals.R.zero
  have e : j = (ix4 (j 0) (j 1) (j 2) (j 3) : S8x16x8192x128.Idx) := by blk_ext []
  exact (congrArg Cert.Reals.R (congrArg (show FVec Ideal S8x16x8192x128 .bf16 from V9 m ρ c main_v17_2) e)).mpr (key _ _ _ _)

omit hA in
theorem v_one (b : Fin 8) (h : Fin 16) (n : Fin 8192) : (show FVec Ideal S8x16x8192x128 .bf16 from V9 m ρ c main_v17_2) (ix4 b h n 64) = (1 : EReal) :=
  (vh_at m ρ c b h n 64).trans (by unfold Heads.vlane; rfl)

theorem qh_lo (b : Fin 8) (h : Fin 16) (t : Fin 8192) (d : Fin 64) :
    (show FVec Ideal S8x16x8192x128 .bf16 from V9 m ρ c main_v17_0) (ix4 b h t ⟨d.val, by omega⟩) = q (args m c) b t (col h d) * Ideal.ofBits .f32 0x3E000000#32 := by
  refine (qh_at m ρ c hA b h t ⟨d.val, by omega⟩).trans ?_
  unfold Heads.qlane
  rw [if_pos d.isLt]
  refine congrArg (· * _) (congrArg _ (Fin.ext ?_))
  unfold col
  show (64 * h.val + d.val) % 1024 = h.val * 64 + d.val
  omega
theorem kh_lo (b : Fin 8) (h : Fin 16) (t : Fin 8192) (d : Fin 64) :
    (show FVec Ideal S8x16x8192x128 .bf16 from V9 m ρ c main_v17_1) (ix4 b h t ⟨d.val, by omega⟩) = kv (args m c) b t (kcol (col h d)) := by
  refine (kh_at m ρ c hA b h t ⟨d.val, by omega⟩).trans ?_
  unfold Heads.klane
  rw [if_pos d.isLt]
  refine congrArg _ (Fin.ext ?_)
  unfold col kcol
  show (64 * h.val + d.val) % 2048 = h.val * 64 + d.val
  omega
omit hA in
theorem vh_lo (b : Fin 8) (h : Fin 16) (t : Fin 8192) (d : Fin 64) :
    (show FVec Ideal S8x16x8192x128 .bf16 from V9 m ρ c main_v17_2) (ix4 b h t ⟨d.val, by omega⟩) = kv (args m c) b t (vcol (col h d)) := by
  refine (vh_at m ρ c b h t ⟨d.val, by omega⟩).trans ?_
  unfold Heads.vlane
  rw [if_pos d.isLt]
  refine congrArg _ (Fin.ext ?_)
  unfold col vcol
  show (1024 + 64 * h.val + d.val) % 2048 = 1024 + (h.val * 64 + d.val)
  omega

theorem score_at (b : Fin 8) (h : Fin 16) (t i : Fin 8192) : Fox.score (V9 m ρ c main_v17_0) (V9 m ρ c main_v17_1) b h t i = logit (args m c) b h t i := by
  unfold Fox.score logit
  by_cases hi : i.val ≤ t.val
  · rw [if_pos hi, if_pos hi]
    refine Eq.trans ?_ (lane_dot (fun d => q_real hA b t (col h d)) (fun d => kv_real hA b i (kcol (col h d))) (cum_real hA b t h) (cum_real hA b i h) scale)
    have q' := qh_at m ρ c hA b h t
    have k' := kh_at m ρ c hA b h i
    refine (lanes _ fun d hd => ?_).trans (congrArg₂ (· + ·) (Finset.sum_congr rfl fun d _ => congrArg₂ (· * ·) (qh_lo m ρ c hA b h t d) (kh_lo m ρ c hA b h i d))
      (congrArg₂ (· + ·) (congrArg₂ (· + ·) (congrArg₂ (· + ·) (congrArg₂ (· + ·) (congrArg₂ (· + ·) (congrArg₂ (· * ·) ((q' 64).trans ?_) ((k' 64).trans ?_))
        (congrArg₂ (· * ·) ((q' 65).trans ?_) ((k' 65).trans ?_))) (congrArg₂ (· * ·) ((q' 66).trans ?_) ((k' 66).trans ?_)))
        (congrArg₂ (· * ·) ((q' 67).trans ?_) ((k' 67).trans ?_))) (congrArg₂ (· * ·) ((q' 68).trans ?_) ((k' 68).trans ?_)))
        (congrArg₂ (· * ·) ((q' 69).trans ?_) ((k' 69).trans ?_))))
    · refine (congrArg₂ (· * ·) (q' d) (k' d)).trans ?_
      unfold Heads.qlane
      rw [if_neg (by omega), if_neg (by omega), zero_mul]
    all_goals rfl
  · rw [if_neg hi, if_neg hi]

theorem v18_at (b : Fin 8) (h : Fin 16) (t : Fin 8192) (d : Fin 64) :
    (show FVec Ideal S8x16x8192x128 .bf16 from V13 m ρ c main_v18) (ix4 b h t ⟨d.val, by omega⟩) = o (args m c) b t h d := by
  have e := (W10_arr m ρ c 3).trans (Fox.final (V9 m ρ) c (q_fin m ρ c hA) (k_fin m ρ c hA) (v_fin m ρ c hA) (v_one m ρ c))
  refine (congrFun ((((W13_of m ρ c main_v18 (by decide)).trans (W12_of m ρ c main_v18 (by decide))).trans (W11_of m ρ c main_v18 (by decide))).trans e) (ix4 b h t ⟨d.val, by omega⟩)).trans ?_
  have hs : Fox.score (V9 m ρ c main_v17_0) (V9 m ρ c main_v17_1) b h t = logit (args m c) b h t := funext (score_at m ρ c hA b h t)
  show Fox.G (V9 m ρ c main_v17_0) (V9 m ρ c main_v17_1) (V9 m ρ c main_v17_2) (ix4 b h t ⟨d.val, by omega⟩) = _
  unfold Fox.G o ex
  refine Finset.sum_congr rfl fun i _ => ?_
  rw [mul_comm]
  refine congrArg₂ (· * ·) (vh_lo m ρ c b h i d) ?_
  exact congrArg (fun s : Fin 8192 → EReal => Ideal.div (Ideal.exp (s i - Finset.univ.sup s)) (∑ i, Ideal.exp (s i - Finset.univ.sup s))) hs

/-! ### The projection -/

omit hA in
theorem v21_at (h : Fin 16) (d : Fin 128) (n : Fin 1024) : (show FVec Ideal S16x128x1024 .bf16 from V13 m ρ c main_v21) (ix3 h d n)
    = (if hd : d.val < 64 then (args m c).w_o (ix2 ⟨h.val * 64 + d.val, by omega⟩ n) else 0 : EReal) := by
  have h1 : W11 m ρ c (Proc.devRef .tc main_c_1) = constantI S_ 32 0#32 := Stretch.s11_c _
  have h2 := Stretch.s12_v20 (W11 m ρ c) h1 _ (Stretch.s11_v19 (W10 m ρ c)) h d n
  rw [W10_args m ρ c main_arg15 (by decide)] at h2
  exact (congrFun (Stretch.s13_v21 (W12 m ρ c)) (ix3 h d n)).trans h2

theorem resid_at (b : Fin 8) (t : Fin 8192) (n : Fin 1024) :
    OProj.resid (V13 m ρ c main_v18) (V13 m ρ c main_v21) (V13 m ρ c main_arg0) (V13 m ρ c main_v22) b t n = y (args m c) b t n := by
  unfold OProj.resid y
  refine congrArg₂ (· + ·) (congrFun (W13_args m ρ c main_arg0 (by decide)) (ix3 b t n)) (congrArg₂ (· * ·)
    ((Stretch.s13_v22 (W12 m ρ c) b n).trans (congrFun (W12_args m ρ c main_arg3 (by decide)) (ix2 b n))) (Finset.sum_congr rfl fun h _ => ?_))
  refine (front _ fun d hd => ?_).trans (Finset.sum_congr rfl fun d _ => congrArg₂ (· * ·) (v18_at m ρ c hA b h t d) ((v21_at m ρ c h ⟨d.val, by omega⟩ n).trans (dif_pos d.isLt)))
  exact (congrArg ((show FVec Ideal S8x16x8192x128 .bf16 from V13 m ρ c main_v18) (ix4 b h t d) * · : EReal → EReal) ((v21_at m ρ c h d n).trans (dif_neg (by omega)))).trans (mul_zero _)

/-! ### The results -/

theorem r0 (b : Fin 8) (t : Fin 8192) (n : Fin 1024) : (show FVec Ideal S8x8192x1024 .f32 from W15 m ρ c (Proc.devRef .tc main_v26_0)) (ix3 b t n) = y (args m c) b t n :=
  (congrFun ((W15_of m ρ c main_v26_0 (by decide)).trans ((W14_arr m ρ c 7).trans (OProj.y_final (V13 m ρ) c))) (ix3 b t n)).trans (resid_at m ρ c hA b t n)

theorem r1 (b : Fin 8) (t : Fin 8192) (n : Fin 1024) : (show FVec Ideal S8x8192x1024 .bf16 from W15 m ρ c (Proc.devRef .tc main_v26_1)) (ix3 b t n) = yn (args m c) b t n :=
  (congrFun ((W15_of m ρ c main_v26_1 (by decide)).trans ((W14_arr m ρ c 8).trans (OProj.n_final (V13 m ρ) c))) (ix3 b t n)).trans
    (mod_congr (resid_at m ρ c hA b t)
      (fun k => (Stretch.s13_v23 (W12 m ρ c) k).trans (congrFun (W12_args m ρ c main_arg9 (by decide)) (ix1 k)))
      (fun k => (Stretch.s13_v25 (W12 m ρ c) b k).trans (congrFun (W12_args m ρ c main_arg5 (by decide)) (ix2 b k)))
      (fun k => (Stretch.s13_v24 (W12 m ρ c) b k).trans (congrFun (W12_args m ρ c main_arg4 (by decide)) (ix2 b k))) n)

omit hA in
theorem late (r : Ref sig .tc) (h10 : ∀ w : Fin cfg3.W, Pipeline.arrRef spec3 w = r → (cfg3.win w).isOut = false) (h11 : r ∉ hostOps4_W) (h12 : r ∉ hostOps4_1_W) (h13 : r ∉ hostOps4_2_W)
    (h14 : ∀ w : Fin cfg4.W, Pipeline.arrRef spec4 w = r → (cfg4.win w).isOut = false) (h15 : r ∉ hostOps5_W) :
    W15 m ρ c (Proc.devRef .tc r) = W9 m ρ c (Proc.devRef .tc r) :=
  (W15_of m ρ c r h15).trans ((W14_of m ρ c r h14).trans ((W13_of m ρ c r h13).trans ((W12_of m ρ c r h12).trans ((W11_of m ρ c r h11).trans (W10_of m ρ c r h10)))))

omit hA in
theorem r2 (b : Fin 8) (t : Fin 8192) (n : Fin 1024) : (show FVec Ideal S8x8192x1024 .f32 from W15 m ρ c (Proc.devRef .tc main_v17_3)) (ix3 b t n) = kv (args m c) b t (kcol n) :=
  (congrFun (late m ρ c main_v17_3 (by decide) (by decide) (by decide) (by decide) (by decide) (by decide)) (ix3 b t n)).trans (bk_at m ρ c b t n)
omit hA in
theorem r3 (b : Fin 8) (t : Fin 8192) (n : Fin 1024) : (show FVec Ideal S8x8192x1024 .f32 from W15 m ρ c (Proc.devRef .tc main_v17_4)) (ix3 b t n) = kv (args m c) b t (vcol n) :=
  (congrFun (late m ρ c main_v17_4 (by decide) (by decide) (by decide) (by decide) (by decide) (by decide)) (ix3 b t n)).trans (bv_at m ρ c b t n)
omit hA in
theorem r4 (b : Fin 8) (t : Fin 8192) (n : Fin 16) : (show FVec Ideal S8x8192x16 .f32 from W15 m ρ c (Proc.devRef .tc main_v27)) (ix3 b t n) = lf (args m c) b t n := by
  refine (Stretch.s15_v27 (W14 m ρ c) b t n).trans ?_
  have e : W14 m ρ c (Proc.devRef .tc main_v7) = W6 m ρ c (Proc.devRef .tc main_v7) :=
    (W14_of m ρ c main_v7 (by decide)).trans ((W13_of m ρ c main_v7 (by decide)).trans ((W12_of m ρ c main_v7 (by decide)).trans ((W11_of m ρ c main_v7 (by decide)).trans
      ((W10_of m ρ c main_v7 (by decide)).trans ((W9_of m ρ c main_v7 (by decide)).trans ((W8_of m ρ c main_v7 (by decide)).trans (W7_of m ρ c main_v7 (by decide))))))))
  exact (congrFun e (ix3 b t (lane n))).trans ((v7_at m ρ c b t (lane n)).trans (lane_lsig m c b t n))

end Cert.KernelIdeal.Chase
-- ==== Proof.RefCum.lean ====
/- The host's running sum along the middle axis, entry by entry. -/
module

public import proofs.«01_k».proof.Proof.Spec

@[expose] public section

noncomputable section
open Idealize.ShloMosaic
namespace Cert.RefCum

theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

theorem sum_col {N : ℕ} (G : (⟨3, ![1, N, 1]⟩ : Shape).Idx → EReal) : ∑ w, G w = ∑ k : Fin N, G (ix3 0 k 0) := by
  symm
  refine Fintype.sum_bijective (fun k : Fin N => (ix3 0 k 0 : (⟨3, ![1, N, 1]⟩ : Shape).Idx)) ⟨fun a b h => ?_, fun w => ⟨w 1, ?_⟩⟩ _ _ fun _ => rfl
  · exact congrFun h 1
  · funext a
    match a with
    | ⟨0, _⟩ => exact Subsingleton.elim (α := Fin 1) _ _
    | ⟨1, _⟩ => rfl
    | ⟨2, _⟩ => exact Subsingleton.elim (α := Fin 1) _ _

theorem shift {N M : ℕ} (hN : M + 1 = N) (t : Fin N) (f : Fin N → EReal) :
    (∑ k : Fin N, if h : M ≤ t.val + k.val ∧ t.val + k.val - M < N then f ⟨t.val + k.val - M, h.2⟩ else 0)
      = ∑ n ∈ Finset.univ.filter (fun n : Fin N => n.val < t.val + 1), f n := by
  have e : ∀ k : Fin N, (if h : M ≤ t.val + k.val ∧ t.val + k.val - M < N then f ⟨t.val + k.val - M, h.2⟩ else 0)
      = if M ≤ t.val + k.val then f ⟨(t.val + k.val - M) % N, Nat.mod_lt _ (by omega)⟩ else 0 := by
    intro k
    by_cases h : M ≤ t.val + k.val
    · have h2 : t.val + k.val - M < N := by omega
      rw [dif_pos ⟨h, h2⟩, if_pos h]
      exact congrArg f (Fin.ext (Nat.mod_eq_of_lt h2).symm)
    · rw [dif_neg (fun hh => h hh.1), if_neg h]
  rw [Finset.sum_congr rfl fun k _ => e k, ← Finset.sum_filter]
  refine Finset.sum_nbij' (fun k => ⟨(t.val + k.val - M) % N, Nat.mod_lt _ (by omega)⟩)
    (fun n => ⟨(n.val + M - t.val) % N, Nat.mod_lt _ (by omega)⟩) ?_ ?_ ?_ ?_ ?_
  · intro k hk
    have h := (Finset.mem_filter.1 hk).2
    refine Finset.mem_filter.2 ⟨Finset.mem_univ _, ?_⟩
    show (t.val + k.val - M) % N < t.val + 1
    rw [Nat.mod_eq_of_lt (by omega)]; omega
  · intro n hn
    have h := (Finset.mem_filter.1 hn).2
    refine Finset.mem_filter.2 ⟨Finset.mem_univ _, ?_⟩
    show M ≤ t.val + (n.val + M - t.val) % N
    rw [Nat.mod_eq_of_lt (by omega)]; omega
  · intro k hk
    have h := (Finset.mem_filter.1 hk).2
    refine Fin.ext ?_
    show ((t.val + k.val - M) % N + M - t.val) % N = k.val
    rw [Nat.mod_eq_of_lt (a := t.val + k.val - M) (by omega), Nat.mod_eq_of_lt (by omega)]; omega
  · intro n hn
    have h := (Finset.mem_filter.1 hn).2
    refine Fin.ext ?_
    show (t.val + (n.val + M - t.val) % N - M) % N = n.val
    rw [Nat.mod_eq_of_lt (a := n.val + M - t.val) (by omega), Nat.mod_eq_of_lt (by omega)]; omega
  · intro k hk
    rfl

theorem cumsum {A N M C : ℕ} (hN : M + 1 = N) (x : FVec Ideal ⟨3, ![A, N, C]⟩ .f32) (init : FVec Ideal ⟨0, ![]⟩ .f32)
    (h0 : init ix0 = (0 : EReal))
    (h : (⟨3, ![A, N, C]⟩ : Shape).ReduceWindows (![1, N, 1] : Fin 3 → Nat) ![1, 1, 1] ![0, M, 0] ![0, 0, 0] ⟨3, ![A, N, C]⟩)
    (hu : 0 < (⟨0, ![]⟩ : Shape).numel) (b : Fin A) (t : Fin N) (c : Fin C) :
    Host.reduceWindowAdd ![1, N, 1] ![1, 1, 1] ![0, M, 0] ![0, 0, 0] x init h hu (ix3 b t c)
      = ∑ n ∈ Finset.univ.filter (fun n : Fin N => n.val < t.val + 1), x (ix3 b n c) := by
  have hv : init (Shape.Idx.first hu) = (0 : EReal) := (congrArg init (funext fun a => a.elim0)).trans h0
  unfold Host.reduceWindowAdd
  rw [hv]
  show Ideal.hostReduceWindowAdd _ _ _ _ h x (0 : EReal) (ix3 b t c) = _
  unfold Ideal.hostReduceWindowAdd Host.reduceWindow
  dsimp only
  rw [foldl_add, zero_add, ← Fin.sum_univ_def]
  refine (Finset.sum_congr rfl fun n _ => ?_).trans ((Equiv.sum_comp (Shape.rowMajor ⟨3, ![1, N, 1]⟩).symm (fun w : (⟨3, ![1, N, 1]⟩ : Shape).Idx =>
    if hin : ∀ a, (![0, M, 0] : Fin 3 → ℕ) a ≤ ((ix3 b t c : (⟨3, ![A, N, C]⟩ : Shape).Idx) (a.cast h.1.symm)).val * (![1, 1, 1] : Fin 3 → ℕ) a + (w a).val
      ∧ ((ix3 b t c : (⟨3, ![A, N, C]⟩ : Shape).Idx) (a.cast h.1.symm)).val * (![1, 1, 1] : Fin 3 → ℕ) a + (w a).val - (![0, M, 0] : Fin 3 → ℕ) a < (⟨3, ![A, N, C]⟩ : Shape).size a
    then x (fun a => ⟨((ix3 b t c : (⟨3, ![A, N, C]⟩ : Shape).Idx) (a.cast h.1.symm)).val * (![1, 1, 1] : Fin 3 → ℕ) a + (w a).val - (![0, M, 0] : Fin 3 → ℕ) a, (hin a).2⟩) else 0)).trans ?_)
  · split <;> rfl
  rw [sum_col]
  refine Eq.trans (Finset.sum_congr rfl fun k _ => ?_) (shift hN t fun n => x (ix3 b n c))
  by_cases hk : M ≤ t.val + k.val ∧ t.val + k.val - M < N
  · rw [dif_pos hk, dif_pos]
    · refine congrArg x (funext fun a => Fin.ext ?_)
      match a with
      | ⟨0, _⟩ => show b.val * 1 + 0 - 0 = b.val; omega
      | ⟨1, _⟩ => show t.val * 1 + k.val - M = t.val + k.val - M; omega
      | ⟨2, _⟩ => show c.val * 1 + 0 - 0 = c.val; omega
    · intro a
      match a with
      | ⟨0, _⟩ => show 0 ≤ b.val * 1 + 0 ∧ b.val * 1 + 0 - 0 < A; omega
      | ⟨1, _⟩ => show M ≤ t.val * 1 + k.val ∧ t.val * 1 + k.val - M < N; omega
      | ⟨2, _⟩ => show 0 ≤ c.val * 1 + 0 ∧ c.val * 1 + 0 - 0 < C; omega
  · rw [dif_neg hk, dif_neg]
    intro hin
    have h1 : M ≤ t.val * 1 + k.val ∧ t.val * 1 + k.val - M < N := hin 1
    omega

end Cert.RefCum
-- ==== Proof.Ref.lean ====
/- What the reference computes, entry by entry, in the mathematics of the layer. -/
module

public import proofs.«01_k».proof.Proof.Layer
public import proofs.«01_k».proof.Proof.RefCum
public import proofs.«01_k».proof.Proof.Reals
public import proofs.«01_k».proof.Proof.Gen.ReferenceIdeal.Run

@[expose] public section

set_option maxRecDepth 16384
noncomputable section
open Idealize.ShloMosaic Idealize.ShloMosaic.TcCoe Idealize.SL.Sem
namespace Cert.ReferenceIdeal.Ref
open Cert.ReferenceIdeal Cert.ReferenceIdeal.Gen Cert.ReferenceIdeal.Value Cert.Spec Cert.Layer Cert.Reals
variable (V0 : Valuation τ sig (Elt Ideal))

/-- The reference's arguments. -/
def args : Args where
  x := V0 (Proc.devRef .tc main_arg0)
  shift_m := V0 (Proc.devRef .tc main_arg1)
  scale_m := V0 (Proc.devRef .tc main_arg2)
  gate_m := V0 (Proc.devRef .tc main_arg3)
  shift_c := V0 (Proc.devRef .tc main_arg4)
  scale_c := V0 (Proc.devRef .tc main_arg5)
  shift_kv := V0 (Proc.devRef .tc main_arg6)
  scale_kv := V0 (Proc.devRef .tc main_arg7)
  g_mix := V0 (Proc.devRef .tc main_arg8)
  g_ffn := V0 (Proc.devRef .tc main_arg9)
  g_kv := V0 (Proc.devRef .tc main_arg10)
  w_kv := V0 (Proc.devRef .tc main_arg11)
  w_f := V0 (Proc.devRef .tc main_arg12)
  b_f := V0 (Proc.devRef .tc main_arg13)
  w_q := V0 (Proc.devRef .tc main_arg14)
  w_o := V0 (Proc.devRef .tc main_arg15)

theorem one_word : Ideal.ofBits .f32 0x3F800000#32 = (1 : EReal) := by simp [Ideal.ofBits, Ideal.ieee]; rw [← EReal.coe_mul]; norm_num
theorem zero_word : Ideal.ofBits .f32 0x00000000#32 = (0 : EReal) := by simp [Ideal.ofBits, Ideal.ieee]
theorem bot_word : Ideal.ofBits .f32 0xFF800000#32 = (⊥ : EReal) := by simp [Ideal.ofBits, Ideal.ieee]

theorem v41_at (b : Fin 8) (t : Fin 8192) (n : Fin 1024) :
    (show FVec Ideal S8x8192x1024 .f32 from res_main_v41 V0) (ix3 b t n) = hkv (args V0) b t n := by
  unfold res_main_v41
  pointwise
  rfl

theorem v42_at (b : Fin 8) (t : Fin 8192) (n : Fin 2048) :
    (show FVec Ideal S8x8192x2048 .f32 from res_main_v42 V0) (ix3 b t n) = kv (args V0) b t n := by
  have h := v41_at V0 b t
  unfold res_main_v42
  generalize res_main_v41 V0 = H at h
  pointwise
  exact Finset.sum_congr rfl fun k _ => congrArg (· * _) (h k)

theorem nz_at (b : Fin 8) (t : Fin 8192) (n : Fin 16) :
    (show FVec Ideal S8x8192x16 .f32 from res_main_call0_v0 V0) (ix3 b t n) = -z (args V0) b t n := by
  have h := v41_at V0 b t
  unfold res_main_call0_v0
  generalize res_main_v41 V0 = H at h
  pointwise
  exact congrArg (fun e : EReal => -(e + _)) (Finset.sum_congr rfl fun k _ => congrArg (· * _) (h k))

theorem v43_at (b : Fin 8) (t : Fin 8192) (n : Fin 1024) :
    (show FVec Ideal S8x8192x1024 .f32 from extractStridedSlice S8x8192x1024 ![0, 0, 0] (res_main_v42 V0) slices_S8x8192x2048_S8x8192x1024_0_0_0) (ix3 b t n)
      = kv (args V0) b t (kcol n) := by
  have h := v42_at V0 b t
  generalize res_main_v42 V0 = H at h ⊢
  pointwise
  exact h (kcol n)

theorem v44_at (b : Fin 8) (t : Fin 8192) (n : Fin 1024) :
    (show FVec Ideal S8x8192x1024 .f32 from extractStridedSlice S8x8192x1024 ![0, 0, 1024] (res_main_v42 V0) slices_S8x8192x2048_S8x8192x1024_0_0_1024) (ix3 b t n)
      = kv (args V0) b t (vcol n) := by
  have h := v42_at V0 b t
  generalize res_main_v42 V0 = H at h ⊢
  pointwise
  exact h (vcol n)

/-- The gate's log as the reference composes it. -/
def gate : FVec Ideal S8x8192x16 .f32 := Host.negf (select (cmpf .une (res_main_call0_call0_v3 V0) (res_main_call0_call0_v3 V0)) (addf (res_main_call0_v0 V0) (broadcastInDim S8x8192x16 ![] bcast_S_S8x8192x16 (res_main_call0_call0_cst V0))) (addf (maximumf (res_main_call0_v0 V0) (broadcastInDim S8x8192x16 ![] bcast_S_S8x8192x16 (res_main_call0_call0_cst V0))) (Host.log1p (Host.exp (Host.negf (Host.absf (res_main_call0_call0_v3 V0)))))))

theorem lsig_eq {z : EReal} (hz : R z) :
    -(max (-z) 0 + Ideal.log1p (Ideal.exp (-FloatOps.absf (F := Ideal) (φ := .f32) (-z)))) = lsig z := by
  obtain ⟨r, rfl⟩ := hz
  unfold lsig
  have ha : (FloatOps.absf (F := Ideal) (φ := .f32) (-(r : EReal)) : EReal) = FloatOps.absf (F := Ideal) (φ := .f32) (r : EReal) := by
    show max (-(r : EReal)) (- -(r : EReal)) = max (r : EReal) (-(r : EReal))
    rw [neg_neg, max_comm]
  have hb : (FloatOps.absf (F := Ideal) (φ := .f32) (r : EReal) : EReal) = ((max r (-r) : ℝ) : EReal) := by
    show max (r : EReal) (-(r : EReal)) = _
    rw [← EReal.coe_neg, EReal.coe_strictMono.monotone.map_max]
  have hl : ∃ l : ℝ, Ideal.log1p (Ideal.exp (-((max r (-r) : ℝ) : EReal))) = (l : EReal) := by
    rw [← EReal.coe_neg, Ideal.exp_coe]
    unfold Ideal.log1p
    rw [show (1 : EReal) + ((Real.exp (-max r (-r)) : ℝ) : EReal) = ((1 + Real.exp (-max r (-r)) : ℝ) : EReal) by
      rw [EReal.coe_add]; rfl]
    have hp : ¬ (1 + Real.exp (-max r (-r)) ≤ 0) := not_le.2 (by have := Real.exp_pos (-max r (-r)); linarith)
    exact ⟨_, by rw [Ideal.log_coe, if_neg hp]⟩
  obtain ⟨l, hl⟩ := hl
  rw [ha, hb, zero_sub, hl, ← EReal.coe_neg, show (0 : EReal) = ((0 : ℝ) : EReal) from rfl,
    ← EReal.coe_strictMono.monotone.map_max, ← EReal.coe_strictMono.monotone.map_min, ← EReal.coe_add, ← EReal.coe_neg,
    ← EReal.coe_sub]
  congr 1
  rw [neg_add, ← sub_eq_add_neg]
  congr 1
  rcases le_total r 0 with h | h
  · rw [max_eq_left (by linarith), min_eq_left h]; ring
  · rw [max_eq_right (by linarith), min_eq_right h]; ring

theorem gate_at (b : Fin 8) (t : Fin 8192) (n : Fin 16) (hz : R (z (args V0) b t n)) :
    gate V0 (ix3 b t n) = lf (args V0) b t n := by
  have h := nz_at V0 b t n
  unfold gate res_main_call0_call0_v3 res_main_call0_call0_cst
  generalize res_main_call0_v0 V0 = H at h ⊢
  pointwise
  simp only [ne_eq, not_true_eq_false, if_false]
  refine Eq.trans ?_ (lsig_eq hz)
  rw [← h]

theorem cum_at (hz : ∀ b t n, R (z (args V0) b t n)) (b : Fin 8) (t : Fin 8192) (n : Fin 16) :
    (show FVec Ideal S8x16x8192 .f32 from res_main_v58 V0) (ix3 b n t) = cum (args V0) b t n := by
  have h : ∀ m, gate V0 (ix3 b m n) = lf (args V0) b m n := fun m => gate_at V0 b m n (hz b m n)
  unfold res_main_v58
  change (show FVec Ideal S8x16x8192 .f32 from transpose S8x16x8192 [0, 2, 1] (Host.reduceWindowAdd ![1, 8192, 1] ![1, 1, 1] ![0, 8191, 0] ![0, 0, 0] (gate V0) (broadcastInDim S_ ![] bcast_S_S_ (constant S_ .f32 0x00000000#32)) reduceWindows_S8x8192x16_S8x8192x16_w1s1p0_0_w8192s1p8191_0_w1s1p0_0 h_S_) transposes_S8x8192x16_S8x16x8192_0_2_1) (ix3 b n t) = _
  generalize gate V0 = L at h ⊢
  pointwise
  refine (RefCum.cumsum (M := 8191) rfl L _ ?_ _ _ b t n).trans (Finset.sum_congr rfl fun m _ => h m)
  exact zero_word

theorem logit_at (hz : ∀ b t n, R (z (args V0) b t n)) (b : Fin 8) (h : Fin 16) (t i : Fin 8192) :
    (show FVec Ideal S8x16x8192x8192 .f32 from res_main_v71 V0) (ix4 b h t i) = logit (args V0) b h t i := by
  have hk := v42_at V0 b i
  have hc := fun t => cum_at V0 hz b t h
  unfold res_main_v71 res_main_v65
  generalize res_main_v58 V0 = C at hc ⊢
  generalize res_main_v42 V0 = K at hk ⊢
  pointwise
  word_cmp
  unfold logit
  refine if_congr Iff.rfl ?_ bot_word
  refine congrArg₂ (· - ·) (congrArg₂ (· + ·) (congrArg (· * _) (Finset.sum_congr rfl fun d _ => ?_)) (hc t)) (hc i)
  exact congrArg₂ (· * ·) rfl (hk (kcol (col h d)))

theorem fold_sup {N : ℕ} (f : Fin N → EReal) : Finset.univ.fold max (⊥ : EReal) f = Finset.univ.sup f := rfl

theorem row_max (S : FVec Ideal S8x16x8192x8192 .f32) (b : Fin 8) (h : Fin 16) (t : Fin 8192) :
    Host.reduce FloatOps.maximumf S (constant (F := Ideal) S_ .f32 0xFF800000#32) reducesTo_S8x16x8192x8192_S8x16x8192_d3 h_S_ (ix3 b h t)
      = Finset.univ.sup fun i => S (ix4 b h t i) := by
  pointwise
  rw [bot_word]
  exact fold_sup _

theorem row_sum (S : FVec Ideal S8x16x8192x8192 .f32) (b : Fin 8) (h : Fin 16) (t : Fin 8192) :
    Host.reduceAdd S (constant (F := Ideal) S_ .f32 0x00000000#32) reducesTo_S8x16x8192x8192_S8x16x8192_d3 h_S_ (ix3 b h t)
      = ∑ i, S (ix4 b h t i) := by
  pointwise

theorem ex_at' (S : FVec Ideal S8x16x8192x8192 .f32) (M : FVec Ideal S8x16x8192 .f32) (b : Fin 8) (h : Fin 16) (t i : Fin 8192) :
    Host.exp (subf S (broadcastInDim S8x16x8192x8192 ![0, 1, 2, 3] bcast_S8x16x8192x1_S8x16x8192x8192_0_1_2_3 (broadcastInDim S8x16x8192x1 ![0, 1, 2] bcast_S8x16x8192_S8x16x8192x1_0_1_2 (maximumf (broadcastInDim S8x16x8192 ![] bcast_S_S8x16x8192 (constant (F := Ideal) S_ .f32 0xFF800000#32)) M)))) (ix4 b h t i)
      = Ideal.exp (S (ix4 b h t i) - M (ix3 b h t)) := by
  pointwise
  rw [bot_word, max_eq_right bot_le]

theorem ex_at (hz : ∀ b t n, R (z (args V0) b t n)) (b : Fin 8) (h : Fin 16) (t i : Fin 8192) :
    (show FVec Ideal S8x16x8192x8192 .f32 from res_main_v78 V0) (ix4 b h t i) = ex (args V0) b h t i := by
  have hl := logit_at V0 hz b h t
  refine (ex_at' (res_main_v71 V0) _ b h t i).trans ?_
  unfold ex
  exact congrArg Ideal.exp (congrArg₂ (· - ·) (hl i) ((row_max _ b h t).trans (congrArg Finset.univ.sup (funext hl))))

theorem o_at (hz : ∀ b t n, R (z (args V0) b t n)) (b : Fin 8) (t : Fin 8192) (n : Fin 1024) :
    (show FVec Ideal S8x8192x1024 .f32 from res_main_v90 V0) (ix3 b t n) = y (args V0) b t n := by
  have hs := ex_at V0 hz b
  have hk := v42_at V0 b
  unfold res_main_v90
  generalize res_main_v78 V0 = S at hs ⊢
  generalize res_main_v42 V0 = K at hk ⊢
  pointwise
  rw [Fin.sum_univ_tiles 16 64 rfl]
  unfold y
  refine congrArg (fun e : EReal => _ + _ * e) (Finset.sum_congr rfl fun h _ => Finset.sum_congr rfl fun d _ => congrArg (· * _) (Finset.sum_congr rfl fun i _ => ?_))
  have e : (⟨(h.val * 64 + d.val) / 64, by omega⟩ : Fin 16) = h := Fin.ext (by show (h.val * 64 + d.val) / 64 = h.val; omega)
  refine congrArg₂ (· * ·) (hk i (vcol (col h d))) ?_
  refine congrArg₂ Ideal.div ?_ (Finset.sum_congr rfl fun i' _ => ?_)
  · exact (congrArg (fun h => S (ix4 b h t i)) e).trans (hs h t i)
  · exact (congrArg (fun h => S (ix4 b h t i')) e).trans (hs h t i')

/-- The second norm as the reference composes it. -/
def second : FVec Ideal S8x8192x1024 .bf16 := truncf .bf16 (addf (mulf (mulf (mulf (res_main_v90 V0) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (res_main_v90 V0) (res_main_v90 V0)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (V0 (Proc.devRef .tc main_arg9))))) (broadcastInDim S8x8192x1024 ![0, 1, 2] bcast_S8x1x1024_S8x8192x1024_0_1_2 (addf (broadcastInDim S8x1x1024 ![] bcast_S_S8x1x1024 (constant S_ .f32 0x3F800000#32)) (broadcastInDim S8x1x1024 ![0, 2] bcast_S8x1024_S8x1x1024_0_2 (V0 (Proc.devRef .tc main_arg5)))))) (broadcastInDim S8x8192x1024 ![0, 1, 2] bcast_S8x1x1024_S8x8192x1024_0_1_2 (broadcastInDim S8x1x1024 ![0, 2] bcast_S8x1024_S8x1x1024_0_2 (V0 (Proc.devRef .tc main_arg4))))) bitsLt_bf16_f32

theorem yn_at (hz : ∀ b t n, R (z (args V0) b t n)) (b : Fin 8) (t : Fin 8192) (n : Fin 1024) :
    second V0 (ix3 b t n) = yn (args V0) b t n := by
  have h : (fun n => (show FVec Ideal S8x8192x1024 .f32 from res_main_v90 V0) (ix3 b t n)) = y (args V0) b t := funext (o_at V0 hz b t)
  unfold yn
  rw [← h]
  unfold second
  generalize res_main_v90 V0 = Y
  pointwise
  rfl

end Cert.ReferenceIdeal.Ref
-- ==== Proof.Run.lean ====
/- The kernel's run: every buffer ends at what the fold over its stretches and regions leaves there. -/
module

public import proofs.«01_k».proof.Proof.Gen.KernelIdeal.Frame

@[expose] public section

set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
namespace Cert.KernelIdeal.Run
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends with each buffer at the last state of the fold. -/
theorem all : θ_run defs (onTc (τ := τ) (main (F := Ideal))) ⟨m, fun _ => 0, ρ⟩ (fun r =>
    ∀ c : Dev nD, ∀ b ∈ Pipeline.ucRefs τ sig, r.2.mem (((c : Thread nD τ)).1, b) = W15 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => h)

end Cert.KernelIdeal.Run
-- ==== Proof.Equation.lean ====
/- The kernel's results and the reference's are one, of arguments the precondition holds of. -/
module

public import proofs.«01_k».proof.Defs
public import proofs.«01_k».proof.Proof.Attend
public import proofs.«01_k».proof.Proof.Ref
public import proofs.«01_k».proof.Proof.Run

@[expose] public section

set_option maxRecDepth 16384
noncomputable section
open Idealize.ShloMosaic Idealize.ShloMosaic.TcCoe Idealize.SL.Sem
namespace Cert.Equation
open Cert.Layer

/-- The precondition's shape relations. -/
theorem pre_facts : Cert.Pre_finite_scores.Facts where
  bcast_S_S8x8192x1024 := by decide
  bcast_S_S8x1024 := by decide
  bcast_S_S1024 := by decide
  bcast_S_S1024x2048 := by decide
  bcast_S_S1024x16 := by decide
  bcast_S_S16 := by decide
  bcast_S_S1024x1024 := by decide

theorem top_word : Ideal.ofBits .f32 0x7F800000#32 = (⊤ : EReal) := by simp [Ideal.ofBits, Ideal.ieee]

/-- A value less than infinity in size is a real. -/
theorem real_of_lt {x : EReal} (h : Ideal.cmp .olt (max x (-x)) (Ideal.ofBits .f32 0x7F800000#32) = 1#1) : Cert.Reals.R x := by
  have hl : max x (-x) < ⊤ := by
    by_contra hn
    rw [top_word] at h
    have h' : BitVec.ofBool (decide (max x (-x) < ⊤)) = 1#1 := h
    rw [decide_eq_false hn] at h'
    exact absurd h' (by decide)
  refine Cert.Reals.R.of_ne (fun e => ?_) (fun e => ?_)
  · subst e; simp at hl
  · subst e; simp at hl

/-- An array of which every entry is less than infinity in size is of reals. -/
theorem reals_of (s : Shape) (hb : (⟨0, ![]⟩ : Shape).BroadcastsInDim s (![] : Fin 0 → Fin s.rank)) (a : FVec Ideal s .f32)
    (h : cmpf .olt (Host.absf a) (broadcastInDim s ![] hb (constant (F := Ideal) ⟨0, ![]⟩ .f32 0x7F800000#32)) = fun _ => 1#1) (j : s.Idx) : Cert.Reals.R (a j) :=
  real_of_lt (congrFun h j)

theorem real_args (m : (ℓ : Loc Cert.KernelIdeal.nD Cert.KernelIdeal.τ Cert.KernelIdeal.sig) → Buf (Elt Ideal) ℓ)
    (h : @Cert.Pre_KernelIdeal_finite_scores pre_facts m) (c : Dev Cert.KernelIdeal.nD) : Layer.Real (Cert.KernelIdeal.Chase.args m c) := by
  obtain ⟨h0, h1, h2, h3, h4, h5, h6, h7, h8, h9, h10⟩ := h c
  exact { x := reals_of _ _ _ h0, shift_m := reals_of _ _ _ h1, scale_m := reals_of _ _ _ h2, shift_kv := reals_of _ _ _ h3, scale_kv := reals_of _ _ _ h4, g_mix := reals_of _ _ _ h5, g_kv := reals_of _ _ _ h6, w_kv := reals_of _ _ _ h7, w_f := reals_of _ _ _ h8, b_f := reals_of _ _ _ h9, w_q := reals_of _ _ _ h10 }

/-- Two arrays of rank three are one where they are so at every index. -/
theorem ext3 {p q r : ℕ} {α : Type} (f g : (⟨3, ![p, q, r]⟩ : Shape).Idx → α) (h : ∀ a b c, f (ix3 a b c) = g (ix3 a b c)) : f = g := by
  funext j
  have e : j = ix3 (j 0) (j 1) (j 2) := by blk_ext []
  rw [e]
  exact h _ _ _

open Cert.KernelIdeal (nD τ sig)

/-- What holds of the final memory at the results holds with the arguments as launched. -/
theorem kernel_run (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ (fun r => ∀ c : Dev nD, ∀ b : Ref sig .tc,
      ¬ (Proc.devRef .tc b : DevRef τ sig).isScoped → r.2.mem ((c.tc : Thread nD τ).loc b) = Cert.KernelIdeal.Gen.W15 m ρ c (Proc.devRef .tc b)) :=
  (θ_run Cert.KernelIdeal.defs _ _).mono (fun r h c b hb => h c _ (Cert.KernelIdeal.Gen.mem_uc b hb)) (Cert.KernelIdeal.Run.all m ρ)

theorem algebraic : @Cert.algebraic_KernelIdeal_ReferenceIdeal_pre_finite_scores inferInstance inferInstance pre_facts := by
  intro m g m' g' hpre hagree
  have hA : ∀ c, Layer.Real (Cert.KernelIdeal.Chase.args m c) := real_args m hpre
  have hargs : ∀ c : Dev nD, Cert.ReferenceIdeal.Ref.args (StableHlo.launchContents m' c) = Cert.KernelIdeal.Chase.args m c := by
    intro c
    obtain ⟨e0, e1, e2, e3, e4, e5, e6, e7, e8, e9, e10, e11, e12, e13, e14, e15⟩ := hagree c
    unfold Cert.ReferenceIdeal.Ref.args Cert.KernelIdeal.Chase.args
    congr 1
  have hz : ∀ (c : Dev nD) b t n, Cert.Reals.R (z (Cert.ReferenceIdeal.Ref.args (StableHlo.launchContents m' c)) b t n) := by
    intro c b t n
    rw [hargs c]
    exact z_real (hA c) b t n
  let W := Cert.KernelIdeal.Gen.W15 m g
  refine ⟨fun c => W c (Proc.devRef .tc Cert.KernelIdeal.main_v26_0), fun c => W c (Proc.devRef .tc Cert.KernelIdeal.main_v26_1),
    fun c => W c (Proc.devRef .tc Cert.KernelIdeal.main_v17_3), fun c => W c (Proc.devRef .tc Cert.KernelIdeal.main_v17_4),
    fun c => W c (Proc.devRef .tc Cert.KernelIdeal.main_v27), ?_, ?_⟩
  · refine (θ_run Cert.KernelIdeal.defs _ _).mono (fun r h c => ?_) (kernel_run m g)
    have k := h c
    have ka := fun (b : Ref sig .tc) (hb : b ∈ Cert.KernelIdeal.Gen.argRefs) hs => (k b hs).trans (Cert.KernelIdeal.Gen.W15_args m g c b hb)
    exact ⟨k _ (by decide), k _ (by decide), k _ (by decide), k _ (by decide), k _ (by decide),
      ka _ (by decide) (by decide), ka _ (by decide) (by decide), ka _ (by decide) (by decide), ka _ (by decide) (by decide),
      ka _ (by decide) (by decide), ka _ (by decide) (by decide), ka _ (by decide) (by decide), ka _ (by decide) (by decide),
      ka _ (by decide) (by decide), ka _ (by decide) (by decide), ka _ (by decide) (by decide), ka _ (by decide) (by decide),
      ka _ (by decide) (by decide), ka _ (by decide) (by decide), ka _ (by decide) (by decide), ka _ (by decide) (by decide)⟩
  · refine (θ_run Cert.ReferenceIdeal.defs _ _).mono (fun r h c => ?_) (Cert.ReferenceIdeal.Value.run (F := Ideal) m' g')
    obtain ⟨h0, h1, h2, h3, h4, hrest⟩ := h c
    refine ⟨h0.trans ?_, h1.trans ?_, h2.trans ?_, h3.trans ?_, h4.trans ?_, hrest⟩
    · refine ext3 _ _ fun b t n => (Cert.ReferenceIdeal.Ref.o_at _ (hz c) b t n).trans ?_
      rw [hargs c]
      exact (Cert.KernelIdeal.Chase.r0 m g c (hA c) b t n).symm
    · refine ext3 _ _ fun b t n => (Cert.ReferenceIdeal.Ref.yn_at _ (hz c) b t n).trans ?_
      rw [hargs c]
      exact (Cert.KernelIdeal.Chase.r1 m g c (hA c) b t n).symm
    · refine ext3 _ _ fun b t n => (Cert.ReferenceIdeal.Ref.v43_at _ b t n).trans ?_
      rw [hargs c]
      exact (Cert.KernelIdeal.Chase.r2 m g c b t n).symm
    · refine ext3 _ _ fun b t n => (Cert.ReferenceIdeal.Ref.v44_at _ b t n).trans ?_
      rw [hargs c]
      exact (Cert.KernelIdeal.Chase.r3 m g c b t n).symm
    · refine ext3 _ _ fun b t n => (Cert.ReferenceIdeal.Ref.gate_at _ b t n (hz c b t n)).trans ?_
      rw [hargs c]
      exact (Cert.KernelIdeal.Chase.r4 m g c b t n).symm

end Cert.Equation
-- ==== Proof.StretchA.lean ====
/- The host operations between the first mixer's regions, read entry by entry at any contents. -/
module

public import proofs.«01_k».proof.Proof.Gen.KernelAIdeal.Frame
public import Idealize.ShloMosaic.Lib.Pipeline.ValueKit
public import proofs.«01_k».proof.Proof.Stretch

@[expose] public section

set_option maxRecDepth 16384
noncomputable section
open Idealize.ShloMosaic Idealize.ShloMosaic.TcCoe Idealize.SL.Sem
namespace Cert.KernelAIdeal.StretchA
open Cert.KernelAIdeal Cert.KernelAIdeal.Gen
open Cert.KernelIdeal.Stretch (row rows fill fill_zero pad_o)

variable (V : Valuation τ sig (Elt Ideal))

theorem s1_c : StableHlo.after hostOps0 V (Proc.devRef .tc main_c) = constantI S_ 32 0#32 := by
  after_results
theorem s1_v0 (x : FVec Ideal S8x1024 .f32) (z : FVec Ideal S32x1024 .f32) (b : Fin 8) (k : Fin 1024) :
    concatenate S40x1024 0 [⟨S8x1024, x⟩, ⟨S32x1024, z⟩] concatenates_S8x1024_S32x1024_S40x1024_d0 (ix2 ⟨b.val, by omega⟩ k) = x (ix2 b k) := by
  pointwise
theorem s1 (b : Fin 8) (k : Fin 1024) :
    (show FVec Ideal S40x1024 .f32 from StableHlo.after hostOps0 V (Proc.devRef .tc main_v0)) (ix2 ⟨b.val, by omega⟩ k)
      = (show FVec Ideal S8x1024 .f32 from V (Proc.devRef .tc main_arg1)) (ix2 b k) := by
  after_results
  exact s1_v0 _ _ b k
theorem pad_c (x : FVec Ideal S40x1024 .f32) (b : Fin 8) (k : Fin 1024) :
    pad S48x1024 ![0, 0] ![8, 0] ![0, 0] x fill pads_S40x1024_S48x1024_080_000 h_S_ (ix2 ⟨b.val, by omega⟩ k) = x (ix2 ⟨b.val, by omega⟩ k) := by
  pointwise
  rw [dif_pos (show b.val < 40 by omega)]
theorem s2 (h : V (Proc.devRef .tc main_c) = constantI S_ 32 0#32) (b : Fin 8) (k : Fin 1024) :
    (show FVec Ideal S48x1024 .f32 from StableHlo.after hostOps0_1 V (Proc.devRef .tc main_v1)) (ix2 ⟨b.val, by omega⟩ k)
      = (show FVec Ideal S40x1024 .f32 from V (Proc.devRef .tc main_v0)) (ix2 ⟨b.val, by omega⟩ k) := by
  after_results
  rw [h]
  exact pad_c _ b k
theorem cut3 (x : FVec Ideal S2x1024x6144 .f32) (k : Fin 1024) (n : Fin 6144) :
    shapeCast S1024x6144 (extractStridedSlice S1x1024x6144 ![0, 0, 0] x slices_S2x1024x6144_S1x1024x6144_0_0_0) shapeCasts_S1x1024x6144_S1024x6144 (ix2 k n)
      = x (ix3 0 k n) := by
  pointwise
theorem s3_v3 (k : Fin 1024) (n : Fin 6144) :
    (show FVec Ideal S1024x6144 .f32 from StableHlo.after hostOps0_2 V (Proc.devRef .tc main_v3)) (ix2 k n)
      = (show FVec Ideal S2x1024x6144 .f32 from V (Proc.devRef .tc main_arg3)) (ix3 0 k n) := by
  after_results
  exact cut3 _ k n
theorem cut6 (x : FVec Ideal S2x6144 .f32) (n : Fin 6144) :
    shapeCast S1x6144 (shapeCast S6144 (extractStridedSlice S1x6144 ![0, 0] x slices_S2x6144_S1x6144_0_0) shapeCasts_S1x6144_S6144) shapeCasts_S6144_S1x6144 (ix2 0 n)
      = x (ix2 0 n) := by
  pointwise
theorem s3_v6 (n : Fin 6144) :
    (show FVec Ideal S1x6144 .f32 from StableHlo.after hostOps0_2 V (Proc.devRef .tc main_v6)) (ix2 0 n)
      = (show FVec Ideal S2x6144 .f32 from V (Proc.devRef .tc main_arg4)) (ix2 0 n) := by
  after_results
  exact cut6 _ n

/-- Column `1024 k + n` of the first eight rows, as each slice reads it. -/
theorem part_at (x : FVec Ideal S48x6144 .f32) (k : ℕ) (hk : k ≤ 5) (off : Fin 2 → ℕ) (ho : off = ![0, 1024 * k])
    (hs : S8x6144.Slices off S8x1024) (b : Fin 8) (n : Fin 1024) :
    extractStridedSlice S8x1024 off (extractStridedSlice S8x6144 ![0, 0] x slices_S48x6144_S8x6144_0_0) hs (ix2 b n)
      = x (ix2 ⟨b.val, by omega⟩ ⟨1024 * k + n.val, by omega⟩) := by
  subst ho
  pointwise

theorem s5_v20 (b : Fin 8) (n : Fin 1024) :
    (show FVec Ideal S8x1x1024 .f32 from StableHlo.after hostOps1 V (Proc.devRef .tc main_v20)) (ix3 b 0 n)
      = (show FVec Ideal S48x6144 .f32 from V (Proc.devRef .tc main_v7)) (ix2 ⟨b.val, by omega⟩ ⟨1024 * 0 + n.val, by omega⟩) := by
  after_results
  exact (rows _ b n).trans (part_at _ 0 (by decide) _ rfl _ b n)
theorem s5_v21 (b : Fin 8) (n : Fin 1024) :
    (show FVec Ideal S8x1x1024 .f32 from StableHlo.after hostOps1 V (Proc.devRef .tc main_v21)) (ix3 b 0 n)
      = (show FVec Ideal S48x6144 .f32 from V (Proc.devRef .tc main_v7)) (ix2 ⟨b.val, by omega⟩ ⟨1024 * 1 + n.val, by omega⟩) := by
  after_results
  exact (rows _ b n).trans (part_at _ 1 (by decide) _ rfl _ b n)
theorem s5_v11 (b : Fin 8) (n : Fin 1024) :
    (show FVec Ideal S8x1024 .f32 from StableHlo.after hostOps1 V (Proc.devRef .tc main_v11)) (ix2 b n)
      = (show FVec Ideal S48x6144 .f32 from V (Proc.devRef .tc main_v7)) (ix2 ⟨b.val, by omega⟩ ⟨1024 * 2 + n.val, by omega⟩) := by
  after_results
  exact part_at _ 2 (by decide) _ rfl _ b n
theorem s5_v12 (b : Fin 8) (n : Fin 1024) :
    (show FVec Ideal S8x1024 .f32 from StableHlo.after hostOps1 V (Proc.devRef .tc main_v12)) (ix2 b n)
      = (show FVec Ideal S48x6144 .f32 from V (Proc.devRef .tc main_v7)) (ix2 ⟨b.val, by omega⟩ ⟨1024 * 3 + n.val, by omega⟩) := by
  after_results
  exact part_at _ 3 (by decide) _ rfl _ b n
theorem s5_v13 (b : Fin 8) (n : Fin 1024) :
    (show FVec Ideal S8x1024 .f32 from StableHlo.after hostOps1 V (Proc.devRef .tc main_v13)) (ix2 b n)
      = (show FVec Ideal S48x6144 .f32 from V (Proc.devRef .tc main_v7)) (ix2 ⟨b.val, by omega⟩ ⟨1024 * 4 + n.val, by omega⟩) := by
  after_results
  exact part_at _ 4 (by decide) _ rfl _ b n
theorem s5_v14 (b : Fin 8) (n : Fin 1024) :
    (show FVec Ideal S8x1024 .f32 from StableHlo.after hostOps1 V (Proc.devRef .tc main_v14)) (ix2 b n)
      = (show FVec Ideal S48x6144 .f32 from V (Proc.devRef .tc main_v7)) (ix2 ⟨b.val, by omega⟩ ⟨1024 * 5 + n.val, by omega⟩) := by
  after_results
  exact part_at _ 5 (by decide) _ rfl _ b n
theorem gain (x : FVec Ideal S2x2x1024 .f32) (k : Fin 1024) :
    shapeCast S1x1024 (shapeCast S1024 (extractStridedSlice S1x1x1024 ![0, 0, 0] x slices_S2x2x1024_S1x1x1024_0_0_0) shapeCasts_S1x1x1024_S1024) shapeCasts_S1024_S1x1024 (ix2 0 k)
      = x (ix3 0 0 k) := by
  pointwise
theorem gain' (x : FVec Ideal S2x2x1024 .f32) (k : Fin 1024) :
    shapeCast S1x1024 (shapeCast S1024 (extractStridedSlice S1x1x1024 ![0, 1, 0] x slices_S2x2x1024_S1x1x1024_0_1_0) shapeCasts_S1x1x1024_S1024) shapeCasts_S1024_S1x1024 (ix2 0 k)
      = x (ix3 0 1 k) := by
  pointwise
theorem s5_v19 (k : Fin 1024) :
    (show FVec Ideal S1x1024 .f32 from StableHlo.after hostOps1 V (Proc.devRef .tc main_v19)) (ix2 0 k)
      = (show FVec Ideal S2x2x1024 .f32 from V (Proc.devRef .tc main_arg5)) (ix3 0 0 k) := by
  after_results
  exact gain _ k
theorem s5_v18 (k : Fin 1024) (n : Fin 3072) :
    (show FVec Ideal S1024x3072 .bf16 from StableHlo.after hostOps1 V (Proc.devRef .tc main_v18)) (ix2 k n)
      = (show FVec Ideal S1x1024x3072 .f32 from V (Proc.devRef .tc main_arg6)) (ix3 0 k n) := by
  after_results
  pointwise
theorem s7_v23 (h : Fin 16) (n : Fin 257) :
    (show FVec Ideal S16x257 .f32 from StableHlo.after hostOps2 V (Proc.devRef .tc main_v23)) (ix2 h n)
      = (show FVec Ideal S1x16x257 .f32 from V (Proc.devRef .tc main_arg7)) (ix3 0 h n) := by
  after_results
  pointwise
theorem last (x : FVec Ideal S8x8192x1024 .f32) (b : Fin 8) (t : Fin 512) (n : Fin 1024) :
    extractStridedSlice S8x512x1024 ![0, 7680, 0] x slices_S8x8192x1024_S8x512x1024_0_7680_0 (ix3 b t n) = x (ix3 b ⟨7680 + t.val, by omega⟩ n) := by
  pointwise
theorem s10_v26 (b : Fin 8) (t : Fin 512) (n : Fin 1024) :
    (show FVec Ideal S8x512x1024 .f32 from StableHlo.after hostOps4 V (Proc.devRef .tc main_v26)) (ix3 b t n)
      = (show FVec Ideal S8x8192x1024 .f32 from V (Proc.devRef .tc main_v22_3)) (ix3 b ⟨7680 + t.val, by omega⟩ n) := by
  after_results
  exact last _ b t n
theorem s10_v27 (b : Fin 8) (t : Fin 512) (n : Fin 1024) :
    (show FVec Ideal S8x512x1024 .f32 from StableHlo.after hostOps4 V (Proc.devRef .tc main_v27)) (ix3 b t n)
      = (show FVec Ideal S8x8192x1024 .f32 from V (Proc.devRef .tc main_v22_4)) (ix3 b ⟨7680 + t.val, by omega⟩ n) := by
  after_results
  exact last _ b t n
theorem s10_v29 : (show FVec Ideal S16x64x1024 .f32 from StableHlo.after hostOps4 V (Proc.devRef .tc main_v29))
    = shapeCast S16x64x1024 (shapeCast S1024x1024 (show FVec Ideal S1x1024x1024 .f32 from V (Proc.devRef .tc main_arg8)) shapeCasts_S1x1024x1024_S1024x1024) shapeCasts_S1024x1024_S16x64x1024 := by
  after_results
  rfl
theorem s10_c : StableHlo.after hostOps4 V (Proc.devRef .tc main_c_0) = constantI S_ 32 0#32 := by
  after_results
theorem first (x : FVec Ideal S1x1024x1024 .f32) (k n : Fin 1024) : shapeCast S1024x1024 x shapeCasts_S1x1024x1024_S1024x1024 (ix2 k n) = x (ix3 0 k n) := by
  pointwise
theorem s11_v30 (hc : V (Proc.devRef .tc main_c_0) = constantI S_ 32 0#32) (x : FVec Ideal S1024x1024 .f32)
    (hx : (show FVec Ideal S16x64x1024 .f32 from V (Proc.devRef .tc main_v29)) = shapeCast S16x64x1024 x shapeCasts_S1024x1024_S16x64x1024)
    (h : Fin 16) (d : Fin 128) (n : Fin 1024) :
    (show FVec Ideal S16x128x1024 .f32 from StableHlo.after hostOps4_1 V (Proc.devRef .tc main_v30)) (ix3 h d n)
      = if hd : d.val < 64 then x (ix2 ⟨h.val * 64 + d.val, by omega⟩ n) else 0 := by
  after_results
  rw [hc]
  refine Eq.trans ?_ (pad_o x h d n)
  rw [← hx]
  rfl
theorem s12_v31 : (show FVec Ideal S16x128x1024 .bf16 from StableHlo.after hostOps4_2 V (Proc.devRef .tc main_v31)) = (show FVec Ideal S16x128x1024 .f32 from V (Proc.devRef .tc main_v30)) := by
  after_results
  rfl
theorem s12_v34 (b : Fin 8) (k : Fin 1024) : (show FVec Ideal S8x1x1024 .f32 from StableHlo.after hostOps4_2 V (Proc.devRef .tc main_v34)) (ix3 b 0 k)
    = (show FVec Ideal S8x1024 .f32 from V (Proc.devRef .tc main_v11)) (ix2 b k) := by
  after_results
  exact rows _ b k
theorem s12_v35 (k : Fin 1024) : (show FVec Ideal S1x1024 .f32 from StableHlo.after hostOps4_2 V (Proc.devRef .tc main_v35)) (ix2 0 k)
    = (show FVec Ideal S2x2x1024 .f32 from V (Proc.devRef .tc main_arg5)) (ix3 0 1 k) := by
  after_results
  exact gain' _ k
theorem s12_v36 (b : Fin 8) (k : Fin 1024) : (show FVec Ideal S8x1x1024 .f32 from StableHlo.after hostOps4_2 V (Proc.devRef .tc main_v36)) (ix3 b 0 k)
    = (show FVec Ideal S8x1024 .f32 from V (Proc.devRef .tc main_v12)) (ix2 b k) := by
  after_results
  exact rows _ b k
theorem s12_v37 (b : Fin 8) (k : Fin 1024) : (show FVec Ideal S8x1x1024 .f32 from StableHlo.after hostOps4_2 V (Proc.devRef .tc main_v37)) (ix3 b 0 k)
    = (show FVec Ideal S8x1024 .f32 from V (Proc.devRef .tc main_v13)) (ix2 b k) := by
  after_results
  exact rows _ b k

end Cert.KernelAIdeal.StretchA
-- ==== Proof.LayerA.lean ====
/- The first mixer layer as mathematics, over its arguments: the modulation vectors, the modulated norm, the joint
   projection, the chunk band's scores with their relative-position bias, the weighting, the residual and the second norm. -/
module

public import proofs.«01_k».proof.Proof.Finite

@[expose] public section

noncomputable section
open Idealize.ShloMosaic
namespace Cert.LayerA
open Cert.Spec Cert.Reals
open Cert.Layer (col scale)

/-- The arguments the results are of. -/
structure Args where
  x : FVec Ideal ⟨3, ![8, 8192, 1024]⟩ .f32
  cond : FVec Ideal ⟨2, ![8, 1024]⟩ .f32
  w_ada : FVec Ideal ⟨3, ![2, 1024, 6144]⟩ .f32
  b_ada : FVec Ideal ⟨2, ![2, 6144]⟩ .f32
  g : FVec Ideal ⟨3, ![2, 2, 1024]⟩ .f32
  w_qkv : FVec Ideal ⟨3, ![1, 1024, 3072]⟩ .f32
  rb : FVec Ideal ⟨3, ![1, 16, 257]⟩ .f32
  w_o : FVec Ideal ⟨3, ![1, 1024, 1024]⟩ .f32

variable (A : Args)

/-- The modulation vectors, joined. -/
def ada (b : Fin 8) (n : Fin 6144) : EReal := (∑ d : Fin 1024, A.cond (ix2 b d) * A.w_ada (ix3 0 d n)) + A.b_ada (ix2 0 n)
/-- The `k`-th modulation vector. -/
def part (k : Fin 6) (b : Fin 8) (n : Fin 1024) : EReal := ada A b ⟨1024 * k.val + n.val, by omega⟩
/-- The row before the projection, modulated. -/
def h (b : Fin 8) (t : Fin 8192) (d : Fin 1024) : EReal :=
  mod (fun k => A.x (ix3 b t k)) (fun k => A.g (ix3 0 0 k)) (part A 1 b) (part A 0 b) d
/-- Queries, keys and values, a thousand and twenty-four columns each. -/
def qkv (b : Fin 8) (t : Fin 8192) (n : Fin 3072) : EReal := ∑ d, h A b t d * A.w_qkv (ix3 0 d n)
/-- The query's column. -/
def qcol (n : Fin 1024) : Fin 3072 := ⟨n.val, by omega⟩
/-- The key's column. -/
def kcol (n : Fin 1024) : Fin 3072 := ⟨1024 + n.val, by omega⟩
/-- The value's column. -/
def vcol (n : Fin 1024) : Fin 3072 := ⟨2048 + n.val, by omega⟩
/-- The place of a distance among the biases: the distance cut to 128 either way, plus 128. -/
def rel (t i : ℕ) : Fin 257 := ⟨min (t + 128 - i) 256, by omega⟩
/-- A key's chunk is the query's or one of the eight before. -/
def band (t i : ℕ) : Prop := i / 64 ≤ t / 64 ∧ t / 64 ≤ i / 64 + 8
instance (t i : ℕ) : Decidable (band t i) := by unfold band; infer_instance
/-- The score of query `t` and key `i`. -/
def logit (b : Fin 8) (hd : Fin 16) (t i : Fin 8192) : EReal :=
  if band t.val i.val then
    (∑ d : Fin 64, qkv A b t (qcol (col hd d)) * qkv A b i (kcol (col hd d))) * Ideal.ofBits .f32 0x3E000000#32
      + A.rb (ix3 0 hd (rel t.val i.val))
  else ⊥
/-- The exponential of a score less the largest. -/
def ex (b : Fin 8) (hd : Fin 16) (t i : Fin 8192) : EReal :=
  Ideal.exp (logit A b hd t i - Finset.univ.sup (logit A b hd t))
/-- The weighted values. -/
def o (b : Fin 8) (t : Fin 8192) (hd : Fin 16) (d : Fin 64) : EReal :=
  ∑ i, qkv A b i (vcol (col hd d)) * Ideal.div (ex A b hd t i) (∑ i', ex A b hd t i')
/-- The residual's row. -/
def y (b : Fin 8) (t : Fin 8192) (n : Fin 1024) : EReal :=
  A.x (ix3 b t n) + part A 2 b n * ∑ hd : Fin 16, ∑ d : Fin 64, o A b t hd d * A.w_o (ix3 0 (col hd d) n)
/-- The residual's row, normalised and modulated. -/
def yn (b : Fin 8) (t : Fin 8192) (n : Fin 1024) : EReal :=
  mod (y A b t) (fun k => A.g (ix3 0 1 k)) (part A 4 b) (part A 3 b) n

/-- The arrays behind the scores and values hold real numbers. -/
structure Real (A : Args) : Prop where
  x : ∀ j, R (A.x j)
  cond : ∀ j, R (A.cond j)
  w_ada : ∀ j, R (A.w_ada j)
  b_ada : ∀ j, R (A.b_ada j)
  g : ∀ j, R (A.g j)
  w_qkv : ∀ j, R (A.w_qkv j)
  rb : ∀ j, R (A.rb j)

variable {A} (hA : Real A)
include hA

theorem ada_real (b : Fin 8) (n : Fin 6144) : R (ada A b n) :=
  (R.sum fun d _ => (hA.cond _).mul (hA.w_ada _)).add (hA.b_ada _)
theorem h_real (b : Fin 8) (t : Fin 8192) (d : Fin 1024) : R (h A b t d) :=
  Cert.Layer.mod_real (fun _ => hA.x _) (fun _ => hA.g _) (fun _ => ada_real hA _ _) (fun _ => ada_real hA _ _) d
theorem qkv_real (b : Fin 8) (t : Fin 8192) (n : Fin 3072) : R (qkv A b t n) :=
  R.sum fun d _ => (h_real hA b t d).mul (hA.w_qkv _)

end Cert.LayerA
-- ==== Proof.Cond.lean ====
/- The modulation region: every entry of its output, in its three-product arithmetic. -/
module

public import proofs.«01_k».proof.Proof.Gen.KernelAIdeal.Frame
public import Idealize.ShloMosaic.Lib.Pipeline.ValueKit

@[expose] public section

set_option maxRecDepth 16384
noncomputable section
open Idealize.ShloMosaic Idealize.ShloMosaic.TcCoe Idealize.SL.Sem
open Idealize.ShloMosaic.Pipeline (Dat)
namespace Cert.KernelAIdeal.Cond
open Cert.KernelAIdeal Cert.KernelAIdeal.Gen
variable (V : (c : Dev nD) → (b : Ref sig .tc) → Buf (Elt Ideal) ((c : Thread nD τ).loc b))

/-- An entry of the product in six terms: a row and a column, each split into itself and what is left of it. -/
def six (x w : Fin 1024 → EReal) : EReal :=
  (∑ d, x d * w d) + ((∑ d, x d * (w d - w d)) + ∑ d, (x d - x d) * w d)
    + (((∑ d, x d * (w d - w d - (w d - w d))) + ∑ d, (x d - x d - (x d - x d)) * w d) + ∑ d, (x d - x d) * (w d - w d))

/-- The region's output. -/
def G (x : FVec Ideal S48x1024 .f32) (w : FVec Ideal S1024x6144 .f32) (b : FVec Ideal S1x6144 .f32) : FVec Ideal S48x6144 .f32 := fun j =>
  six (fun d => x (ix2 (j 0) d)) (fun d => w (ix2 d (j 1))) + b (ix2 0 (j 1))

theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem point (c : Dev nD) (t : Fin cfg0.N) (y) :
    k0_pay1 (F := Ideal) (iblk0 V c 0 t) (iblk0 V c 1 t) (iblk0 V c 2 t) y
      = G (V c main_v1) (V c main_v3) (V c main_v6) (((cfg0.win 3).blk t).view.emb y) := by
  pointwise [k0_pay1, G, six]
  blk_point [iblk0, idx t]

theorem final (c : Dev nD) : (dat0 V c).arrAt 3 cfg0.N = G (V c main_v1) (V c main_v3) (V c main_v6) := by
  refine (dat0 V c).arrAt_eq_of_covers 3 _ (by decide +kernel) fun t _ y => ?_
  blk_simp
  rw [after0_3]; unfold out0_3; frame_out
  exact point V c t y

end Cert.KernelAIdeal.Cond
-- ==== Proof.HeadsA.lean ====
/- The joint projection's region: queries, keys and values by heads and lanes, and the keys and values as handed on. -/
module

public import proofs.«01_k».proof.Proof.Gen.KernelAIdeal.Frame
public import proofs.«01_k».proof.Proof.Heads

@[expose] public section

set_option maxRecDepth 16384
noncomputable section
open Idealize.ShloMosaic Idealize.ShloMosaic.TcCoe Idealize.SL.Sem
open Idealize.ShloMosaic.Pipeline (Dat)
namespace Cert.KernelAIdeal.HeadsA
open Cert.KernelAIdeal Cert.KernelAIdeal.Gen Cert.Spec
open Cert.KernelIdeal.Heads (vlane vlane_of proj)

/-- A query lane: the 64 scaled lanes, zeros. -/
def qlane (l : ℕ) (a : EReal) : EReal := if l < 64 then a * Ideal.ofBits .f32 0x3E000000#32 else 0
/-- A key lane: the 64 lanes, zeros. -/
def klane (l : ℕ) (a : EReal) : EReal := if l < 64 then a else 0

theorem qlane_of {l l' : ℕ} {a a' : EReal} (h : l' = l) (ha : l < 64 → a = a') : qlane l a = qlane l' a' := by
  subst h; unfold qlane
  by_cases h : l' < 64
  · rw [if_pos h, if_pos h, ha h]
  · rw [if_neg h, if_neg h]
theorem klane_of {l l' : ℕ} {a a' : EReal} (h : l' = l) (ha : l < 64 → a = a') : klane l a = klane l' a' := by
  subst h; unfold klane
  by_cases h : l' < 64
  · rw [if_pos h, if_pos h, ha h]
  · rw [if_neg h, if_neg h]

section Block
variable (x0 : Vec Ideal S1x512x1024 .f32) (x1 : Vec Ideal S1x1024 .f32) (x2 : Vec Ideal S1x1x1024 .f32) (x3 : Vec Ideal S1x1x1024 .f32) (x4 : Vec Ideal S1024x3072 .bf16)

/-- The block's joint projection. -/
def kv (r : Fin 512) (n : Fin 3072) : EReal :=
  ∑ d, mod (fun k => x0 (ix3 0 r k)) (fun k => x1 (ix2 0 k)) (fun k => x3 (ix3 0 0 k)) (fun k => x2 (ix3 0 0 k)) d * x4 (ix2 d n)

theorem kv_of {r r' : Fin 512} {n n' : Fin 3072} (h : r.val = r'.val) (h' : n.val = n'.val) :
    kv x0 x1 x2 x3 x4 r n = kv x0 x1 x2 x3 x4 r' n' := by
  rw [Fin.ext h, Fin.ext h']

theorem kv_at (r : Fin 512) (n : Fin 3072) : k1_pay103 x0 x1 x2 x3 x4 (ix2 r n) = kv x0 x1 x2 x3 x4 r n := by
  unfold k1_pay103
  open_payloads
  pointwise [kv, mod, nrm]

theorem q_slice : k1_pay104 x0 x1 x2 x3 x4 = extractStridedSlice S512x1024 ![0, 0] (k1_pay103 x0 x1 x2 x3 x4) slices_S512x3072_o0_0_S512x1024 := rfl

theorem q_first : k1_pay4 (F := Ideal) (View.ld x0 r1_0) (View.ld x1 r1_1) (View.ld x3 r1_2) (View.ld x2 r1_2) (View.ld x4 r1_3)
    = extractStridedSlice S512x128 ![0, 0] (k1_pay104 x0 x1 x2 x3 x4) slices_S512x1024_o0_0_S512x128 := rfl

theorem q_scaled : k1_pay5 (F := Ideal) (View.ld x0 r1_0) (View.ld x1 r1_1) (View.ld x3 r1_2) (View.ld x2 r1_2) (View.ld x4 r1_3)
    = mulf (extractStridedSlice S512x128 ![0, 0] (k1_pay104 x0 x1 x2 x3 x4) slices_S512x1024_o0_0_S512x128)
        (broadcast S512x128 (Scalar.ofBits (F := Ideal) .f32 0x3E000000#32)) := rfl

theorem v_at (y : S1x16x512x128.Idx) :
    out1_7 x0 x1 x2 x3 x4 y = vlane (y 3).val (kv x0 x1 x2 x3 x4 (y 2)
      ⟨(2048 + 64 * (y 1).val + (y 3).val) % 3072, Nat.mod_lt _ (by omega)⟩) := by
  refine Eq.trans ?_ (congrArg (vlane (y 3).val) (kv_at x0 x1 x2 x3 x4 (y 2) _))
  unfold out1_7 k1_pay109 k1_pay108
  generalize k1_pay103 x0 x1 x2 x3 x4 = B
  canon_tiles x h
  all_goals (open_payloads; pointwise; word_cmp)
  all_goals (refine vlane_of h3 (fun hl => ?_); blk_ext)

theorem k_at (y : S1x16x512x128.Idx) :
    out1_6 x0 x1 x2 x3 x4 y = klane (y 3).val (kv x0 x1 x2 x3 x4 (y 2)
      ⟨(1024 + 64 * (y 1).val + (y 3).val) % 3072, Nat.mod_lt _ (by omega)⟩) := by
  refine Eq.trans ?_ (congrArg (klane (y 3).val) (kv_at x0 x1 x2 x3 x4 (y 2) _))
  unfold out1_6 k1_pay107 k1_pay106 k1_pay105
  generalize k1_pay103 x0 x1 x2 x3 x4 = B
  canon_tiles x h
  all_goals (open_payloads; pointwise; word_cmp)
  all_goals (refine klane_of h3 (fun hl => ?_); blk_ext)

theorem q_at (y : S1x16x512x128.Idx) :
    out1_5 x0 x1 x2 x3 x4 y = qlane (y 3).val (kv x0 x1 x2 x3 x4 (y 2)
      ⟨(64 * (y 1).val + (y 3).val) % 3072, Nat.mod_lt _ (by omega)⟩) := by
  refine Eq.trans ?_ (congrArg (qlane (y 3).val) (kv_at x0 x1 x2 x3 x4 (y 2) _))
  unfold out1_5 k1_pay102
  rw [q_scaled, q_first, q_slice]
  generalize k1_pay103 x0 x1 x2 x3 x4 = B
  canon_tiles x h
  all_goals (open_payloads; pointwise; word_cmp)
  all_goals (refine qlane_of h3 (fun hl => ?_); blk_ext)

theorem bk_at (y : S1x512x1024.Idx) : k1_pay100 (k1_pay103 x0 x1 x2 x3 x4) y
    = kv x0 x1 x2 x3 x4 (y 1) ⟨1024 + (y 2).val, by have : (y 2).val < 1024 := (y 2).isLt; omega⟩ := by
  refine Eq.trans ?_ (kv_at x0 x1 x2 x3 x4 (y 1) _)
  generalize k1_pay103 x0 x1 x2 x3 x4 = B
  open_payloads
  pointwise

theorem bv_at (y : S1x512x1024.Idx) : k1_pay1 (k1_pay101 (k1_pay103 x0 x1 x2 x3 x4)) y
    = kv x0 x1 x2 x3 x4 (y 1) ⟨2048 + (y 2).val, by have : (y 2).val < 1024 := (y 2).isLt; omega⟩ := by
  refine Eq.trans ?_ (kv_at x0 x1 x2 x3 x4 (y 1) _)
  generalize k1_pay103 x0 x1 x2 x3 x4 = B
  open_payloads
  pointwise

end Block

variable (V : (c : Dev nD) → (b : Ref sig .tc) → Buf (Elt Ideal) ((c : Thread nD τ).loc b))

/-- All queries, by heads and lanes. -/
def Gq (x : FVec Ideal S8x8192x1024 .f32) (g : FVec Ideal S1x1024 .f32) (sh sc : FVec Ideal S8x1x1024 .f32)
    (w : FVec Ideal S1024x3072 .bf16) : FVec Ideal S8x16x8192x128 .bf16 := fun j =>
  qlane (j 3).val (proj x g sh sc (fun d n => w (ix2 d n)) (j 0) (j 2)
    ⟨(64 * (j 1).val + (j 3).val) % 3072, Nat.mod_lt _ (by omega)⟩)
/-- All keys, by heads and lanes. -/
def Gk (x : FVec Ideal S8x8192x1024 .f32) (g : FVec Ideal S1x1024 .f32) (sh sc : FVec Ideal S8x1x1024 .f32)
    (w : FVec Ideal S1024x3072 .bf16) : FVec Ideal S8x16x8192x128 .bf16 := fun j =>
  klane (j 3).val (proj x g sh sc (fun d n => w (ix2 d n)) (j 0) (j 2)
    ⟨(1024 + 64 * (j 1).val + (j 3).val) % 3072, Nat.mod_lt _ (by omega)⟩)
/-- All values, by heads and lanes. -/
def Gv (x : FVec Ideal S8x8192x1024 .f32) (g : FVec Ideal S1x1024 .f32) (sh sc : FVec Ideal S8x1x1024 .f32)
    (w : FVec Ideal S1024x3072 .bf16) : FVec Ideal S8x16x8192x128 .bf16 := fun j =>
  vlane (j 3).val (proj x g sh sc (fun d n => w (ix2 d n)) (j 0) (j 2)
    ⟨(2048 + 64 * (j 1).val + (j 3).val) % 3072, Nat.mod_lt _ (by omega)⟩)
/-- A projection from column `k` on, as it is handed on. -/
def Gn (k : ℕ) (hk : k ≤ 2048) (x : FVec Ideal S8x8192x1024 .f32) (g : FVec Ideal S1x1024 .f32) (sh sc : FVec Ideal S8x1x1024 .f32)
    (w : FVec Ideal S1024x3072 .bf16) : FVec Ideal S8x8192x1024 .f32 := fun j =>
  proj x g sh sc (fun d n => w (ix2 d n)) (j 0) (j 1) ⟨k + (j 2).val, by have : (j 2).val < 1024 := (j 2).isLt; omega⟩

theorem idx : ∀ t : Fin cfg1.N, win1_0.index t = ![t.val / 16, t.val % 16, 0] ∧ win1_1.index t = ![0, 0]
    ∧ win1_2.index t = ![t.val / 16, 0, 0] ∧ win1_3.index t = ![t.val / 16, 0, 0] ∧ win1_4.index t = ![0, 0]
    ∧ win1_5.index t = ![t.val / 16, 0, t.val % 16, 0] ∧ win1_6.index t = ![t.val / 16, 0, t.val % 16, 0]
    ∧ win1_7.index t = ![t.val / 16, 0, t.val % 16, 0] ∧ win1_8.index t = ![t.val / 16, t.val % 16, 0]
    ∧ win1_9.index t = ![t.val / 16, t.val % 16, 0] :=
  (by decide +kernel : ∀ t : Fin grid1.N, _)

theorem q_point (c : Dev nD) (t : Fin cfg1.N) (y : S1x16x512x128.Idx) :
    qlane (y 3).val (kv (iblk1 V c 0 t) (iblk1 V c 1 t) (iblk1 V c 2 t) (iblk1 V c 3 t) (iblk1 V c 4 t) (y 2)
      ⟨(64 * (y 1).val + (y 3).val) % 3072, Nat.mod_lt _ (by omega)⟩)
      = Gq (V c main_arg0) (V c main_v19) (V c main_v20) (V c main_v21) (V c main_v18) (((cfg1.win 5).blk t).view.emb y) := by
  refine qlane_of ?_ (fun _ => ?_)
  · blk_simp [idx t]
  · pointwise [kv, proj, mod, nrm]
    blk_point [iblk1, idx t]
theorem k_point (c : Dev nD) (t : Fin cfg1.N) (y : S1x16x512x128.Idx) :
    klane (y 3).val (kv (iblk1 V c 0 t) (iblk1 V c 1 t) (iblk1 V c 2 t) (iblk1 V c 3 t) (iblk1 V c 4 t) (y 2)
      ⟨(1024 + 64 * (y 1).val + (y 3).val) % 3072, Nat.mod_lt _ (by omega)⟩)
      = Gk (V c main_arg0) (V c main_v19) (V c main_v20) (V c main_v21) (V c main_v18) (((cfg1.win 6).blk t).view.emb y) := by
  refine klane_of ?_ (fun _ => ?_)
  · blk_simp [idx t]
  · pointwise [kv, proj, mod, nrm]
    blk_point [iblk1, idx t]
theorem v_point (c : Dev nD) (t : Fin cfg1.N) (y : S1x16x512x128.Idx) :
    vlane (y 3).val (kv (iblk1 V c 0 t) (iblk1 V c 1 t) (iblk1 V c 2 t) (iblk1 V c 3 t) (iblk1 V c 4 t) (y 2)
      ⟨(2048 + 64 * (y 1).val + (y 3).val) % 3072, Nat.mod_lt _ (by omega)⟩)
      = Gv (V c main_arg0) (V c main_v19) (V c main_v20) (V c main_v21) (V c main_v18) (((cfg1.win 7).blk t).view.emb y) := by
  refine vlane_of ?_ (fun _ => ?_)
  · blk_simp [idx t]
  · pointwise [kv, proj, mod, nrm]
    blk_point [iblk1, idx t]
theorem bk_point (c : Dev nD) (t : Fin cfg1.N) (y : S1x512x1024.Idx) :
    kv (iblk1 V c 0 t) (iblk1 V c 1 t) (iblk1 V c 2 t) (iblk1 V c 3 t) (iblk1 V c 4 t) (y 1)
      ⟨1024 + (y 2).val, by have : (y 2).val < 1024 := (y 2).isLt; omega⟩
      = Gn 1024 (by decide) (V c main_arg0) (V c main_v19) (V c main_v20) (V c main_v21) (V c main_v18) (((cfg1.win 8).blk t).view.emb y) := by
  pointwise [kv, proj, mod, nrm, Gn]
  blk_point [iblk1, idx t]
theorem bv_point (c : Dev nD) (t : Fin cfg1.N) (y : S1x512x1024.Idx) :
    kv (iblk1 V c 0 t) (iblk1 V c 1 t) (iblk1 V c 2 t) (iblk1 V c 3 t) (iblk1 V c 4 t) (y 1)
      ⟨2048 + (y 2).val, by have : (y 2).val < 1024 := (y 2).isLt; omega⟩
      = Gn 2048 (by decide) (V c main_arg0) (V c main_v19) (V c main_v20) (V c main_v21) (V c main_v18) (((cfg1.win 9).blk t).view.emb y) := by
  pointwise [kv, proj, mod, nrm, Gn]
  blk_point [iblk1, idx t]

theorem q_final (c : Dev nD) : (dat1 V c).arrAt 5 cfg1.N
    = Gq (V c main_arg0) (V c main_v19) (V c main_v20) (V c main_v21) (V c main_v18) := by
  refine (dat1 V c).arrAt_eq_of_covers 5 _ (by decide +kernel) fun t _ y => ?_
  blk_simp
  rw [after1_5]
  exact (q_at ..).trans (q_point V c t y)
theorem k_final (c : Dev nD) : (dat1 V c).arrAt 6 cfg1.N
    = Gk (V c main_arg0) (V c main_v19) (V c main_v20) (V c main_v21) (V c main_v18) := by
  refine (dat1 V c).arrAt_eq_of_covers 6 _ (by decide +kernel) fun t _ y => ?_
  blk_simp
  rw [after1_6]
  exact (k_at ..).trans (k_point V c t y)
theorem v_final (c : Dev nD) : (dat1 V c).arrAt 7 cfg1.N
    = Gv (V c main_arg0) (V c main_v19) (V c main_v20) (V c main_v21) (V c main_v18) := by
  refine (dat1 V c).arrAt_eq_of_covers 7 _ (by decide +kernel) fun t _ y => ?_
  blk_simp
  rw [after1_7]
  exact (v_at ..).trans (v_point V c t y)
theorem bk_final (c : Dev nD) : (dat1 V c).arrAt 8 cfg1.N
    = Gn 1024 (by decide) (V c main_arg0) (V c main_v19) (V c main_v20) (V c main_v21) (V c main_v18) := by
  refine (dat1 V c).arrAt_eq_of_covers 8 _ (by decide +kernel) fun t _ y => ?_
  blk_simp
  rw [after1_8]; unfold out1_8; frame_out
  exact (bk_at ..).trans (bk_point V c t y)
theorem bv_final (c : Dev nD) : (dat1 V c).arrAt 9 cfg1.N
    = Gn 2048 (by decide) (V c main_arg0) (V c main_v19) (V c main_v20) (V c main_v21) (V c main_v18) := by
  refine (dat1 V c).arrAt_eq_of_covers 9 _ (by decide +kernel) fun t _ y => ?_
  blk_simp
  rw [after1_9]; unfold out1_9; frame_out
  exact (bv_at ..).trans (bv_point V c t y)

end Cert.KernelAIdeal.HeadsA
-- ==== Proof.Bias.lean ====
/- The table of relative-position biases: what each point of its grid leaves, and the whole array after the last point. -/
module

public import proofs.«01_k».proof.Proof.Gen.KernelAIdeal.Frame
public import Idealize.ShloMosaic.Lib.Pipeline.ValueKit
public import proofs.«01_k».proof.Proof.FoxStep

@[expose] public section

set_option maxRecDepth 16384
noncomputable section
open Idealize.ShloMosaic Idealize.ShloMosaic.TcCoe Idealize.SL.Sem
open Idealize.ShloMosaic.Pipeline (Dat)
namespace Cert.KernelAIdeal.Bias
open Cert.KernelAIdeal Cert.KernelAIdeal.Gen

/-- The entry of the bias row that a place of the rolled row holds. -/
def slot (c : ℕ) : ℕ := if 768 < c then 256 else min (640 - c) 256

theorem slot_le (c : ℕ) : slot c ≤ 256 := by unfold slot; split <;> omega

theorem slot_word : ∀ c : Fin 1024, IntOp.addi (IntOp.minsi (128#32) (IntOp.maxsi (4294967168#32)
    (Scalar.select (IntOp.cmpi CmpIPredicate.sgt (BitVec.ofNat 32 c.val) 768#32) (IntOp.addi (512#32) (IntOp.subi (1024#32) (BitVec.ofNat 32 c.val)))
      (IntOp.subi (512#32) (BitVec.ofNat 32 c.val))))) 128#32 = BitVec.ofNat 32 (slot c.val) := by decide +kernel

theorem iv_word (k : Fin k2_t1_loop.trips) : Scf.iv 0#32 1#32 k.val = BitVec.ofNat 32 k.val := by
  have key : ∀ k : Fin 257, Scf.iv 0#32 1#32 k.val = BitVec.ofNat 32 k.val := by decide +kernel
  exact key ⟨k.val, Nat.lt_of_lt_of_le k.isLt k2_t1_abs.2.1⟩

theorem eq_word : ∀ a b : Fin 257, IntOp.cmpi .eq (BitVec.ofNat 32 a.val) (BitVec.ofNat 32 b.val) = BitVec.ofBool (decide (a.val = b.val)) := by
  intro a b
  change BitVec.ofBool (BitVec.ofNat 32 a.val == BitVec.ofNat 32 b.val) = _
  refine congrArg BitVec.ofBool ?_
  by_cases h : a.val = b.val
  · rw [h]; simp
  · rw [decide_eq_false h]
    refine beq_false_of_ne fun e => h ?_
    have e' := congrArg BitVec.toNat e
    rwa [BitVec.toNat_ofNat, BitVec.toNat_ofNat, Nat.mod_eq_of_lt (by omega), Nat.mod_eq_of_lt (by omega)] at e'

theorem pay3_at (k : Fin k2_t1_loop.trips) (acc : FVec Ideal S8x1024 .f32) (v : EReal) (r : Fin 8) (c : Fin 1024) :
    k2_pay3 (F := Ideal) k acc v (ix2 r c) = if slot c.val = k.val then v else acc (ix2 r c) := by
  pointwise [k2_pay3]
  rw [slot_word c, iv_word k]
  have h1 := slot_le c.val
  have hk : k.val < 257 := Nat.lt_of_lt_of_le k.isLt k2_t1_abs.2.1
  rw [show IntOp.cmpi .eq (BitVec.ofNat 32 (slot c.val)) (BitVec.ofNat 32 k.val) = BitVec.ofBool (decide (slot c.val = k.val)) from ?_]
  · by_cases h : slot c.val = k.val
    · rw [if_pos h, decide_eq_true h]; rfl
    · rw [if_neg h, decide_eq_false h]; rfl
  · exact eq_word ⟨slot c.val, by omega⟩ ⟨k.val, hk⟩

/-- One step of the rolls: the rows with this bit set move by it. -/
def roll (s : BitVec 32) (X : FVec Ideal S512x1024 .f32) : FVec Ideal S512x1024 .f32 :=
  select (cmpi .ne (andi (iota .tc S512x1024 32 [0] iota_S512x1024_d0_w32) (broadcast S512x1024 s)) (broadcast S512x1024 0#32))
    (dynamicRotate 1 s none X rotates_S512x1024_d1) X

theorem bits : ∀ r : Fin 512, (r.val &&& 1) + (r.val &&& 2) + (r.val &&& 4) + (r.val &&& 8) + (r.val &&& 16) + (r.val &&& 32)
    + (r.val &&& 64) + (r.val &&& 128) + (r.val &&& 256) = r.val := by decide +kernel

theorem bit_word : ∀ j : Fin 9, ∀ r : Fin 512, IntOp.cmpi .ne (IntOp.andi (BitVec.ofNat 32 r.val) (BitVec.ofNat 32 (2 ^ j.val))) 0#32
    = BitVec.ofBool (decide (r.val &&& 2 ^ j.val ≠ 0)) := by decide +kernel

theorem pow_word : ∀ j : Fin 9, (BitVec.ofNat 32 (2 ^ j.val)).toNat % 1024 = 2 ^ j.val := by decide +kernel

theorem bit_or : ∀ j : Fin 9, ∀ r : Fin 512, r.val &&& 2 ^ j.val = 0 ∨ r.val &&& 2 ^ j.val = 2 ^ j.val := by decide +kernel

theorem roll_at (j : Fin 9) (X : FVec Ideal S512x1024 .f32) (r : Fin 512) (c : Fin 1024) :
    roll (BitVec.ofNat 32 (2 ^ j.val)) X (ix2 r c) = X (ix2 r ⟨(c.val + 1024 - (r.val &&& 2 ^ j.val)) % 1024, Nat.mod_lt _ (by omega)⟩) := by
  pointwise [roll]
  rw [bit_word j r]
  have hp : (BitVec.ofNat 32 (2 ^ j.val)).toNat % 1024 = 2 ^ j.val := pow_word j
  have hc := c.isLt
  rcases bit_or j r with h | h
  · rw [decide_eq_false (by simp [h])]
    exact congrArg (fun n => X (ix2 r n)) (Fin.ext (by dsimp only; omega))
  · rw [decide_eq_true (by rw [h]; exact (Nat.two_pow_pos _).ne')]
    exact congrArg (fun n => X (ix2 r n)) (Fin.ext (by dsimp only; rw [hp, h]))

theorem rolls (T : FVec Ideal S8x1024 .f32) :
    k2_pay6 (F := Ideal) (iota .tc S512x1024 32 [0] iota_S512x1024_d0_w32) (k2_pay4 T) k2_pay5
      = roll (BitVec.ofNat 32 (2 ^ 8)) (roll (BitVec.ofNat 32 (2 ^ 7)) (roll (BitVec.ofNat 32 (2 ^ 6)) (roll (BitVec.ofNat 32 (2 ^ 5)) (roll (BitVec.ofNat 32 (2 ^ 4))
          (roll (BitVec.ofNat 32 (2 ^ 3)) (roll (BitVec.ofNat 32 (2 ^ 2)) (roll (BitVec.ofNat 32 (2 ^ 1)) (roll (BitVec.ofNat 32 (2 ^ 0))
            (broadcastTo S512x1024 (shapeCast S1x1024 (extractStridedSlice S1x1024 ![0, 0] T slices_S8x1024_o0_0_S1x1024) shapeCasts_S1x1024_S1x1024) broadcasts_S1x1024_S512x1024))))))))) := rfl

theorem base_at (T : FVec Ideal S8x1024 .f32) (r : Fin 512) (c : Fin 1024) :
    broadcastTo S512x1024 (shapeCast S1x1024 (extractStridedSlice S1x1024 ![0, 0] T slices_S8x1024_o0_0_S1x1024) shapeCasts_S1x1024_S1x1024) broadcasts_S1x1024_S512x1024 (ix2 r c)
      = T (ix2 0 c) := by
  pointwise

theorem rolled_at (T : FVec Ideal S8x1024 .f32) (r : Fin 512) (c : Fin 1024) :
    k2_pay6 (F := Ideal) (iota .tc S512x1024 32 [0] iota_S512x1024_d0_w32) (k2_pay4 T) k2_pay5 (ix2 r c)
      = T (ix2 0 ⟨(c.val + 1024 - r.val) % 1024, Nat.mod_lt _ (by omega)⟩) := by
  rw [rolls]
  refine (roll_at 8 _ _ _).trans ((roll_at 7 _ _ _).trans ((roll_at 6 _ _ _).trans ((roll_at 5 _ _ _).trans ((roll_at 4 _ _ _).trans
    ((roll_at 3 _ _ _).trans ((roll_at 2 _ _ _).trans ((roll_at 1 _ _ _).trans ((roll_at 0 _ _ _).trans ((base_at _ _ _).trans ?_)))))))))
  refine congrArg (fun n => T (ix2 0 n)) (Fin.ext ?_)
  have h := bits r
  have hr := r.isLt
  have hc := c.isLt
  change ((((((((((c.val + 1024 - (r.val &&& 256)) % 1024 + 1024 - (r.val &&& 128)) % 1024 + 1024 - (r.val &&& 64)) % 1024 + 1024 - (r.val &&& 32)) % 1024
    + 1024 - (r.val &&& 16)) % 1024 + 1024 - (r.val &&& 8)) % 1024 + 1024 - (r.val &&& 4)) % 1024 + 1024 - (r.val &&& 2)) % 1024 + 1024 - (r.val &&& 1)) % 1024) = (c.val + 1024 - r.val) % 1024
  generalize r.val &&& 1 = e0 at *
  generalize r.val &&& 2 = e1 at *
  generalize r.val &&& 4 = e2 at *
  generalize r.val &&& 8 = e3 at *
  generalize r.val &&& 16 = e4 at *
  generalize r.val &&& 32 = e5 at *
  generalize r.val &&& 64 = e6 at *
  generalize r.val &&& 128 = e7 at *
  generalize r.val &&& 256 = e8 at *
  omega

/-- The blocks of 64 places that a row reaches. -/
def reach (r c : ℕ) : Prop := c / 64 ≤ 8 + r / 64 ∧ r / 64 ≤ c / 64

instance (r c : ℕ) : Decidable (reach r c) := by unfold reach; infer_instance

theorem shr_word : ∀ r : Fin 1024, IntOp.shrsi ArithUnit.vector (BitVec.ofNat 32 r.val) 6#32 = BitVec.ofNat 32 (r.val / 64) := by decide +kernel
theorem reach_word : ∀ a : Fin 8, ∀ b : Fin 16, IntOp.andi
    (IntOp.cmpi CmpIPredicate.sge (IntOp.subi (IntOp.addi (8#32) (BitVec.ofNat 32 a.val)) (BitVec.ofNat 32 b.val)) 0#32)
    (IntOp.cmpi CmpIPredicate.sle (IntOp.subi (IntOp.addi (8#32) (BitVec.ofNat 32 a.val)) (BitVec.ofNat 32 b.val)) 8#32)
      = BitVec.ofBool (decide (b.val ≤ 8 + a.val ∧ a.val ≤ b.val)) := by decide +kernel

theorem mask_bot : (Named.named (F := Ideal) κ "mask" (φ := .f32) 4048155338#32 : EReal) = ⊥ := rfl

theorem pay1_at (v : FVec Ideal S512x1024 .f32) (r : Fin 512) (c : Fin 1024) :
    k2_pay1 (F := Ideal) (iota .tc S512x1024 32 [0] iota_S512x1024_d0_w32) v (iota .tc S512x1024 32 [1] iota_S512x1024_d1_w32) k2_pay7 (ix3 0 r c)
      = if reach r.val c.val then v (ix2 r c) else ⊥ := by
  pointwise [k2_pay1, k2_pay7]
  rw [shr_word ⟨r.val, by omega⟩, shr_word c, mask_bot]
  dsimp only
  rw [reach_word ⟨r.val / 64, by omega⟩ ⟨c.val / 64, by omega⟩]
  dsimp only
  by_cases h : reach r.val c.val
  · rw [if_pos h, decide_eq_true (show c.val / 64 ≤ 8 + r.val / 64 ∧ r.val / 64 ≤ c.val / 64 from h)]; rfl
  · rw [if_neg h, decide_eq_false (show ¬ (c.val / 64 ≤ 8 + r.val / 64 ∧ r.val / 64 ≤ c.val / 64) from h)]; rfl

section Loop
variable (c : Dev nD) (i : grid2.Coords) (a1 : Memref sig .tc .smem S16x257 .f32) (h1 : a1.IsWhole)
  (a2 : Memref sig .tc .vmem S1x512x1024 .f32) (h2 : a2.IsWhole) (x : Vec Ideal S16x257 .f32)

theorem trips : k2_t1_loop.trips = 257 := by decide +kernel

theorem off_eq (k : Fin k2_t1_loop.trips) : k2_off1 i k = ![(i 0).val, k.val] := by
  have hk : k.val < 257 := Nat.lt_of_lt_of_le k.isLt k2_t1_abs.2.1
  have hi : (i 0).val < 16 := (i 0).isLt
  have e : k2_off1 i k = ![(BitVec.ofNat 32 (i 0).val).toNat, (Scf.iv 0#32 1#32 k.val).toNat] := rfl
  rw [e, iv_word, BitVec.toNat_ofNat, BitVec.toNat_ofNat, Nat.mod_eq_of_lt (by omega), Nat.mod_eq_of_lt (by omega)]

theorem ld_one (m n : ℕ) (hm : m < 16) (hn : n < 257) (off : Fin 2 → ℕ) (ho : off = ![m, n]) (inb) (z : S1x1.Idx) :
    View.ld (Val := Elt Ideal) (e' := .f32) x (Rect.unit (s := S16x257) off S1x1.size inb) z = x (ix2 ⟨m, hm⟩ ⟨n, hn⟩) := by
  subst ho
  have z0 : (z 0).val = 0 := Nat.lt_one_iff.mp (z 0).isLt
  have z1 : (z 1).val = 0 := Nat.lt_one_iff.mp (z 1).isLt
  refine congrArg x (funext fun a => Fin.ext ?_)
  fin_cases a
  · change m + 1 * (z 0).val = m
    omega
  · change n + 1 * (z 1).val = n
    omega

theorem read_at (k : Fin k2_t1_loop.trips) :
    trip_k2_t1.sl.r (F := Ideal) i a1 (h1.unread x) k = x (ix2 (i 0) ⟨k.val, Nat.lt_of_lt_of_le k.isLt k2_t1_abs.2.1⟩) := by
  unfold trip_k2_t1.sl.r
  rw [View.readAt_eq_ld, h1.read_unread]
  exact ld_one x _ _ (i 0).isLt _ _ (off_eq i k) _ _

/-- The row of biases before a trip: the entries placed so far. -/
theorem state (k : ℕ) (hk : k ≤ 257) (r : Fin 8) (n : Fin 1024) :
    st_k2_t1 (F := Ideal) Variants.none c none i a1 h1 a2 h2 (h1.unread x) k2_pay2 k (ix2 r n)
      = if slot n.val < k then x (ix2 (i 0) ⟨slot n.val, Nat.lt_succ_of_le (slot_le n.val)⟩) else 0 := by
  induction k with
  | zero =>
    rw [st_k2_t1_zero, if_neg (by omega)]
    pointwise [k2_pay2]
  | succ k ih =>
    have hk' : k < k2_t1_loop.trips := by rw [trips]; omega
    have e := st_k2_t1_succ (F := Ideal) Variants.none c none i a1 h1 a2 h2 (h1.unread x) k2_pay2 ⟨k, hk'⟩
    dsimp only at e
    rw [show st_k2_t1 (F := Ideal) Variants.none c none i a1 h1 a2 h2 (h1.unread x) k2_pay2 (k + 1) = _ from e]
    unfold tripR_k2_t1 trip_k2_t1
    dsimp only
    rw [pay3_at, read_at i a1 h1 x ⟨k, hk'⟩, ih (by omega)]
    by_cases h : slot n.val = k
    · rw [if_pos h, if_pos (by omega)]
      exact congrArg (fun m => x (ix2 (i 0) m)) (Fin.ext h.symm)
    · rw [if_neg h]
      exact if_congr (by omega) rfl rfl

theorem same (h : Fin 16) {r n r' n' : ℕ} (hr : r < 512) (hn : n < 1024) (er : r' = r) (en : n' = n) (p) (p') :
    (if reach r n then x (ix2 h ⟨slot ((n + 1024 - r) % 1024), p⟩) else ⊥)
      = if reach r' n' then x (ix2 h ⟨min (r' + 640 - n') 256, p'⟩) else ⊥ := by
  subst er en
  by_cases hh : reach r' n'
  · rw [if_pos hh, if_pos hh]
    refine congrArg (fun m => x (ix2 h m)) (Fin.ext ?_)
    unfold reach at hh
    dsimp only
    unfold slot
    split <;> omega
  · rw [if_neg hh, if_neg hh]

/-- What one point of the grid leaves: its head's bias over the band, and no place outside. -/
theorem out_at (y : S1x512x1024.Idx) :
    out2_A_1 (F := Ideal) c i a1 h1 a2 h2 x y
      = if reach (y 1).val (y 2).val then x (ix2 (i 0) ⟨min ((y 1).val + 640 - (y 2).val) 256, by omega⟩) else ⊥ := by
  unfold out2_A_1
  rw [View.read_writes_eq_canon _ _ _ (cover2_A_1 c i a1 h1 a2 h2 x)]
  refine View.canon_eq_of_allAt _ _ _ (cover2_A_1 c i a1 h1 a2 h2 x y) ?_
  unfold kernelRun2_A
  dsimp only
  refine View.allAt_cons_unit (S := S1x512x1024) (e := .f32) _ _ _ _ _ (fun z hz => ?_) (View.allAt_nil _ _)
  have h1' : (y 1).val = 0 + (z 1).val := hz 1
  have h2' : (y 2).val = 0 + (z 2).val := hz 2
  have hr : (z 1).val < 512 := (z 1).isLt
  have hn : (z 2).val < 1024 := (z 2).isLt
  unfold kernelRun2_A.sl.v77 kernelRun2_A.sl.r_1
  unfold kernelRun2_A.sl.v22 kernelRun2_A.sl.r
  have ez : z = (ix3 0 (z 1) (z 2) : S1x512x1024.Idx) := by blk_ext []
  refine (congrArg _ ez).trans ((pay1_at _ (z 1) (z 2)).trans ?_)
  refine Eq.trans (if_congr Iff.rfl ((rolled_at _ (z 1) (z 2)).trans (state c i a1 h1 a2 h2 x 257 le_rfl 0 _)) rfl) ?_
  rw [if_pos (Nat.lt_succ_of_le (slot_le _))]
  exact same x (i 0) hr hn (by omega) (by omega) _ _

end Loop

variable (V : (c : Dev nD) → (b : Ref sig .tc) → Buf (Elt Ideal) ((c : Thread nD τ).loc b))

/-- The biases of every head over the band. -/
def G (x : FVec Ideal S16x257 .f32) : FVec Ideal S16x512x1024 .f32 := fun j =>
  if reach (j 1).val (j 2).val then x (ix2 (j 0) ⟨min ((j 1).val + 640 - (j 2).val) 256, by omega⟩) else ⊥

theorem idx : ∀ t : Fin cfg2.N, win2_0.index t = ![0, 0] ∧ win2_1.index t = ![t.val, 0, 0] ∧ ((grid2.coords t) 0).val = t.val :=
  (by decide +kernel : ∀ t : Fin grid2.N, _)

theorem final (c : Dev nD) : (dat2 V c).arrAt 1 cfg2.N = G (V c main_v23) := by
  refine (dat2 V c).arrAt_eq_of_covers 1 _ (by decide +kernel) fun t _ y => ?_
  blk_simp
  rw [after2_1]
  unfold outsAt2
  refine (out_at c _ _ _ _ _ _ y).trans ?_
  unfold G
  blk_point [iblk2, idx t]

end Cert.KernelAIdeal.Bias
-- ==== Proof.Band.lean ====
/- The banded attention: a head's two tiles of keys, and the whole array after the last point of its grid. -/
module

public import proofs.«01_k».proof.Proof.Gen.KernelAIdeal.Frame
public import Idealize.ShloMosaic.Lib.Pipeline.ValueKit
public import proofs.«01_k».proof.Proof.FoxStep
public import proofs.«01_k».proof.Proof.Reals

@[expose] public section

set_option maxRecDepth 16384
noncomputable section
open Idealize.ShloMosaic Idealize.ShloMosaic.TcCoe Idealize.SL.Sem
open Idealize.ShloMosaic.Pipeline (Dat)
namespace Cert.KernelAIdeal.Band
open Cert.KernelAIdeal Cert.KernelAIdeal.Gen
open Cert.KernelIdeal.Fox (negInf fold_top key key_val)

/-! ### Two tiles of keys -/

theorem sum_part {U : Finset (Fin 8192)} {s : Fin 8192 → EReal} (hs : ∀ i, s i ≠ ⊤) (v : Fin 8192 → ℝ) :
    ∑ k ∈ U, Ideal.exp (s k - Online.top U s) * (v k : EReal) = (Online.part U s v : EReal) := by
  have h := Online.part_step (S := ∅) (T := U) (Finset.disjoint_empty_left U) hs v (m' := Online.top U s) (by unfold Online.top; simp)
  rw [Finset.empty_union] at h
  rw [← h]
  unfold Online.part
  simp

theorem not_tile {g : ℕ} {hg : g < 16} {i : Fin 8192} (h : i ∉ Finset.univ.map (key g hg)) : i.val / 512 ≠ g := fun e => h (by
  rw [Finset.mem_map]
  refine ⟨⟨i.val % 512, Nat.mod_lt _ (by omega)⟩, Finset.mem_univ _, Fin.ext ?_⟩
  rw [key_val]
  dsimp only
  omega)

/-- The two tiles' maximum is that of all the keys, and their weighted sums are all the keys'. -/
theorem two_tiles (g : ℕ) (hg : g < 16) {s : Fin 8192 → EReal} (hs : ∀ i, s i ≠ ⊤) (v : Fin 8192 → ℝ)
    (hout : ∀ i : Fin 8192, i.val / 512 ≠ g → i.val / 512 + 1 ≠ g → s i = ⊥)
    (p d vp vd : Fin 512 → EReal) (hp : ∀ z, p z = if 0 < g then s (key (g - 1) (by omega) z) else ⊥) (hd : ∀ z, d z = s (key g hg z))
    (hvp : 0 < g → ∀ z, vp z = v (key (g - 1) (by omega) z)) (hvd : ∀ z, vd z = v (key g hg z)) :
    max (Finset.univ.sup p) (Finset.univ.sup d) = Online.top Finset.univ s
    ∧ ∑ z, Ideal.exp (p z - max (Finset.univ.sup p) (Finset.univ.sup d)) * vp z + ∑ z, Ideal.exp (d z - max (Finset.univ.sup p) (Finset.univ.sup d)) * vd z
      = (Online.part Finset.univ s v : EReal) := by
  obtain rfl : d = s ∘ key g hg := funext hd
  obtain rfl : vd = fun z => (v (key g hg z) : EReal) := funext hvd
  by_cases h0 : 0 < g
  · have hp' : p = s ∘ key (g - 1) (by omega) := funext fun z => (hp z).trans (if_pos h0)
    subst hp'
    obtain rfl : vp = fun z => (v (key (g - 1) (by omega) z) : EReal) := funext (hvp h0)
    have hdis : Disjoint (Finset.univ.map (key (g - 1) (by omega))) (Finset.univ.map (key g hg)) := by
      rw [Finset.disjoint_left]; intro a ha hb
      rw [Finset.mem_map] at ha hb
      obtain ⟨x, _, rfl⟩ := ha
      obtain ⟨y, _, e⟩ := hb
      have e' := congrArg Fin.val e
      rw [key_val, key_val] at e'
      omega
    have hb : ∀ k ∈ (Finset.univ : Finset (Fin 8192)), k ∉ Finset.univ.map (key (g - 1) (by omega)) ∪ Finset.univ.map (key g hg) → s k = ⊥ := fun k _ hk => by
      rw [Finset.mem_union, not_or] at hk
      have h1 := not_tile hk.1
      exact hout k (not_tile hk.2) (by omega)
    have hm : max (Finset.univ.sup (s ∘ key (g - 1) (by omega))) (Finset.univ.sup (s ∘ key g hg))
        = Online.top (Finset.univ.map (key (g - 1) (by omega)) ∪ Finset.univ.map (key g hg)) s := by
      unfold Online.top
      rw [Finset.sup_union, Finset.sup_map, Finset.sup_map]
    rw [hm]
    refine ⟨(Online.top_pad (Finset.subset_univ _) hb).symm, ?_⟩
    rw [Online.part_pad (Finset.subset_univ _) hb, ← sum_part hs, Finset.sum_union hdis, Finset.sum_map, Finset.sum_map]
    rfl
  · have hp' : p = fun _ => ⊥ := funext fun z => (hp z).trans (if_neg h0)
    subst hp'
    have hb : ∀ k ∈ (Finset.univ : Finset (Fin 8192)), k ∉ Finset.univ.map (key g hg) → s k = ⊥ := fun k _ hk =>
      hout k (not_tile hk) (by omega)
    have hm : max (Finset.univ.sup fun _ : Fin 512 => (⊥ : EReal)) (Finset.univ.sup (s ∘ key g hg)) = Online.top (Finset.univ.map (key g hg)) s := by
      unfold Online.top
      rw [Finset.sup_map, Finset.sup_bot]
      exact max_eq_right bot_le
    rw [hm]
    refine ⟨(Online.top_pad (Finset.subset_univ _) hb).symm, ?_⟩
    rw [Online.part_pad (Finset.subset_univ _) hb, ← sum_part hs, Finset.sum_map]
    simp only [EReal.bot_sub, Ideal.exp_bot, zero_mul, Finset.sum_const_zero, zero_add]
    rfl

/-! ### One head of a block -/

/-- A head's attention, from the query tile and the two tiles of keys, values and biases. -/
def head (i : grid3.Coords) (q kp kc vp vc : Vec Ideal S1x1x512x128 .bf16) (bp bc : Vec Ideal S1x512x512 .f32) : Vec Ideal S1x1x512x128 .bf16 :=
  k3_pay8 (k3_pay4 q kc bc) (k3_pay5 i q kp bp kc bc) (k3_pay6 i q kp bp kc bc) (k3_pay7 vp) (constant S512x128 .f32 0x00000000#32) vc

section Head
variable (i : grid3.Coords) (q kp kc vp vc : Vec Ideal S1x1x512x128 .bf16) (bp bc : Vec Ideal S1x512x512 .f32)

/-- The scores of the tile of keys before the queries' own. -/
def sp (r z : Fin 512) : EReal := if 0 < (i 2).val then ∑ d : Fin 128, (q (ix4 0 0 r d) : EReal) * kp (ix4 0 0 z d) + bp (ix3 0 r z) else ⊥
/-- The scores of the queries' own tile of keys. -/
def sd (r z : Fin 512) : EReal := ∑ d : Fin 128, (q (ix4 0 0 r d) : EReal) * kc (ix4 0 0 z d) + bc (ix3 0 r z)
/-- The greatest score of a row. -/
def mx (r : Fin 512) : EReal := max (Finset.univ.sup (sp i q kp bp r)) (Finset.univ.sup (sd q kc bc r))
/-- The weighted sum of a lane of the values. -/
def num (r : Fin 512) (l : Fin 128) : EReal :=
  ∑ z, Ideal.exp (sp i q kp bp r z - mx i q kp kc bp bc r) * vp (ix4 0 0 z l) + ∑ z, Ideal.exp (sd q kc bc r z - mx i q kp kc bp bc r) * vc (ix4 0 0 z l)

theorem mask_bot : (Named.named (F := Ideal) κ "mask" (φ := .f32) 4048155338#32 : EReal) = ⊥ := rfl

theorem pos_word : ∀ n : Fin 16, Scalar.cmpi .sgt (BitVec.ofNat 32 n.val) 0#32 = BitVec.ofBool (decide (0 < n.val)) := by decide +kernel

theorem sp_at (r z : Fin 512) : k3_pay3 (F := Ideal) i q kp bp (ix2 r z) = sp i q kp bp r z := by
  have hi : (i 2).val < 16 := (i 2).isLt
  unfold k3_pay3 sp
  dsimp only
  rw [pos_word ⟨(i 2).val, hi⟩]
  by_cases h : 0 < (i 2).val
  · rw [if_pos h, decide_eq_true h]
    refine Eq.trans (congrFun (show Scalar.select (BitVec.ofBool true) _ _ = _ from rfl) (ix2 r z)) ?_
    pointwise [k3_pay2]
  · rw [if_neg h, decide_eq_false h]
    rfl

theorem sd_at (r z : Fin 512) : k3_pay4 (F := Ideal) q kc bc (ix2 r z) = sd q kc bc r z := by
  unfold sd
  pointwise [k3_pay4, k3_pay2]

theorem mx_at (r : Fin 512) : k3_pay5 (F := Ideal) i q kp bp kc bc (ix2 r 0) = mx i q kp kc bp bc r := by
  unfold mx
  rw [← fold_top, ← fold_top]
  pointwise [k3_pay5]
  simp only [sp_at, sd_at]

theorem head_at (r : Fin 512) (l : Fin 128) :
    head i q kp kc vp vc bp bc (ix4 0 0 r l) = Ideal.div (num i q kp kc vp vc bp bc r l) (num i q kp kc vp vc bp bc r 64) := by
  unfold head num
  pointwise [k3_pay8, k3_pay6, k3_pay7]
  simp only [sp_at, sd_at, mx_at]
end Head

section Block
variable (i : grid3.Coords) (x0 x1 x2 x3 x4 : Vec Ideal S1x8x512x128 .bf16) (x5 : Vec Ideal S8x512x1024 .f32)

/-- One head of a block. -/
def hb (X : Vec Ideal S1x8x512x128 .bf16) (j : Fin 8) : Vec Ideal S1x1x512x128 .bf16 := fun y => X (ix4 0 j (y 2) (y 3))
/-- One head's biases against one tile of keys. -/
def bb (X : Vec Ideal S8x512x1024 .f32) (j : Fin 8) (o : ℕ) (ho : o ≤ 512) : Vec Ideal S1x512x512 .f32 := fun y =>
  X (ix3 j (y 1) ⟨o + (y 2).val, by have : (y 2).val < 512 := (y 2).isLt; omega⟩)

/-- A block's attention, head by head. -/
def att (j : Fin 8) : Vec Ideal S1x1x512x128 .bf16 :=
  head i (hb x0 j) (hb x1 j) (hb x2 j) (hb x3 j) (hb x4 j) (bb x5 j 0 (by omega)) (bb x5 j 512 le_rfl)

theorem ld_h (X : Vec Ideal S1x8x512x128 .bf16) (j : Fin 8) (off : Fin 4 → ℕ) (ho : off = ![0, j.val, 0, 0]) (inb) :
    View.ld (Val := Elt Ideal) (e' := .bf16) X (Rect.unit (s := S1x8x512x128) off ![1, 1, 512, 128] inb) = hb X j := by
  subst ho
  funext y
  unfold hb
  pointwise

theorem ld_b (X : Vec Ideal S8x512x1024 .f32) (j : Fin 8) (o : ℕ) (hl : o ≤ 512) (off : Fin 3 → ℕ) (ho : off = ![j.val, 0, o]) (inb) :
    View.ld (Val := Elt Ideal) (e' := .f32) X (Rect.unit (s := S8x512x1024) off ![1, 512, 512] inb) = bb X j o hl := by
  subst ho
  funext y
  unfold bb
  pointwise

/-- One head's piece, over any rectangles that read its head. -/
theorem piece (j : Fin 8) (y : S1x8x512x128.Idx) (off : Fin 4 → ℕ) (ho : off = ![0, j.val, 0, 0]) (w : Vec Ideal S1x1x512x128 .bf16)
    (hw : w = att i x0 x1 x2 x3 x4 x5 j) :
    View.TileAt (S := S1x8x512x128) y off ![1, 1, 512, 128] w (att i x0 x1 x2 x3 x4 x5 (y 1) (ix4 0 0 (y 2) (y 3))) := by
  subst ho hw
  intro z hz
  have z0 : (z 0).val < 1 := (z 0).isLt
  have z1 : (z 1).val < 1 := (z 1).isLt
  have y0 : (y 0).val < 1 := (y 0).isLt
  have e1 : (y 1).val = j.val + (z 1).val := hz 1
  have e2 : (y 2).val = 0 + (z 2).val := hz 2
  have e3 : (y 3).val = 0 + (z 3).val := hz 3
  obtain rfl : y = ix4 0 j (z 2) (z 3) := by
    funext a
    fin_cases a
    · exact Fin.ext (show (y 0).val = 0 by omega)
    · exact Fin.ext (show (y 1).val = j.val by omega)
    · exact Fin.ext (show (y 2).val = (z 2).val by omega)
    · exact Fin.ext (show (y 3).val = (z 3).val by omega)
  have ez : z = ix4 0 0 (z 2) (z 3) := by
    funext a
    fin_cases a
    · exact Fin.ext (show (z 0).val = 0 by omega)
    · exact Fin.ext (show (z 1).val = 0 by omega)
    · rfl
    · rfl
  rw [ez]
  rfl

/-- The same payload, however a head's steps are grouped. -/
theorem att_eq (j : Fin 8) (q kp kc vp vc : Vec Ideal S1x1x512x128 .bf16) (bp bc : Vec Ideal S1x512x512 .f32)
    (h0 : q = hb x0 j) (h1 : kp = hb x1 j) (h2 : kc = hb x2 j) (h3 : vp = hb x3 j) (h4 : vc = hb x4 j)
    (h5 : bp = bb x5 j 0 (by omega)) (h6 : bc = bb x5 j 512 le_rfl) :
    head i q kp kc vp vc bp bc = att i x0 x1 x2 x3 x4 x5 j := by
  subst h0 h1 h2 h3 h4 h5 h6; rfl

theorem out_at (y : S1x8x512x128.Idx) :
    out3_6 (F := Ideal) i x0 x1 x2 x3 x4 x5 y = att i x0 x1 x2 x3 x4 x5 (y 1) (ix4 0 0 (y 2) (y 3)) := by
  have e : out3_6 (F := Ideal) i x0 x1 x2 x3 x4 x5 = View.canon
      [⟨r3_21, head i (View.ld x0 r3_21) (View.ld x1 r3_21) (View.ld x2 r3_21) (View.ld x3 r3_21) (View.ld x4 r3_21) (View.ld x5 r3_22) (View.ld x5 r3_23)⟩,
       ⟨r3_18, head i (View.ld x0 r3_18) (View.ld x1 r3_18) (View.ld x2 r3_18) (View.ld x3 r3_18) (View.ld x4 r3_18) (View.ld x5 r3_19) (View.ld x5 r3_20)⟩,
       ⟨r3_15, head i (View.ld x0 r3_15) (View.ld x1 r3_15) (View.ld x2 r3_15) (View.ld x3 r3_15) (View.ld x4 r3_15) (View.ld x5 r3_16) (View.ld x5 r3_17)⟩,
       ⟨r3_12, head i (View.ld x0 r3_12) (View.ld x1 r3_12) (View.ld x2 r3_12) (View.ld x3 r3_12) (View.ld x4 r3_12) (View.ld x5 r3_13) (View.ld x5 r3_14)⟩,
       ⟨r3_9, head i (View.ld x0 r3_9) (View.ld x1 r3_9) (View.ld x2 r3_9) (View.ld x3 r3_9) (View.ld x4 r3_9) (View.ld x5 r3_10) (View.ld x5 r3_11)⟩,
       ⟨r3_6, head i (View.ld x0 r3_6) (View.ld x1 r3_6) (View.ld x2 r3_6) (View.ld x3 r3_6) (View.ld x4 r3_6) (View.ld x5 r3_7) (View.ld x5 r3_8)⟩,
       ⟨r3_3, head i (View.ld x0 r3_3) (View.ld x1 r3_3) (View.ld x2 r3_3) (View.ld x3 r3_3) (View.ld x4 r3_3) (View.ld x5 r3_4) (View.ld x5 r3_5)⟩,
       ⟨r3_0, head i (View.ld x0 r3_0) (View.ld x1 r3_0) (View.ld x2 r3_0) (View.ld x3 r3_0) (View.ld x4 r3_0) (View.ld x5 r3_1) (View.ld x5 r3_2)⟩] := rfl
  rw [e]
  refine View.canon_eq_of_allAt _ _ _ (cover3_6 _ _ _ _ _ _ _ _ y) ?_
  have P := fun (j : Fin 8) off ho w hw => piece i x0 x1 x2 x3 x4 x5 j y off ho w hw
  refine View.allAt_cons_unit (S := S1x8x512x128) (e := .bf16) _ _ _ _ _ (P 7 _ rfl _ (att_eq i x0 x1 x2 x3 x4 x5 7 _ _ _ _ _ _ _
    (ld_h _ 7 _ rfl _) (ld_h _ 7 _ rfl _) (ld_h _ 7 _ rfl _) (ld_h _ 7 _ rfl _) (ld_h _ 7 _ rfl _) (ld_b _ 7 0 _ _ rfl _) (ld_b _ 7 512 _ _ rfl _))) ?_
  refine View.allAt_cons_unit (S := S1x8x512x128) (e := .bf16) _ _ _ _ _ (P 6 _ rfl _ (att_eq i x0 x1 x2 x3 x4 x5 6 _ _ _ _ _ _ _
    (ld_h _ 6 _ rfl _) (ld_h _ 6 _ rfl _) (ld_h _ 6 _ rfl _) (ld_h _ 6 _ rfl _) (ld_h _ 6 _ rfl _) (ld_b _ 6 0 _ _ rfl _) (ld_b _ 6 512 _ _ rfl _))) ?_
  refine View.allAt_cons_unit (S := S1x8x512x128) (e := .bf16) _ _ _ _ _ (P 5 _ rfl _ (att_eq i x0 x1 x2 x3 x4 x5 5 _ _ _ _ _ _ _
    (ld_h _ 5 _ rfl _) (ld_h _ 5 _ rfl _) (ld_h _ 5 _ rfl _) (ld_h _ 5 _ rfl _) (ld_h _ 5 _ rfl _) (ld_b _ 5 0 _ _ rfl _) (ld_b _ 5 512 _ _ rfl _))) ?_
  refine View.allAt_cons_unit (S := S1x8x512x128) (e := .bf16) _ _ _ _ _ (P 4 _ rfl _ (att_eq i x0 x1 x2 x3 x4 x5 4 _ _ _ _ _ _ _
    (ld_h _ 4 _ rfl _) (ld_h _ 4 _ rfl _) (ld_h _ 4 _ rfl _) (ld_h _ 4 _ rfl _) (ld_h _ 4 _ rfl _) (ld_b _ 4 0 _ _ rfl _) (ld_b _ 4 512 _ _ rfl _))) ?_
  refine View.allAt_cons_unit (S := S1x8x512x128) (e := .bf16) _ _ _ _ _ (P 3 _ rfl _ (att_eq i x0 x1 x2 x3 x4 x5 3 _ _ _ _ _ _ _
    (ld_h _ 3 _ rfl _) (ld_h _ 3 _ rfl _) (ld_h _ 3 _ rfl _) (ld_h _ 3 _ rfl _) (ld_h _ 3 _ rfl _) (ld_b _ 3 0 _ _ rfl _) (ld_b _ 3 512 _ _ rfl _))) ?_
  refine View.allAt_cons_unit (S := S1x8x512x128) (e := .bf16) _ _ _ _ _ (P 2 _ rfl _ (att_eq i x0 x1 x2 x3 x4 x5 2 _ _ _ _ _ _ _
    (ld_h _ 2 _ rfl _) (ld_h _ 2 _ rfl _) (ld_h _ 2 _ rfl _) (ld_h _ 2 _ rfl _) (ld_h _ 2 _ rfl _) (ld_b _ 2 0 _ _ rfl _) (ld_b _ 2 512 _ _ rfl _))) ?_
  refine View.allAt_cons_unit (S := S1x8x512x128) (e := .bf16) _ _ _ _ _ (P 1 _ rfl _ (att_eq i x0 x1 x2 x3 x4 x5 1 _ _ _ _ _ _ _
    (ld_h _ 1 _ rfl _) (ld_h _ 1 _ rfl _) (ld_h _ 1 _ rfl _) (ld_h _ 1 _ rfl _) (ld_h _ 1 _ rfl _) (ld_b _ 1 0 _ _ rfl _) (ld_b _ 1 512 _ _ rfl _))) ?_
  refine View.allAt_cons_unit (S := S1x8x512x128) (e := .bf16) _ _ _ _ _ (P 0 _ rfl _ (att_eq i x0 x1 x2 x3 x4 x5 0 _ _ _ _ _ _ _
    (ld_h _ 0 _ rfl _) (ld_h _ 0 _ rfl _) (ld_h _ 0 _ rfl _) (ld_h _ 0 _ rfl _) (ld_h _ 0 _ rfl _) (ld_b _ 0 0 _ _ rfl _) (ld_b _ 0 512 _ _ rfl _))) ?_
  exact View.allAt_nil _ _
end Block

theorem idx : ∀ t : Fin cfg3.N, win3_0.index t = ![t.val / 16 % 8, t.val / 128, t.val % 16, 0] ∧ win3_1.index t = ![t.val / 16 % 8, t.val / 128, t.val % 16 - 1, 0]
    ∧ win3_2.index t = ![t.val / 16 % 8, t.val / 128, t.val % 16, 0] ∧ win3_3.index t = ![t.val / 16 % 8, t.val / 128, t.val % 16 - 1, 0]
    ∧ win3_4.index t = ![t.val / 16 % 8, t.val / 128, t.val % 16, 0] ∧ win3_5.index t = ![t.val / 128, 0, 0]
    ∧ win3_6.index t = ![t.val / 16 % 8, t.val / 128, t.val % 16, 0] ∧ (grid3.coords t 2).val = t.val % 16 :=
  (by decide +kernel : ∀ t : Fin grid3.N, _)

variable (V : (c : Dev nD) → (b : Ref sig .tc) → Buf (Elt Ideal) ((c : Thread nD τ).loc b))

/-- The score of a key: its product with the query and the bias of its tile's band, and none outside the two tiles. -/
def score (q k : FVec Ideal S8x16x8192x128 .bf16) (B : FVec Ideal S16x512x1024 .f32) (b : Fin 8) (h : Fin 16) (t i : Fin 8192) : EReal :=
  if t.val / 512 = i.val / 512 + 1 then ∑ d : Fin 128, (q (ix4 b h t d) : EReal) * k (ix4 b h i d) + B (ix3 h ⟨t.val % 512, Nat.mod_lt _ (by omega)⟩ ⟨i.val % 512, by omega⟩)
  else if t.val / 512 = i.val / 512 then ∑ d : Fin 128, (q (ix4 b h t d) : EReal) * k (ix4 b h i d) + B (ix3 h ⟨t.val % 512, Nat.mod_lt _ (by omega)⟩ ⟨512 + i.val % 512, by omega⟩)
  else ⊥

/-- The values weighted by the scores' exponentials. -/
def G (q k v : FVec Ideal S8x16x8192x128 .bf16) (B : FVec Ideal S16x512x1024 .f32) : FVec Ideal S8x16x8192x128 .bf16 := fun j =>
  ∑ i : Fin 8192, Ideal.div (Ideal.exp (score q k B (j 0) (j 1) (j 2) i - Finset.univ.sup (score q k B (j 0) (j 1) (j 2))))
    (∑ i : Fin 8192, Ideal.exp (score q k B (j 0) (j 1) (j 2) i - Finset.univ.sup (score q k B (j 0) (j 1) (j 2)))) * v (ix4 (j 0) (j 1) i (j 3))

/-- A head's two tiles give the whole row's weighted sum, once the tiles' scores and values are the row's. -/
theorem head_row (i : grid3.Coords) (q kp kc vp vc : Vec Ideal S1x1x512x128 .bf16) (bp bc : Vec Ideal S1x512x512 .f32)
    (s : Fin 8192 → EReal) (hs : ∀ n, s n ≠ ⊤) (hout : ∀ n : Fin 8192, n.val / 512 ≠ (i 2).val → n.val / 512 + 1 ≠ (i 2).val → s n = ⊥)
    (w : Fin 8192 → Fin 128 → EReal) (hw : ∀ n l, Cert.Reals.R (w n l)) (h1 : ∀ n, w n 64 = 1) (r : Fin 512) (l : Fin 128)
    (hg : (i 2).val < 16) (hp : ∀ z, sp i q kp bp r z = if 0 < (i 2).val then s (key ((i 2).val - 1) (by omega) z) else ⊥)
    (hd : ∀ z, sd q kc bc r z = s (key (i 2).val hg z))
    (hvp : 0 < (i 2).val → ∀ z l, vp (ix4 0 0 z l) = w (key ((i 2).val - 1) (by omega) z) l) (hvd : ∀ z l, vc (ix4 0 0 z l) = w (key (i 2).val hg z) l)
    (hn : s (key (i 2).val hg r) ≠ ⊥) :
    head i q kp kc vp vc bp bc (ix4 0 0 r l) = ∑ n, Ideal.div (Ideal.exp (s n - Finset.univ.sup s)) (∑ n, Ideal.exp (s n - Finset.univ.sup s)) * w n l := by
  choose w' hw' using hw
  obtain rfl : w = fun n l => (w' n l : EReal) := funext fun n => funext fun l => hw' n l
  have h1' : ∀ n, w' n 64 = 1 := fun n => EReal.coe_injective (h1 n)
  have T := fun l => (two_tiles (i 2).val hg hs (fun n => w' n l) hout (sp i q kp bp r) (sd q kc bc r) (fun z => vp (ix4 0 0 z l)) (fun z => vc (ix4 0 0 z l))
    hp hd (fun h z => hvp h z l) (fun z => hvd z l)).2
  rw [head_at]
  refine (congrArg₂ Ideal.div (T l) (T 64)).trans ?_
  simp only [h1']
  exact Online.part_div (S := Finset.univ) hs (fun n => w' n l) (Finset.mem_univ (key (i 2).val hg r)) hn

theorem final (c : Dev nD)
    (hs : ∀ b h t n, score (V c main_v22_0) (V c main_v22_1) (V c main_v24) b h t n ≠ ⊤)
    (hn : ∀ b h t, score (V c main_v22_0) (V c main_v22_1) (V c main_v24) b h t t ≠ ⊥)
    (hr : ∀ y, Cert.Reals.R ((show FVec Ideal S8x16x8192x128 .bf16 from V c main_v22_2) y))
    (h64 : ∀ b h n, (show FVec Ideal S8x16x8192x128 .bf16 from V c main_v22_2) (ix4 b h n 64) = (1 : EReal)) :
    (dat3 V c).arrAt 6 cfg3.N = G (V c main_v22_0) (V c main_v22_1) (V c main_v22_2) (V c main_v24) := by
  refine (dat3 V c).arrAt_eq_of_covers 6 _ (by decide +kernel) fun t _ y => ?_
  have ht : t.val < 256 := t.isLt
  have hi : (grid3.coords t 2).val = t.val % 16 := (idx t).2.2.2.2.2.2.2
  have y0 : (y 0).val < 1 := (y 0).isLt
  have y1 : (y 1).val < 8 := (y 1).isLt
  have y2 : (y 2).val < 512 := (y 2).isLt
  have y3 : (y 3).val < 128 := (y 3).isLt
  blk_simp
  rw [after3_6]
  frame_out
  refine (out_at ..).trans ?_
  unfold att
  let b : Fin 8 := ⟨t.val / 16 % 8, by omega⟩
  let h : Fin 16 := ⟨t.val / 128 * 8 + (y 1).val, by omega⟩
  let n0 : Fin 8192 := ⟨512 * (t.val % 16) + (y 2).val, by omega⟩
  have hb' : b.val = t.val / 16 % 8 := rfl
  have hh' : h.val = t.val / 128 * 8 + (y 1).val := rfl
  have hn' : n0.val = 512 * (t.val % 16) + (y 2).val := rfl
  have e : (win3_6.blk t).view.emb y = (ix4 b h n0 (y 3) : S8x16x8192x128.Idx) := by blk_ext [idx t]
  refine Eq.trans ?_ (congrArg (G (V c main_v22_0) (V c main_v22_1) (V c main_v22_2) (V c main_v24)) e.symm)
  unfold G
  clear_value b h n0
  refine head_row (grid3.coords t) _ _ _ _ _ _ _ (score (V c main_v22_0) (V c main_v22_1) (V c main_v24) b h n0) (hs b h n0) (fun n h1 h2 => ?_)
    (fun n l => (show FVec Ideal S8x16x8192x128 .bf16 from V c main_v22_2) (ix4 b h n l)) (fun n l => hr _) (fun n => h64 b h n) (y 2) (y 3) (by omega) (fun z => ?_) (fun z => ?_)
    (fun h0 z l => ?_) (fun z l => ?_) ?_
  · unfold score
    rw [if_neg (by omega), if_neg (by omega)]
  · have hz := z.isLt
    unfold sp
    by_cases h0 : 0 < (grid3.coords t 2).val
    · rw [if_pos h0, if_pos h0]
      unfold score
      rw [if_pos (by rw [key_val]; omega)]
      unfold hb bb
      blk_point [iblk3, idx t, key_val]
    · rw [if_neg h0, if_neg h0]
  · unfold sd score
    rw [if_neg (by rw [key_val]; omega), if_pos (by rw [key_val]; omega)]
    unfold hb bb
    blk_point [iblk3, idx t, key_val]
  · unfold hb
    blk_point [iblk3, idx t, key_val]
  · unfold hb
    blk_point [iblk3, idx t, key_val]
  · have ek : key (grid3.coords t 2).val (by omega) (y 2) = n0 := Fin.ext ((key_val _ _ (y 2)).trans (by omega))
    rw [ek]
    exact hn b h n0

end Cert.KernelAIdeal.Band
-- ==== Proof.OProjA.lean ====
/- The output projection's region of the first mixer: the residual row and its modulated norm. -/
module

public import proofs.«01_k».proof.Proof.Gen.KernelAIdeal.Frame
public import proofs.«01_k».proof.Proof.OProj

@[expose] public section

set_option maxRecDepth 16384
noncomputable section
open Idealize.ShloMosaic Idealize.ShloMosaic.TcCoe Idealize.SL.Sem
open Idealize.ShloMosaic.Pipeline (Dat)
namespace Cert.KernelAIdeal.OProjA
open Cert.KernelAIdeal Cert.KernelAIdeal.Gen Cert.Spec
open Cert.KernelIdeal.OProj (res resid Gy Gn)
variable (V : (c : Dev nD) → (b : Ref sig .tc) → Buf (Elt Ideal) ((c : Thread nD τ).loc b))

theorem y_at (x0 : Vec Ideal S1x16x512x128 .bf16) (x1 : Vec Ideal S16x128x1024 .bf16) (x2 : Vec Ideal S1x512x1024 .f32)
    (x3 : Vec Ideal S1x1x1024 .f32) (x4 : Vec Ideal S1x1024 .f32) (x5 : Vec Ideal S1x1x1024 .f32) (x6 : Vec Ideal S1x1x1024 .f32)
    (y : S1x512x1024.Idx) : k4_pay1 (k4_pay10 x0 x1 x2 x3 x4 x5 x6) y = res x0 x1 x2 x3 (y 1) (y 2) :=
  Cert.KernelIdeal.OProj.y_at x0 x1 x2 x3 x4 x5 x6 y
theorem n_at (x0 : Vec Ideal S1x16x512x128 .bf16) (x1 : Vec Ideal S16x128x1024 .bf16) (x2 : Vec Ideal S1x512x1024 .f32)
    (x3 : Vec Ideal S1x1x1024 .f32) (x4 : Vec Ideal S1x1024 .f32) (x5 : Vec Ideal S1x1x1024 .f32) (x6 : Vec Ideal S1x1x1024 .f32)
    (y : S1x512x1024.Idx) : k4_pay2 (k4_pay10 x0 x1 x2 x3 x4 x5 x6) x4 x5 x6 y
      = mod (res x0 x1 x2 x3 (y 1)) (fun k => x4 (ix2 0 k)) (fun k => x6 (ix3 0 0 k)) (fun k => x5 (ix3 0 0 k)) (y 2) :=
  Cert.KernelIdeal.OProj.n_at x0 x1 x2 x3 x4 x5 x6 y

theorem idx : ∀ t : Fin cfg4.N, win4_0.index t = ![t.val / 16, 0, t.val % 16, 0] ∧ win4_1.index t = ![0, 0, 0]
    ∧ win4_2.index t = ![t.val / 16, t.val % 16, 0] ∧ win4_3.index t = ![t.val / 16, 0, 0] ∧ win4_4.index t = ![0, 0]
    ∧ win4_5.index t = ![t.val / 16, 0, 0] ∧ win4_6.index t = ![t.val / 16, 0, 0]
    ∧ win4_7.index t = ![t.val / 16, t.val % 16, 0] ∧ win4_8.index t = ![t.val / 16, t.val % 16, 0] :=
  (by decide +kernel : ∀ t : Fin grid4.N, _)

theorem y_point (c : Dev nD) (t : Fin cfg4.N) (y : S1x512x1024.Idx) :
    res (iblk4 V c 0 t) (iblk4 V c 1 t) (iblk4 V c 2 t) (iblk4 V c 3 t) (y 1) (y 2)
      = Gy (V c main_v25) (V c main_v31) (V c main_arg0) (V c main_v34) (((cfg4.win 7).blk t).view.emb y) := by
  pointwise [res, resid, Gy]
  blk_point [iblk4, idx t]
theorem n_point (c : Dev nD) (t : Fin cfg4.N) (y : S1x512x1024.Idx) :
    mod (res (iblk4 V c 0 t) (iblk4 V c 1 t) (iblk4 V c 2 t) (iblk4 V c 3 t) (y 1))
      (fun k => (show Vec Ideal S1x1024 .f32 from iblk4 V c 4 t) (ix2 0 k))
      (fun k => (show Vec Ideal S1x1x1024 .f32 from iblk4 V c 6 t) (ix3 0 0 k))
      (fun k => (show Vec Ideal S1x1x1024 .f32 from iblk4 V c 5 t) (ix3 0 0 k)) (y 2)
      = Gn (V c main_v25) (V c main_v31) (V c main_arg0) (V c main_v34) (V c main_v35) (V c main_v36) (V c main_v37)
        (((cfg4.win 8).blk t).view.emb y) := by
  pointwise [res, resid, Gn, mod, nrm]
  blk_point [iblk4, idx t]

theorem y_final (c : Dev nD) : (dat4 V c).arrAt 7 cfg4.N
    = Gy (V c main_v25) (V c main_v31) (V c main_arg0) (V c main_v34) := by
  refine (dat4 V c).arrAt_eq_of_covers 7 _ (by decide +kernel) fun t _ y => ?_
  blk_simp
  rw [after4_7]; unfold out4_7; frame_out
  exact (y_at _ _ _ _ (iblk4 V c 4 t) (iblk4 V c 5 t) (iblk4 V c 6 t) y).trans (y_point V c t y)
theorem n_final (c : Dev nD) : (dat4 V c).arrAt 8 cfg4.N
    = Gn (V c main_v25) (V c main_v31) (V c main_arg0) (V c main_v34) (V c main_v35) (V c main_v36) (V c main_v37) := by
  refine (dat4 V c).arrAt_eq_of_covers 8 _ (by decide +kernel) fun t _ y => ?_
  blk_simp
  rw [after4_8]; unfold out4_8; frame_out
  exact (n_at ..).trans (n_point V c t y)

end Cert.KernelAIdeal.OProjA
-- ==== Proof.ChaseA.lean ====
/- The first mixer's fold followed from the arguments: what each region finds and leaves, in the mathematics of the layer. -/
module

public import proofs.«01_k».proof.Proof.StretchA
public import proofs.«01_k».proof.Proof.LayerA
public import proofs.«01_k».proof.Proof.Cond
public import proofs.«01_k».proof.Proof.Finite
public import proofs.«01_k».proof.Proof.HeadsA
public import proofs.«01_k».proof.Proof.Bias
public import proofs.«01_k».proof.Proof.Band
public import proofs.«01_k».proof.Proof.OProjA
public import proofs.«01_k».proof.Proof.Attend

@[expose] public section

set_option maxRecDepth 16384
noncomputable section
open Idealize.ShloMosaic Idealize.ShloMosaic.TcCoe Idealize.SL.Sem
namespace Cert.KernelAIdeal.ChaseA
open Cert.KernelAIdeal Cert.KernelAIdeal.Gen Cert.LayerA
open Cert.Spec (mod)
open Cert.Layer (col scale)
open Cert.KernelIdeal.Chase (front mod_congr)
open Cert.KernelIdeal.Heads (proj vlane)
open Cert.KernelIdeal.OProj (resid)

variable (m : (ℓ : Loc nD τ sig) → Buf (Elt Ideal) ℓ) (ρ : Dev nD → PrngReg) (c : Dev nD)

/-- The kernel's arguments. -/
def args : Args where
  x := m ((c : Thread nD τ).loc main_arg0)
  cond := m ((c : Thread nD τ).loc main_arg1)
  w_ada := m ((c : Thread nD τ).loc main_arg3)
  b_ada := m ((c : Thread nD τ).loc main_arg4)
  g := m ((c : Thread nD τ).loc main_arg5)
  w_qkv := m ((c : Thread nD τ).loc main_arg6)
  rb := m ((c : Thread nD τ).loc main_arg7)
  w_o := m ((c : Thread nD τ).loc main_arg8)

/-! ### The modulation vectors -/

theorem v1_at (b : Fin 8) (k : Fin 1024) : (show FVec Ideal S48x1024 .f32 from V3 m ρ c main_v1) (ix2 ⟨b.val, by omega⟩ k) = (args m c).cond (ix2 b k) := by
  have h1 : W1 m ρ c (Proc.devRef .tc main_c) = constantI S_ 32 0#32 := StretchA.s1_c _
  refine (congrFun (W3_of m ρ c main_v1 (by decide)) (ix2 ⟨b.val, by omega⟩ k)).trans ?_
  exact (StretchA.s2 (W1 m ρ c) h1 b k).trans (StretchA.s1 (W0 m ρ c) b k)
theorem v3_at (k : Fin 1024) (n : Fin 6144) : (show FVec Ideal S1024x6144 .f32 from V3 m ρ c main_v3) (ix2 k n) = (args m c).w_ada (ix3 0 k n) :=
  (StretchA.s3_v3 (W2 m ρ c) k n).trans (congrFun (W2_args m ρ c main_arg3 (by decide)) (ix3 0 k n))
theorem v6_at (n : Fin 6144) : (show FVec Ideal S1x6144 .f32 from V3 m ρ c main_v6) (ix2 0 n) = (args m c).b_ada (ix2 0 n) :=
  (StretchA.s3_v6 (W2 m ρ c) n).trans (congrFun (W2_args m ρ c main_arg4 (by decide)) (ix2 0 n))

theorem six_eq {x w : Fin 1024 → EReal} (hx : ∀ d, Cert.Reals.R (x d)) (hw : ∀ d, Cert.Reals.R (w d)) : Cond.six x w = ∑ d, x d * w d := by
  have ex : ∀ d, x d - x d = 0 := fun d => (hx d).sub_self
  have ew : ∀ d, w d - w d = 0 := fun d => (hw d).sub_self
  unfold Cond.six
  simp only [ex, ew, sub_zero, mul_zero, zero_mul, Finset.sum_const_zero, add_zero]

variable (hA : Real (args m c))
include hA

theorem v7_at (b : Fin 8) (n : Fin 6144) : (show FVec Ideal S48x6144 .f32 from W4 m ρ c (Proc.devRef .tc main_v7)) (ix2 ⟨b.val, by omega⟩ n) = ada (args m c) b n := by
  refine (congrFun ((W4_arr m ρ c 3).trans (Cond.final (V3 m ρ) c)) (ix2 ⟨b.val, by omega⟩ n)).trans ?_
  have e1 := fun d => v1_at m ρ c b d
  have e3 := fun d => v3_at m ρ c d n
  refine (congrArg₂ (· + ·) ((congrArg₂ Cond.six (funext e1) (funext e3)).trans (six_eq (fun d => hA.cond _) fun d => hA.w_ada _)) (v6_at m ρ c n)).trans ?_
  rfl

/-- The row of a slice of the modulation vectors. -/
theorem part_of (k : Fin 6) (b : Fin 8) (n : Fin 1024) :
    (show FVec Ideal S48x6144 .f32 from W4 m ρ c (Proc.devRef .tc main_v7)) (ix2 ⟨b.val, by omega⟩ ⟨1024 * k.val + n.val, by omega⟩) = part (args m c) k b n :=
  v7_at m ρ c hA b _

/-! ### The heads -/

theorem h5 (b : Fin 8) (t : Fin 8192) (d : Fin 1024) :
    mod (fun k => (show FVec Ideal S8x8192x1024 .f32 from V5 m ρ c main_arg0) (ix3 b t k)) (fun k => (show FVec Ideal S1x1024 .f32 from V5 m ρ c main_v19) (ix2 0 k))
      (fun k => (show FVec Ideal S8x1x1024 .f32 from V5 m ρ c main_v21) (ix3 b 0 k)) (fun k => (show FVec Ideal S8x1x1024 .f32 from V5 m ρ c main_v20) (ix3 b 0 k)) d
      = h (args m c) b t d :=
  mod_congr (fun k => congrFun (W5_args m ρ c main_arg0 (by decide)) (ix3 b t k))
    (fun k => (StretchA.s5_v19 (W4 m ρ c) k).trans (congrFun (W4_args m ρ c main_arg5 (by decide)) (ix3 0 0 k)))
    (fun k => (StretchA.s5_v21 (W4 m ρ c) b k).trans (part_of m ρ c hA 1 b k))
    (fun k => (StretchA.s5_v20 (W4 m ρ c) b k).trans (part_of m ρ c hA 0 b k)) d

theorem qkv5 (b : Fin 8) (t : Fin 8192) (n : Fin 3072) :
    proj (V5 m ρ c main_arg0) (V5 m ρ c main_v19) (V5 m ρ c main_v20) (V5 m ρ c main_v21)
      (fun d n => (show FVec Ideal S1024x3072 .bf16 from V5 m ρ c main_v18) (ix2 d n)) b t n = qkv (args m c) b t n :=
  Finset.sum_congr rfl fun d _ => congrArg₂ (· * ·) (h5 m ρ c hA b t d)
    ((StretchA.s5_v18 (W4 m ρ c) d n).trans (congrFun (W4_args m ρ c main_arg6 (by decide)) (ix3 0 d n)))

/-- From the heads' region to the band's. -/
theorem keep8 (r : Ref sig .tc) (h7 : r ∉ hostOps2_W) (h8 : ∀ w : Fin cfg2.W, Pipeline.arrRef spec2 w = r → (cfg2.win w).isOut = false) :
    W8 m ρ c (Proc.devRef .tc r) = W6 m ρ c (Proc.devRef .tc r) :=
  (W8_of m ρ c r h8).trans (W7_of m ρ c r h7)

theorem qh_at (b : Fin 8) (h : Fin 16) (t : Fin 8192) (d : Fin 128) :
    (show FVec Ideal S8x16x8192x128 .bf16 from V8 m ρ c main_v22_0) (ix4 b h t d)
      = HeadsA.qlane d.val (qkv (args m c) b t ⟨(64 * h.val + d.val) % 3072, Nat.mod_lt _ (by omega)⟩) := by
  refine (congrFun ((keep8 m ρ c hA main_v22_0 (by decide) (by decide)).trans ((W6_arr m ρ c 5).trans (HeadsA.q_final (V5 m ρ) c))) (ix4 b h t d)).trans ?_
  exact congrArg (HeadsA.qlane d.val) (qkv5 m ρ c hA b t _)
theorem kh_at (b : Fin 8) (h : Fin 16) (t : Fin 8192) (d : Fin 128) :
    (show FVec Ideal S8x16x8192x128 .bf16 from V8 m ρ c main_v22_1) (ix4 b h t d)
      = HeadsA.klane d.val (qkv (args m c) b t ⟨(1024 + 64 * h.val + d.val) % 3072, Nat.mod_lt _ (by omega)⟩) := by
  refine (congrFun ((keep8 m ρ c hA main_v22_1 (by decide) (by decide)).trans ((W6_arr m ρ c 6).trans (HeadsA.k_final (V5 m ρ) c))) (ix4 b h t d)).trans ?_
  exact congrArg (HeadsA.klane d.val) (qkv5 m ρ c hA b t _)
theorem vh_at (b : Fin 8) (h : Fin 16) (t : Fin 8192) (d : Fin 128) :
    (show FVec Ideal S8x16x8192x128 .bf16 from V8 m ρ c main_v22_2) (ix4 b h t d)
      = vlane d.val (qkv (args m c) b t ⟨(2048 + 64 * h.val + d.val) % 3072, Nat.mod_lt _ (by omega)⟩) := by
  refine (congrFun ((keep8 m ρ c hA main_v22_2 (by decide) (by decide)).trans ((W6_arr m ρ c 7).trans (HeadsA.v_final (V5 m ρ) c))) (ix4 b h t d)).trans ?_
  exact congrArg (vlane d.val) (qkv5 m ρ c hA b t _)

theorem qh_lo (b : Fin 8) (h : Fin 16) (t : Fin 8192) (d : Fin 64) :
    (show FVec Ideal S8x16x8192x128 .bf16 from V8 m ρ c main_v22_0) (ix4 b h t ⟨d.val, by omega⟩) = qkv (args m c) b t (qcol (col h d)) * Ideal.ofBits .f32 0x3E000000#32 := by
  refine (qh_at m ρ c hA b h t ⟨d.val, by omega⟩).trans ?_
  unfold HeadsA.qlane
  rw [if_pos d.isLt]
  refine congrArg (· * _) (congrArg _ (Fin.ext ?_))
  unfold col qcol
  show (64 * h.val + d.val) % 3072 = h.val * 64 + d.val
  omega
theorem kh_lo (b : Fin 8) (h : Fin 16) (t : Fin 8192) (d : Fin 64) :
    (show FVec Ideal S8x16x8192x128 .bf16 from V8 m ρ c main_v22_1) (ix4 b h t ⟨d.val, by omega⟩) = qkv (args m c) b t (kcol (col h d)) := by
  refine (kh_at m ρ c hA b h t ⟨d.val, by omega⟩).trans ?_
  unfold HeadsA.klane
  rw [if_pos d.isLt]
  refine congrArg _ (Fin.ext ?_)
  unfold col kcol
  show (1024 + 64 * h.val + d.val) % 3072 = 1024 + (h.val * 64 + d.val)
  omega
theorem vh_lo (b : Fin 8) (h : Fin 16) (t : Fin 8192) (d : Fin 64) :
    (show FVec Ideal S8x16x8192x128 .bf16 from V8 m ρ c main_v22_2) (ix4 b h t ⟨d.val, by omega⟩) = qkv (args m c) b t (vcol (col h d)) := by
  refine (vh_at m ρ c hA b h t ⟨d.val, by omega⟩).trans ?_
  unfold Cert.KernelIdeal.Heads.vlane
  rw [if_pos d.isLt]
  refine congrArg _ (Fin.ext ?_)
  unfold col vcol
  show (2048 + 64 * h.val + d.val) % 3072 = 2048 + (h.val * 64 + d.val)
  omega
theorem v_one (b : Fin 8) (h : Fin 16) (n : Fin 8192) : (show FVec Ideal S8x16x8192x128 .bf16 from V8 m ρ c main_v22_2) (ix4 b h n 64) = (1 : EReal) :=
  (vh_at m ρ c hA b h n 64).trans (by unfold Cert.KernelIdeal.Heads.vlane; rfl)
theorem v_fin (j : S8x16x8192x128.Idx) : Cert.Reals.R ((show FVec Ideal S8x16x8192x128 .bf16 from V8 m ρ c main_v22_2) j) := by
  have key : ∀ b h t d, Cert.Reals.R ((show FVec Ideal S8x16x8192x128 .bf16 from V8 m ρ c main_v22_2) (ix4 b h t d)) := by
    intro b h t d
    rw [vh_at m ρ c hA b h t d]
    unfold Cert.KernelIdeal.Heads.vlane
    split_ifs
    · exact qkv_real hA _ _ _
    · exact Cert.Reals.R.one
    · exact Cert.Reals.R.zero
  have e : j = (ix4 (j 0) (j 1) (j 2) (j 3) : S8x16x8192x128.Idx) := by blk_ext []
  exact (congrArg Cert.Reals.R (congrArg (show FVec Ideal S8x16x8192x128 .bf16 from V8 m ρ c main_v22_2) e)).mpr (key _ _ _ _)

/-! ### The scores -/

omit hA in
/-- The scaled lanes' product is the scaled product. -/
theorem scaled {a k : Fin 64 → EReal} {s : EReal} (ha : ∀ d, Cert.Reals.R (a d)) (hk : ∀ d, Cert.Reals.R (k d)) (hs : Cert.Reals.R s) :
    ∑ d, a d * s * k d = (∑ d, a d * k d) * s := by
  obtain ⟨f, hf⟩ : ∃ f : Fin 64 → ℝ, ∀ d, a d = f d := ⟨fun d => (ha d).choose, fun d => (ha d).choose_spec⟩
  obtain ⟨g, hg⟩ : ∃ g : Fin 64 → ℝ, ∀ d, k d = g d := ⟨fun d => (hk d).choose, fun d => (hk d).choose_spec⟩
  obtain ⟨s, rfl⟩ := hs
  have e1 : ∑ d, a d * (s : EReal) * k d = ((∑ d, f d * s * g d : ℝ) : EReal) := by
    rw [← Cert.Layer.sum_coe]
    exact Finset.sum_congr rfl fun d _ => by rw [hf, hg, EReal.coe_mul, EReal.coe_mul]
  have e2 : ∑ d, a d * k d = ((∑ d, f d * g d : ℝ) : EReal) := by
    rw [← Cert.Layer.sum_coe]
    exact Finset.sum_congr rfl fun d _ => by rw [hf, hg, EReal.coe_mul]
  rw [e1, e2, ← EReal.coe_mul, Finset.sum_mul]
  exact congrArg _ (Finset.sum_congr rfl fun d _ => by ring)

theorem dot_at (b : Fin 8) (h : Fin 16) (t i : Fin 8192) :
    ∑ d : Fin 128, ((show FVec Ideal S8x16x8192x128 .bf16 from V8 m ρ c main_v22_0) (ix4 b h t d) : EReal) * (show FVec Ideal S8x16x8192x128 .bf16 from V8 m ρ c main_v22_1) (ix4 b h i d)
      = (∑ d : Fin 64, qkv (args m c) b t (qcol (col h d)) * qkv (args m c) b i (kcol (col h d))) * Ideal.ofBits .f32 0x3E000000#32 := by
  refine Eq.trans ?_ (scaled (fun d => qkv_real hA b t (qcol (col h d))) (fun d => qkv_real hA b i (kcol (col h d))) scale)
  refine (front _ fun d hd => ?_).trans (Finset.sum_congr rfl fun d _ => congrArg₂ (· * ·) (qh_lo m ρ c hA b h t d) (kh_lo m ρ c hA b h i d))
  refine (congrArg₂ (· * ·) (qh_at m ρ c hA b h t d) (kh_at m ρ c hA b h i d)).trans ?_
  unfold HeadsA.qlane
  rw [if_neg (by omega), zero_mul]

omit hA in
theorem bias_at (h : Fin 16) (r : Fin 512) (n : Fin 1024) : (show FVec Ideal S16x512x1024 .f32 from V8 m ρ c main_v24) (ix3 h r n)
    = if Bias.reach r.val n.val then (args m c).rb (ix3 0 h ⟨min (r.val + 640 - n.val) 256, by omega⟩) else ⊥ := by
  refine (congrFun ((W8_arr m ρ c 1).trans (Bias.final (V7 m ρ) c)) (ix3 h r n)).trans ?_
  refine if_congr Iff.rfl ?_ rfl
  exact (StretchA.s7_v23 (W6 m ρ c) h _).trans (congrFun (W6_args m ρ c main_arg7 (by decide)) (ix3 0 h _))

omit hA in
theorem bias_band {t i r n : ℕ} (b : EReal) (f : Fin 257 → EReal) (hr : r < 512) (hn : n < 1024) (e : t + n = i + r + 512) (h64 : ∃ g, t = 512 * g + r) (p) :
    b + (if Bias.reach r n then f ⟨min (r + 640 - n) 256, p⟩ else ⊥) = if band t i then b + f (rel t i) else ⊥ := by
  obtain ⟨g, rfl⟩ := h64
  by_cases hb : Bias.reach r n
  · rw [if_pos hb, if_pos (by unfold Bias.reach at hb; unfold band; omega)]
    exact congrArg (fun m => b + f m) (Fin.ext (show min (r + 640 - n) 256 = min (512 * g + r + 128 - i) 256 by omega))
  · rw [if_neg hb, if_neg (by unfold Bias.reach at hb; unfold band; omega), EReal.add_bot]

theorem score_at (b : Fin 8) (h : Fin 16) (t i : Fin 8192) :
    Band.score (V8 m ρ c main_v22_0) (V8 m ρ c main_v22_1) (V8 m ρ c main_v24) b h t i = logit (args m c) b h t i := by
  have ht := t.isLt
  have hi := i.isLt
  unfold Band.score logit
  by_cases h1 : t.val / 512 = i.val / 512 + 1
  · rw [if_pos h1]
    refine (congrArg₂ (· + ·) (dot_at m ρ c hA b h t i) (bias_at m ρ c h _ _)).trans ?_
    exact bias_band _ (fun p => (args m c).rb (ix3 0 h p)) (Nat.mod_lt _ (by omega)) (by dsimp only; omega) (by dsimp only; omega) ⟨t.val / 512, by omega⟩ _
  · rw [if_neg h1]
    by_cases h2 : t.val / 512 = i.val / 512
    · rw [if_pos h2]
      refine (congrArg₂ (· + ·) (dot_at m ρ c hA b h t i) (bias_at m ρ c h _ _)).trans ?_
      exact bias_band _ (fun p => (args m c).rb (ix3 0 h p)) (Nat.mod_lt _ (by omega)) (by dsimp only; omega) (by dsimp only; omega) ⟨t.val / 512, by omega⟩ _
    · rw [if_neg h2, if_neg (by unfold band; omega)]

theorem logit_ne_top (b : Fin 8) (h : Fin 16) (t i : Fin 8192) : logit (args m c) b h t i ≠ ⊤ := by
  unfold logit
  split
  · exact (((Cert.Reals.R.sum fun d _ => (qkv_real hA _ _ _).mul (qkv_real hA _ _ _)).mul scale).add (hA.rb _)).ne_top
  · exact bot_ne_top
theorem logit_self (b : Fin 8) (h : Fin 16) (t : Fin 8192) : logit (args m c) b h t t ≠ ⊥ := by
  unfold logit
  rw [if_pos (by unfold band; omega)]
  exact (((Cert.Reals.R.sum fun d _ => (qkv_real hA _ _ _).mul (qkv_real hA _ _ _)).mul scale).add (hA.rb _)).ne_bot

/-- From the band's region to the projection's. -/
theorem keep12 (r : Ref sig .tc) (h10 : r ∉ hostOps4_W) (h11 : r ∉ hostOps4_1_W) (h12 : r ∉ hostOps4_2_W) :
    W12 m ρ c (Proc.devRef .tc r) = W9 m ρ c (Proc.devRef .tc r) :=
  (W12_of m ρ c r h12).trans ((W11_of m ρ c r h11).trans (W10_of m ρ c r h10))

theorem v25_at (b : Fin 8) (h : Fin 16) (t : Fin 8192) (d : Fin 64) :
    (show FVec Ideal S8x16x8192x128 .bf16 from V12 m ρ c main_v25) (ix4 b h t ⟨d.val, by omega⟩) = o (args m c) b t h d := by
  have e := (W9_arr m ρ c 6).trans (Band.final (V8 m ρ) c (fun b h t n => (score_at m ρ c hA b h t n).trans_ne (logit_ne_top m c hA b h t n))
    (fun b h t => (score_at m ρ c hA b h t t).trans_ne (logit_self m c hA b h t)) (v_fin m ρ c hA) (v_one m ρ c hA))
  refine (congrFun ((keep12 m ρ c hA main_v25 (by decide) (by decide) (by decide)).trans e) (ix4 b h t ⟨d.val, by omega⟩)).trans ?_
  have hs : Band.score (V8 m ρ c main_v22_0) (V8 m ρ c main_v22_1) (V8 m ρ c main_v24) b h t = logit (args m c) b h t := funext (score_at m ρ c hA b h t)
  show Band.G (V8 m ρ c main_v22_0) (V8 m ρ c main_v22_1) (V8 m ρ c main_v22_2) (V8 m ρ c main_v24) (ix4 b h t ⟨d.val, by omega⟩) = _
  unfold Band.G o ex
  refine Finset.sum_congr rfl fun i _ => ?_
  rw [mul_comm]
  refine congrArg₂ (· * ·) (vh_lo m ρ c hA b h i d) ?_
  exact congrArg (fun s : Fin 8192 → EReal => Ideal.div (Ideal.exp (s i - Finset.univ.sup s)) (∑ i, Ideal.exp (s i - Finset.univ.sup s))) hs

/-! ### The projection -/

omit hA in
theorem v31_at (h : Fin 16) (d : Fin 128) (n : Fin 1024) : (show FVec Ideal S16x128x1024 .bf16 from V12 m ρ c main_v31) (ix3 h d n)
    = (if hd : d.val < 64 then (args m c).w_o (ix3 0 ⟨h.val * 64 + d.val, by omega⟩ n) else 0 : EReal) := by
  have h1 : W10 m ρ c (Proc.devRef .tc main_c_0) = constantI S_ 32 0#32 := StretchA.s10_c _
  have h2 := StretchA.s11_v30 (W10 m ρ c) h1 _ (StretchA.s10_v29 (W9 m ρ c)) h d n
  refine (congrFun (StretchA.s12_v31 (W11 m ρ c)) (ix3 h d n)).trans (h2.trans ?_)
  by_cases hd : d.val < 64
  · rw [dif_pos hd, dif_pos hd, StretchA.first]
    exact congrFun (W9_args m ρ c main_arg8 (by decide)) (ix3 0 _ n)
  · rw [dif_neg hd, dif_neg hd]

/-- A slice of the modulation vectors as the projection's region finds it. -/
theorem keep_part (r : Ref sig .tc) (h6 : ∀ w : Fin cfg1.W, Pipeline.arrRef spec1 w = r → (cfg1.win w).isOut = false) (h7 : r ∉ hostOps2_W)
    (h8 : ∀ w : Fin cfg2.W, Pipeline.arrRef spec2 w = r → (cfg2.win w).isOut = false) (h9 : ∀ w : Fin cfg3.W, Pipeline.arrRef spec3 w = r → (cfg3.win w).isOut = false)
    (h10 : r ∉ hostOps4_W) (h11 : r ∉ hostOps4_1_W) : W11 m ρ c (Proc.devRef .tc r) = W5 m ρ c (Proc.devRef .tc r) :=
  (W11_of m ρ c r h11).trans ((W10_of m ρ c r h10).trans ((W9_of m ρ c r h9).trans ((keep8 m ρ c hA r h7 h8).trans (W6_of m ρ c r h6))))

theorem gate_at (b : Fin 8) (n : Fin 1024) : (show FVec Ideal S8x1x1024 .f32 from V12 m ρ c main_v34) (ix3 b 0 n) = part (args m c) 2 b n :=
  (StretchA.s12_v34 (W11 m ρ c) b n).trans ((congrFun (keep_part m ρ c hA main_v11 (by decide) (by decide) (by decide) (by decide) (by decide) (by decide)) (ix2 b n)).trans
    ((StretchA.s5_v11 (W4 m ρ c) b n).trans (part_of m ρ c hA 2 b n)))
theorem shift_at (b : Fin 8) (n : Fin 1024) : (show FVec Ideal S8x1x1024 .f32 from V12 m ρ c main_v36) (ix3 b 0 n) = part (args m c) 3 b n :=
  (StretchA.s12_v36 (W11 m ρ c) b n).trans ((congrFun (keep_part m ρ c hA main_v12 (by decide) (by decide) (by decide) (by decide) (by decide) (by decide)) (ix2 b n)).trans
    ((StretchA.s5_v12 (W4 m ρ c) b n).trans (part_of m ρ c hA 3 b n)))
theorem scale_at (b : Fin 8) (n : Fin 1024) : (show FVec Ideal S8x1x1024 .f32 from V12 m ρ c main_v37) (ix3 b 0 n) = part (args m c) 4 b n :=
  (StretchA.s12_v37 (W11 m ρ c) b n).trans ((congrFun (keep_part m ρ c hA main_v13 (by decide) (by decide) (by decide) (by decide) (by decide) (by decide)) (ix2 b n)).trans
    ((StretchA.s5_v13 (W4 m ρ c) b n).trans (part_of m ρ c hA 4 b n)))

theorem resid_at (b : Fin 8) (t : Fin 8192) (n : Fin 1024) :
    resid (V12 m ρ c main_v25) (V12 m ρ c main_v31) (V12 m ρ c main_arg0) (V12 m ρ c main_v34) b t n = y (args m c) b t n := by
  unfold resid y
  refine congrArg₂ (· + ·) (congrFun (W12_args m ρ c main_arg0 (by decide)) (ix3 b t n)) (congrArg₂ (· * ·) (gate_at m ρ c hA b n) (Finset.sum_congr rfl fun h _ => ?_))
  refine (front _ fun d hd => ?_).trans (Finset.sum_congr rfl fun d _ => congrArg₂ (· * ·) (v25_at m ρ c hA b h t d) ((v31_at m ρ c h ⟨d.val, by omega⟩ n).trans (dif_pos d.isLt)))
  exact (congrArg ((show FVec Ideal S8x16x8192x128 .bf16 from V12 m ρ c main_v25) (ix4 b h t d) * · : EReal → EReal) ((v31_at m ρ c h d n).trans (dif_neg (by omega)))).trans (mul_zero _)

/-! ### The results -/

theorem r0 (b : Fin 8) (t : Fin 8192) (n : Fin 1024) : (show FVec Ideal S8x8192x1024 .f32 from W13 m ρ c (Proc.devRef .tc main_v38_0)) (ix3 b t n) = y (args m c) b t n :=
  (congrFun ((W13_arr m ρ c 7).trans (OProjA.y_final (V12 m ρ) c)) (ix3 b t n)).trans (resid_at m ρ c hA b t n)

theorem r1 (b : Fin 8) (t : Fin 8192) (n : Fin 1024) : (show FVec Ideal S8x8192x1024 .bf16 from W13 m ρ c (Proc.devRef .tc main_v38_1)) (ix3 b t n) = yn (args m c) b t n :=
  (congrFun ((W13_arr m ρ c 8).trans (OProjA.n_final (V12 m ρ) c)) (ix3 b t n)).trans
    (mod_congr (resid_at m ρ c hA b t)
      (fun k => (StretchA.s12_v35 (W11 m ρ c) k).trans (congrFun (W11_args m ρ c main_arg5 (by decide)) (ix3 0 1 k)))
      (scale_at m ρ c hA b) (shift_at m ρ c hA b) n)

theorem r2 (b : Fin 8) (t : Fin 512) (n : Fin 1024) : (show FVec Ideal S8x512x1024 .f32 from W13 m ρ c (Proc.devRef .tc main_v26)) (ix3 b t n)
    = qkv (args m c) b ⟨7680 + t.val, by omega⟩ (kcol n) := by
  refine (congrFun ((W13_of m ρ c main_v26 (by decide)).trans ((W12_of m ρ c main_v26 (by decide)).trans (W11_of m ρ c main_v26 (by decide)))) (ix3 b t n)).trans ?_
  refine (StretchA.s10_v26 (W9 m ρ c) b t n).trans ?_
  refine (congrFun ((W9_of m ρ c main_v22_3 (by decide)).trans ((keep8 m ρ c hA main_v22_3 (by decide) (by decide)).trans ((W6_arr m ρ c 8).trans (HeadsA.bk_final (V5 m ρ) c)))) (ix3 b _ n)).trans ?_
  exact qkv5 m ρ c hA b _ _
theorem r3 (b : Fin 8) (t : Fin 512) (n : Fin 1024) : (show FVec Ideal S8x512x1024 .f32 from W13 m ρ c (Proc.devRef .tc main_v27)) (ix3 b t n)
    = qkv (args m c) b ⟨7680 + t.val, by omega⟩ (vcol n) := by
  refine (congrFun ((W13_of m ρ c main_v27 (by decide)).trans ((W12_of m ρ c main_v27 (by decide)).trans (W11_of m ρ c main_v27 (by decide)))) (ix3 b t n)).trans ?_
  refine (StretchA.s10_v27 (W9 m ρ c) b t n).trans ?_
  refine (congrFun ((W9_of m ρ c main_v22_4 (by decide)).trans ((keep8 m ρ c hA main_v22_4 (by decide) (by decide)).trans ((W6_arr m ρ c 9).trans (HeadsA.bv_final (V5 m ρ) c)))) (ix3 b _ n)).trans ?_
  exact qkv5 m ρ c hA b _ _
theorem r4 (b : Fin 8) (n : Fin 1024) : (show FVec Ideal S8x1024 .f32 from W13 m ρ c (Proc.devRef .tc main_v14)) (ix2 b n) = part (args m c) 5 b n := by
  refine (congrFun ((W13_of m ρ c main_v14 (by decide)).trans ((W12_of m ρ c main_v14 (by decide)).trans
    (keep_part m ρ c hA main_v14 (by decide) (by decide) (by decide) (by decide) (by decide) (by decide)))) (ix2 b n)).trans ?_
  exact (StretchA.s5_v14 (W4 m ρ c) b n).trans (part_of m ρ c hA 5 b n)

end Cert.KernelAIdeal.ChaseA
-- ==== Proof.RefA.lean ====
/- What the first mixer's reference computes, entry by entry, in the mathematics of the layer. -/
module

public import proofs.«01_k».proof.Proof.LayerA
public import proofs.«01_k».proof.Proof.Gen.ReferenceAIdeal.Run
public import proofs.«01_k».proof.Proof.Spec

@[expose] public section

set_option maxRecDepth 16384
noncomputable section
open Idealize.ShloMosaic Idealize.ShloMosaic.TcCoe Idealize.SL.Sem
namespace Cert.ReferenceAIdeal.RefA
open Cert.ReferenceAIdeal Cert.ReferenceAIdeal.Gen Cert.ReferenceAIdeal.Value Cert.Spec Cert.LayerA
open Cert.Layer (col)
variable (V0 : Valuation τ sig (Elt Ideal))

/-- The reference's arguments. -/
def args : Args where
  x := V0 (Proc.devRef .tc main_arg0)
  cond := V0 (Proc.devRef .tc main_arg1)
  w_ada := V0 (Proc.devRef .tc main_arg3)
  b_ada := V0 (Proc.devRef .tc main_arg4)
  g := V0 (Proc.devRef .tc main_arg5)
  w_qkv := V0 (Proc.devRef .tc main_arg6)
  rb := V0 (Proc.devRef .tc main_arg7)
  w_o := V0 (Proc.devRef .tc main_arg8)

theorem bot_word : Ideal.ofBits .f32 0xFF800000#32 = (⊥ : EReal) := by simp [Ideal.ofBits, Ideal.ieee]

/-! ### The modulation vectors, the row and its projection -/

theorem v7_at (b : Fin 8) (n : Fin 6144) : (show FVec Ideal S8x6144 .f32 from res_main_v7 V0) (ix2 b n) = ada (args V0) b n := by
  unfold res_main_v7
  pointwise
  rfl

theorem v38_at (b : Fin 8) (t : Fin 8192) (n : Fin 3072) : (show FVec Ideal S8x8192x3072 .f32 from res_main_v38 V0) (ix3 b t n) = qkv (args V0) b t n := by
  have h := fun n => v7_at V0 b n
  unfold res_main_v38
  generalize res_main_v7 V0 = M at h
  pointwise
  unfold qkv Cert.LayerA.h mod
  refine Finset.sum_congr rfl fun k _ => congrArg (· * _) (congrArg₂ (· + ·) (congrArg₂ (· * ·) rfl (congrArg (1 + ·) (h _))) ((h _).trans ?_))
  exact congrArg (ada (args V0) b) (Fin.ext (show k.val = 1024 * 0 + k.val by omega))

theorem v41_at (b : Fin 8) (t : Fin 8192) (n : Fin 1024) : (show FVec Ideal S8x8192x1024 .f32 from res_main_v41 V0) (ix3 b t n) = qkv (args V0) b t (kcol n) := by
  have h := v38_at V0 b t
  unfold res_main_v41
  generalize res_main_v38 V0 = Q at h ⊢
  pointwise
  exact h (kcol n)
theorem v42_at (b : Fin 8) (t : Fin 8192) (n : Fin 1024) : (show FVec Ideal S8x8192x1024 .f32 from res_main_v42 V0) (ix3 b t n) = qkv (args V0) b t (vcol n) := by
  have h := v38_at V0 b t
  unfold res_main_v42
  generalize res_main_v38 V0 = Q at h ⊢
  pointwise
  exact h (vcol n)

/-! ### The words of the mask and of the bias's places -/

/-- A position's chunk, by division rounded down. -/
theorem chunk_word : ∀ t : Fin 8192, Scalar.select
      (IntOp.andi
        (IntOp.cmpi CmpIPredicate.ne
          (if BitVec.ofNat 32 t.val = 0 then (0 : BitVec 32) else if (BitVec.ofNat 32 t.val).msb = true then -1 else 1)
          (if (64#32 : BitVec 32) = 0 then (0 : BitVec 32) else if BitVec.msb 64#32 = true then -1 else 1))
        (IntOp.cmpi CmpIPredicate.ne (IntOp.remsi ArithUnit.host (BitVec.ofNat 32 t.val) 64#32) 0#32))
      (IntOp.subi (IntOp.divsi ArithUnit.host (BitVec.ofNat 32 t.val) 64#32) 1#32)
      (IntOp.divsi ArithUnit.host (BitVec.ofNat 32 t.val) 64#32)
    = BitVec.ofNat 32 (t.val / 64) := by decide +kernel

theorem v68_at (t : Fin 8192) : (show IVec S8192 32 from res_main_v68 V0) (ix1 t) = BitVec.ofNat 32 (t.val / 64) := by
  unfold res_main_v68 res_main_call1_v2 res_main_call1_v0 res_main_v48
  pointwise
  exact chunk_word t

/-- A distance's place, of the distance plus 8192. -/
theorem place_word : ∀ d : Fin 16384, IntOp.addi (IntOp.minsi (128#32) (IntOp.maxsi (4294967168#32) (BitVec.ofNat 32 d.val - 8192#32))) 128#32
    = BitVec.ofNat 32 (min (d.val + 128 - 8192) 256) := by decide +kernel
theorem gap_word (t i : Fin 8192) : IntOp.subi (BitVec.ofNat 32 t.val) (BitVec.ofNat 32 i.val) = BitVec.ofNat 32 (t.val + 8192 - i.val) - 8192#32 := by
  have ht := t.isLt
  have hi := i.isLt
  refine BitVec.eq_of_toNat_eq ?_
  simp only [IntOp.subi, BitVec.toNat_sub, BitVec.toNat_ofNat]
  omega

theorem v56_at (t i : Fin 8192) : (show IVec S8192x8192 32 from res_main_v56 V0) (ix2 t i) = BitVec.ofNat 32 (rel t.val i.val).val := by
  unfold res_main_v56 res_main_v48
  pointwise
  rw [gap_word]
  refine (place_word ⟨t.val + 8192 - i.val, by omega⟩).trans (congrArg (BitVec.ofNat 32) ?_)
  show min (t.val + 8192 - i.val + 128 - 8192) 256 = min (t.val + 128 - i.val) 256
  have ht := t.isLt
  have hi := i.isLt
  omega

theorem v73_at (t i : Fin 8192) : (show IVec S8192x8192 32 from res_main_v73 V0) (ix2 t i) = IntOp.subi (BitVec.ofNat 32 (t.val / 64)) (BitVec.ofNat 32 (i.val / 64)) := by
  have h := v68_at V0
  unfold res_main_v73
  generalize res_main_v68 V0 = M at h
  pointwise
  exact congrArg₂ IntOp.subi (h t) (h i)

/-- The band's test, of two chunks. -/
theorem band_word : ∀ a b : Fin 128, IntOp.andi (IntOp.cmpi CmpIPredicate.sge (IntOp.subi (BitVec.ofNat 32 a.val) (BitVec.ofNat 32 b.val)) 0#32)
      (IntOp.cmpi CmpIPredicate.sle (IntOp.subi (BitVec.ofNat 32 a.val) (BitVec.ofNat 32 b.val)) 8#32)
    = BitVec.ofBool (decide (b.val ≤ a.val ∧ a.val ≤ b.val + 8)) := by decide +kernel

/-- A place is not below zero, so it's taken as it is. -/
theorem take_word : ∀ p : Fin 257, (Scalar.select (IntOp.cmpi CmpIPredicate.slt (BitVec.ofNat 32 p.val) 0#32)
    (IntOp.addi (BitVec.ofNat 32 p.val) 257#32) (BitVec.ofNat 32 p.val) : BitVec 32).toInt.toNat = p.val := by decide +kernel

/-- The bias taken at each pair's place. -/
theorem taken {α : Type} (x : S16x257.Idx → α) (idx : IVec S8192x8192x1 32) (h : Fin 16) (t i : Fin 8192) :
    Host.gather gather_S16x257_S8192x8192x1_S16x8192x8192_0_1_n_n_1_2_161 x idx (ix3 h t i)
      = x (ix2 h ⟨min (idx (ix3 t i 0)).toInt.toNat 256, by omega⟩) := by
  unfold Host.gather
  congr 1
  funext a
  refine Fin.ext ?_
  show GatherDims.start gather_S16x257_S8192x8192x1_S16x8192x8192_0_1_n_n_1_2_161 (ix3 h t i) idx a + GatherDims.batchCoord gather_S16x257_S8192x8192x1_S16x8192x8192_0_1_n_n_1_2_161 (ix3 h t i) a
      + GatherDims.offCoord gather_S16x257_S8192x8192x1_S16x8192x8192_0_1_n_n_1_2_161 (ix3 h t i) a = _
  rw [GatherDims.batchCoord_eq_zero _ _ _ List.not_mem_nil, Nat.add_zero]
  have h01 : a = (0 : Fin 2) ∨ a = (1 : Fin 2) := by
    match a with
    | ⟨0, _⟩ => exact Or.inl rfl
    | ⟨1, _⟩ => exact Or.inr rfl
  rcases h01 with rfl | rfl
  · have e : GatherDims.start gather_S16x257_S8192x8192x1_S16x8192x8192_0_1_n_n_1_2_161 (ix3 h t i) idx (0 : Fin 2) = 0 := by
      unfold GatherDims.start
      exact dif_neg (show (0 : Fin 2) ∉ ([1] : List (Fin 2)) by decide)
    refine (congrArg (· + _) e).trans ((Nat.zero_add _).trans ?_)
    unfold GatherDims.offCoord
    rw [dif_pos ((GatherDims.mem_sKept _ _).mpr ⟨show (0 : Fin 2) ∉ ([1] : List (Fin 2)) by decide, List.not_mem_nil⟩)]
    rfl
  · refine (congrArg (_ + ·) (GatherDims.offCoord_eq_zero _ _ _ (fun hm => ((GatherDims.mem_sKept _ _).mp hm).1 (List.mem_singleton.mpr rfl)))).trans ((Nat.add_zero _).trans ?_)
    unfold GatherDims.start
    refine (dif_pos (show (1 : Fin 2) ∈ ([1] : List (Fin 2)) from List.mem_singleton.mpr rfl)).trans ?_
    have hsi : ∀ hl, GatherDims.siIdx gather_S16x257_S8192x8192x1_S16x8192x8192_0_1_n_n_1_2_161 (ix3 h t i)
        ⟨List.idxOf (1 : Fin 2) ([1] : List (Fin 2)), hl⟩ = ix3 t i 0 := by
      intro hl
      funext b
      refine Fin.ext ?_
      match b with
      | ⟨0, _⟩ => rfl
      | ⟨1, _⟩ => rfl
      | ⟨2, _⟩ => rfl
    exact congrArg (fun z => min (idx z).toInt.toNat 256) (hsi _)

/-- The place read for a pair. -/
theorem place_at (C : IVec S8192x8192 32) (t i : Fin 8192) (p : Fin 257) (hC : C (ix2 t i) = BitVec.ofNat 32 p.val) :
    ((broadcastInDim S8192x8192x1 ![0, 1] bcast_S8192x8192_S8192x8192x1_0_1
            (select (cmpi CmpIPredicate.slt C (broadcastInDim S8192x8192 ![] bcast_S_S8192x8192 (constantI S_ 32 0#32)))
              (addi C (broadcastInDim S8192x8192 ![] bcast_S_S8192x8192 (constantI S_ 32 257#32))) C) : IVec S8192x8192x1 32) (ix3 t i 0)).toInt.toNat = p.val := by
  pointwise
  rw [hC]
  exact take_word p

theorem v79_at (b : Fin 8) (h : Fin 16) (t i : Fin 8192) :
    (show FVec Ideal S8x16x8192x8192 .f32 from res_main_v79 V0) (ix4 b h t i) = logit (args V0) b h t i := by
  have hQ := v38_at V0 b
  have hD := v73_at V0 t i
  have hC := v56_at V0 t i
  unfold res_main_v79 res_main_v41
  generalize res_main_v38 V0 = Q at hQ ⊢
  generalize res_main_v73 V0 = D at hD ⊢
  generalize res_main_v56 V0 = C at hC ⊢
  pointwise
  rw [taken]
  have hb : IntOp.andi (IntOp.cmpi CmpIPredicate.sge (D (ix2 t i)) 0#32) (IntOp.cmpi CmpIPredicate.sle (D (ix2 t i)) 8#32)
      = BitVec.ofBool (decide (band t.val i.val)) := by
    refine Eq.trans ?_ (band_word ⟨t.val / 64, by omega⟩ ⟨i.val / 64, by omega⟩)
    exact congrArg (fun d => IntOp.andi (IntOp.cmpi CmpIPredicate.sge d 0#32) (IntOp.cmpi CmpIPredicate.sle d 8#32)) hD
  refine (congrArg (fun w => Scalar.select w _ _) hb).trans ?_
  unfold logit
  by_cases hh : band t.val i.val
  · rw [if_pos hh, decide_eq_true hh]
    refine congrArg₂ (· + ·) (congrArg (· * _) (Finset.sum_congr rfl fun d _ => congrArg₂ (· * ·) (hQ t (qcol (col h d))) (hQ i (kcol (col h d))))) ?_
    have e := place_at C t i (rel t.val i.val) hC
    have e' : (⟨min (_ : ℕ) 256, by omega⟩ : Fin 257) = rel t.val i.val := Fin.ext ((congrArg (min · 256) e).trans (Nat.min_eq_left (by have := (rel t.val i.val).isLt; omega)))
    refine (congrArg (fun p => (shapeCast S16x257 (V0 (Proc.devRef .tc main_arg7)) shapeCasts_S1x16x257_S16x257) (ix2 h p)) e').trans ?_
    pointwise
    rfl
  · rw [if_neg hh, decide_eq_false hh]
    exact bot_word

/-! ### The softmax -/

theorem row_max (S : FVec Ideal S8x16x8192x8192 .f32) (b : Fin 8) (h : Fin 16) (t : Fin 8192) :
    Host.reduce FloatOps.maximumf S (constant (F := Ideal) S_ .f32 0xFF800000#32) reducesTo_S8x16x8192x8192_S8x16x8192_d3 h_S_ (ix3 b h t)
      = Finset.univ.sup fun i => S (ix4 b h t i) := by
  pointwise
  rw [bot_word]
  rfl
theorem ex_of (S : FVec Ideal S8x16x8192x8192 .f32) (M : FVec Ideal S8x16x8192 .f32) (b : Fin 8) (h : Fin 16) (t i : Fin 8192) :
    Host.exp (subf S (broadcastInDim S8x16x8192x8192 ![0, 1, 2, 3] bcast_S8x16x8192x1_S8x16x8192x8192_0_1_2_3 (broadcastInDim S8x16x8192x1 ![0, 1, 2] bcast_S8x16x8192_S8x16x8192x1_0_1_2 (maximumf (broadcastInDim S8x16x8192 ![] bcast_S_S8x16x8192 (constant (F := Ideal) S_ .f32 0xFF800000#32)) M)))) (ix4 b h t i)
      = Ideal.exp (S (ix4 b h t i) - M (ix3 b h t)) := by
  pointwise
  rw [bot_word, max_eq_right bot_le]
theorem v86_at (b : Fin 8) (h : Fin 16) (t i : Fin 8192) :
    (show FVec Ideal S8x16x8192x8192 .f32 from res_main_v86 V0) (ix4 b h t i) = ex (args V0) b h t i := by
  have hl := v79_at V0 b h t
  refine (ex_of (res_main_v79 V0) _ b h t i).trans ?_
  unfold ex
  exact congrArg Ideal.exp (congrArg₂ (· - ·) (hl i) ((row_max _ b h t).trans (congrArg Finset.univ.sup (funext hl))))

/-! ### The results -/

theorem y_at (b : Fin 8) (t : Fin 8192) (n : Fin 1024) :
    (show FVec Ideal S8x8192x1024 .f32 from res_main_v99 V0) (ix3 b t n) = y (args V0) b t n := by
  have hs := v86_at V0 b
  have hv := v42_at V0 b
  have hm := v7_at V0 b
  unfold res_main_v99
  generalize res_main_v86 V0 = S at hs ⊢
  generalize res_main_v42 V0 = W at hv ⊢
  generalize res_main_v7 V0 = M at hm ⊢
  pointwise
  rw [Fin.sum_univ_tiles 16 64 rfl]
  unfold y
  refine congrArg₂ (· + ·) rfl (congrArg₂ (· * ·) (hm _) (Finset.sum_congr rfl fun h _ => Finset.sum_congr rfl fun d _ => congrArg (· * _) (Finset.sum_congr rfl fun i _ => ?_)))
  have e : (⟨(h.val * 64 + d.val) / 64, by omega⟩ : Fin 16) = h := Fin.ext (by show (h.val * 64 + d.val) / 64 = h.val; omega)
  refine congrArg₂ (· * ·) (hv i (col h d)) ?_
  refine congrArg₂ Ideal.div ?_ (Finset.sum_congr rfl fun i' _ => ?_)
  · exact (congrArg (fun h => S (ix4 b h t i)) e).trans (hs h t i)
  · exact (congrArg (fun h => S (ix4 b h t i')) e).trans (hs h t i')

/-- The row that the second result normalises and modulates. -/
def second : FVec Ideal S8x8192x1024 .bf16 := truncf .bf16 (addf (mulf (mulf (mulf (res_main_v99 V0) (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf (res_main_v99 V0) (res_main_v99 V0)) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 (shapeCast _ (extractStridedSlice S1x1x1024 ![0, 1, 0] (V0 (Proc.devRef .tc main_arg5)) slices_S2x2x1024_S1x1x1024_0_1_0) shapeCasts_S1x1x1024_S1024)))) (broadcastInDim S8x8192x1024 ![0, 1, 2] bcast_S8x1x1024_S8x8192x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 4096] (res_main_v7 V0) slices_S8x6144_S8x1024_0_4096))))) (broadcastInDim S8x8192x1024 ![0, 1, 2] bcast_S8x1x1024_S8x8192x1024_0_1_2 (broadcastInDim S8x1x1024 ![0, 2] bcast_S8x1024_S8x1x1024_0_2 (extractStridedSlice S8x1024 ![0, 3072] (res_main_v7 V0) slices_S8x6144_S8x1024_0_3072)))) bitsLt_bf16_f32

theorem yn_at (b : Fin 8) (t : Fin 8192) (n : Fin 1024) : second V0 (ix3 b t n) = yn (args V0) b t n := by
  have h : (fun n => (show FVec Ideal S8x8192x1024 .f32 from res_main_v99 V0) (ix3 b t n)) = y (args V0) b t := funext (y_at V0 b t)
  have hm := v7_at V0 b
  unfold yn
  rw [← h]
  unfold second
  generalize res_main_v99 V0 = Y
  generalize res_main_v7 V0 = M at hm ⊢
  pointwise
  unfold mod
  exact congrArg₂ (· + ·) (congrArg₂ (· * ·) rfl (congrArg (1 + ·) (hm _))) (hm _)

theorem ak_at (b : Fin 8) (t : Fin 512) (n : Fin 1024) :
    (show FVec Ideal S8x512x1024 .f32 from extractStridedSlice S8x512x1024 ![0, 7680, 0] (res_main_v41 V0) slices_S8x8192x1024_S8x512x1024_0_7680_0) (ix3 b t n)
      = qkv (args V0) b ⟨7680 + t.val, by omega⟩ (kcol n) := by
  have h := v41_at V0 b
  generalize res_main_v41 V0 = K at h ⊢
  pointwise
  exact h _ n
theorem av_at (b : Fin 8) (t : Fin 512) (n : Fin 1024) :
    (show FVec Ideal S8x512x1024 .f32 from extractStridedSlice S8x512x1024 ![0, 7680, 0] (res_main_v42 V0) slices_S8x8192x1024_S8x512x1024_0_7680_0) (ix3 b t n)
      = qkv (args V0) b ⟨7680 + t.val, by omega⟩ (vcol n) := by
  have h := v42_at V0 b
  generalize res_main_v42 V0 = K at h ⊢
  pointwise
  exact h _ n
theorem gt_at (b : Fin 8) (n : Fin 1024) :
    (show FVec Ideal S8x1024 .f32 from extractStridedSlice S8x1024 ![0, 5120] (res_main_v7 V0) slices_S8x6144_S8x1024_0_5120) (ix2 b n) = part (args V0) 5 b n := by
  have h := v7_at V0 b
  generalize res_main_v7 V0 = M at h ⊢
  pointwise
  exact h _

end Cert.ReferenceAIdeal.RefA
-- ==== Proof.RunA.lean ====
/- The first mixer's run: every buffer ends at what the fold over its stretches and regions leaves there. -/
module

public import proofs.«01_k».proof.Proof.Gen.KernelAIdeal.Frame

@[expose] public section

set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
namespace Cert.KernelAIdeal.RunA
open Cert.KernelAIdeal Cert.KernelAIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends with each buffer at the last state of the fold. -/
theorem all : θ_run defs (onTc (τ := τ) (main (F := Ideal))) ⟨m, fun _ => 0, ρ⟩ (fun r =>
    ∀ c : Dev nD, ∀ b ∈ Pipeline.ucRefs τ sig, r.2.mem (((c : Thread nD τ)).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => h)

end Cert.KernelAIdeal.RunA
-- ==== Proof.EquationA.lean ====
/- The first mixer's results and its reference's are one, of arguments the precondition holds of. -/
module

public import proofs.«01_k».proof.Defs
public import proofs.«01_k».proof.Proof.ChaseA
public import proofs.«01_k».proof.Proof.RefA
public import proofs.«01_k».proof.Proof.RunA
public import proofs.«01_k».proof.Proof.Equation

@[expose] public section

set_option maxRecDepth 16384
noncomputable section
open Idealize.ShloMosaic Idealize.ShloMosaic.TcCoe Idealize.SL.Sem
namespace Cert.EquationA
open Cert.LayerA
open Cert.Equation (reals_of ext3)

/-- The precondition's shape relations. -/
theorem pre_facts : Cert.Pre_finite_band.Facts where
  bcast_S_S8x8192x1024 := by decide
  bcast_S_S8x1024 := by decide
  bcast_S_S2x1024x6144 := by decide
  bcast_S_S2x6144 := by decide
  bcast_S_S2x2x1024 := by decide
  bcast_S_S1x1024x3072 := by decide
  bcast_S_S1x16x257 := by decide

theorem real_args (m : (ℓ : Loc Cert.KernelAIdeal.nD Cert.KernelAIdeal.τ Cert.KernelAIdeal.sig) → Buf (Elt Ideal) ℓ)
    (h : @Cert.Pre_KernelAIdeal_finite_band pre_facts m) (c : Dev Cert.KernelAIdeal.nD) : LayerA.Real (Cert.KernelAIdeal.ChaseA.args m c) := by
  obtain ⟨h0, h1, h2, h3, h4, h5, h6⟩ := h c
  exact { x := reals_of _ _ _ h0, cond := reals_of _ _ _ h1, w_ada := reals_of _ _ _ h2, b_ada := reals_of _ _ _ h3, g := reals_of _ _ _ h4, w_qkv := reals_of _ _ _ h5, rb := reals_of _ _ _ h6 }

/-- Two arrays of rank two are one where they are so at every index. -/
theorem ext2 {p q : ℕ} {α : Type} (f g : (⟨2, ![p, q]⟩ : Shape).Idx → α) (h : ∀ a b, f (ix2 a b) = g (ix2 a b)) : f = g := by
  funext j
  have e : j = ix2 (j 0) (j 1) := by blk_ext []
  rw [e]
  exact h _ _

open Cert.KernelAIdeal (nD τ sig)

/-- What holds of the final memory at the results holds with the arguments as launched. -/
theorem kernel_run (m : (ℓ : Loc nD τ sig) → Buf (Elt Ideal) ℓ) (ρ : Dev nD → PrngReg) :
    θ_run (Cert.KernelAIdeal.defs (F := Ideal)) (onTc (τ := τ) (Cert.KernelAIdeal.main (F := Ideal))) ⟨m, fun _ => 0, ρ⟩ (fun r => ∀ c : Dev nD, ∀ b : Ref sig .tc,
      ¬ (Proc.devRef .tc b : DevRef τ sig).isScoped → r.2.mem ((c.tc : Thread nD τ).loc b) = Cert.KernelAIdeal.Gen.W13 m ρ c (Proc.devRef .tc b)) :=
  (θ_run Cert.KernelAIdeal.defs _ _).mono (fun r h c b hb => h c _ (Cert.KernelAIdeal.Gen.mem_uc b hb)) (Cert.KernelAIdeal.RunA.all m ρ)

theorem algebraic : @Cert.algebraic_KernelAIdeal_ReferenceAIdeal_pre_finite_band inferInstance inferInstance pre_facts := by
  intro m g m' g' hpre hagree
  have hA : ∀ c, LayerA.Real (Cert.KernelAIdeal.ChaseA.args m c) := real_args m hpre
  have hargs : ∀ c : Dev nD, Cert.ReferenceAIdeal.RefA.args (StableHlo.launchContents m' c) = Cert.KernelAIdeal.ChaseA.args m c := by
    intro c
    obtain ⟨e0, e1, e2, e3, e4, e5, e6, e7, e8⟩ := hagree c
    unfold Cert.ReferenceAIdeal.RefA.args Cert.KernelAIdeal.ChaseA.args
    congr 1
  let W := Cert.KernelAIdeal.Gen.W13 m g
  refine ⟨fun c => W c (Proc.devRef .tc Cert.KernelAIdeal.main_v38_0), fun c => W c (Proc.devRef .tc Cert.KernelAIdeal.main_v38_1),
    fun c => W c (Proc.devRef .tc Cert.KernelAIdeal.main_v26), fun c => W c (Proc.devRef .tc Cert.KernelAIdeal.main_v27),
    fun c => W c (Proc.devRef .tc Cert.KernelAIdeal.main_v14), ?_, ?_⟩
  · refine (θ_run Cert.KernelAIdeal.defs _ _).mono (fun r h c => ?_) (kernel_run m g)
    have k := h c
    have ka := fun (b : Ref sig .tc) (hb : b ∈ Cert.KernelAIdeal.Gen.argRefs) hs => (k b hs).trans (Cert.KernelAIdeal.Gen.W13_args m g c b hb)
    exact ⟨k _ (by decide), k _ (by decide), k _ (by decide), k _ (by decide), k _ (by decide),
      ka _ (by decide) (by decide), ka _ (by decide) (by decide), ka _ (by decide) (by decide), ka _ (by decide) (by decide),
      ka _ (by decide) (by decide), ka _ (by decide) (by decide), ka _ (by decide) (by decide), ka _ (by decide) (by decide), ka _ (by decide) (by decide)⟩
  · refine (θ_run Cert.ReferenceAIdeal.defs _ _).mono (fun r h c => ?_) (Cert.ReferenceAIdeal.Value.run (F := Ideal) m' g')
    obtain ⟨h0, h1, h2, h3, h4, hrest⟩ := h c
    refine ⟨h0.trans ?_, h1.trans ?_, h2.trans ?_, h3.trans ?_, h4.trans ?_, hrest⟩
    · refine ext3 _ _ fun b t n => (Cert.ReferenceAIdeal.RefA.y_at _ b t n).trans ?_
      rw [hargs c]
      exact (Cert.KernelAIdeal.ChaseA.r0 m g c (hA c) b t n).symm
    · refine ext3 _ _ fun b t n => (Cert.ReferenceAIdeal.RefA.yn_at _ b t n).trans ?_
      rw [hargs c]
      exact (Cert.KernelAIdeal.ChaseA.r1 m g c (hA c) b t n).symm
    · refine ext3 _ _ fun b t n => (Cert.ReferenceAIdeal.RefA.ak_at _ b t n).trans ?_
      rw [hargs c]
      exact (Cert.KernelAIdeal.ChaseA.r2 m g c (hA c) b t n).symm
    · refine ext3 _ _ fun b t n => (Cert.ReferenceAIdeal.RefA.av_at _ b t n).trans ?_
      rw [hargs c]
      exact (Cert.KernelAIdeal.ChaseA.r3 m g c (hA c) b t n).symm
    · refine ext2 _ _ fun b n => (Cert.ReferenceAIdeal.RefA.gt_at _ b n).trans ?_
      rw [hargs c]
      exact (Cert.KernelAIdeal.ChaseA.r4 m g c (hA c) b n).symm

end Cert.EquationA
-- ==== Proof.RegionsS.lean ====
/- The two regions of the sample group's first calls: the modulation vectors, and the keys and values handed on. -/
module

public import proofs.«01_k».proof.Proof.Gen.KernelSIdeal.Frame
public import proofs.«01_k».proof.Proof.Cond
public import proofs.«01_k».proof.Proof.Heads

@[expose] public section

set_option maxRecDepth 16384
noncomputable section
open Idealize.ShloMosaic Idealize.ShloMosaic.TcCoe Idealize.SL.Sem
open Idealize.ShloMosaic.Pipeline (Dat)
namespace Cert.KernelSIdeal.RegionsS
open Cert.KernelSIdeal Cert.KernelSIdeal.Gen Cert.Spec
open Cert.KernelAIdeal.Cond (six)
variable (V : (c : Dev nD) → (b : Ref sig .tc) → Buf (Elt Ideal) ((c : Thread nD τ).loc b))

theorem idx0 : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

theorem cond_point (c : Dev nD) (t : Fin cfg0.N) (y) :
    k0_pay1 (F := Ideal) (iblk0 V c 0 t) (iblk0 V c 1 t) (iblk0 V c 2 t) y
      = Cert.KernelAIdeal.Cond.G (V c main_v1) (V c main_v3) (V c main_v6) (((cfg0.win 3).blk t).view.emb y) := by
  pointwise [k0_pay1, Cert.KernelAIdeal.Cond.G, six]
  blk_point [iblk0, idx0 t]

theorem cond_final (c : Dev nD) : (dat0 V c).arrAt 3 cfg0.N = Cert.KernelAIdeal.Cond.G (V c main_v1) (V c main_v3) (V c main_v6) := by
  refine (dat0 V c).arrAt_eq_of_covers 3 _ (by decide +kernel) fun t _ y => ?_
  blk_simp
  rw [after0_3]; unfold out0_3; frame_out
  exact cond_point V c t y

/-- A projection from column `k` on, as it is handed on. -/
def Gn (k : ℕ) (hk : k ≤ 2048) (x : FVec Ideal S32x32x1024 .f32) (g : FVec Ideal S1x1024 .f32) (sh sc : FVec Ideal S32x1x1024 .f32)
    (w : FVec Ideal S1024x3072 .bf16) : FVec Ideal S32x32x1024 .f32 := fun j =>
  ∑ d, mod (fun k => x (ix3 (j 0) (j 1) k)) (fun k => g (ix2 0 k)) (fun k => sc (ix3 (j 0) 0 k)) (fun k => sh (ix3 (j 0) 0 k)) d
    * w (ix2 d ⟨k + (j 2).val, by have : (j 2).val < 1024 := (j 2).isLt; omega⟩)

section Block
variable (x0 : Vec Ideal S1x32x1024 .f32) (x1 : Vec Ideal S1x1024 .f32) (x2 : Vec Ideal S1x1x1024 .f32) (x3 : Vec Ideal S1x1x1024 .f32) (x4 : Vec Ideal S1024x3072 .bf16)

/-- The block's joint projection. -/
def kv (r : Fin 32) (n : Fin 3072) : EReal :=
  ∑ d, mod (fun k => x0 (ix3 0 r k)) (fun k => x1 (ix2 0 k)) (fun k => x3 (ix3 0 0 k)) (fun k => x2 (ix3 0 0 k)) d * x4 (ix2 d n)

theorem kv_at (r : Fin 32) (n : Fin 3072) : k1_pay103 x0 x1 x2 x3 x4 (ix2 r n) = kv x0 x1 x2 x3 x4 r n := by
  unfold k1_pay103
  open_payloads
  pointwise [kv, mod, nrm]

theorem k_at (y : S1x32x1024.Idx) : k1_pay100 (k1_pay103 x0 x1 x2 x3 x4) y
    = kv x0 x1 x2 x3 x4 (y 1) ⟨1024 + (y 2).val, by have : (y 2).val < 1024 := (y 2).isLt; omega⟩ := by
  refine Eq.trans ?_ (kv_at x0 x1 x2 x3 x4 (y 1) _)
  generalize k1_pay103 x0 x1 x2 x3 x4 = B
  open_payloads
  pointwise
theorem v_at (y : S1x32x1024.Idx) : k1_pay1 (k1_pay101 (k1_pay103 x0 x1 x2 x3 x4)) y
    = kv x0 x1 x2 x3 x4 (y 1) ⟨2048 + (y 2).val, by have : (y 2).val < 1024 := (y 2).isLt; omega⟩ := by
  refine Eq.trans ?_ (kv_at x0 x1 x2 x3 x4 (y 1) _)
  generalize k1_pay103 x0 x1 x2 x3 x4 = B
  open_payloads
  pointwise
end Block

theorem idx1 : ∀ t : Fin cfg1.N, win1_0.index t = ![t.val, 0, 0] ∧ win1_1.index t = ![0, 0]
    ∧ win1_2.index t = ![t.val, 0, 0] ∧ win1_3.index t = ![t.val, 0, 0] ∧ win1_4.index t = ![0, 0]
    ∧ win1_8.index t = ![t.val, 0, 0] ∧ win1_9.index t = ![t.val, 0, 0] :=
  (by decide +kernel : ∀ t : Fin grid1.N, _)

theorem k_point (c : Dev nD) (t : Fin cfg1.N) (y : S1x32x1024.Idx) :
    kv (iblk1 V c 0 t) (iblk1 V c 1 t) (iblk1 V c 2 t) (iblk1 V c 3 t) (iblk1 V c 4 t) (y 1)
      ⟨1024 + (y 2).val, by have : (y 2).val < 1024 := (y 2).isLt; omega⟩
      = Gn 1024 (by decide) (V c main_arg0) (V c main_v19) (V c main_v20) (V c main_v21) (V c main_v18) (((cfg1.win 8).blk t).view.emb y) := by
  pointwise [kv, mod, nrm, Gn]
  blk_point [iblk1, idx1 t]
theorem v_point (c : Dev nD) (t : Fin cfg1.N) (y : S1x32x1024.Idx) :
    kv (iblk1 V c 0 t) (iblk1 V c 1 t) (iblk1 V c 2 t) (iblk1 V c 3 t) (iblk1 V c 4 t) (y 1)
      ⟨2048 + (y 2).val, by have : (y 2).val < 1024 := (y 2).isLt; omega⟩
      = Gn 2048 (by decide) (V c main_arg0) (V c main_v19) (V c main_v20) (V c main_v21) (V c main_v18) (((cfg1.win 9).blk t).view.emb y) := by
  pointwise [kv, mod, nrm, Gn]
  blk_point [iblk1, idx1 t]

theorem k_final (c : Dev nD) : (dat1 V c).arrAt 8 cfg1.N
    = Gn 1024 (by decide) (V c main_arg0) (V c main_v19) (V c main_v20) (V c main_v21) (V c main_v18) := by
  refine (dat1 V c).arrAt_eq_of_covers 8 _ (by decide +kernel) fun t _ y => ?_
  blk_simp
  rw [after1_8]; unfold out1_8; frame_out
  exact (k_at ..).trans (k_point V c t y)
theorem v_final (c : Dev nD) : (dat1 V c).arrAt 9 cfg1.N
    = Gn 2048 (by decide) (V c main_arg0) (V c main_v19) (V c main_v20) (V c main_v21) (V c main_v18) := by
  refine (dat1 V c).arrAt_eq_of_covers 9 _ (by decide +kernel) fun t _ y => ?_
  blk_simp
  rw [after1_9]; unfold out1_9; frame_out
  exact (v_at ..).trans (v_point V c t y)

end Cert.KernelSIdeal.RegionsS
-- ==== Proof.LayerS.lean ====
/- The sample group's keys and values of the first mixer, and its modulation vectors, in plain sums. -/
module

public import proofs.«01_k».proof.Proof.Spec
public import proofs.«01_k».proof.Proof.Layer

@[expose] public section

set_option maxRecDepth 16384
noncomputable section
open Idealize.ShloMosaic Idealize.ShloMosaic.TcCoe Idealize.SL.Sem
namespace Cert.LayerS
open Cert.Spec

/-- The arguments the results are of. -/
structure Args where
  x : FVec Ideal ⟨3, ![32, 32, 1024]⟩ .f32
  cond : FVec Ideal ⟨2, ![32, 1024]⟩ .f32
  w_ada : FVec Ideal ⟨3, ![2, 1024, 6144]⟩ .f32
  b_ada : FVec Ideal ⟨2, ![2, 6144]⟩ .f32
  g : FVec Ideal ⟨3, ![2, 2, 1024]⟩ .f32
  w_qkv : FVec Ideal ⟨3, ![1, 1024, 3072]⟩ .f32

variable (A : Args)

/-- The modulation vectors, joined. -/
def ada (b : Fin 32) (n : Fin 6144) : EReal := (∑ d : Fin 1024, A.cond (ix2 b d) * A.w_ada (ix3 0 d n)) + A.b_ada (ix2 0 n)
/-- The `k`-th modulation vector. -/
def part (k : Fin 6) (b : Fin 32) (n : Fin 1024) : EReal := ada A b ⟨1024 * k.val + n.val, by omega⟩
/-- The row before the projection, modulated. -/
def h (b : Fin 32) (t : Fin 32) (d : Fin 1024) : EReal :=
  mod (fun k => A.x (ix3 b t k)) (fun k => A.g (ix3 0 0 k)) (part A 1 b) (part A 0 b) d
/-- Queries, keys and values, a thousand and twenty-four columns each. -/
def qkv (b : Fin 32) (t : Fin 32) (n : Fin 3072) : EReal := ∑ d, h A b t d * A.w_qkv (ix3 0 d n)
/-- A key. -/
def key (b : Fin 32) (t : Fin 32) (n : Fin 1024) : EReal := qkv A b t ⟨1024 + n.val, by omega⟩
/-- A value. -/
def value (b : Fin 32) (t : Fin 32) (n : Fin 1024) : EReal := qkv A b t ⟨2048 + n.val, by omega⟩

end Cert.LayerS
-- ==== Proof.ChaseS.lean ====
/- The sample group's fold followed from the arguments, stretch by stretch and region by region. -/
module

public import proofs.«01_k».proof.Proof.RegionsS
public import proofs.«01_k».proof.Proof.LayerS
public import proofs.«01_k».proof.Proof.Chase
public import proofs.«01_k».proof.Proof.ChaseA

@[expose] public section

set_option maxRecDepth 16384
noncomputable section
open Idealize.ShloMosaic Idealize.ShloMosaic.TcCoe Idealize.SL.Sem
namespace Cert.KernelSIdeal.ChaseS
open Cert.KernelSIdeal Cert.KernelSIdeal.Gen Cert.LayerS
open Cert.Spec (mod)
open Cert.KernelIdeal.Chase (mod_congr)
open Cert.KernelIdeal.Stretch (fill)

section Stretches
variable (V : Valuation τ sig (Elt Ideal))

theorem t1_c : StableHlo.after hostOps0 V (Proc.devRef .tc main_c) = constantI S_ 32 0#32 := by
  after_results
theorem below (x : FVec Ideal S8x1024 .f32) (z : FVec Ideal S32x1024 .f32) (b : Fin 32) (k : Fin 1024) :
    concatenate S40x1024 0 [⟨S8x1024, x⟩, ⟨S32x1024, z⟩] concatenates_S8x1024_S32x1024_S40x1024_d0 (ix2 ⟨8 + b.val, by omega⟩ k) = z (ix2 b k) := by
  pointwise
theorem t1 (b : Fin 32) (k : Fin 1024) :
    (show FVec Ideal S40x1024 .f32 from StableHlo.after hostOps0 V (Proc.devRef .tc main_v0)) (ix2 ⟨8 + b.val, by omega⟩ k)
      = (show FVec Ideal S32x1024 .f32 from V (Proc.devRef .tc main_arg2)) (ix2 b k) := by
  after_results
  exact below _ _ b k
theorem padded (x : FVec Ideal S40x1024 .f32) (b : Fin 32) (k : Fin 1024) :
    pad S48x1024 ![0, 0] ![8, 0] ![0, 0] x fill pads_S40x1024_S48x1024_080_000 h_S_ (ix2 ⟨8 + b.val, by omega⟩ k) = x (ix2 ⟨8 + b.val, by omega⟩ k) := by
  pointwise
  rw [dif_pos (show 8 + b.val < 40 by omega)]
theorem t2 (h : V (Proc.devRef .tc main_c) = constantI S_ 32 0#32) (b : Fin 32) (k : Fin 1024) :
    (show FVec Ideal S48x1024 .f32 from StableHlo.after hostOps0_1 V (Proc.devRef .tc main_v1)) (ix2 ⟨8 + b.val, by omega⟩ k)
      = (show FVec Ideal S40x1024 .f32 from V (Proc.devRef .tc main_v0)) (ix2 ⟨8 + b.val, by omega⟩ k) := by
  after_results
  rw [h]
  exact padded _ b k
theorem t3_v3 (k : Fin 1024) (n : Fin 6144) :
    (show FVec Ideal S1024x6144 .f32 from StableHlo.after hostOps0_2 V (Proc.devRef .tc main_v3)) (ix2 k n)
      = (show FVec Ideal S2x1024x6144 .f32 from V (Proc.devRef .tc main_arg3)) (ix3 0 k n) := by
  after_results
  pointwise
theorem t3_v6 (n : Fin 6144) :
    (show FVec Ideal S1x6144 .f32 from StableHlo.after hostOps0_2 V (Proc.devRef .tc main_v6)) (ix2 0 n)
      = (show FVec Ideal S2x6144 .f32 from V (Proc.devRef .tc main_arg4)) (ix2 0 n) := by
  after_results
  pointwise

/-- Column `1024 k + n` of the rows from the eighth on, as each slice reads it. -/
theorem slice_at (x : FVec Ideal S48x6144 .f32) (k : ℕ) (hk : k ≤ 5) (off : Fin 2 → ℕ) (ho : off = ![0, 1024 * k])
    (hs : S32x6144.Slices off S32x1024) (b : Fin 32) (n : Fin 1024) :
    extractStridedSlice S32x1024 off (extractStridedSlice S32x6144 ![8, 0] x slices_S48x6144_S32x6144_8_0) hs (ix2 b n)
      = x (ix2 ⟨8 + b.val, by omega⟩ ⟨1024 * k + n.val, by omega⟩) := by
  subst ho
  pointwise
theorem middle (x : FVec Ideal S32x1024 .f32) (b : Fin 32) (k : Fin 1024) : shapeCast S32x1x1024 x shapeCasts_S32x1024_S32x1x1024 (ix3 b 0 k) = x (ix2 b k) := by
  pointwise
theorem t5_v20 (b : Fin 32) (n : Fin 1024) :
    (show FVec Ideal S32x1x1024 .f32 from StableHlo.after hostOps1 V (Proc.devRef .tc main_v20)) (ix3 b 0 n)
      = (show FVec Ideal S48x6144 .f32 from V (Proc.devRef .tc main_v7)) (ix2 ⟨8 + b.val, by omega⟩ ⟨1024 * 0 + n.val, by omega⟩) := by
  after_results
  exact (middle _ b n).trans (slice_at _ 0 (by decide) _ rfl _ b n)
theorem t5_v21 (b : Fin 32) (n : Fin 1024) :
    (show FVec Ideal S32x1x1024 .f32 from StableHlo.after hostOps1 V (Proc.devRef .tc main_v21)) (ix3 b 0 n)
      = (show FVec Ideal S48x6144 .f32 from V (Proc.devRef .tc main_v7)) (ix2 ⟨8 + b.val, by omega⟩ ⟨1024 * 1 + n.val, by omega⟩) := by
  after_results
  exact (middle _ b n).trans (slice_at _ 1 (by decide) _ rfl _ b n)
theorem t5_v11 (b : Fin 32) (n : Fin 1024) :
    (show FVec Ideal S32x1024 .f32 from StableHlo.after hostOps1 V (Proc.devRef .tc main_v11)) (ix2 b n)
      = (show FVec Ideal S48x6144 .f32 from V (Proc.devRef .tc main_v7)) (ix2 ⟨8 + b.val, by omega⟩ ⟨1024 * 2 + n.val, by omega⟩) := by
  after_results
  exact slice_at _ 2 (by decide) _ rfl _ b n
theorem t5_v12 (b : Fin 32) (n : Fin 1024) :
    (show FVec Ideal S32x1024 .f32 from StableHlo.after hostOps1 V (Proc.devRef .tc main_v12)) (ix2 b n)
      = (show FVec Ideal S48x6144 .f32 from V (Proc.devRef .tc main_v7)) (ix2 ⟨8 + b.val, by omega⟩ ⟨1024 * 3 + n.val, by omega⟩) := by
  after_results
  exact slice_at _ 3 (by decide) _ rfl _ b n
theorem t5_v13 (b : Fin 32) (n : Fin 1024) :
    (show FVec Ideal S32x1024 .f32 from StableHlo.after hostOps1 V (Proc.devRef .tc main_v13)) (ix2 b n)
      = (show FVec Ideal S48x6144 .f32 from V (Proc.devRef .tc main_v7)) (ix2 ⟨8 + b.val, by omega⟩ ⟨1024 * 4 + n.val, by omega⟩) := by
  after_results
  exact slice_at _ 4 (by decide) _ rfl _ b n
theorem t5_v14 (b : Fin 32) (n : Fin 1024) :
    (show FVec Ideal S32x1024 .f32 from StableHlo.after hostOps1 V (Proc.devRef .tc main_v14)) (ix2 b n)
      = (show FVec Ideal S48x6144 .f32 from V (Proc.devRef .tc main_v7)) (ix2 ⟨8 + b.val, by omega⟩ ⟨1024 * 5 + n.val, by omega⟩) := by
  after_results
  exact slice_at _ 5 (by decide) _ rfl _ b n
theorem t5_v19 (k : Fin 1024) :
    (show FVec Ideal S1x1024 .f32 from StableHlo.after hostOps1 V (Proc.devRef .tc main_v19)) (ix2 0 k)
      = (show FVec Ideal S2x2x1024 .f32 from V (Proc.devRef .tc main_arg5)) (ix3 0 0 k) := by
  after_results
  pointwise
theorem t5_v18 (k : Fin 1024) (n : Fin 3072) :
    (show FVec Ideal S1024x3072 .bf16 from StableHlo.after hostOps1 V (Proc.devRef .tc main_v18)) (ix2 k n)
      = (show FVec Ideal S1x1024x3072 .f32 from V (Proc.devRef .tc main_arg6)) (ix3 0 k n) := by
  after_results
  pointwise
end Stretches

variable (m : (ℓ : Loc nD τ sig) → Buf (Elt Ideal) ℓ) (ρ : Dev nD → PrngReg) (c : Dev nD)

/-- The kernel's arguments. -/
def args : Args where
  x := m ((c : Thread nD τ).loc main_arg0)
  cond := m ((c : Thread nD τ).loc main_arg2)
  w_ada := m ((c : Thread nD τ).loc main_arg3)
  b_ada := m ((c : Thread nD τ).loc main_arg4)
  g := m ((c : Thread nD τ).loc main_arg5)
  w_qkv := m ((c : Thread nD τ).loc main_arg6)

theorem v1_at (b : Fin 32) (k : Fin 1024) : (show FVec Ideal S48x1024 .f32 from V3 m ρ c main_v1) (ix2 ⟨8 + b.val, by omega⟩ k) = (args m c).cond (ix2 b k) := by
  have h1 : W1 m ρ c (Proc.devRef .tc main_c) = constantI S_ 32 0#32 := t1_c _
  refine (congrFun (W3_of m ρ c main_v1 (by decide)) (ix2 ⟨8 + b.val, by omega⟩ k)).trans ?_
  exact (t2 (W1 m ρ c) h1 b k).trans (t1 (W0 m ρ c) b k)
theorem v3_at (k : Fin 1024) (n : Fin 6144) : (show FVec Ideal S1024x6144 .f32 from V3 m ρ c main_v3) (ix2 k n) = (args m c).w_ada (ix3 0 k n) :=
  (t3_v3 (W2 m ρ c) k n).trans (congrFun (W2_args m ρ c main_arg3 (by decide)) (ix3 0 k n))
theorem v6_at (n : Fin 6144) : (show FVec Ideal S1x6144 .f32 from V3 m ρ c main_v6) (ix2 0 n) = (args m c).b_ada (ix2 0 n) :=
  (t3_v6 (W2 m ρ c) n).trans (congrFun (W2_args m ρ c main_arg4 (by decide)) (ix2 0 n))

variable (hc : ∀ j, Cert.Reals.R ((args m c).cond j)) (hw : ∀ j, Cert.Reals.R ((args m c).w_ada j))
include hc hw

theorem v7_at (b : Fin 32) (n : Fin 6144) : (show FVec Ideal S48x6144 .f32 from W4 m ρ c (Proc.devRef .tc main_v7)) (ix2 ⟨8 + b.val, by omega⟩ n) = ada (args m c) b n := by
  refine (congrFun ((W4_arr m ρ c 3).trans (RegionsS.cond_final (V3 m ρ) c)) (ix2 ⟨8 + b.val, by omega⟩ n)).trans ?_
  have e1 := fun d => v1_at m ρ c b d
  have e3 := fun d => v3_at m ρ c d n
  refine (congrArg₂ (· + ·) ((congrArg₂ Cert.KernelAIdeal.Cond.six (funext e1) (funext e3)).trans
    (Cert.KernelAIdeal.ChaseA.six_eq (fun d => hc _) fun d => hw _)) (v6_at m ρ c n)).trans ?_
  rfl

theorem part_of (k : Fin 6) (b : Fin 32) (n : Fin 1024) :
    (show FVec Ideal S48x6144 .f32 from W4 m ρ c (Proc.devRef .tc main_v7)) (ix2 ⟨8 + b.val, by omega⟩ ⟨1024 * k.val + n.val, by omega⟩) = part (args m c) k b n :=
  v7_at m ρ c hc hw b _

theorem h5 (b : Fin 32) (t : Fin 32) (d : Fin 1024) :
    mod (fun k => (show FVec Ideal S32x32x1024 .f32 from V5 m ρ c main_arg0) (ix3 b t k)) (fun k => (show FVec Ideal S1x1024 .f32 from V5 m ρ c main_v19) (ix2 0 k))
      (fun k => (show FVec Ideal S32x1x1024 .f32 from V5 m ρ c main_v21) (ix3 b 0 k)) (fun k => (show FVec Ideal S32x1x1024 .f32 from V5 m ρ c main_v20) (ix3 b 0 k)) d
      = h (args m c) b t d :=
  mod_congr (fun k => congrFun (W5_args m ρ c main_arg0 (by decide)) (ix3 b t k))
    (fun k => (t5_v19 (W4 m ρ c) k).trans (congrFun (W4_args m ρ c main_arg5 (by decide)) (ix3 0 0 k)))
    (fun k => (t5_v21 (W4 m ρ c) b k).trans (part_of m ρ c hc hw 1 b k))
    (fun k => (t5_v20 (W4 m ρ c) b k).trans (part_of m ρ c hc hw 0 b k)) d

theorem qkv5 (b : Fin 32) (t : Fin 32) (n : Fin 3072) :
    ∑ d, mod (fun k => (show FVec Ideal S32x32x1024 .f32 from V5 m ρ c main_arg0) (ix3 b t k)) (fun k => (show FVec Ideal S1x1024 .f32 from V5 m ρ c main_v19) (ix2 0 k))
      (fun k => (show FVec Ideal S32x1x1024 .f32 from V5 m ρ c main_v21) (ix3 b 0 k)) (fun k => (show FVec Ideal S32x1x1024 .f32 from V5 m ρ c main_v20) (ix3 b 0 k)) d
      * (show FVec Ideal S1024x3072 .bf16 from V5 m ρ c main_v18) (ix2 d n) = qkv (args m c) b t n :=
  Finset.sum_congr rfl fun d _ => congrArg₂ (· * ·) (h5 m ρ c hc hw b t d)
    ((t5_v18 (W4 m ρ c) d n).trans (congrFun (W4_args m ρ c main_arg6 (by decide)) (ix3 0 d n)))

/-! ### The results -/

theorem r0 (b : Fin 32) (t : Fin 32) (n : Fin 1024) : (show FVec Ideal S32x32x1024 .f32 from W6 m ρ c (Proc.devRef .tc main_v22_3)) (ix3 b t n) = key (args m c) b t n :=
  (congrFun ((W6_arr m ρ c 8).trans (RegionsS.k_final (V5 m ρ) c)) (ix3 b t n)).trans (qkv5 m ρ c hc hw b t _)
theorem r1 (b : Fin 32) (t : Fin 32) (n : Fin 1024) : (show FVec Ideal S32x32x1024 .f32 from W6 m ρ c (Proc.devRef .tc main_v22_4)) (ix3 b t n) = value (args m c) b t n :=
  (congrFun ((W6_arr m ρ c 9).trans (RegionsS.v_final (V5 m ρ) c)) (ix3 b t n)).trans (qkv5 m ρ c hc hw b t _)
theorem r2 (b : Fin 32) (n : Fin 1024) : (show FVec Ideal S32x1024 .f32 from W6 m ρ c (Proc.devRef .tc main_v11)) (ix2 b n) = part (args m c) 2 b n :=
  (congrFun (W6_of m ρ c main_v11 (by decide)) (ix2 b n)).trans ((t5_v11 (W4 m ρ c) b n).trans (part_of m ρ c hc hw 2 b n))
theorem r3 (b : Fin 32) (n : Fin 1024) : (show FVec Ideal S32x1024 .f32 from W6 m ρ c (Proc.devRef .tc main_v12)) (ix2 b n) = part (args m c) 3 b n :=
  (congrFun (W6_of m ρ c main_v12 (by decide)) (ix2 b n)).trans ((t5_v12 (W4 m ρ c) b n).trans (part_of m ρ c hc hw 3 b n))
theorem r4 (b : Fin 32) (n : Fin 1024) : (show FVec Ideal S32x1024 .f32 from W6 m ρ c (Proc.devRef .tc main_v13)) (ix2 b n) = part (args m c) 4 b n :=
  (congrFun (W6_of m ρ c main_v13 (by decide)) (ix2 b n)).trans ((t5_v13 (W4 m ρ c) b n).trans (part_of m ρ c hc hw 4 b n))
theorem r5 (b : Fin 32) (n : Fin 1024) : (show FVec Ideal S32x1024 .f32 from W6 m ρ c (Proc.devRef .tc main_v14)) (ix2 b n) = part (args m c) 5 b n :=
  (congrFun (W6_of m ρ c main_v14 (by decide)) (ix2 b n)).trans ((t5_v14 (W4 m ρ c) b n).trans (part_of m ρ c hc hw 5 b n))

end Cert.KernelSIdeal.ChaseS
-- ==== Proof.RunS.lean ====
/- The run of the sample group's first calls: every buffer ends at what the fold over its stretches and regions leaves there. -/
module

public import proofs.«01_k».proof.Proof.Gen.KernelSIdeal.Frame
public import Idealize.ShloMosaic.PureOps.Ideal

@[expose] public section

set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
namespace Cert.KernelSIdeal.RunS
open Cert.KernelSIdeal Cert.KernelSIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends with each buffer at the last state of the fold. -/
theorem all : θ_run defs (onTc (τ := τ) (main (F := Ideal))) ⟨m, fun _ => 0, ρ⟩ (fun r =>
    ∀ c : Dev nD, ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

end Cert.KernelSIdeal.RunS
-- ==== Proof.EquationS.lean ====
/- The sample group's results and its reference's are one, of finite conditioning and modulation weights. -/
module

public import proofs.«01_k».proof.Defs
public import proofs.«01_k».proof.Proof.ChaseS
public import proofs.«01_k».proof.Proof.RunS
public import proofs.«01_k».proof.Proof.EquationA
public import proofs.«01_k».proof.Proof.Gen.ReferenceSIdeal.Run

@[expose] public section

set_option maxRecDepth 16384
noncomputable section
open Idealize.ShloMosaic Idealize.ShloMosaic.TcCoe Idealize.SL.Sem
namespace Cert.EquationS
open Cert.LayerS
open Cert.Equation (reals_of ext3)
open Cert.EquationA (ext2)

section Reference
open Cert.ReferenceSIdeal Cert.ReferenceSIdeal.Gen Cert.ReferenceSIdeal.Value
open Cert.Spec (nrm mod)
variable (m : (ℓ : Loc nD τ sig) → Buf (Elt Ideal) ℓ) (ρ : Dev nD → PrngReg)

/-- The reference's arguments. -/
def rargs (c : Dev nD) : Args where
  x := m ((c.tc : Thread nD τ).loc main_arg0)
  cond := m ((c.tc : Thread nD τ).loc main_arg2)
  w_ada := m ((c.tc : Thread nD τ).loc main_arg3)
  b_ada := m ((c.tc : Thread nD τ).loc main_arg4)
  g := m ((c.tc : Thread nD τ).loc main_arg5)
  w_qkv := m ((c.tc : Thread nD τ).loc main_arg6)

/-- The reference's modulation vectors, joined. -/
def modsOf (x : FVec Ideal S32x1024 .f32) (w : FVec Ideal S2x1024x6144 .f32) (v : FVec Ideal S2x6144 .f32) : FVec Ideal S32x6144 .f32 :=
  addf (Host.dotGeneral dot_S32x1024_S1024x6144_S32x6144_1_0_0_1_n_n none x (shapeCast _ (extractStridedSlice S1x1024x6144 ![0, 0, 0] w slices_S2x1024x6144_S1x1024x6144_0_0_0) shapeCasts_S1x1024x6144_S1024x6144))
    (broadcastInDim S32x6144 ![0, 1] bcast_S1x6144_S32x6144_0_1 (broadcastInDim S1x6144 ![1] bcast_S6144_S1x6144_1 (shapeCast _ (extractStridedSlice S1x6144 ![0, 0] v slices_S2x6144_S1x6144_0_0) shapeCasts_S1x6144_S6144)))

/-- The same, of the arguments. -/
def mods (c : Dev nD) : FVec Ideal S32x6144 .f32 :=
  modsOf (m ((c.tc : Thread nD τ).loc main_arg2)) (m ((c.tc : Thread nD τ).loc main_arg3)) (m ((c.tc : Thread nD τ).loc main_arg4))

theorem mods_at (c : Dev nD) (b : Fin 32) (n : Fin 6144) : mods m c (ix2 b n) = ada (rargs m c) b n := by
  unfold mods modsOf
  pointwise [ada, rargs]

/-- A slice of the modulation vectors. -/
theorem part_at (c : Dev nD) (k : Fin 6) (off : Fin 2 → ℕ) (ho : off = ![0, 1024 * k.val]) (hs : S32x6144.Slices off S32x1024) (b : Fin 32) (n : Fin 1024) :
    extractStridedSlice S32x1024 off (mods m c) hs (ix2 b n) = part (rargs m c) k b n := by
  have h := mods_at m c b ⟨1024 * k.val + n.val, by omega⟩
  subst ho
  generalize mods m c = M at h ⊢
  refine Eq.trans ?_ h
  pointwise

/-- The reference's projection, of a row's gain, shift and scale and the weights. -/
def proj (x : FVec Ideal S32x32x1024 .f32) (g : FVec Ideal S2x2x1024 .f32) (sh sc : FVec Ideal S32x1024 .f32) (w : FVec Ideal S1x1024x3072 .f32) : FVec Ideal S32x32x3072 .f32 :=
  Host.dotGeneral dot_S32x32x1024_S1024x3072_S32x32x3072_2_0_01_1_n_n none (addf (mulf (mulf (mulf x (broadcastInDim S32x32x1024 ![0, 1, 2] bcast_S32x32x1_S32x32x1024_0_1_2
      (Host.rsqrt (addf (Host.divf (broadcastInDim S32x32x1 ![0, 1] bcast_S32x32_S32x32x1_0_1 (Host.reduceAdd (mulf x x) (constant S_ .f32 0x00000000#32) reducesTo_S32x32x1024_S32x32_d2 h_S_))
        (broadcastInDim S32x32x1 ![] bcast_S_S32x32x1 (constant S_ .f32 0x44800000#32))) (broadcastInDim S32x32x1 ![] bcast_S_S32x32x1 (constant S_ .f32 0x358637BD#32))))))
      (broadcastInDim S32x32x1024 ![0, 1, 2] bcast_S1x1x1024_S32x32x1024_0_1_2 (broadcastInDim S1x1x1024 ![2] bcast_S1024_S1x1x1024_2
        (shapeCast _ (extractStridedSlice S1x1x1024 ![0, 0, 0] g slices_S2x2x1024_S1x1x1024_0_0_0) shapeCasts_S1x1x1024_S1024))))
      (broadcastInDim S32x32x1024 ![0, 1, 2] bcast_S32x1x1024_S32x32x1024_0_1_2 (addf (broadcastInDim S32x1x1024 ![] bcast_S_S32x1x1024 (constant S_ .f32 0x3F800000#32))
        (broadcastInDim S32x1x1024 ![0, 2] bcast_S32x1024_S32x1x1024_0_2 sc))))
      (broadcastInDim S32x32x1024 ![0, 1, 2] bcast_S32x1x1024_S32x32x1024_0_1_2 (broadcastInDim S32x1x1024 ![0, 2] bcast_S32x1024_S32x1x1024_0_2 sh)))
    (shapeCast _ w shapeCasts_S1x1024x3072_S1024x3072)

theorem proj_at (x : FVec Ideal S32x32x1024 .f32) (g : FVec Ideal S2x2x1024 .f32) (sh sc : FVec Ideal S32x1024 .f32) (w : FVec Ideal S1x1024x3072 .f32) (b t : Fin 32) (n : Fin 3072) :
    proj x g sh sc w (ix3 b t n)
      = ∑ d, mod (fun k => x (ix3 b t k)) (fun k => g (ix3 0 0 k)) (fun k => sc (ix2 b k)) (fun k => sh (ix2 b k)) d * w (ix3 0 d n) := by
  unfold proj
  pointwise [mod, nrm]

/-- The reference's projection of its arguments. -/
def joint (c : Dev nD) : FVec Ideal S32x32x3072 .f32 :=
  proj (m ((c.tc : Thread nD τ).loc main_arg0)) (m ((c.tc : Thread nD τ).loc main_arg5)) (extractStridedSlice S32x1024 ![0, 0] (mods m c) slices_S32x6144_S32x1024_0_0)
    (extractStridedSlice S32x1024 ![0, 1024] (mods m c) slices_S32x6144_S32x1024_0_1024) (m ((c.tc : Thread nD τ).loc main_arg6))

theorem joint_at (c : Dev nD) (b t : Fin 32) (n : Fin 3072) : joint m c (ix3 b t n) = qkv (rargs m c) b t n := by
  refine (proj_at _ _ _ _ _ b t n).trans (Finset.sum_congr rfl fun d _ => congrArg (· * _) ?_)
  exact Cert.KernelIdeal.Chase.mod_congr (fun _ => rfl) (fun _ => rfl) (part_at m c 1 _ rfl _ b) (part_at m c 0 _ rfl _ b) d

theorem columns (J : FVec Ideal S32x32x3072 .f32) (k : ℕ) (hk : k ≤ 2048) (off : Fin 3 → ℕ) (ho : off = ![0, 0, k]) (hs : S32x32x3072.Slices off S32x32x1024) (b t : Fin 32) (n : Fin 1024) :
    extractStridedSlice S32x32x1024 off J hs (ix3 b t n) = J (ix3 b t ⟨k + n.val, by omega⟩) := by
  subst ho
  pointwise

/-- The reference's results, index by index. -/
theorem reference_run : θ_run defs (onTc (τ := τ) (main (F := Ideal))) ⟨m, fun _ => 0, ρ⟩ fun r => ∀ c : Dev nD,
    (∀ b t n, (show FVec Ideal S32x32x1024 .f32 from r.2.mem ((c.tc : Thread nD τ).loc main_v39)) (ix3 b t n) = key (rargs m c) b t n)
    ∧ (∀ b t n, (show FVec Ideal S32x32x1024 .f32 from r.2.mem ((c.tc : Thread nD τ).loc main_v40)) (ix3 b t n) = value (rargs m c) b t n)
    ∧ (∀ b n, (show FVec Ideal S32x1024 .f32 from r.2.mem ((c.tc : Thread nD τ).loc main_v10)) (ix2 b n) = part (rargs m c) 2 b n)
    ∧ (∀ b n, (show FVec Ideal S32x1024 .f32 from r.2.mem ((c.tc : Thread nD τ).loc main_v11)) (ix2 b n) = part (rargs m c) 3 b n)
    ∧ (∀ b n, (show FVec Ideal S32x1024 .f32 from r.2.mem ((c.tc : Thread nD τ).loc main_v12)) (ix2 b n) = part (rargs m c) 4 b n)
    ∧ (∀ b n, (show FVec Ideal S32x1024 .f32 from r.2.mem ((c.tc : Thread nD τ).loc main_v13)) (ix2 b n) = part (rargs m c) 5 b n)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run defs _ _).mono (fun r h c => ?_) (run (F := Ideal) m ρ)
  obtain ⟨h0, h1, h2, h3, h4, h5, hrest⟩ := h c
  refine ⟨fun b t n => (congrFun h0 (ix3 b t n)).trans ?_, fun b t n => (congrFun h1 (ix3 b t n)).trans ?_, fun b n => (congrFun h2 (ix2 b n)).trans ?_,
    fun b n => (congrFun h3 (ix2 b n)).trans ?_, fun b n => (congrFun h4 (ix2 b n)).trans ?_, fun b n => (congrFun h5 (ix2 b n)).trans ?_, hrest⟩
  · exact (columns (joint m c) 1024 (by decide) _ rfl _ b t n).trans (joint_at m c b t _)
  · exact (columns (joint m c) 2048 (by decide) _ rfl _ b t n).trans (joint_at m c b t _)
  · exact part_at m c 2 _ rfl _ b n
  · exact part_at m c 3 _ rfl _ b n
  · exact part_at m c 4 _ rfl _ b n
  · exact part_at m c 5 _ rfl _ b n
end Reference

/-- The precondition's shape relations. -/
theorem pre_facts : Cert.Pre_finite_cond.Facts where
  bcast_S_S32x1024 := by decide
  bcast_S_S2x1024x6144 := by decide

open Cert.KernelSIdeal (nD τ sig)

theorem kernel_run (m : (ℓ : Loc nD τ sig) → Buf (Elt Ideal) ℓ) (ρ : Dev nD → PrngReg) :
    θ_run (Cert.KernelSIdeal.defs (F := Ideal)) (onTc (τ := τ) (Cert.KernelSIdeal.main (F := Ideal))) ⟨m, fun _ => 0, ρ⟩ (fun r => ∀ c : Dev nD, ∀ b : Ref sig .tc,
      ¬ (Proc.devRef .tc b : DevRef τ sig).isScoped → r.2.mem ((c.tc : Thread nD τ).loc b) = Cert.KernelSIdeal.Gen.W6 m ρ c (Proc.devRef .tc b)) :=
  (θ_run Cert.KernelSIdeal.defs _ _).mono (fun r h c b hb => h c _ (Cert.KernelSIdeal.Gen.mem_uc b hb)) (Cert.KernelSIdeal.RunS.all m ρ)

open Cert.KernelSIdeal.ChaseS in
theorem algebraic : @Cert.algebraic_KernelSIdeal_ReferenceSIdeal_pre_finite_cond inferInstance inferInstance pre_facts := by
  intro m g m' g' hpre hagree
  have hc : ∀ c, ∀ j, Cert.Reals.R ((args m c).cond j) := fun c => reals_of _ _ _ (hpre c).1
  have hw : ∀ c, ∀ j, Cert.Reals.R ((args m c).w_ada j) := fun c => reals_of _ _ _ (hpre c).2
  have hargs : ∀ c : Dev nD, rargs m' c = args m c := by
    intro c
    obtain ⟨e0, e1, e2, e3, e4, e5, e6⟩ := hagree c
    unfold rargs args
    congr 1
  let W := Cert.KernelSIdeal.Gen.W6 m g
  refine ⟨fun c => W c (Proc.devRef .tc Cert.KernelSIdeal.main_v22_3), fun c => W c (Proc.devRef .tc Cert.KernelSIdeal.main_v22_4),
    fun c => W c (Proc.devRef .tc Cert.KernelSIdeal.main_v11), fun c => W c (Proc.devRef .tc Cert.KernelSIdeal.main_v12),
    fun c => W c (Proc.devRef .tc Cert.KernelSIdeal.main_v13), fun c => W c (Proc.devRef .tc Cert.KernelSIdeal.main_v14), ?_, ?_⟩
  · refine (θ_run Cert.KernelSIdeal.defs _ _).mono (fun r h c => ?_) (kernel_run m g)
    have k := h c
    have ka := fun (b : Ref sig .tc) (hb : b ∈ Cert.KernelSIdeal.Gen.argRefs) hs => (k b hs).trans (Cert.KernelSIdeal.Gen.W6_args m g c b hb)
    exact ⟨k _ (by decide), k _ (by decide), k _ (by decide), k _ (by decide), k _ (by decide), k _ (by decide),
      ka _ (by decide) (by decide), ka _ (by decide) (by decide), ka _ (by decide) (by decide), ka _ (by decide) (by decide),
      ka _ (by decide) (by decide), ka _ (by decide) (by decide), ka _ (by decide) (by decide)⟩
  · refine (θ_run Cert.ReferenceSIdeal.defs _ _).mono (fun r h c => ?_) (reference_run m' g')
    have h := h c
    rw [hargs c] at h
    obtain ⟨h0, h1, h2, h3, h4, h5, hrest⟩ := h
    exact ⟨ext3 _ _ fun b t n => (h0 b t n).trans (r0 m g c (hc c) (hw c) b t n).symm, ext3 _ _ fun b t n => (h1 b t n).trans (r1 m g c (hc c) (hw c) b t n).symm,
      ext2 _ _ fun b n => (h2 b n).trans (r2 m g c (hc c) (hw c) b n).symm, ext2 _ _ fun b n => (h3 b n).trans (r3 m g c (hc c) (hw c) b n).symm,
      ext2 _ _ fun b n => (h4 b n).trans (r4 m g c (hc c) (hw c) b n).symm, ext2 _ _ fun b n => (h5 b n).trans (r5 m g c (hc c) (hw c) b n).symm, hrest⟩

end Cert.EquationS
-- ==== Proof.FinalY.lean ====
/- The last call: the channel mixer's residual and the final norm, of the kernel for both groups and of the reference. -/
module

public import proofs.«01_k».proof.Proof.Gen.KernelYIdeal.Frame
public import proofs.«01_k».proof.Proof.Gen.ReferenceYIdeal.Run
public import Idealize.ShloMosaic.Lib.Pipeline.ValueKit
public import proofs.«01_k».proof.Proof.Spec

@[expose] public section

set_option maxRecDepth 16384
noncomputable section
open Idealize.ShloMosaic Idealize.ShloMosaic.TcCoe Idealize.SL.Sem
open Idealize.ShloMosaic.Pipeline (Dat)
namespace Cert.FinalY
open Cert.Spec

/-- The stream after the residual. -/
def stream {p q : ℕ} (x : FVec Ideal ⟨3, ![p, q, 1024]⟩ .f32) (gate : FVec Ideal ⟨2, ![p, 1024]⟩ .f32) (o : FVec Ideal ⟨3, ![p, q, 1024]⟩ .f32)
    (b : Fin p) (t : Fin q) (n : Fin 1024) : EReal := x (ix3 b t n) + gate (ix2 b n) * o (ix3 b t n)
/-- The stream, normalised and scaled by the final gain. -/
def last {p q : ℕ} (x : FVec Ideal ⟨3, ![p, q, 1024]⟩ .f32) (gate : FVec Ideal ⟨2, ![p, 1024]⟩ .f32) (o : FVec Ideal ⟨3, ![p, q, 1024]⟩ .f32)
    (g : FVec Ideal ⟨1, ![1024]⟩ .f32) (b : Fin p) (t : Fin q) (n : Fin 1024) : EReal := nrm (stream x gate o b t) n * g (ix1 n)
/-- The same, of a gate with a middle dimension and a gain in one row. -/
def lastR {p q : ℕ} (x : FVec Ideal ⟨3, ![p, q, 1024]⟩ .f32) (gate : FVec Ideal ⟨3, ![p, 1, 1024]⟩ .f32) (o : FVec Ideal ⟨3, ![p, q, 1024]⟩ .f32)
    (g : FVec Ideal ⟨2, ![1, 1024]⟩ .f32) : FVec Ideal ⟨3, ![p, q, 1024]⟩ .f32 := fun j =>
  nrm (fun k => x (ix3 (j 0) (j 1) k) + gate (ix3 (j 0) 0 k) * o (ix3 (j 0) (j 1) k)) (j 2) * g (ix2 0 (j 2))

theorem lastR_eq {p q : ℕ} {x : FVec Ideal ⟨3, ![p, q, 1024]⟩ .f32} {gate : FVec Ideal ⟨3, ![p, 1, 1024]⟩ .f32} {o : FVec Ideal ⟨3, ![p, q, 1024]⟩ .f32}
    {g : FVec Ideal ⟨2, ![1, 1024]⟩ .f32} {x' : FVec Ideal ⟨3, ![p, q, 1024]⟩ .f32} {gate' : FVec Ideal ⟨2, ![p, 1024]⟩ .f32}
    {o' : FVec Ideal ⟨3, ![p, q, 1024]⟩ .f32} {g' : FVec Ideal ⟨1, ![1024]⟩ .f32} (hx : x = x') (ho : o = o')
    (hg : ∀ b k, gate (ix3 b 0 k) = gate' (ix2 b k)) (hn : ∀ k, g (ix2 0 k) = g' (ix1 k)) (b : Fin p) (t : Fin q) (n : Fin 1024) :
    lastR x gate o g (ix3 b t n) = last x' gate' o' g' b t n := by
  subst hx ho
  refine congrArg₂ (· * ·) (congrArg (fun r => nrm r n) (funext fun k => ?_)) (hn n)
  exact congrArg (x (ix3 b t k) + · * o (ix3 b t k)) (hg b k)

section Kernel
open Cert.KernelYIdeal Cert.KernelYIdeal.Gen
variable (V : (c : Dev nD) → (b : Ref sig .tc) → Buf (Elt Ideal) ((c : Thread nD τ).loc b))

theorem idx0 : ∀ t : Fin cfg0.N, win0_0.index t = ![t.val / 16, t.val % 16, 0] ∧ win0_1.index t = ![t.val / 16, 0, 0]
    ∧ win0_2.index t = ![t.val / 16, t.val % 16, 0] ∧ win0_3.index t = ![0, 0] ∧ win0_4.index t = ![t.val / 16, t.val % 16, 0] :=
  (by decide +kernel : ∀ t : Fin grid0.N, _)
theorem idx1 : ∀ t : Fin cfg1.N, win1_0.index t = ![t.val, 0, 0] ∧ win1_1.index t = ![t.val, 0, 0]
    ∧ win1_2.index t = ![t.val, 0, 0] ∧ win1_3.index t = ![0, 0] ∧ win1_4.index t = ![t.val, 0, 0] :=
  (by decide +kernel : ∀ t : Fin grid1.N, _)

theorem point0 (c : Dev nD) (t : Fin cfg0.N) (y) :
    k0_pay1 (F := Ideal) (iblk0 V c 0 t) (iblk0 V c 1 t) (iblk0 V c 2 t) (iblk0 V c 3 t) y
      = lastR (V c main_arg0) (V c main_v0) (V c main_arg2) (V c main_v1) (((cfg0.win 4).blk t).view.emb y) := by
  pointwise [k0_pay1, lastR, nrm]
  blk_point [iblk0, idx0 t]
theorem point1 (c : Dev nD) (t : Fin cfg1.N) (y) :
    k1_pay1 (F := Ideal) (iblk1 V c 0 t) (iblk1 V c 1 t) (iblk1 V c 2 t) (iblk1 V c 3 t) y
      = lastR (V c main_arg3) (V c main_v3) (V c main_arg5) (V c main_v4) (((cfg1.win 4).blk t).view.emb y) := by
  pointwise [k1_pay1, lastR, nrm]
  blk_point [iblk1, idx1 t]

theorem final0 (c : Dev nD) : (dat0 V c).arrAt 4 cfg0.N = lastR (V c main_arg0) (V c main_v0) (V c main_arg2) (V c main_v1) := by
  refine (dat0 V c).arrAt_eq_of_covers 4 _ (by decide +kernel) fun t _ y => ?_
  blk_simp
  rw [after0_4]; unfold out0_4; frame_out
  exact point0 V c t y
theorem final1 (c : Dev nD) : (dat1 V c).arrAt 4 cfg1.N = lastR (V c main_arg3) (V c main_v3) (V c main_arg5) (V c main_v4) := by
  refine (dat1 V c).arrAt_eq_of_covers 4 _ (by decide +kernel) fun t _ y => ?_
  blk_simp
  rw [after1_4]; unfold out1_4; frame_out
  exact point1 V c t y

variable (U : Valuation τ sig (Elt Ideal))
theorem v0_at (b : Fin 8) (k : Fin 1024) : (show FVec Ideal S8x1x1024 .f32 from StableHlo.after hostOps0 U (Proc.devRef .tc main_v0)) (ix3 b 0 k)
    = (show FVec Ideal S8x1024 .f32 from U (Proc.devRef .tc main_arg1)) (ix2 b k) := by
  after_results
  pointwise
theorem v1_at (k : Fin 1024) : (show FVec Ideal S1x1024 .f32 from StableHlo.after hostOps0 U (Proc.devRef .tc main_v1)) (ix2 0 k)
    = (show FVec Ideal S1024 .f32 from U (Proc.devRef .tc main_arg6)) (ix1 k) := by
  after_results
  pointwise
theorem v3_at (b : Fin 32) (k : Fin 1024) : (show FVec Ideal S32x1x1024 .f32 from StableHlo.after hostOps1 U (Proc.devRef .tc main_v3)) (ix3 b 0 k)
    = (show FVec Ideal S32x1024 .f32 from U (Proc.devRef .tc main_arg4)) (ix2 b k) := by
  after_results
  pointwise
theorem v4_at (k : Fin 1024) : (show FVec Ideal S1x1024 .f32 from StableHlo.after hostOps1 U (Proc.devRef .tc main_v4)) (ix2 0 k)
    = (show FVec Ideal S1024 .f32 from U (Proc.devRef .tc main_arg6)) (ix1 k) := by
  after_results
  pointwise

variable (m : (ℓ : Loc nD τ sig) → Buf (Elt Ideal) ℓ) (ρ : Dev nD → PrngReg) (c : Dev nD)

/-- The prompt's result. -/
theorem r0 (b : Fin 8) (t : Fin 8192) (n : Fin 1024) : (show FVec Ideal S8x8192x1024 .f32 from W4 m ρ c (Proc.devRef .tc main_v2)) (ix3 b t n)
    = last (m ((c : Thread nD τ).loc main_arg0)) (m ((c : Thread nD τ).loc main_arg1)) (m ((c : Thread nD τ).loc main_arg2)) (m ((c : Thread nD τ).loc main_arg6)) b t n := by
  refine (congrFun ((W4_of m ρ c main_v2 (by decide)).trans ((W3_of m ρ c main_v2 (by decide)).trans ((W2_arr m ρ c 4).trans (final0 (V1 m ρ) c)))) (ix3 b t n)).trans ?_
  exact lastR_eq (W1_args m ρ c main_arg0 (by decide)) (W1_args m ρ c main_arg2 (by decide)) (v0_at (W0 m ρ c)) (v1_at (W0 m ρ c)) b t n
/-- The sample group's result. -/
theorem r1 (b : Fin 32) (t : Fin 32) (n : Fin 1024) : (show FVec Ideal S32x32x1024 .f32 from W4 m ρ c (Proc.devRef .tc main_v5)) (ix3 b t n)
    = last (m ((c : Thread nD τ).loc main_arg3)) (m ((c : Thread nD τ).loc main_arg4)) (m ((c : Thread nD τ).loc main_arg5)) (m ((c : Thread nD τ).loc main_arg6)) b t n := by
  refine (congrFun ((W4_arr m ρ c 4).trans (final1 (V3 m ρ) c)) (ix3 b t n)).trans ?_
  exact lastR_eq (W3_args m ρ c main_arg3 (by decide)) (W3_args m ρ c main_arg5 (by decide))
    (fun b k => (v3_at (W2 m ρ c) b k).trans (congrFun (W2_args m ρ c main_arg4 (by decide)) (ix2 b k)))
    (fun k => (v4_at (W2 m ρ c) k).trans (congrFun (W2_args m ρ c main_arg6 (by decide)) (ix1 k))) b t n
end Kernel

end Cert.FinalY
-- ==== Proof.RunY.lean ====
/- The last call's run for both groups: every buffer ends at what the fold over its stretches and regions leaves there. -/
module

public import proofs.«01_k».proof.Proof.Gen.KernelYIdeal.Frame
public import Idealize.ShloMosaic.PureOps.Ideal

@[expose] public section

set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
namespace Cert.KernelYIdeal.RunY
open Cert.KernelYIdeal Cert.KernelYIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run ends with each buffer at the last state of the fold. -/
theorem all : θ_run defs (onTc (τ := τ) (main (F := Ideal))) ⟨m, fun _ => 0, ρ⟩ (fun r =>
    ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

end Cert.KernelYIdeal.RunY
-- ==== Proof.EquationY.lean ====
/- The last call's results and its reference's are one, of any arguments. -/
module

public import proofs.«01_k».proof.Defs
public import proofs.«01_k».proof.Proof.FinalY
public import proofs.«01_k».proof.Proof.RunY
public import proofs.«01_k».proof.Proof.Equation

@[expose] public section

set_option maxRecDepth 16384
noncomputable section
open Idealize.ShloMosaic Idealize.ShloMosaic.TcCoe Idealize.SL.Sem
namespace Cert.EquationY
open Cert.FinalY
open Cert.Equation (ext3)

section Reference
open Cert.ReferenceYIdeal Cert.ReferenceYIdeal.Gen Cert.ReferenceYIdeal.Value
open Cert.Spec (nrm)
variable (m : (ℓ : Loc nD τ sig) → Buf (Elt Ideal) ℓ) (ρ : Dev nD → PrngReg)

/-- The reference's results, index by index. -/
theorem reference_run : θ_run defs (onTc (τ := τ) (main (F := Ideal))) ⟨m, fun _ => 0, ρ⟩ fun r => ∀ c : Dev nD,
    (∀ b t n, (show FVec Ideal S8x8192x1024 .f32 from r.2.mem ((c.tc : Thread nD τ).loc main_v16)) (ix3 b t n)
      = last (m ((c.tc : Thread nD τ).loc main_arg0)) (m ((c.tc : Thread nD τ).loc main_arg1)) (m ((c.tc : Thread nD τ).loc main_arg2)) (m ((c.tc : Thread nD τ).loc main_arg6)) b t n)
    ∧ (∀ b t n, (show FVec Ideal S32x32x1024 .f32 from r.2.mem ((c.tc : Thread nD τ).loc main_v33)) (ix3 b t n)
      = last (m ((c.tc : Thread nD τ).loc main_arg3)) (m ((c.tc : Thread nD τ).loc main_arg4)) (m ((c.tc : Thread nD τ).loc main_arg5)) (m ((c.tc : Thread nD τ).loc main_arg6)) b t n)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  refine (θ_run defs _ _).mono (fun r h c => ?_) (run (F := Ideal) m ρ)
  obtain ⟨h0, h1, hrest⟩ := h c
  refine ⟨fun b t n => (congrFun h0 (ix3 b t n)).trans ?_, fun b t n => (congrFun h1 (ix3 b t n)).trans ?_, hrest⟩
  · pointwise [last, stream, nrm]
  · pointwise [last, stream, nrm]
end Reference

open Cert.KernelYIdeal (nD τ sig)

theorem kernel_run (m : (ℓ : Loc nD τ sig) → Buf (Elt Ideal) ℓ) (ρ : Dev nD → PrngReg) :
    θ_run (Cert.KernelYIdeal.defs (F := Ideal)) (onTc (τ := τ) (Cert.KernelYIdeal.main (F := Ideal))) ⟨m, fun _ => 0, ρ⟩ (fun r => ∀ c : Dev nD, ∀ b : Ref sig .tc,
      ¬ (Proc.devRef .tc b : DevRef τ sig).isScoped → r.2.mem ((c.tc : Thread nD τ).loc b) = Cert.KernelYIdeal.Gen.W4 m ρ c (Proc.devRef .tc b)) :=
  (θ_run Cert.KernelYIdeal.defs _ _).mono (fun r h c b hb => h c _ (Cert.KernelYIdeal.Gen.mem_uc b hb)) (Cert.KernelYIdeal.RunY.all m ρ)

theorem algebraic : @Cert.algebraic_KernelYIdeal_ReferenceYIdeal inferInstance inferInstance := by
  intro m g m' g' _ hagree
  let W := Cert.KernelYIdeal.Gen.W4 m g
  refine ⟨fun c => W c (Proc.devRef .tc Cert.KernelYIdeal.main_v2), fun c => W c (Proc.devRef .tc Cert.KernelYIdeal.main_v5), ?_, ?_⟩
  · refine (θ_run Cert.KernelYIdeal.defs _ _).mono (fun r h c => ?_) (kernel_run m g)
    have k := h c
    have ka := fun (b : Ref sig .tc) (hb : b ∈ Cert.KernelYIdeal.Gen.argRefs) hs => (k b hs).trans (Cert.KernelYIdeal.Gen.W4_args m g c b hb)
    exact ⟨k _ (by decide), k _ (by decide),
      ka _ (by decide) (by decide), ka _ (by decide) (by decide), ka _ (by decide) (by decide), ka _ (by decide) (by decide),
      ka _ (by decide) (by decide), ka _ (by decide) (by decide), ka _ (by decide) (by decide)⟩
  · refine (θ_run Cert.ReferenceYIdeal.defs _ _).mono (fun r h c => ?_) (reference_run m' g')
    obtain ⟨h0, h1, hrest⟩ := h c
    obtain ⟨e0, e1, e2, e3, e4, e5, e6⟩ := hagree c
    refine ⟨ext3 _ _ fun b t n => (h0 b t n).trans ?_, ext3 _ _ fun b t n => (h1 b t n).trans ?_, hrest⟩
    · rw [e0, e1, e2, e6]
      exact (r0 m g c b t n).symm
    · rw [e3, e4, e5, e6]
      exact (r1 m g c b t n).symm

end Cert.EquationY
-- ==== Proof.lean ====
/- The two mixers of the trunk for the prompt, the sample group's first calls and the last call of both groups: the claims of `Cert.Claim`, assembled. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent
public import proofs.«01_k».proof.Proof.Equation
public import proofs.«01_k».proof.Proof.EquationA
public import proofs.«01_k».proof.Proof.Gen.KernelA.Frame
public import proofs.«01_k».proof.Proof.Gen.KernelAIdeal.Frame
public import proofs.«01_k».proof.Proof.Gen.ReferenceAIdeal.Run
public import proofs.«01_k».proof.Proof.Gen.KernelS.Frame
public import proofs.«01_k».proof.Proof.Gen.KernelY.Frame
public import proofs.«01_k».proof.Proof.EquationS
public import proofs.«01_k».proof.Proof.EquationY
public import proofs.«01_k».proof.Proof.Gen.KernelSIdeal.Frame
public import proofs.«01_k».proof.Proof.Gen.ReferenceSIdeal.Run
public import proofs.«01_k».proof.Proof.Gen.KernelYIdeal.Frame
public import proofs.«01_k».proof.Proof.Gen.ReferenceYIdeal.Run

@[expose] public section

noncomputable section

namespace Cert.Proof

open Idealize.ShloMosaic Idealize.SL.Sem

/-- The kernel runs, leaves its arguments, and every counter ends at zero. -/
theorem kernel_frame : Cert.quiescent_Kernel := fun m ρ _ => Cert.Kernel.Gen.frame (F := Bits) m ρ

/-- The idealized kernel likewise, by the same run. -/
theorem ideal_frame : Cert.quiescent_KernelIdeal := fun m ρ _ => Cert.KernelIdeal.Gen.frame (F := Ideal) m ρ

/-- The reference runs and leaves its arguments; it declares no counter. -/
theorem reference_frame : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The mask's constant is named. -/
theorem mask_named : Cert.preserves_Kernel_KernelIdeal :=
  IdealRules.named_const.statement Cert.KernelIdeal.κ "mask" .f32 0xF149F2CA#32 ⊥ rfl

/-- The first mixer's kernel runs, leaves its arguments, and every counter ends at zero. -/
theorem kernel_a_frame : Cert.quiescent_KernelA := fun m ρ _ => Cert.KernelA.Gen.frame (F := Bits) m ρ

/-- The first mixer's idealized kernel likewise. -/
theorem ideal_a_frame : Cert.quiescent_KernelAIdeal := fun m ρ _ => Cert.KernelAIdeal.Gen.frame (F := Ideal) m ρ

/-- The first mixer's reference runs and leaves its arguments; it declares no counter. -/
theorem reference_a_frame : Cert.quiescent_ReferenceAIdeal := fun m ρ _ =>
  (θ_run Cert.ReferenceAIdeal.defs _ _).mono (fun r h => ⟨fun c => (h c).2.2.2.2.2,
      Idealize.ShloMosaic.sem_eq_zero_of_no_sems (by decide) r.2⟩)
    (Cert.ReferenceAIdeal.Value.run (F := Ideal) m ρ)

/-- The first mixer's mask is named. -/
theorem mask_a_named : Cert.preserves_KernelA_KernelAIdeal :=
  IdealRules.named_const.statement Cert.KernelAIdeal.κ "mask" .f32 0xF149F2CA#32 ⊥ rfl

/-- The sample group's kernel runs, leaves its arguments, and every counter ends at zero. -/
theorem kernel_s_frame : Cert.quiescent_KernelS := fun m ρ _ => Cert.KernelS.Gen.frame (F := Bits) m ρ

/-- The sample group's idealized kernel likewise. -/
theorem ideal_s_frame : Cert.quiescent_KernelSIdeal := fun m ρ _ => Cert.KernelSIdeal.Gen.frame (F := Ideal) m ρ

/-- The sample group's reference runs and leaves its arguments; it declares no counter. -/
theorem reference_s_frame : Cert.quiescent_ReferenceSIdeal := fun m ρ _ =>
  (θ_run Cert.ReferenceSIdeal.defs _ _).mono (fun r h => ⟨fun c => (h c).2.2.2.2.2.2,
      Idealize.ShloMosaic.sem_eq_zero_of_no_sems (by decide) r.2⟩)
    (Cert.ReferenceSIdeal.Value.run (F := Ideal) m ρ)

/-- The last call's kernel runs, leaves its arguments, and every counter ends at zero. -/
theorem kernel_y_frame : Cert.quiescent_KernelY := fun m ρ _ => Cert.KernelY.Gen.frame (F := Bits) m ρ

/-- The last call's idealized kernel likewise. -/
theorem ideal_y_frame : Cert.quiescent_KernelYIdeal := fun m ρ _ => Cert.KernelYIdeal.Gen.frame (F := Ideal) m ρ

/-- The last call's reference runs and leaves its arguments; it declares no counter. -/
theorem reference_y_frame : Cert.quiescent_ReferenceYIdeal := fun m ρ _ =>
  (θ_run Cert.ReferenceYIdeal.defs _ _).mono (fun r h => ⟨fun c => (h c).2.2,
      Idealize.ShloMosaic.sem_eq_zero_of_no_sems (by decide) r.2⟩)
    (Cert.ReferenceYIdeal.Value.run (F := Ideal) m ρ)

/-- The claims. -/
theorem claim : Cert.Claim :=
  ⟨inferInstance, inferInstance, inferInstance, inferInstance, inferInstance, inferInstance, inferInstance, inferInstance, inferInstance, inferInstance, inferInstance, inferInstance,
    Cert.Equation.pre_facts, Cert.EquationA.pre_facts, Cert.EquationS.pre_facts,
    kernel_frame, ideal_frame, fun m ρ _ => ideal_frame m ρ trivial,
    reference_frame, fun m ρ _ => reference_frame m ρ trivial,
    kernel_a_frame, ideal_a_frame, fun m ρ _ => ideal_a_frame m ρ trivial,
    reference_a_frame, fun m ρ _ => reference_a_frame m ρ trivial,
    kernel_s_frame, ideal_s_frame, fun m ρ _ => ideal_s_frame m ρ trivial,
    reference_s_frame, fun m ρ _ => reference_s_frame m ρ trivial,
    kernel_y_frame, ideal_y_frame, reference_y_frame,
    mask_named, Cert.Equation.algebraic, mask_a_named, Cert.EquationA.algebraic,
    trivial, Cert.EquationS.algebraic, trivial, Cert.EquationY.algebraic⟩

end Cert.Proof

end
